-- ==== Defs.lean ====
def Pre_XCore (m : (ℓ : Loc Cert.XCore.nD Cert.XCore.τ Cert.XCore.sig) → Buf (Elt Bits) ℓ) : Prop :=
  True

def Pre_XCoreIdeal (m : (ℓ : Loc Cert.XCoreIdeal.nD Cert.XCoreIdeal.τ Cert.XCoreIdeal.sig) → Buf (Elt Ideal) ℓ) : Prop :=
  True

def Pre_XCoreRefIdeal (m : (ℓ : Loc Cert.XCoreRefIdeal.nD Cert.XCoreRefIdeal.τ Cert.XCoreRefIdeal.sig) → Buf (Elt Ideal) ℓ) : Prop :=
  True

def Pre_XCache (m : (ℓ : Loc Cert.XCache.nD Cert.XCache.τ Cert.XCache.sig) → Buf (Elt Bits) ℓ) : Prop :=
  True

def Pre_XCacheIdeal (m : (ℓ : Loc Cert.XCacheIdeal.nD Cert.XCacheIdeal.τ Cert.XCacheIdeal.sig) → Buf (Elt Ideal) ℓ) : Prop :=
  True

def Pre_XCacheIdeal_finite_scores [hPre_finite_scores : Cert.Pre_finite_scores.Facts] (m : (ℓ : Loc Cert.XCacheIdeal.nD Cert.XCacheIdeal.τ Cert.XCacheIdeal.sig) → Buf (Elt Ideal) ℓ) : Prop :=
  ∀ c : Dev Cert.XCacheIdeal.nD,
    (Cert.Pre_finite_scores.fn (F := Ideal) (m ((c.tc : Thread Cert.XCacheIdeal.nD Cert.XCacheIdeal.τ).loc Cert.XCacheIdeal.main_arg0)) (m ((c.tc : Thread Cert.XCacheIdeal.nD Cert.XCacheIdeal.τ).loc Cert.XCacheIdeal.main_arg1)) (m ((c.tc : Thread Cert.XCacheIdeal.nD Cert.XCacheIdeal.τ).loc Cert.XCacheIdeal.main_arg2))).1 = (fun _ => 1#1)
    ∧ (Cert.Pre_finite_scores.fn (F := Ideal) (m ((c.tc : Thread Cert.XCacheIdeal.nD Cert.XCacheIdeal.τ).loc Cert.XCacheIdeal.main_arg0)) (m ((c.tc : Thread Cert.XCacheIdeal.nD Cert.XCacheIdeal.τ).loc Cert.XCacheIdeal.main_arg1)) (m ((c.tc : Thread Cert.XCacheIdeal.nD Cert.XCacheIdeal.τ).loc Cert.XCacheIdeal.main_arg2))).2 = (fun _ => 1#1)

def Pre_XCacheRefIdeal (m : (ℓ : Loc Cert.XCacheRefIdeal.nD Cert.XCacheRefIdeal.τ Cert.XCacheRefIdeal.sig) → Buf (Elt Ideal) ℓ) : Prop :=
  True

def Pre_XCacheRefIdeal_finite_scores [hPre_finite_scores : Cert.Pre_finite_scores.Facts] (m : (ℓ : Loc Cert.XCacheRefIdeal.nD Cert.XCacheRefIdeal.τ Cert.XCacheRefIdeal.sig) → Buf (Elt Ideal) ℓ) : Prop :=
  ∀ c : Dev Cert.XCacheRefIdeal.nD,
    (Cert.Pre_finite_scores.fn (F := Ideal) (m ((c.tc : Thread Cert.XCacheRefIdeal.nD Cert.XCacheRefIdeal.τ).loc Cert.XCacheRefIdeal.main_arg0)) (m ((c.tc : Thread Cert.XCacheRefIdeal.nD Cert.XCacheRefIdeal.τ).loc Cert.XCacheRefIdeal.main_arg1)) (m ((c.tc : Thread Cert.XCacheRefIdeal.nD Cert.XCacheRefIdeal.τ).loc Cert.XCacheRefIdeal.main_arg2))).1 = (fun _ => 1#1)
    ∧ (Cert.Pre_finite_scores.fn (F := Ideal) (m ((c.tc : Thread Cert.XCacheRefIdeal.nD Cert.XCacheRefIdeal.τ).loc Cert.XCacheRefIdeal.main_arg0)) (m ((c.tc : Thread Cert.XCacheRefIdeal.nD Cert.XCacheRefIdeal.τ).loc Cert.XCacheRefIdeal.main_arg1)) (m ((c.tc : Thread Cert.XCacheRefIdeal.nD Cert.XCacheRefIdeal.τ).loc Cert.XCacheRefIdeal.main_arg2))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVRefIdeal (m : (ℓ : Loc Cert.MemKVRefIdeal.nD Cert.MemKVRefIdeal.τ Cert.MemKVRefIdeal.sig) → Buf (Elt Ideal) ℓ) : Prop :=
  True

def Pre_XQ (m : (ℓ : Loc Cert.XQ.nD Cert.XQ.τ Cert.XQ.sig) → Buf (Elt Bits) ℓ) : Prop :=
  True

def Pre_XQIdeal (m : (ℓ : Loc Cert.XQIdeal.nD Cert.XQIdeal.τ Cert.XQIdeal.sig) → Buf (Elt Ideal) ℓ) : Prop :=
  True

def Pre_XQRefIdeal (m : (ℓ : Loc Cert.XQRefIdeal.nD Cert.XQRefIdeal.τ Cert.XQRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_XOut (m : (ℓ : Loc Cert.XOut.nD Cert.XOut.τ Cert.XOut.sig) → Buf (Elt Bits) ℓ) : Prop :=
  True

def Pre_XOutIdeal (m : (ℓ : Loc Cert.XOutIdeal.nD Cert.XOutIdeal.τ Cert.XOutIdeal.sig) → Buf (Elt Ideal) ℓ) : Prop :=
  True

def Pre_XOutRefIdeal (m : (ℓ : Loc Cert.XOutRefIdeal.nD Cert.XOutRefIdeal.τ Cert.XOutRefIdeal.sig) → Buf (Elt Ideal) ℓ) : Prop :=
  True

def Pre_SsdS (m : (ℓ : Loc Cert.SsdS.nD Cert.SsdS.τ Cert.SsdS.sig) → Buf (Elt Bits) ℓ) : Prop :=
  True

def Pre_SsdSIdeal (m : (ℓ : Loc Cert.SsdSIdeal.nD Cert.SsdSIdeal.τ Cert.SsdSIdeal.sig) → Buf (Elt Ideal) ℓ) : Prop :=
  True

def Pre_SsdSIdeal_rates_not_nought [hPre_rates_not_nought : Cert.Pre_rates_not_nought.Facts] (m : (ℓ : Loc Cert.SsdSIdeal.nD Cert.SsdSIdeal.τ Cert.SsdSIdeal.sig) → Buf (Elt Ideal) ℓ) : Prop :=
  ∀ c : Dev Cert.SsdSIdeal.nD,
    (Cert.Pre_rates_not_nought.fn (F := Ideal) (m ((c.tc : Thread Cert.SsdSIdeal.nD Cert.SsdSIdeal.τ).loc Cert.SsdSIdeal.main_arg0)) (m ((c.tc : Thread Cert.SsdSIdeal.nD Cert.SsdSIdeal.τ).loc Cert.SsdSIdeal.main_arg1)) (m ((c.tc : Thread Cert.SsdSIdeal.nD Cert.SsdSIdeal.τ).loc Cert.SsdSIdeal.main_arg2)) (m ((c.tc : Thread Cert.SsdSIdeal.nD Cert.SsdSIdeal.τ).loc Cert.SsdSIdeal.main_arg3)) (m ((c.tc : Thread Cert.SsdSIdeal.nD Cert.SsdSIdeal.τ).loc Cert.SsdSIdeal.main_arg4)) (m ((c.tc : Thread Cert.SsdSIdeal.nD Cert.SsdSIdeal.τ).loc Cert.SsdSIdeal.main_arg5)) (m ((c.tc : Thread Cert.SsdSIdeal.nD Cert.SsdSIdeal.τ).loc Cert.SsdSIdeal.main_arg6)) (m ((c.tc : Thread Cert.SsdSIdeal.nD Cert.SsdSIdeal.τ).loc Cert.SsdSIdeal.main_arg7)) (m ((c.tc : Thread Cert.SsdSIdeal.nD Cert.SsdSIdeal.τ).loc Cert.SsdSIdeal.main_arg8))) = (fun _ => 1#1)

def Pre_SsdSRefIdeal (m : (ℓ : Loc Cert.SsdSRefIdeal.nD Cert.SsdSRefIdeal.τ Cert.SsdSRefIdeal.sig) → Buf (Elt Ideal) ℓ) : Prop :=
  True

def Pre_SsdSRefIdeal_rates_not_nought [hPre_rates_not_nought : Cert.Pre_rates_not_nought.Facts] (m : (ℓ : Loc Cert.SsdSRefIdeal.nD Cert.SsdSRefIdeal.τ Cert.SsdSRefIdeal.sig) → Buf (Elt Ideal) ℓ) : Prop :=
  ∀ c : Dev Cert.SsdSRefIdeal.nD,
    (Cert.Pre_rates_not_nought.fn (F := Ideal) (m ((c.tc : Thread Cert.SsdSRefIdeal.nD Cert.SsdSRefIdeal.τ).loc Cert.SsdSRefIdeal.main_arg0)) (m ((c.tc : Thread Cert.SsdSRefIdeal.nD Cert.SsdSRefIdeal.τ).loc Cert.SsdSRefIdeal.main_arg1)) (m ((c.tc : Thread Cert.SsdSRefIdeal.nD Cert.SsdSRefIdeal.τ).loc Cert.SsdSRefIdeal.main_arg2)) (m ((c.tc : Thread Cert.SsdSRefIdeal.nD Cert.SsdSRefIdeal.τ).loc Cert.SsdSRefIdeal.main_arg3)) (m ((c.tc : Thread Cert.SsdSRefIdeal.nD Cert.SsdSRefIdeal.τ).loc Cert.SsdSRefIdeal.main_arg4)) (m ((c.tc : Thread Cert.SsdSRefIdeal.nD Cert.SsdSRefIdeal.τ).loc Cert.SsdSRefIdeal.main_arg5)) (m ((c.tc : Thread Cert.SsdSRefIdeal.nD Cert.SsdSRefIdeal.τ).loc Cert.SsdSRefIdeal.main_arg6)) (m ((c.tc : Thread Cert.SsdSRefIdeal.nD Cert.SsdSRefIdeal.τ).loc Cert.SsdSRefIdeal.main_arg7)) (m ((c.tc : Thread Cert.SsdSRefIdeal.nD Cert.SsdSRefIdeal.τ).loc Cert.SsdSRefIdeal.main_arg8))) = (fun _ => 1#1)

def quiescent_XCore [hXCore : Cert.XCore.Facts] : Prop :=
  ∀ (m : (ℓ : Loc Cert.XCore.nD Cert.XCore.τ Cert.XCore.sig) → Buf (Elt Bits) ℓ) (g : Dev Cert.XCore.nD → PrngReg), Pre_XCore m →
    θ_run (Cert.XCore.defs (F := Bits)) (onTc (τ := Cert.XCore.τ) (Cert.XCore.main (F := Bits))) ⟨m, fun _ => 0, g⟩ (fun r => (∀ c : Dev Cert.XCore.nD,
      r.2.mem ((c.tc : Thread Cert.XCore.nD Cert.XCore.τ).loc Cert.XCore.main_arg0) = m ((c.tc : Thread Cert.XCore.nD Cert.XCore.τ).loc Cert.XCore.main_arg0)
      ∧ r.2.mem ((c.tc : Thread Cert.XCore.nD Cert.XCore.τ).loc Cert.XCore.main_arg1) = m ((c.tc : Thread Cert.XCore.nD Cert.XCore.τ).loc Cert.XCore.main_arg1))
      ∧ r.2.sem = fun _ => 0)

def quiescent_XCoreIdeal [hXCoreIdeal : Cert.XCoreIdeal.Facts] : Prop :=
  ∀ (m : (ℓ : Loc Cert.XCoreIdeal.nD Cert.XCoreIdeal.τ Cert.XCoreIdeal.sig) → Buf (Elt Ideal) ℓ) (g : Dev Cert.XCoreIdeal.nD → PrngReg), Pre_XCoreIdeal m →
    θ_run (Cert.XCoreIdeal.defs (F := Ideal)) (onTc (τ := Cert.XCoreIdeal.τ) (Cert.XCoreIdeal.main (F := Ideal))) ⟨m, fun _ => 0, g⟩ (fun r => (∀ c : Dev Cert.XCoreIdeal.nD,
      r.2.mem ((c.tc : Thread Cert.XCoreIdeal.nD Cert.XCoreIdeal.τ).loc Cert.XCoreIdeal.main_arg0) = m ((c.tc : Thread Cert.XCoreIdeal.nD Cert.XCoreIdeal.τ).loc Cert.XCoreIdeal.main_arg0)
      ∧ r.2.mem ((c.tc : Thread Cert.XCoreIdeal.nD Cert.XCoreIdeal.τ).loc Cert.XCoreIdeal.main_arg1) = m ((c.tc : Thread Cert.XCoreIdeal.nD Cert.XCoreIdeal.τ).loc Cert.XCoreIdeal.main_arg1))
      ∧ r.2.sem = fun _ => 0)

def quiescent_XCoreRefIdeal [hXCoreRefIdeal : Cert.XCoreRefIdeal.Facts] : Prop :=
  ∀ (m : (ℓ : Loc Cert.XCoreRefIdeal.nD Cert.XCoreRefIdeal.τ Cert.XCoreRefIdeal.sig) → Buf (Elt Ideal) ℓ) (g : Dev Cert.XCoreRefIdeal.nD → PrngReg), Pre_XCoreRefIdeal m →
    θ_run (Cert.XCoreRefIdeal.defs (F := Ideal)) (onTc (τ := Cert.XCoreRefIdeal.τ) (Cert.XCoreRefIdeal.main (F := Ideal))) ⟨m, fun _ => 0, g⟩ (fun r => (∀ c : Dev Cert.XCoreRefIdeal.nD,
      r.2.mem ((c.tc : Thread Cert.XCoreRefIdeal.nD Cert.XCoreRefIdeal.τ).loc Cert.XCoreRefIdeal.main_arg0) = m ((c.tc : Thread Cert.XCoreRefIdeal.nD Cert.XCoreRefIdeal.τ).loc Cert.XCoreRefIdeal.main_arg0)
      ∧ r.2.mem ((c.tc : Thread Cert.XCoreRefIdeal.nD Cert.XCoreRefIdeal.τ).loc Cert.XCoreRefIdeal.main_arg1) = m ((c.tc : Thread Cert.XCoreRefIdeal.nD Cert.XCoreRefIdeal.τ).loc Cert.XCoreRefIdeal.main_arg1))
      ∧ r.2.sem = fun _ => 0)

def quiescent_XCache [hXCache : Cert.XCache.Facts] : Prop :=
  ∀ (m : (ℓ : Loc Cert.XCache.nD Cert.XCache.τ Cert.XCache.sig) → Buf (Elt Bits) ℓ) (g : Dev Cert.XCache.nD → PrngReg), Pre_XCache m →
    θ_run (Cert.XCache.defs (F := Bits)) (onTc (τ := Cert.XCache.τ) (Cert.XCache.main (F := Bits))) ⟨m, fun _ => 0, g⟩ (fun r => (∀ c : Dev Cert.XCache.nD,
      r.2.mem ((c.tc : Thread Cert.XCache.nD Cert.XCache.τ).loc Cert.XCache.main_arg0) = m ((c.tc : Thread Cert.XCache.nD Cert.XCache.τ).loc Cert.XCache.main_arg0)
      ∧ r.2.mem ((c.tc : Thread Cert.XCache.nD Cert.XCache.τ).loc Cert.XCache.main_arg1) = m ((c.tc : Thread Cert.XCache.nD Cert.XCache.τ).loc Cert.XCache.main_arg1)
      ∧ r.2.mem ((c.tc : Thread Cert.XCache.nD Cert.XCache.τ).loc Cert.XCache.main_arg2) = m ((c.tc : Thread Cert.XCache.nD Cert.XCache.τ).loc Cert.XCache.main_arg2))
      ∧ r.2.sem = fun _ => 0)

def quiescent_XCacheIdeal [hXCacheIdeal : Cert.XCacheIdeal.Facts] : Prop :=
  ∀ (m : (ℓ : Loc Cert.XCacheIdeal.nD Cert.XCacheIdeal.τ Cert.XCacheIdeal.sig) → Buf (Elt Ideal) ℓ) (g : Dev Cert.XCacheIdeal.nD → PrngReg), Pre_XCacheIdeal m →
    θ_run (Cert.XCacheIdeal.defs (F := Ideal)) (onTc (τ := Cert.XCacheIdeal.τ) (Cert.XCacheIdeal.main (F := Ideal))) ⟨m, fun _ => 0, g⟩ (fun r => (∀ c : Dev Cert.XCacheIdeal.nD,
      r.2.mem ((c.tc : Thread Cert.XCacheIdeal.nD Cert.XCacheIdeal.τ).loc Cert.XCacheIdeal.main_arg0) = m ((c.tc : Thread Cert.XCacheIdeal.nD Cert.XCacheIdeal.τ).loc Cert.XCacheIdeal.main_arg0)
      ∧ r.2.mem ((c.tc : Thread Cert.XCacheIdeal.nD Cert.XCacheIdeal.τ).loc Cert.XCacheIdeal.main_arg1) = m ((c.tc : Thread Cert.XCacheIdeal.nD Cert.XCacheIdeal.τ).loc Cert.XCacheIdeal.main_arg1)
      ∧ r.2.mem ((c.tc : Thread Cert.XCacheIdeal.nD Cert.XCacheIdeal.τ).loc Cert.XCacheIdeal.main_arg2) = m ((c.tc : Thread Cert.XCacheIdeal.nD Cert.XCacheIdeal.τ).loc Cert.XCacheIdeal.main_arg2))
      ∧ r.2.sem = fun _ => 0)

def quiescent_XCacheIdeal_pre_finite_scores [hXCacheIdeal : Cert.XCacheIdeal.Facts] [hPre_finite_scores : Cert.Pre_finite_scores.Facts] : Prop :=
  ∀ (m : (ℓ : Loc Cert.XCacheIdeal.nD Cert.XCacheIdeal.τ Cert.XCacheIdeal.sig) → Buf (Elt Ideal) ℓ) (g : Dev Cert.XCacheIdeal.nD → PrngReg), Pre_XCacheIdeal_finite_scores m →
    θ_run (Cert.XCacheIdeal.defs (F := Ideal)) (onTc (τ := Cert.XCacheIdeal.τ) (Cert.XCacheIdeal.main (F := Ideal))) ⟨m, fun _ => 0, g⟩ (fun r => (∀ c : Dev Cert.XCacheIdeal.nD,
      r.2.mem ((c.tc : Thread Cert.XCacheIdeal.nD Cert.XCacheIdeal.τ).loc Cert.XCacheIdeal.main_arg0) = m ((c.tc : Thread Cert.XCacheIdeal.nD Cert.XCacheIdeal.τ).loc Cert.XCacheIdeal.main_arg0)
      ∧ r.2.mem ((c.tc : Thread Cert.XCacheIdeal.nD Cert.XCacheIdeal.τ).loc Cert.XCacheIdeal.main_arg1) = m ((c.tc : Thread Cert.XCacheIdeal.nD Cert.XCacheIdeal.τ).loc Cert.XCacheIdeal.main_arg1)
      ∧ r.2.mem ((c.tc : Thread Cert.XCacheIdeal.nD Cert.XCacheIdeal.τ).loc Cert.XCacheIdeal.main_arg2) = m ((c.tc : Thread Cert.XCacheIdeal.nD Cert.XCacheIdeal.τ).loc Cert.XCacheIdeal.main_arg2))
      ∧ r.2.sem = fun _ => 0)

def quiescent_XCacheRefIdeal [hXCacheRefIdeal : Cert.XCacheRefIdeal.Facts] : Prop :=
  ∀ (m : (ℓ : Loc Cert.XCacheRefIdeal.nD Cert.XCacheRefIdeal.τ Cert.XCacheRefIdeal.sig) → Buf (Elt Ideal) ℓ) (g : Dev Cert.XCacheRefIdeal.nD → PrngReg), Pre_XCacheRefIdeal m →
    θ_run (Cert.XCacheRefIdeal.defs (F := Ideal)) (onTc (τ := Cert.XCacheRefIdeal.τ) (Cert.XCacheRefIdeal.main (F := Ideal))) ⟨m, fun _ => 0, g⟩ (fun r => (∀ c : Dev Cert.XCacheRefIdeal.nD,
      r.2.mem ((c.tc : Thread Cert.XCacheRefIdeal.nD Cert.XCacheRefIdeal.τ).loc Cert.XCacheRefIdeal.main_arg0) = m ((c.tc : Thread Cert.XCacheRefIdeal.nD Cert.XCacheRefIdeal.τ).loc Cert.XCacheRefIdeal.main_arg0)
      ∧ r.2.mem ((c.tc : Thread Cert.XCacheRefIdeal.nD Cert.XCacheRefIdeal.τ).loc Cert.XCacheRefIdeal.main_arg1) = m ((c.tc : Thread Cert.XCacheRefIdeal.nD Cert.XCacheRefIdeal.τ).loc Cert.XCacheRefIdeal.main_arg1)
      ∧ r.2.mem ((c.tc : Thread Cert.XCacheRefIdeal.nD Cert.XCacheRefIdeal.τ).loc Cert.XCacheRefIdeal.main_arg2) = m ((c.tc : Thread Cert.XCacheRefIdeal.nD Cert.XCacheRefIdeal.τ).loc Cert.XCacheRefIdeal.main_arg2))
      ∧ r.2.sem = fun _ => 0)

def quiescent_XCacheRefIdeal_pre_finite_scores [hXCacheRefIdeal : Cert.XCacheRefIdeal.Facts] [hPre_finite_scores : Cert.Pre_finite_scores.Facts] : Prop :=
  ∀ (m : (ℓ : Loc Cert.XCacheRefIdeal.nD Cert.XCacheRefIdeal.τ Cert.XCacheRefIdeal.sig) → Buf (Elt Ideal) ℓ) (g : Dev Cert.XCacheRefIdeal.nD → PrngReg), Pre_XCacheRefIdeal_finite_scores m →
    θ_run (Cert.XCacheRefIdeal.defs (F := Ideal)) (onTc (τ := Cert.XCacheRefIdeal.τ) (Cert.XCacheRefIdeal.main (F := Ideal))) ⟨m, fun _ => 0, g⟩ (fun r => (∀ c : Dev Cert.XCacheRefIdeal.nD,
      r.2.mem ((c.tc : Thread Cert.XCacheRefIdeal.nD Cert.XCacheRefIdeal.τ).loc Cert.XCacheRefIdeal.main_arg0) = m ((c.tc : Thread Cert.XCacheRefIdeal.nD Cert.XCacheRefIdeal.τ).loc Cert.XCacheRefIdeal.main_arg0)
      ∧ r.2.mem ((c.tc : Thread Cert.XCacheRefIdeal.nD Cert.XCacheRefIdeal.τ).loc Cert.XCacheRefIdeal.main_arg1) = m ((c.tc : Thread Cert.XCacheRefIdeal.nD Cert.XCacheRefIdeal.τ).loc Cert.XCacheRefIdeal.main_arg1)
      ∧ r.2.mem ((c.tc : Thread Cert.XCacheRefIdeal.nD Cert.XCacheRefIdeal.τ).loc Cert.XCacheRefIdeal.main_arg2) = m ((c.tc : Thread Cert.XCacheRefIdeal.nD Cert.XCacheRefIdeal.τ).loc Cert.XCacheRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2))
      ∧ r.2.sem = fun _ => 0)

def quiescent_MemKVRefIdeal [hMemKVRefIdeal : Cert.MemKVRefIdeal.Facts] : Prop :=
  ∀ (m : (ℓ : Loc Cert.MemKVRefIdeal.nD Cert.MemKVRefIdeal.τ Cert.MemKVRefIdeal.sig) → Buf (Elt Ideal) ℓ) (g : Dev Cert.MemKVRefIdeal.nD → PrngReg), Pre_MemKVRefIdeal m →
    θ_run (Cert.MemKVRefIdeal.defs (F := Ideal)) (onTc (τ := Cert.MemKVRefIdeal.τ) (Cert.MemKVRefIdeal.main (F := Ideal))) ⟨m, fun _ => 0, g⟩ (fun r => (∀ c : Dev Cert.MemKVRefIdeal.nD,
      r.2.mem ((c.tc : Thread Cert.MemKVRefIdeal.nD Cert.MemKVRefIdeal.τ).loc Cert.MemKVRefIdeal.main_arg0) = m ((c.tc : Thread Cert.MemKVRefIdeal.nD Cert.MemKVRefIdeal.τ).loc Cert.MemKVRefIdeal.main_arg0)
      ∧ r.2.mem ((c.tc : Thread Cert.MemKVRefIdeal.nD Cert.MemKVRefIdeal.τ).loc Cert.MemKVRefIdeal.main_arg1) = m ((c.tc : Thread Cert.MemKVRefIdeal.nD Cert.MemKVRefIdeal.τ).loc Cert.MemKVRefIdeal.main_arg1)
      ∧ r.2.mem ((c.tc : Thread Cert.MemKVRefIdeal.nD Cert.MemKVRefIdeal.τ).loc Cert.MemKVRefIdeal.main_arg2) = m ((c.tc : Thread Cert.MemKVRefIdeal.nD Cert.MemKVRefIdeal.τ).loc Cert.MemKVRefIdeal.main_arg2))
      ∧ r.2.sem = fun _ => 0)

def quiescent_XQ [hXQ : Cert.XQ.Facts] : Prop :=
  ∀ (m : (ℓ : Loc Cert.XQ.nD Cert.XQ.τ Cert.XQ.sig) → Buf (Elt Bits) ℓ) (g : Dev Cert.XQ.nD → PrngReg), Pre_XQ m →
    θ_run (Cert.XQ.defs (F := Bits)) (onTc (τ := Cert.XQ.τ) (Cert.XQ.main (F := Bits))) ⟨m, fun _ => 0, g⟩ (fun r => (∀ c : Dev Cert.XQ.nD,
      r.2.mem ((c.tc : Thread Cert.XQ.nD Cert.XQ.τ).loc Cert.XQ.main_arg0) = m ((c.tc : Thread Cert.XQ.nD Cert.XQ.τ).loc Cert.XQ.main_arg0)
      ∧ r.2.mem ((c.tc : Thread Cert.XQ.nD Cert.XQ.τ).loc Cert.XQ.main_arg1) = m ((c.tc : Thread Cert.XQ.nD Cert.XQ.τ).loc Cert.XQ.main_arg1)
      ∧ r.2.mem ((c.tc : Thread Cert.XQ.nD Cert.XQ.τ).loc Cert.XQ.main_arg2) = m ((c.tc : Thread Cert.XQ.nD Cert.XQ.τ).loc Cert.XQ.main_arg2))
      ∧ r.2.sem = fun _ => 0)

def quiescent_XQIdeal [hXQIdeal : Cert.XQIdeal.Facts] : Prop :=
  ∀ (m : (ℓ : Loc Cert.XQIdeal.nD Cert.XQIdeal.τ Cert.XQIdeal.sig) → Buf (Elt Ideal) ℓ) (g : Dev Cert.XQIdeal.nD → PrngReg), Pre_XQIdeal m →
    θ_run (Cert.XQIdeal.defs (F := Ideal)) (onTc (τ := Cert.XQIdeal.τ) (Cert.XQIdeal.main (F := Ideal))) ⟨m, fun _ => 0, g⟩ (fun r => (∀ c : Dev Cert.XQIdeal.nD,
      r.2.mem ((c.tc : Thread Cert.XQIdeal.nD Cert.XQIdeal.τ).loc Cert.XQIdeal.main_arg0) = m ((c.tc : Thread Cert.XQIdeal.nD Cert.XQIdeal.τ).loc Cert.XQIdeal.main_arg0)
      ∧ r.2.mem ((c.tc : Thread Cert.XQIdeal.nD Cert.XQIdeal.τ).loc Cert.XQIdeal.main_arg1) = m ((c.tc : Thread Cert.XQIdeal.nD Cert.XQIdeal.τ).loc Cert.XQIdeal.main_arg1)
      ∧ r.2.mem ((c.tc : Thread Cert.XQIdeal.nD Cert.XQIdeal.τ).loc Cert.XQIdeal.main_arg2) = m ((c.tc : Thread Cert.XQIdeal.nD Cert.XQIdeal.τ).loc Cert.XQIdeal.main_arg2))
      ∧ r.2.sem = fun _ => 0)

def quiescent_XQRefIdeal [hXQRefIdeal : Cert.XQRefIdeal.Facts] : Prop :=
  ∀ (m : (ℓ : Loc Cert.XQRefIdeal.nD Cert.XQRefIdeal.τ Cert.XQRefIdeal.sig) → Buf (Elt Ideal) ℓ) (g : Dev Cert.XQRefIdeal.nD → PrngReg), Pre_XQRefIdeal m →
    θ_run (Cert.XQRefIdeal.defs (F := Ideal)) (onTc (τ := Cert.XQRefIdeal.τ) (Cert.XQRefIdeal.main (F := Ideal))) ⟨m, fun _ => 0, g⟩ (fun r => (∀ c : Dev Cert.XQRefIdeal.nD,
      r.2.mem ((c.tc : Thread Cert.XQRefIdeal.nD Cert.XQRefIdeal.τ).loc Cert.XQRefIdeal.main_arg0) = m ((c.tc : Thread Cert.XQRefIdeal.nD Cert.XQRefIdeal.τ).loc Cert.XQRefIdeal.main_arg0)
      ∧ r.2.mem ((c.tc : Thread Cert.XQRefIdeal.nD Cert.XQRefIdeal.τ).loc Cert.XQRefIdeal.main_arg1) = m ((c.tc : Thread Cert.XQRefIdeal.nD Cert.XQRefIdeal.τ).loc Cert.XQRefIdeal.main_arg1)
      ∧ r.2.mem ((c.tc : Thread Cert.XQRefIdeal.nD Cert.XQRefIdeal.τ).loc Cert.XQRefIdeal.main_arg2) = m ((c.tc : Thread Cert.XQRefIdeal.nD Cert.XQRefIdeal.τ).loc Cert.XQRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_XOut [hXOut : Cert.XOut.Facts] : Prop :=
  ∀ (m : (ℓ : Loc Cert.XOut.nD Cert.XOut.τ Cert.XOut.sig) → Buf (Elt Bits) ℓ) (g : Dev Cert.XOut.nD → PrngReg), Pre_XOut m →
    θ_run (Cert.XOut.defs (F := Bits)) (onTc (τ := Cert.XOut.τ) (Cert.XOut.main (F := Bits))) ⟨m, fun _ => 0, g⟩ (fun r => (∀ c : Dev Cert.XOut.nD,
      r.2.mem ((c.tc : Thread Cert.XOut.nD Cert.XOut.τ).loc Cert.XOut.main_arg0) = m ((c.tc : Thread Cert.XOut.nD Cert.XOut.τ).loc Cert.XOut.main_arg0)
      ∧ r.2.mem ((c.tc : Thread Cert.XOut.nD Cert.XOut.τ).loc Cert.XOut.main_arg1) = m ((c.tc : Thread Cert.XOut.nD Cert.XOut.τ).loc Cert.XOut.main_arg1)
      ∧ r.2.mem ((c.tc : Thread Cert.XOut.nD Cert.XOut.τ).loc Cert.XOut.main_arg2) = m ((c.tc : Thread Cert.XOut.nD Cert.XOut.τ).loc Cert.XOut.main_arg2)
      ∧ r.2.mem ((c.tc : Thread Cert.XOut.nD Cert.XOut.τ).loc Cert.XOut.main_arg3) = m ((c.tc : Thread Cert.XOut.nD Cert.XOut.τ).loc Cert.XOut.main_arg3))
      ∧ r.2.sem = fun _ => 0)

def quiescent_XOutIdeal [hXOutIdeal : Cert.XOutIdeal.Facts] : Prop :=
  ∀ (m : (ℓ : Loc Cert.XOutIdeal.nD Cert.XOutIdeal.τ Cert.XOutIdeal.sig) → Buf (Elt Ideal) ℓ) (g : Dev Cert.XOutIdeal.nD → PrngReg), Pre_XOutIdeal m →
    θ_run (Cert.XOutIdeal.defs (F := Ideal)) (onTc (τ := Cert.XOutIdeal.τ) (Cert.XOutIdeal.main (F := Ideal))) ⟨m, fun _ => 0, g⟩ (fun r => (∀ c : Dev Cert.XOutIdeal.nD,
      r.2.mem ((c.tc : Thread Cert.XOutIdeal.nD Cert.XOutIdeal.τ).loc Cert.XOutIdeal.main_arg0) = m ((c.tc : Thread Cert.XOutIdeal.nD Cert.XOutIdeal.τ).loc Cert.XOutIdeal.main_arg0)
      ∧ r.2.mem ((c.tc : Thread Cert.XOutIdeal.nD Cert.XOutIdeal.τ).loc Cert.XOutIdeal.main_arg1) = m ((c.tc : Thread Cert.XOutIdeal.nD Cert.XOutIdeal.τ).loc Cert.XOutIdeal.main_arg1)
      ∧ r.2.mem ((c.tc : Thread Cert.XOutIdeal.nD Cert.XOutIdeal.τ).loc Cert.XOutIdeal.main_arg2) = m ((c.tc : Thread Cert.XOutIdeal.nD Cert.XOutIdeal.τ).loc Cert.XOutIdeal.main_arg2)
      ∧ r.2.mem ((c.tc : Thread Cert.XOutIdeal.nD Cert.XOutIdeal.τ).loc Cert.XOutIdeal.main_arg3) = m ((c.tc : Thread Cert.XOutIdeal.nD Cert.XOutIdeal.τ).loc Cert.XOutIdeal.main_arg3))
      ∧ r.2.sem = fun _ => 0)

def quiescent_XOutRefIdeal [hXOutRefIdeal : Cert.XOutRefIdeal.Facts] : Prop :=
  ∀ (m : (ℓ : Loc Cert.XOutRefIdeal.nD Cert.XOutRefIdeal.τ Cert.XOutRefIdeal.sig) → Buf (Elt Ideal) ℓ) (g : Dev Cert.XOutRefIdeal.nD → PrngReg), Pre_XOutRefIdeal m →
    θ_run (Cert.XOutRefIdeal.defs (F := Ideal)) (onTc (τ := Cert.XOutRefIdeal.τ) (Cert.XOutRefIdeal.main (F := Ideal))) ⟨m, fun _ => 0, g⟩ (fun r => (∀ c : Dev Cert.XOutRefIdeal.nD,
      r.2.mem ((c.tc : Thread Cert.XOutRefIdeal.nD Cert.XOutRefIdeal.τ).loc Cert.XOutRefIdeal.main_arg0) = m ((c.tc : Thread Cert.XOutRefIdeal.nD Cert.XOutRefIdeal.τ).loc Cert.XOutRefIdeal.main_arg0)
      ∧ r.2.mem ((c.tc : Thread Cert.XOutRefIdeal.nD Cert.XOutRefIdeal.τ).loc Cert.XOutRefIdeal.main_arg1) = m ((c.tc : Thread Cert.XOutRefIdeal.nD Cert.XOutRefIdeal.τ).loc Cert.XOutRefIdeal.main_arg1)
      ∧ r.2.mem ((c.tc : Thread Cert.XOutRefIdeal.nD Cert.XOutRefIdeal.τ).loc Cert.XOutRefIdeal.main_arg2) = m ((c.tc : Thread Cert.XOutRefIdeal.nD Cert.XOutRefIdeal.τ).loc Cert.XOutRefIdeal.main_arg2)
      ∧ r.2.mem ((c.tc : Thread Cert.XOutRefIdeal.nD Cert.XOutRefIdeal.τ).loc Cert.XOutRefIdeal.main_arg3) = m ((c.tc : Thread Cert.XOutRefIdeal.nD Cert.XOutRefIdeal.τ).loc Cert.XOutRefIdeal.main_arg3))
      ∧ r.2.sem = fun _ => 0)

def quiescent_SsdS [hSsdS : Cert.SsdS.Facts] : Prop :=
  ∀ (m : (ℓ : Loc Cert.SsdS.nD Cert.SsdS.τ Cert.SsdS.sig) → Buf (Elt Bits) ℓ) (g : Dev Cert.SsdS.nD → PrngReg), Pre_SsdS m →
    θ_run (Cert.SsdS.defs (F := Bits)) (onTc (τ := Cert.SsdS.τ) (Cert.SsdS.main (F := Bits))) ⟨m, fun _ => 0, g⟩ (fun r => (∀ c : Dev Cert.SsdS.nD,
      r.2.mem ((c.tc : Thread Cert.SsdS.nD Cert.SsdS.τ).loc Cert.SsdS.main_arg0) = m ((c.tc : Thread Cert.SsdS.nD Cert.SsdS.τ).loc Cert.SsdS.main_arg0)
      ∧ r.2.mem ((c.tc : Thread Cert.SsdS.nD Cert.SsdS.τ).loc Cert.SsdS.main_arg1) = m ((c.tc : Thread Cert.SsdS.nD Cert.SsdS.τ).loc Cert.SsdS.main_arg1)
      ∧ r.2.mem ((c.tc : Thread Cert.SsdS.nD Cert.SsdS.τ).loc Cert.SsdS.main_arg2) = m ((c.tc : Thread Cert.SsdS.nD Cert.SsdS.τ).loc Cert.SsdS.main_arg2)
      ∧ r.2.mem ((c.tc : Thread Cert.SsdS.nD Cert.SsdS.τ).loc Cert.SsdS.main_arg3) = m ((c.tc : Thread Cert.SsdS.nD Cert.SsdS.τ).loc Cert.SsdS.main_arg3)
      ∧ r.2.mem ((c.tc : Thread Cert.SsdS.nD Cert.SsdS.τ).loc Cert.SsdS.main_arg4) = m ((c.tc : Thread Cert.SsdS.nD Cert.SsdS.τ).loc Cert.SsdS.main_arg4)
      ∧ r.2.mem ((c.tc : Thread Cert.SsdS.nD Cert.SsdS.τ).loc Cert.SsdS.main_arg5) = m ((c.tc : Thread Cert.SsdS.nD Cert.SsdS.τ).loc Cert.SsdS.main_arg5)
      ∧ r.2.mem ((c.tc : Thread Cert.SsdS.nD Cert.SsdS.τ).loc Cert.SsdS.main_arg6) = m ((c.tc : Thread Cert.SsdS.nD Cert.SsdS.τ).loc Cert.SsdS.main_arg6)
      ∧ r.2.mem ((c.tc : Thread Cert.SsdS.nD Cert.SsdS.τ).loc Cert.SsdS.main_arg7) = m ((c.tc : Thread Cert.SsdS.nD Cert.SsdS.τ).loc Cert.SsdS.main_arg7)
      ∧ r.2.mem ((c.tc : Thread Cert.SsdS.nD Cert.SsdS.τ).loc Cert.SsdS.main_arg8) = m ((c.tc : Thread Cert.SsdS.nD Cert.SsdS.τ).loc Cert.SsdS.main_arg8))
      ∧ r.2.sem = fun _ => 0)

def quiescent_SsdSIdeal [hSsdSIdeal : Cert.SsdSIdeal.Facts] : Prop :=
  ∀ (m : (ℓ : Loc Cert.SsdSIdeal.nD Cert.SsdSIdeal.τ Cert.SsdSIdeal.sig) → Buf (Elt Ideal) ℓ) (g : Dev Cert.SsdSIdeal.nD → PrngReg), Pre_SsdSIdeal m →
    θ_run (Cert.SsdSIdeal.defs (F := Ideal)) (onTc (τ := Cert.SsdSIdeal.τ) (Cert.SsdSIdeal.main (F := Ideal))) ⟨m, fun _ => 0, g⟩ (fun r => (∀ c : Dev Cert.SsdSIdeal.nD,
      r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
      ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
      ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
      ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
      ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
      ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
      ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
      ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
      ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8))
      ∧ r.2.sem = fun _ => 0)

def quiescent_SsdSIdeal_pre_rates_not_nought [hSsdSIdeal : Cert.SsdSIdeal.Facts] [hPre_rates_not_nought : Cert.Pre_rates_not_nought.Facts] : Prop :=
  ∀ (m : (ℓ : Loc Cert.SsdSIdeal.nD Cert.SsdSIdeal.τ Cert.SsdSIdeal.sig) → Buf (Elt Ideal) ℓ) (g : Dev Cert.SsdSIdeal.nD → PrngReg), Pre_SsdSIdeal_rates_not_nought m →
    θ_run (Cert.SsdSIdeal.defs (F := Ideal)) (onTc (τ := Cert.SsdSIdeal.τ) (Cert.SsdSIdeal.main (F := Ideal))) ⟨m, fun _ => 0, g⟩ (fun r => (∀ c : Dev Cert.SsdSIdeal.nD,
      r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
      ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
      ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
      ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
      ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
      ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
      ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
      ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
      ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8))
      ∧ r.2.sem = fun _ => 0)

def quiescent_SsdSRefIdeal [hSsdSRefIdeal : Cert.SsdSRefIdeal.Facts] : Prop :=
  ∀ (m : (ℓ : Loc Cert.SsdSRefIdeal.nD Cert.SsdSRefIdeal.τ Cert.SsdSRefIdeal.sig) → Buf (Elt Ideal) ℓ) (g : Dev Cert.SsdSRefIdeal.nD → PrngReg), Pre_SsdSRefIdeal m →
    θ_run (Cert.SsdSRefIdeal.defs (F := Ideal)) (onTc (τ := Cert.SsdSRefIdeal.τ) (Cert.SsdSRefIdeal.main (F := Ideal))) ⟨m, fun _ => 0, g⟩ (fun r => (∀ c : Dev Cert.SsdSRefIdeal.nD,
      r.2.mem ((c.tc : Thread Cert.SsdSRefIdeal.nD Cert.SsdSRefIdeal.τ).loc Cert.SsdSRefIdeal.main_arg0) = m ((c.tc : Thread Cert.SsdSRefIdeal.nD Cert.SsdSRefIdeal.τ).loc Cert.SsdSRefIdeal.main_arg0)
      ∧ r.2.mem ((c.tc : Thread Cert.SsdSRefIdeal.nD Cert.SsdSRefIdeal.τ).loc Cert.SsdSRefIdeal.main_arg1) = m ((c.tc : Thread Cert.SsdSRefIdeal.nD Cert.SsdSRefIdeal.τ).loc Cert.SsdSRefIdeal.main_arg1)
      ∧ r.2.mem ((c.tc : Thread Cert.SsdSRefIdeal.nD Cert.SsdSRefIdeal.τ).loc Cert.SsdSRefIdeal.main_arg2) = m ((c.tc : Thread Cert.SsdSRefIdeal.nD Cert.SsdSRefIdeal.τ).loc Cert.SsdSRefIdeal.main_arg2)
      ∧ r.2.mem ((c.tc : Thread Cert.SsdSRefIdeal.nD Cert.SsdSRefIdeal.τ).loc Cert.SsdSRefIdeal.main_arg3) = m ((c.tc : Thread Cert.SsdSRefIdeal.nD Cert.SsdSRefIdeal.τ).loc Cert.SsdSRefIdeal.main_arg3)
      ∧ r.2.mem ((c.tc : Thread Cert.SsdSRefIdeal.nD Cert.SsdSRefIdeal.τ).loc Cert.SsdSRefIdeal.main_arg4) = m ((c.tc : Thread Cert.SsdSRefIdeal.nD Cert.SsdSRefIdeal.τ).loc Cert.SsdSRefIdeal.main_arg4)
      ∧ r.2.mem ((c.tc : Thread Cert.SsdSRefIdeal.nD Cert.SsdSRefIdeal.τ).loc Cert.SsdSRefIdeal.main_arg5) = m ((c.tc : Thread Cert.SsdSRefIdeal.nD Cert.SsdSRefIdeal.τ).loc Cert.SsdSRefIdeal.main_arg5)
      ∧ r.2.mem ((c.tc : Thread Cert.SsdSRefIdeal.nD Cert.SsdSRefIdeal.τ).loc Cert.SsdSRefIdeal.main_arg6) = m ((c.tc : Thread Cert.SsdSRefIdeal.nD Cert.SsdSRefIdeal.τ).loc Cert.SsdSRefIdeal.main_arg6)
      ∧ r.2.mem ((c.tc : Thread Cert.SsdSRefIdeal.nD Cert.SsdSRefIdeal.τ).loc Cert.SsdSRefIdeal.main_arg7) = m ((c.tc : Thread Cert.SsdSRefIdeal.nD Cert.SsdSRefIdeal.τ).loc Cert.SsdSRefIdeal.main_arg7)
      ∧ r.2.mem ((c.tc : Thread Cert.SsdSRefIdeal.nD Cert.SsdSRefIdeal.τ).loc Cert.SsdSRefIdeal.main_arg8) = m ((c.tc : Thread Cert.SsdSRefIdeal.nD Cert.SsdSRefIdeal.τ).loc Cert.SsdSRefIdeal.main_arg8))
      ∧ r.2.sem = fun _ => 0)

def quiescent_SsdSRefIdeal_pre_rates_not_nought [hSsdSRefIdeal : Cert.SsdSRefIdeal.Facts] [hPre_rates_not_nought : Cert.Pre_rates_not_nought.Facts] : Prop :=
  ∀ (m : (ℓ : Loc Cert.SsdSRefIdeal.nD Cert.SsdSRefIdeal.τ Cert.SsdSRefIdeal.sig) → Buf (Elt Ideal) ℓ) (g : Dev Cert.SsdSRefIdeal.nD → PrngReg), Pre_SsdSRefIdeal_rates_not_nought m →
    θ_run (Cert.SsdSRefIdeal.defs (F := Ideal)) (onTc (τ := Cert.SsdSRefIdeal.τ) (Cert.SsdSRefIdeal.main (F := Ideal))) ⟨m, fun _ => 0, g⟩ (fun r => (∀ c : Dev Cert.SsdSRefIdeal.nD,
      r.2.mem ((c.tc : Thread Cert.SsdSRefIdeal.nD Cert.SsdSRefIdeal.τ).loc Cert.SsdSRefIdeal.main_arg0) = m ((c.tc : Thread Cert.SsdSRefIdeal.nD Cert.SsdSRefIdeal.τ).loc Cert.SsdSRefIdeal.main_arg0)
      ∧ r.2.mem ((c.tc : Thread Cert.SsdSRefIdeal.nD Cert.SsdSRefIdeal.τ).loc Cert.SsdSRefIdeal.main_arg1) = m ((c.tc : Thread Cert.SsdSRefIdeal.nD Cert.SsdSRefIdeal.τ).loc Cert.SsdSRefIdeal.main_arg1)
      ∧ r.2.mem ((c.tc : Thread Cert.SsdSRefIdeal.nD Cert.SsdSRefIdeal.τ).loc Cert.SsdSRefIdeal.main_arg2) = m ((c.tc : Thread Cert.SsdSRefIdeal.nD Cert.SsdSRefIdeal.τ).loc Cert.SsdSRefIdeal.main_arg2)
      ∧ r.2.mem ((c.tc : Thread Cert.SsdSRefIdeal.nD Cert.SsdSRefIdeal.τ).loc Cert.SsdSRefIdeal.main_arg3) = m ((c.tc : Thread Cert.SsdSRefIdeal.nD Cert.SsdSRefIdeal.τ).loc Cert.SsdSRefIdeal.main_arg3)
      ∧ r.2.mem ((c.tc : Thread Cert.SsdSRefIdeal.nD Cert.SsdSRefIdeal.τ).loc Cert.SsdSRefIdeal.main_arg4) = m ((c.tc : Thread Cert.SsdSRefIdeal.nD Cert.SsdSRefIdeal.τ).loc Cert.SsdSRefIdeal.main_arg4)
      ∧ r.2.mem ((c.tc : Thread Cert.SsdSRefIdeal.nD Cert.SsdSRefIdeal.τ).loc Cert.SsdSRefIdeal.main_arg5) = m ((c.tc : Thread Cert.SsdSRefIdeal.nD Cert.SsdSRefIdeal.τ).loc Cert.SsdSRefIdeal.main_arg5)
      ∧ r.2.mem ((c.tc : Thread Cert.SsdSRefIdeal.nD Cert.SsdSRefIdeal.τ).loc Cert.SsdSRefIdeal.main_arg6) = m ((c.tc : Thread Cert.SsdSRefIdeal.nD Cert.SsdSRefIdeal.τ).loc Cert.SsdSRefIdeal.main_arg6)
      ∧ r.2.mem ((c.tc : Thread Cert.SsdSRefIdeal.nD Cert.SsdSRefIdeal.τ).loc Cert.SsdSRefIdeal.main_arg7) = m ((c.tc : Thread Cert.SsdSRefIdeal.nD Cert.SsdSRefIdeal.τ).loc Cert.SsdSRefIdeal.main_arg7)
      ∧ r.2.mem ((c.tc : Thread Cert.SsdSRefIdeal.nD Cert.SsdSRefIdeal.τ).loc Cert.SsdSRefIdeal.main_arg8) = m ((c.tc : Thread Cert.SsdSRefIdeal.nD Cert.SsdSRefIdeal.τ).loc Cert.SsdSRefIdeal.main_arg8))
      ∧ r.2.sem = fun _ => 0)

def preserves_XCore_XCoreIdeal : Prop :=
  True

def algebraic_XCoreIdeal_XCoreRefIdeal [hXCoreIdeal : Cert.XCoreIdeal.Facts] [hXCoreRefIdeal : Cert.XCoreRefIdeal.Facts] : Prop :=
  ∀ (m : (ℓ : Loc Cert.XCoreIdeal.nD Cert.XCoreIdeal.τ Cert.XCoreIdeal.sig) → Buf (Elt Ideal) ℓ) (g : Dev Cert.XCoreIdeal.nD → PrngReg)
    (m' : (ℓ : Loc Cert.XCoreRefIdeal.nD Cert.XCoreRefIdeal.τ Cert.XCoreRefIdeal.sig) → Buf (Elt Ideal) ℓ) (g' : Dev Cert.XCoreRefIdeal.nD → PrngReg), Pre_XCoreIdeal m →
    (∀ c : Dev Cert.XCoreIdeal.nD,
      m' ((c.tc : Thread Cert.XCoreRefIdeal.nD Cert.XCoreRefIdeal.τ).loc Cert.XCoreRefIdeal.main_arg0) = m ((c.tc : Thread Cert.XCoreIdeal.nD Cert.XCoreIdeal.τ).loc Cert.XCoreIdeal.main_arg0)
      ∧ m' ((c.tc : Thread Cert.XCoreRefIdeal.nD Cert.XCoreRefIdeal.τ).loc Cert.XCoreRefIdeal.main_arg1) = m ((c.tc : Thread Cert.XCoreIdeal.nD Cert.XCoreIdeal.τ).loc Cert.XCoreIdeal.main_arg1)) →
    ∃ (v0 : (c : Dev Cert.XCoreIdeal.nD) → Buf (Elt Ideal) ((c.tc : Thread Cert.XCoreIdeal.nD Cert.XCoreIdeal.τ).loc Cert.XCoreIdeal.main_v2)),
      θ_run (Cert.XCoreIdeal.defs (F := Ideal)) (onTc (τ := Cert.XCoreIdeal.τ) (Cert.XCoreIdeal.main (F := Ideal))) ⟨m, fun _ => 0, g⟩ (fun r => ∀ c : Dev Cert.XCoreIdeal.nD,
          r.2.mem ((c.tc : Thread Cert.XCoreIdeal.nD Cert.XCoreIdeal.τ).loc Cert.XCoreIdeal.main_v2) = v0 c
          ∧ r.2.mem ((c.tc : Thread Cert.XCoreIdeal.nD Cert.XCoreIdeal.τ).loc Cert.XCoreIdeal.main_arg0) = m ((c.tc : Thread Cert.XCoreIdeal.nD Cert.XCoreIdeal.τ).loc Cert.XCoreIdeal.main_arg0)
          ∧ r.2.mem ((c.tc : Thread Cert.XCoreIdeal.nD Cert.XCoreIdeal.τ).loc Cert.XCoreIdeal.main_arg1) = m ((c.tc : Thread Cert.XCoreIdeal.nD Cert.XCoreIdeal.τ).loc Cert.XCoreIdeal.main_arg1))
      ∧ θ_run (Cert.XCoreRefIdeal.defs (F := Ideal)) (onTc (τ := Cert.XCoreRefIdeal.τ) (Cert.XCoreRefIdeal.main (F := Ideal))) ⟨m', fun _ => 0, g'⟩ (fun r => ∀ c : Dev Cert.XCoreRefIdeal.nD,
          r.2.mem ((c.tc : Thread Cert.XCoreRefIdeal.nD Cert.XCoreRefIdeal.τ).loc Cert.XCoreRefIdeal.main_v22) = v0 c
          ∧ r.2.mem ((c.tc : Thread Cert.XCoreRefIdeal.nD Cert.XCoreRefIdeal.τ).loc Cert.XCoreRefIdeal.main_arg0) = m' ((c.tc : Thread Cert.XCoreRefIdeal.nD Cert.XCoreRefIdeal.τ).loc Cert.XCoreRefIdeal.main_arg0)
          ∧ r.2.mem ((c.tc : Thread Cert.XCoreRefIdeal.nD Cert.XCoreRefIdeal.τ).loc Cert.XCoreRefIdeal.main_arg1) = m' ((c.tc : Thread Cert.XCoreRefIdeal.nD Cert.XCoreRefIdeal.τ).loc Cert.XCoreRefIdeal.main_arg1))

def preserves_XCache_XCacheIdeal : Prop :=
  True

def algebraic_XCacheIdeal_XCacheRefIdeal_pre_finite_scores [hXCacheIdeal : Cert.XCacheIdeal.Facts] [hXCacheRefIdeal : Cert.XCacheRefIdeal.Facts] [hPre_finite_scores : Cert.Pre_finite_scores.Facts] : Prop :=
  ∀ (m : (ℓ : Loc Cert.XCacheIdeal.nD Cert.XCacheIdeal.τ Cert.XCacheIdeal.sig) → Buf (Elt Ideal) ℓ) (g : Dev Cert.XCacheIdeal.nD → PrngReg)
    (m' : (ℓ : Loc Cert.XCacheRefIdeal.nD Cert.XCacheRefIdeal.τ Cert.XCacheRefIdeal.sig) → Buf (Elt Ideal) ℓ) (g' : Dev Cert.XCacheRefIdeal.nD → PrngReg), Pre_XCacheIdeal_finite_scores m →
    (∀ c : Dev Cert.XCacheIdeal.nD,
      m' ((c.tc : Thread Cert.XCacheRefIdeal.nD Cert.XCacheRefIdeal.τ).loc Cert.XCacheRefIdeal.main_arg0) = m ((c.tc : Thread Cert.XCacheIdeal.nD Cert.XCacheIdeal.τ).loc Cert.XCacheIdeal.main_arg0)
      ∧ m' ((c.tc : Thread Cert.XCacheRefIdeal.nD Cert.XCacheRefIdeal.τ).loc Cert.XCacheRefIdeal.main_arg1) = m ((c.tc : Thread Cert.XCacheIdeal.nD Cert.XCacheIdeal.τ).loc Cert.XCacheIdeal.main_arg1)
      ∧ m' ((c.tc : Thread Cert.XCacheRefIdeal.nD Cert.XCacheRefIdeal.τ).loc Cert.XCacheRefIdeal.main_arg2) = m ((c.tc : Thread Cert.XCacheIdeal.nD Cert.XCacheIdeal.τ).loc Cert.XCacheIdeal.main_arg2)) →
    ∃ (v0 : (c : Dev Cert.XCacheIdeal.nD) → Buf (Elt Ideal) ((c.tc : Thread Cert.XCacheIdeal.nD Cert.XCacheIdeal.τ).loc Cert.XCacheIdeal.main_v1)),
      θ_run (Cert.XCacheIdeal.defs (F := Ideal)) (onTc (τ := Cert.XCacheIdeal.τ) (Cert.XCacheIdeal.main (F := Ideal))) ⟨m, fun _ => 0, g⟩ (fun r => ∀ c : Dev Cert.XCacheIdeal.nD,
          r.2.mem ((c.tc : Thread Cert.XCacheIdeal.nD Cert.XCacheIdeal.τ).loc Cert.XCacheIdeal.main_v1) = v0 c
          ∧ r.2.mem ((c.tc : Thread Cert.XCacheIdeal.nD Cert.XCacheIdeal.τ).loc Cert.XCacheIdeal.main_arg0) = m ((c.tc : Thread Cert.XCacheIdeal.nD Cert.XCacheIdeal.τ).loc Cert.XCacheIdeal.main_arg0)
          ∧ r.2.mem ((c.tc : Thread Cert.XCacheIdeal.nD Cert.XCacheIdeal.τ).loc Cert.XCacheIdeal.main_arg1) = m ((c.tc : Thread Cert.XCacheIdeal.nD Cert.XCacheIdeal.τ).loc Cert.XCacheIdeal.main_arg1)
          ∧ r.2.mem ((c.tc : Thread Cert.XCacheIdeal.nD Cert.XCacheIdeal.τ).loc Cert.XCacheIdeal.main_arg2) = m ((c.tc : Thread Cert.XCacheIdeal.nD Cert.XCacheIdeal.τ).loc Cert.XCacheIdeal.main_arg2))
      ∧ θ_run (Cert.XCacheRefIdeal.defs (F := Ideal)) (onTc (τ := Cert.XCacheRefIdeal.τ) (Cert.XCacheRefIdeal.main (F := Ideal))) ⟨m', fun _ => 0, g'⟩ (fun r => ∀ c : Dev Cert.XCacheRefIdeal.nD,
          r.2.mem ((c.tc : Thread Cert.XCacheRefIdeal.nD Cert.XCacheRefIdeal.τ).loc Cert.XCacheRefIdeal.main_v20) = v0 c
          ∧ r.2.mem ((c.tc : Thread Cert.XCacheRefIdeal.nD Cert.XCacheRefIdeal.τ).loc Cert.XCacheRefIdeal.main_arg0) = m' ((c.tc : Thread Cert.XCacheRefIdeal.nD Cert.XCacheRefIdeal.τ).loc Cert.XCacheRefIdeal.main_arg0)
          ∧ r.2.mem ((c.tc : Thread Cert.XCacheRefIdeal.nD Cert.XCacheRefIdeal.τ).loc Cert.XCacheRefIdeal.main_arg1) = m' ((c.tc : Thread Cert.XCacheRefIdeal.nD Cert.XCacheRefIdeal.τ).loc Cert.XCacheRefIdeal.main_arg1)
          ∧ r.2.mem ((c.tc : Thread Cert.XCacheRefIdeal.nD Cert.XCacheRefIdeal.τ).loc Cert.XCacheRefIdeal.main_arg2) = m' ((c.tc : Thread Cert.XCacheRefIdeal.nD Cert.XCacheRefIdeal.τ).loc Cert.XCacheRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v13)) (v1 : (c : Dev Cert.InProjIdeal.nD) → Buf (Elt Ideal) ((c.tc : Thread Cert.InProjIdeal.nD Cert.InProjIdeal.τ).loc Cert.InProjIdeal.main_v20)) (v2 : (c : Dev Cert.InProjIdeal.nD) → Buf (Elt Ideal) ((c.tc : Thread Cert.InProjIdeal.nD Cert.InProjIdeal.τ).loc Cert.InProjIdeal.main_v21)) (v3 : (c : Dev Cert.InProjIdeal.nD) → Buf (Elt Ideal) ((c.tc : Thread Cert.InProjIdeal.nD Cert.InProjIdeal.τ).loc Cert.InProjIdeal.main_v22)) (v4 : (c : Dev Cert.InProjIdeal.nD) → Buf (Elt Ideal) ((c.tc : Thread Cert.InProjIdeal.nD Cert.InProjIdeal.τ).loc Cert.InProjIdeal.main_v23)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13) = v0 c
          ∧ r.2.mem ((c.tc : Thread Cert.InProjIdeal.nD Cert.InProjIdeal.τ).loc Cert.InProjIdeal.main_v20) = v1 c
          ∧ r.2.mem ((c.tc : Thread Cert.InProjIdeal.nD Cert.InProjIdeal.τ).loc Cert.InProjIdeal.main_v21) = v2 c
          ∧ r.2.mem ((c.tc : Thread Cert.InProjIdeal.nD Cert.InProjIdeal.τ).loc Cert.InProjIdeal.main_v22) = v3 c
          ∧ r.2.mem ((c.tc : Thread Cert.InProjIdeal.nD Cert.InProjIdeal.τ).loc Cert.InProjIdeal.main_v23) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v41) = v0 c
          ∧ r.2.mem ((c.tc : Thread Cert.InProjRefIdeal.nD Cert.InProjRefIdeal.τ).loc Cert.InProjRefIdeal.main_v43) = v1 c
          ∧ r.2.mem ((c.tc : Thread Cert.InProjRefIdeal.nD Cert.InProjRefIdeal.τ).loc Cert.InProjRefIdeal.main_v45) = v2 c
          ∧ r.2.mem ((c.tc : Thread Cert.InProjRefIdeal.nD Cert.InProjRefIdeal.τ).loc Cert.InProjRefIdeal.main_v47) = v3 c
          ∧ r.2.mem ((c.tc : Thread Cert.InProjRefIdeal.nD Cert.InProjRefIdeal.τ).loc Cert.InProjRefIdeal.main_v49) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MemKV_MemKVIdeal : Prop :=
  True

def algebraic_MemKVIdeal_MemKVRefIdeal [hMemKVIdeal : Cert.MemKVIdeal.Facts] [hMemKVRefIdeal : Cert.MemKVRefIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVRefIdeal.nD Cert.MemKVRefIdeal.τ Cert.MemKVRefIdeal.sig) → Buf (Elt Ideal) ℓ) (g' : Dev Cert.MemKVRefIdeal.nD → PrngReg), Pre_MemKVIdeal m →
    (∀ c : Dev Cert.MemKVIdeal.nD,
      m' ((c.tc : Thread Cert.MemKVRefIdeal.nD Cert.MemKVRefIdeal.τ).loc Cert.MemKVRefIdeal.main_arg0) = m ((c.tc : Thread Cert.MemKVIdeal.nD Cert.MemKVIdeal.τ).loc Cert.MemKVIdeal.main_arg0)
      ∧ m' ((c.tc : Thread Cert.MemKVRefIdeal.nD Cert.MemKVRefIdeal.τ).loc Cert.MemKVRefIdeal.main_arg1) = m ((c.tc : Thread Cert.MemKVIdeal.nD Cert.MemKVIdeal.τ).loc Cert.MemKVIdeal.main_arg1)
      ∧ m' ((c.tc : Thread Cert.MemKVRefIdeal.nD Cert.MemKVRefIdeal.τ).loc Cert.MemKVRefIdeal.main_arg2) = m ((c.tc : Thread Cert.MemKVIdeal.nD Cert.MemKVIdeal.τ).loc Cert.MemKVIdeal.main_arg2)) →
    ∃ (v0 : (c : Dev Cert.MemKVIdeal.nD) → Buf (Elt Ideal) ((c.tc : Thread Cert.MemKVIdeal.nD Cert.MemKVIdeal.τ).loc Cert.MemKVIdeal.main_v5)) (v1 : (c : Dev Cert.MemKVIdeal.nD) → Buf (Elt Ideal) ((c.tc : Thread Cert.MemKVIdeal.nD Cert.MemKVIdeal.τ).loc Cert.MemKVIdeal.main_v9)) (v2 : (c : Dev Cert.MemKVIdeal.nD) → Buf (Elt Ideal) ((c.tc : Thread Cert.MemKVIdeal.nD Cert.MemKVIdeal.τ).loc Cert.MemKVIdeal.main_v12)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v5) = v0 c
          ∧ r.2.mem ((c.tc : Thread Cert.MemKVIdeal.nD Cert.MemKVIdeal.τ).loc Cert.MemKVIdeal.main_v9) = v1 c
          ∧ r.2.mem ((c.tc : Thread Cert.MemKVIdeal.nD Cert.MemKVIdeal.τ).loc Cert.MemKVIdeal.main_v12) = v2 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2))
      ∧ θ_run (Cert.MemKVRefIdeal.defs (F := Ideal)) (onTc (τ := Cert.MemKVRefIdeal.τ) (Cert.MemKVRefIdeal.main (F := Ideal))) ⟨m', fun _ => 0, g'⟩ (fun r => ∀ c : Dev Cert.MemKVRefIdeal.nD,
          r.2.mem ((c.tc : Thread Cert.MemKVRefIdeal.nD Cert.MemKVRefIdeal.τ).loc Cert.MemKVRefIdeal.main_v18) = v0 c
          ∧ r.2.mem ((c.tc : Thread Cert.MemKVRefIdeal.nD Cert.MemKVRefIdeal.τ).loc Cert.MemKVRefIdeal.main_v19) = v1 c
          ∧ r.2.mem ((c.tc : Thread Cert.MemKVRefIdeal.nD Cert.MemKVRefIdeal.τ).loc Cert.MemKVRefIdeal.main_v20) = v2 c
          ∧ r.2.mem ((c.tc : Thread Cert.MemKVRefIdeal.nD Cert.MemKVRefIdeal.τ).loc Cert.MemKVRefIdeal.main_arg0) = m' ((c.tc : Thread Cert.MemKVRefIdeal.nD Cert.MemKVRefIdeal.τ).loc Cert.MemKVRefIdeal.main_arg0)
          ∧ r.2.mem ((c.tc : Thread Cert.MemKVRefIdeal.nD Cert.MemKVRefIdeal.τ).loc Cert.MemKVRefIdeal.main_arg1) = m' ((c.tc : Thread Cert.MemKVRefIdeal.nD Cert.MemKVRefIdeal.τ).loc Cert.MemKVRefIdeal.main_arg1)
          ∧ r.2.mem ((c.tc : Thread Cert.MemKVRefIdeal.nD Cert.MemKVRefIdeal.τ).loc Cert.MemKVRefIdeal.main_arg2) = m' ((c.tc : Thread Cert.MemKVRefIdeal.nD Cert.MemKVRefIdeal.τ).loc Cert.MemKVRefIdeal.main_arg2))

def preserves_XQ_XQIdeal : Prop :=
  True

def algebraic_XQIdeal_XQRefIdeal [hXQIdeal : Cert.XQIdeal.Facts] [hXQRefIdeal : Cert.XQRefIdeal.Facts] : Prop :=
  ∀ (m : (ℓ : Loc Cert.XQIdeal.nD Cert.XQIdeal.τ Cert.XQIdeal.sig) → Buf (Elt Ideal) ℓ) (g : Dev Cert.XQIdeal.nD → PrngReg)
    (m' : (ℓ : Loc Cert.XQRefIdeal.nD Cert.XQRefIdeal.τ Cert.XQRefIdeal.sig) → Buf (Elt Ideal) ℓ) (g' : Dev Cert.XQRefIdeal.nD → PrngReg), Pre_XQIdeal m →
    (∀ c : Dev Cert.XQIdeal.nD,
      m' ((c.tc : Thread Cert.XQRefIdeal.nD Cert.XQRefIdeal.τ).loc Cert.XQRefIdeal.main_arg0) = m ((c.tc : Thread Cert.XQIdeal.nD Cert.XQIdeal.τ).loc Cert.XQIdeal.main_arg0)
      ∧ m' ((c.tc : Thread Cert.XQRefIdeal.nD Cert.XQRefIdeal.τ).loc Cert.XQRefIdeal.main_arg1) = m ((c.tc : Thread Cert.XQIdeal.nD Cert.XQIdeal.τ).loc Cert.XQIdeal.main_arg1)
      ∧ m' ((c.tc : Thread Cert.XQRefIdeal.nD Cert.XQRefIdeal.τ).loc Cert.XQRefIdeal.main_arg2) = m ((c.tc : Thread Cert.XQIdeal.nD Cert.XQIdeal.τ).loc Cert.XQIdeal.main_arg2)) →
    ∃ (v0 : (c : Dev Cert.XQIdeal.nD) → Buf (Elt Ideal) ((c.tc : Thread Cert.XQIdeal.nD Cert.XQIdeal.τ).loc Cert.XQIdeal.main_v4)),
      θ_run (Cert.XQIdeal.defs (F := Ideal)) (onTc (τ := Cert.XQIdeal.τ) (Cert.XQIdeal.main (F := Ideal))) ⟨m, fun _ => 0, g⟩ (fun r => ∀ c : Dev Cert.XQIdeal.nD,
          r.2.mem ((c.tc : Thread Cert.XQIdeal.nD Cert.XQIdeal.τ).loc Cert.XQIdeal.main_v4) = v0 c
          ∧ r.2.mem ((c.tc : Thread Cert.XQIdeal.nD Cert.XQIdeal.τ).loc Cert.XQIdeal.main_arg0) = m ((c.tc : Thread Cert.XQIdeal.nD Cert.XQIdeal.τ).loc Cert.XQIdeal.main_arg0)
          ∧ r.2.mem ((c.tc : Thread Cert.XQIdeal.nD Cert.XQIdeal.τ).loc Cert.XQIdeal.main_arg1) = m ((c.tc : Thread Cert.XQIdeal.nD Cert.XQIdeal.τ).loc Cert.XQIdeal.main_arg1)
          ∧ r.2.mem ((c.tc : Thread Cert.XQIdeal.nD Cert.XQIdeal.τ).loc Cert.XQIdeal.main_arg2) = m ((c.tc : Thread Cert.XQIdeal.nD Cert.XQIdeal.τ).loc Cert.XQIdeal.main_arg2))
      ∧ θ_run (Cert.XQRefIdeal.defs (F := Ideal)) (onTc (τ := Cert.XQRefIdeal.τ) (Cert.XQRefIdeal.main (F := Ideal))) ⟨m', fun _ => 0, g'⟩ (fun r => ∀ c : Dev Cert.XQRefIdeal.nD,
          r.2.mem ((c.tc : Thread Cert.XQRefIdeal.nD Cert.XQRefIdeal.τ).loc Cert.XQRefIdeal.main_v15) = v0 c
          ∧ r.2.mem ((c.tc : Thread Cert.XQRefIdeal.nD Cert.XQRefIdeal.τ).loc Cert.XQRefIdeal.main_arg0) = m' ((c.tc : Thread Cert.XQRefIdeal.nD Cert.XQRefIdeal.τ).loc Cert.XQRefIdeal.main_arg0)
          ∧ r.2.mem ((c.tc : Thread Cert.XQRefIdeal.nD Cert.XQRefIdeal.τ).loc Cert.XQRefIdeal.main_arg1) = m' ((c.tc : Thread Cert.XQRefIdeal.nD Cert.XQRefIdeal.τ).loc Cert.XQRefIdeal.main_arg1)
          ∧ r.2.mem ((c.tc : Thread Cert.XQRefIdeal.nD Cert.XQRefIdeal.τ).loc Cert.XQRefIdeal.main_arg2) = m' ((c.tc : Thread Cert.XQRefIdeal.nD Cert.XQRefIdeal.τ).loc Cert.XQRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v10)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v10) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v14) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_XOut_XOutIdeal : Prop :=
  True

def algebraic_XOutIdeal_XOutRefIdeal [hXOutIdeal : Cert.XOutIdeal.Facts] [hXOutRefIdeal : Cert.XOutRefIdeal.Facts] : Prop :=
  ∀ (m : (ℓ : Loc Cert.XOutIdeal.nD Cert.XOutIdeal.τ Cert.XOutIdeal.sig) → Buf (Elt Ideal) ℓ) (g : Dev Cert.XOutIdeal.nD → PrngReg)
    (m' : (ℓ : Loc Cert.XOutRefIdeal.nD Cert.XOutRefIdeal.τ Cert.XOutRefIdeal.sig) → Buf (Elt Ideal) ℓ) (g' : Dev Cert.XOutRefIdeal.nD → PrngReg), Pre_XOutIdeal m →
    (∀ c : Dev Cert.XOutIdeal.nD,
      m' ((c.tc : Thread Cert.XOutRefIdeal.nD Cert.XOutRefIdeal.τ).loc Cert.XOutRefIdeal.main_arg0) = m ((c.tc : Thread Cert.XOutIdeal.nD Cert.XOutIdeal.τ).loc Cert.XOutIdeal.main_arg0)
      ∧ m' ((c.tc : Thread Cert.XOutRefIdeal.nD Cert.XOutRefIdeal.τ).loc Cert.XOutRefIdeal.main_arg1) = m ((c.tc : Thread Cert.XOutIdeal.nD Cert.XOutIdeal.τ).loc Cert.XOutIdeal.main_arg1)
      ∧ m' ((c.tc : Thread Cert.XOutRefIdeal.nD Cert.XOutRefIdeal.τ).loc Cert.XOutRefIdeal.main_arg2) = m ((c.tc : Thread Cert.XOutIdeal.nD Cert.XOutIdeal.τ).loc Cert.XOutIdeal.main_arg2)
      ∧ m' ((c.tc : Thread Cert.XOutRefIdeal.nD Cert.XOutRefIdeal.τ).loc Cert.XOutRefIdeal.main_arg3) = m ((c.tc : Thread Cert.XOutIdeal.nD Cert.XOutIdeal.τ).loc Cert.XOutIdeal.main_arg3)) →
    ∃ (v0 : (c : Dev Cert.XOutIdeal.nD) → Buf (Elt Ideal) ((c.tc : Thread Cert.XOutIdeal.nD Cert.XOutIdeal.τ).loc Cert.XOutIdeal.main_v4)),
      θ_run (Cert.XOutIdeal.defs (F := Ideal)) (onTc (τ := Cert.XOutIdeal.τ) (Cert.XOutIdeal.main (F := Ideal))) ⟨m, fun _ => 0, g⟩ (fun r => ∀ c : Dev Cert.XOutIdeal.nD,
          r.2.mem ((c.tc : Thread Cert.XOutIdeal.nD Cert.XOutIdeal.τ).loc Cert.XOutIdeal.main_v4) = v0 c
          ∧ r.2.mem ((c.tc : Thread Cert.XOutIdeal.nD Cert.XOutIdeal.τ).loc Cert.XOutIdeal.main_arg0) = m ((c.tc : Thread Cert.XOutIdeal.nD Cert.XOutIdeal.τ).loc Cert.XOutIdeal.main_arg0)
          ∧ r.2.mem ((c.tc : Thread Cert.XOutIdeal.nD Cert.XOutIdeal.τ).loc Cert.XOutIdeal.main_arg1) = m ((c.tc : Thread Cert.XOutIdeal.nD Cert.XOutIdeal.τ).loc Cert.XOutIdeal.main_arg1)
          ∧ r.2.mem ((c.tc : Thread Cert.XOutIdeal.nD Cert.XOutIdeal.τ).loc Cert.XOutIdeal.main_arg2) = m ((c.tc : Thread Cert.XOutIdeal.nD Cert.XOutIdeal.τ).loc Cert.XOutIdeal.main_arg2)
          ∧ r.2.mem ((c.tc : Thread Cert.XOutIdeal.nD Cert.XOutIdeal.τ).loc Cert.XOutIdeal.main_arg3) = m ((c.tc : Thread Cert.XOutIdeal.nD Cert.XOutIdeal.τ).loc Cert.XOutIdeal.main_arg3))
      ∧ θ_run (Cert.XOutRefIdeal.defs (F := Ideal)) (onTc (τ := Cert.XOutRefIdeal.τ) (Cert.XOutRefIdeal.main (F := Ideal))) ⟨m', fun _ => 0, g'⟩ (fun r => ∀ c : Dev Cert.XOutRefIdeal.nD,
          r.2.mem ((c.tc : Thread Cert.XOutRefIdeal.nD Cert.XOutRefIdeal.τ).loc Cert.XOutRefIdeal.main_v5) = v0 c
          ∧ r.2.mem ((c.tc : Thread Cert.XOutRefIdeal.nD Cert.XOutRefIdeal.τ).loc Cert.XOutRefIdeal.main_arg0) = m' ((c.tc : Thread Cert.XOutRefIdeal.nD Cert.XOutRefIdeal.τ).loc Cert.XOutRefIdeal.main_arg0)
          ∧ r.2.mem ((c.tc : Thread Cert.XOutRefIdeal.nD Cert.XOutRefIdeal.τ).loc Cert.XOutRefIdeal.main_arg1) = m' ((c.tc : Thread Cert.XOutRefIdeal.nD Cert.XOutRefIdeal.τ).loc Cert.XOutRefIdeal.main_arg1)
          ∧ r.2.mem ((c.tc : Thread Cert.XOutRefIdeal.nD Cert.XOutRefIdeal.τ).loc Cert.XOutRefIdeal.main_arg2) = m' ((c.tc : Thread Cert.XOutRefIdeal.nD Cert.XOutRefIdeal.τ).loc Cert.XOutRefIdeal.main_arg2)
          ∧ r.2.mem ((c.tc : Thread Cert.XOutRefIdeal.nD Cert.XOutRefIdeal.τ).loc Cert.XOutRefIdeal.main_arg3) = m' ((c.tc : Thread Cert.XOutRefIdeal.nD Cert.XOutRefIdeal.τ).loc Cert.XOutRefIdeal.main_arg3))

def preserves_SsdS_SsdSIdeal : Prop :=
  True

def algebraic_SsdSIdeal_SsdSRefIdeal_pre_rates_not_nought [hSsdSIdeal : Cert.SsdSIdeal.Facts] [hSsdSRefIdeal : Cert.SsdSRefIdeal.Facts] [hPre_rates_not_nought : Cert.Pre_rates_not_nought.Facts] : Prop :=
  ∀ (m : (ℓ : Loc Cert.SsdSIdeal.nD Cert.SsdSIdeal.τ Cert.SsdSIdeal.sig) → Buf (Elt Ideal) ℓ) (g : Dev Cert.SsdSIdeal.nD → PrngReg)
    (m' : (ℓ : Loc Cert.SsdSRefIdeal.nD Cert.SsdSRefIdeal.τ Cert.SsdSRefIdeal.sig) → Buf (Elt Ideal) ℓ) (g' : Dev Cert.SsdSRefIdeal.nD → PrngReg), Pre_SsdSIdeal_rates_not_nought m →
    (∀ c : Dev Cert.SsdSIdeal.nD,
      m' ((c.tc : Thread Cert.SsdSRefIdeal.nD Cert.SsdSRefIdeal.τ).loc Cert.SsdSRefIdeal.main_arg0) = m ((c.tc : Thread Cert.SsdSIdeal.nD Cert.SsdSIdeal.τ).loc Cert.SsdSIdeal.main_arg0)
      ∧ m' ((c.tc : Thread Cert.SsdSRefIdeal.nD Cert.SsdSRefIdeal.τ).loc Cert.SsdSRefIdeal.main_arg1) = m ((c.tc : Thread Cert.SsdSIdeal.nD Cert.SsdSIdeal.τ).loc Cert.SsdSIdeal.main_arg1)
      ∧ m' ((c.tc : Thread Cert.SsdSRefIdeal.nD Cert.SsdSRefIdeal.τ).loc Cert.SsdSRefIdeal.main_arg2) = m ((c.tc : Thread Cert.SsdSIdeal.nD Cert.SsdSIdeal.τ).loc Cert.SsdSIdeal.main_arg2)
      ∧ m' ((c.tc : Thread Cert.SsdSRefIdeal.nD Cert.SsdSRefIdeal.τ).loc Cert.SsdSRefIdeal.main_arg3) = m ((c.tc : Thread Cert.SsdSIdeal.nD Cert.SsdSIdeal.τ).loc Cert.SsdSIdeal.main_arg3)
      ∧ m' ((c.tc : Thread Cert.SsdSRefIdeal.nD Cert.SsdSRefIdeal.τ).loc Cert.SsdSRefIdeal.main_arg4) = m ((c.tc : Thread Cert.SsdSIdeal.nD Cert.SsdSIdeal.τ).loc Cert.SsdSIdeal.main_arg4)
      ∧ m' ((c.tc : Thread Cert.SsdSRefIdeal.nD Cert.SsdSRefIdeal.τ).loc Cert.SsdSRefIdeal.main_arg5) = m ((c.tc : Thread Cert.SsdSIdeal.nD Cert.SsdSIdeal.τ).loc Cert.SsdSIdeal.main_arg5)
      ∧ m' ((c.tc : Thread Cert.SsdSRefIdeal.nD Cert.SsdSRefIdeal.τ).loc Cert.SsdSRefIdeal.main_arg6) = m ((c.tc : Thread Cert.SsdSIdeal.nD Cert.SsdSIdeal.τ).loc Cert.SsdSIdeal.main_arg6)
      ∧ m' ((c.tc : Thread Cert.SsdSRefIdeal.nD Cert.SsdSRefIdeal.τ).loc Cert.SsdSRefIdeal.main_arg7) = m ((c.tc : Thread Cert.SsdSIdeal.nD Cert.SsdSIdeal.τ).loc Cert.SsdSIdeal.main_arg7)
      ∧ m' ((c.tc : Thread Cert.SsdSRefIdeal.nD Cert.SsdSRefIdeal.τ).loc Cert.SsdSRefIdeal.main_arg8) = m ((c.tc : Thread Cert.SsdSIdeal.nD Cert.SsdSIdeal.τ).loc Cert.SsdSIdeal.main_arg8)) →
    ∃ (v0 : (c : Dev Cert.SsdSIdeal.nD) → Buf (Elt Ideal) ((c.tc : Thread Cert.SsdSIdeal.nD Cert.SsdSIdeal.τ).loc Cert.SsdSIdeal.main_v49_0)) (v1 : (c : Dev Cert.SsdSIdeal.nD) → Buf (Elt Ideal) ((c.tc : Thread Cert.SsdSIdeal.nD Cert.SsdSIdeal.τ).loc Cert.SsdSIdeal.main_v51)),
      θ_run (Cert.SsdSIdeal.defs (F := Ideal)) (onTc (τ := Cert.SsdSIdeal.τ) (Cert.SsdSIdeal.main (F := Ideal))) ⟨m, fun _ => 0, g⟩ (fun r => ∀ c : Dev Cert.SsdSIdeal.nD,
          r.2.mem ((c.tc : Thread Cert.SsdSIdeal.nD Cert.SsdSIdeal.τ).loc Cert.SsdSIdeal.main_v49_0) = v0 c
          ∧ r.2.mem ((c.tc : Thread Cert.SsdSIdeal.nD Cert.SsdSIdeal.τ).loc Cert.SsdSIdeal.main_v51) = v1 c
          ∧ r.2.mem ((c.tc : Thread Cert.SsdSIdeal.nD Cert.SsdSIdeal.τ).loc Cert.SsdSIdeal.main_arg0) = m ((c.tc : Thread Cert.SsdSIdeal.nD Cert.SsdSIdeal.τ).loc Cert.SsdSIdeal.main_arg0)
          ∧ r.2.mem ((c.tc : Thread Cert.SsdSIdeal.nD Cert.SsdSIdeal.τ).loc Cert.SsdSIdeal.main_arg1) = m ((c.tc : Thread Cert.SsdSIdeal.nD Cert.SsdSIdeal.τ).loc Cert.SsdSIdeal.main_arg1)
          ∧ r.2.mem ((c.tc : Thread Cert.SsdSIdeal.nD Cert.SsdSIdeal.τ).loc Cert.SsdSIdeal.main_arg2) = m ((c.tc : Thread Cert.SsdSIdeal.nD Cert.SsdSIdeal.τ).loc Cert.SsdSIdeal.main_arg2)
          ∧ r.2.mem ((c.tc : Thread Cert.SsdSIdeal.nD Cert.SsdSIdeal.τ).loc Cert.SsdSIdeal.main_arg3) = m ((c.tc : Thread Cert.SsdSIdeal.nD Cert.SsdSIdeal.τ).loc Cert.SsdSIdeal.main_arg3)
          ∧ r.2.mem ((c.tc : Thread Cert.SsdSIdeal.nD Cert.SsdSIdeal.τ).loc Cert.SsdSIdeal.main_arg4) = m ((c.tc : Thread Cert.SsdSIdeal.nD Cert.SsdSIdeal.τ).loc Cert.SsdSIdeal.main_arg4)
          ∧ r.2.mem ((c.tc : Thread Cert.SsdSIdeal.nD Cert.SsdSIdeal.τ).loc Cert.SsdSIdeal.main_arg5) = m ((c.tc : Thread Cert.SsdSIdeal.nD Cert.SsdSIdeal.τ).loc Cert.SsdSIdeal.main_arg5)
          ∧ r.2.mem ((c.tc : Thread Cert.SsdSIdeal.nD Cert.SsdSIdeal.τ).loc Cert.SsdSIdeal.main_arg6) = m ((c.tc : Thread Cert.SsdSIdeal.nD Cert.SsdSIdeal.τ).loc Cert.SsdSIdeal.main_arg6)
          ∧ r.2.mem ((c.tc : Thread Cert.SsdSIdeal.nD Cert.SsdSIdeal.τ).loc Cert.SsdSIdeal.main_arg7) = m ((c.tc : Thread Cert.SsdSIdeal.nD Cert.SsdSIdeal.τ).loc Cert.SsdSIdeal.main_arg7)
          ∧ r.2.mem ((c.tc : Thread Cert.SsdSIdeal.nD Cert.SsdSIdeal.τ).loc Cert.SsdSIdeal.main_arg8) = m ((c.tc : Thread Cert.SsdSIdeal.nD Cert.SsdSIdeal.τ).loc Cert.SsdSIdeal.main_arg8))
      ∧ θ_run (Cert.SsdSRefIdeal.defs (F := Ideal)) (onTc (τ := Cert.SsdSRefIdeal.τ) (Cert.SsdSRefIdeal.main (F := Ideal))) ⟨m', fun _ => 0, g'⟩ (fun r => ∀ c : Dev Cert.SsdSRefIdeal.nD,
          r.2.mem ((c.tc : Thread Cert.SsdSRefIdeal.nD Cert.SsdSRefIdeal.τ).loc Cert.SsdSRefIdeal.main_v131) = v0 c
          ∧ r.2.mem ((c.tc : Thread Cert.SsdSRefIdeal.nD Cert.SsdSRefIdeal.τ).loc Cert.SsdSRefIdeal.main_v133) = v1 c
          ∧ r.2.mem ((c.tc : Thread Cert.SsdSRefIdeal.nD Cert.SsdSRefIdeal.τ).loc Cert.SsdSRefIdeal.main_arg0) = m' ((c.tc : Thread Cert.SsdSRefIdeal.nD Cert.SsdSRefIdeal.τ).loc Cert.SsdSRefIdeal.main_arg0)
          ∧ r.2.mem ((c.tc : Thread Cert.SsdSRefIdeal.nD Cert.SsdSRefIdeal.τ).loc Cert.SsdSRefIdeal.main_arg1) = m' ((c.tc : Thread Cert.SsdSRefIdeal.nD Cert.SsdSRefIdeal.τ).loc Cert.SsdSRefIdeal.main_arg1)
          ∧ r.2.mem ((c.tc : Thread Cert.SsdSRefIdeal.nD Cert.SsdSRefIdeal.τ).loc Cert.SsdSRefIdeal.main_arg2) = m' ((c.tc : Thread Cert.SsdSRefIdeal.nD Cert.SsdSRefIdeal.τ).loc Cert.SsdSRefIdeal.main_arg2)
          ∧ r.2.mem ((c.tc : Thread Cert.SsdSRefIdeal.nD Cert.SsdSRefIdeal.τ).loc Cert.SsdSRefIdeal.main_arg3) = m' ((c.tc : Thread Cert.SsdSRefIdeal.nD Cert.SsdSRefIdeal.τ).loc Cert.SsdSRefIdeal.main_arg3)
          ∧ r.2.mem ((c.tc : Thread Cert.SsdSRefIdeal.nD Cert.SsdSRefIdeal.τ).loc Cert.SsdSRefIdeal.main_arg4) = m' ((c.tc : Thread Cert.SsdSRefIdeal.nD Cert.SsdSRefIdeal.τ).loc Cert.SsdSRefIdeal.main_arg4)
          ∧ r.2.mem ((c.tc : Thread Cert.SsdSRefIdeal.nD Cert.SsdSRefIdeal.τ).loc Cert.SsdSRefIdeal.main_arg5) = m' ((c.tc : Thread Cert.SsdSRefIdeal.nD Cert.SsdSRefIdeal.τ).loc Cert.SsdSRefIdeal.main_arg5)
          ∧ r.2.mem ((c.tc : Thread Cert.SsdSRefIdeal.nD Cert.SsdSRefIdeal.τ).loc Cert.SsdSRefIdeal.main_arg6) = m' ((c.tc : Thread Cert.SsdSRefIdeal.nD Cert.SsdSRefIdeal.τ).loc Cert.SsdSRefIdeal.main_arg6)
          ∧ r.2.mem ((c.tc : Thread Cert.SsdSRefIdeal.nD Cert.SsdSRefIdeal.τ).loc Cert.SsdSRefIdeal.main_arg7) = m' ((c.tc : Thread Cert.SsdSRefIdeal.nD Cert.SsdSRefIdeal.τ).loc Cert.SsdSRefIdeal.main_arg7)
          ∧ r.2.mem ((c.tc : Thread Cert.SsdSRefIdeal.nD Cert.SsdSRefIdeal.τ).loc Cert.SsdSRefIdeal.main_arg8) = m' ((c.tc : Thread Cert.SsdSRefIdeal.nD Cert.SsdSRefIdeal.τ).loc Cert.SsdSRefIdeal.main_arg8))

def Claim : Prop :=
  ∃ (hXCore : Cert.XCore.Facts) (hXCoreIdeal : Cert.XCoreIdeal.Facts) (hXCoreRefIdeal : Cert.XCoreRefIdeal.Facts) (hXCache : Cert.XCache.Facts) (hXCacheIdeal : Cert.XCacheIdeal.Facts) (hXCacheRefIdeal : Cert.XCacheRefIdeal.Facts) (hInProj : Cert.InProj.Facts) (hInProjIdeal : Cert.InProjIdeal.Facts) (hInProjRefIdeal : Cert.InProjRefIdeal.Facts) (hMemKV : Cert.MemKV.Facts) (hMemKVIdeal : Cert.MemKVIdeal.Facts) (hMemKVRefIdeal : Cert.MemKVRefIdeal.Facts) (hXQ : Cert.XQ.Facts) (hXQIdeal : Cert.XQIdeal.Facts) (hXQRefIdeal : Cert.XQRefIdeal.Facts) (hMixOut : Cert.MixOut.Facts) (hMixOutIdeal : Cert.MixOutIdeal.Facts) (hMixOutRefIdeal : Cert.MixOutRefIdeal.Facts) (hXOut : Cert.XOut.Facts) (hXOutIdeal : Cert.XOutIdeal.Facts) (hXOutRefIdeal : Cert.XOutRefIdeal.Facts) (hSsdS : Cert.SsdS.Facts) (hSsdSIdeal : Cert.SsdSIdeal.Facts) (hSsdSRefIdeal : Cert.SsdSRefIdeal.Facts) (hPre_finite_scores : Cert.Pre_finite_scores.Facts) (hPre_rates_not_nought : Cert.Pre_rates_not_nought.Facts),
    quiescent_XCore (hXCore := hXCore)
    ∧ quiescent_XCoreIdeal (hXCoreIdeal := hXCoreIdeal)
    ∧ quiescent_XCoreRefIdeal (hXCoreRefIdeal := hXCoreRefIdeal)
    ∧ quiescent_XCache (hXCache := hXCache)
    ∧ quiescent_XCacheIdeal (hXCacheIdeal := hXCacheIdeal)
    ∧ quiescent_XCacheIdeal_pre_finite_scores (hXCacheIdeal := hXCacheIdeal) (hPre_finite_scores := hPre_finite_scores)
    ∧ quiescent_XCacheRefIdeal (hXCacheRefIdeal := hXCacheRefIdeal)
    ∧ quiescent_XCacheRefIdeal_pre_finite_scores (hXCacheRefIdeal := hXCacheRefIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_MemKV (hMemKV := hMemKV)
    ∧ quiescent_MemKVIdeal (hMemKVIdeal := hMemKVIdeal)
    ∧ quiescent_MemKVRefIdeal (hMemKVRefIdeal := hMemKVRefIdeal)
    ∧ quiescent_XQ (hXQ := hXQ)
    ∧ quiescent_XQIdeal (hXQIdeal := hXQIdeal)
    ∧ quiescent_XQRefIdeal (hXQRefIdeal := hXQRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_XOut (hXOut := hXOut)
    ∧ quiescent_XOutIdeal (hXOutIdeal := hXOutIdeal)
    ∧ quiescent_XOutRefIdeal (hXOutRefIdeal := hXOutRefIdeal)
    ∧ quiescent_SsdS (hSsdS := hSsdS)
    ∧ quiescent_SsdSIdeal (hSsdSIdeal := hSsdSIdeal)
    ∧ quiescent_SsdSIdeal_pre_rates_not_nought (hSsdSIdeal := hSsdSIdeal) (hPre_rates_not_nought := hPre_rates_not_nought)
    ∧ quiescent_SsdSRefIdeal (hSsdSRefIdeal := hSsdSRefIdeal)
    ∧ quiescent_SsdSRefIdeal_pre_rates_not_nought (hSsdSRefIdeal := hSsdSRefIdeal) (hPre_rates_not_nought := hPre_rates_not_nought)
    ∧ preserves_XCore_XCoreIdeal
    ∧ algebraic_XCoreIdeal_XCoreRefIdeal (hXCoreIdeal := hXCoreIdeal) (hXCoreRefIdeal := hXCoreRefIdeal)
    ∧ preserves_XCache_XCacheIdeal
    ∧ algebraic_XCacheIdeal_XCacheRefIdeal_pre_finite_scores (hXCacheIdeal := hXCacheIdeal) (hXCacheRefIdeal := hXCacheRefIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_MemKV_MemKVIdeal
    ∧ algebraic_MemKVIdeal_MemKVRefIdeal (hMemKVIdeal := hMemKVIdeal) (hMemKVRefIdeal := hMemKVRefIdeal)
    ∧ preserves_XQ_XQIdeal
    ∧ algebraic_XQIdeal_XQRefIdeal (hXQIdeal := hXQIdeal) (hXQRefIdeal := hXQRefIdeal)
    ∧ preserves_MixOut_MixOutIdeal
    ∧ algebraic_MixOutIdeal_MixOutRefIdeal (hMixOutIdeal := hMixOutIdeal) (hMixOutRefIdeal := hMixOutRefIdeal)
    ∧ preserves_XOut_XOutIdeal
    ∧ algebraic_XOutIdeal_XOutRefIdeal (hXOutIdeal := hXOutIdeal) (hXOutRefIdeal := hXOutRefIdeal)
    ∧ preserves_SsdS_SsdSIdeal
    ∧ algebraic_SsdSIdeal_SsdSRefIdeal_pre_rates_not_nought (hSsdSIdeal := hSsdSIdeal) (hSsdSRefIdeal := hSsdSRefIdeal) (hPre_rates_not_nought := hPre_rates_not_nought)
-- ==== Pre_finite_scores.lean ====
abbrev S17408x1024 : Shape := ⟨2, ![17408, 1024]⟩
abbrev S1x128x256x4x256 : Shape := ⟨5, ![1, 128, 256, 4, 256]⟩
abbrev S1024x1024 : Shape := ⟨2, ![1024, 1024]⟩
abbrev S_ : Shape := ⟨0, ![]⟩

class Facts : Prop where
  slices_S17408x1024_S1024x1024_16384_0 : S17408x1024.Slices ![16384, 0] S1024x1024
  bcast_S_S1024x1024 : S_.BroadcastsInDim S1024x1024 (![] : Fin 0 → Fin S1024x1024.rank)
  bcast_S_S1x128x256x4x256 : S_.BroadcastsInDim S1x128x256x4x256 (![] : Fin 0 → Fin S1x128x256x4x256.rank)

variable [Facts]

def fn {F : FTy → Type} [FloatOps F] (main_arg0 : FVec F S17408x1024 .f32) (main_arg1 : FVec F S1x128x256x4x256 .f32) (main_arg2 : FVec F S1x128x256x4x256 .f32) : IVec S1024x1024 1 × IVec S1x128x256x4x256 1 :=
  let main_v0 : FVec F S1024x1024 .f32 := (extractStridedSlice S1024x1024 ![16384, 0] · slices_S17408x1024_S1024x1024_16384_0) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_v4 : FVec F S1x128x256x4x256 .f32 := Host.absf main_arg1
  let main_cst_0 : FVec F S_ .f32 := constant S_ .f32 0x7F800000#32
  let main_v5 : FVec F S1x128x256x4x256 .f32 := broadcastInDim S1x128x256x4x256 ![] bcast_S_S1x128x256x4x256 main_cst_0
  let main_v6 : IVec S1x128x256x4x256 1 := cmpf .olt main_v4 main_v5
  (main_v3, main_v6)
-- ==== Pre_rates_not_nought.lean ====
abbrev S17408x7168 : Shape := ⟨2, ![17408, 7168]⟩
abbrev S1x128x3x1536 : Shape := ⟨4, ![1, 128, 3, 1536]⟩
abbrev S1x128x16x64x128 : Shape := ⟨5, ![1, 128, 16, 64, 128]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩

class Facts : Prop where
  bcast_S_S1x16 : S_.BroadcastsInDim S1x16 (![] : Fin 0 → Fin S1x16.rank)

variable [Facts]

def fn {F : FTy → Type} [FloatOps F] (main_arg0 : FVec F S17408x7168 .f32) (main_arg1 : FVec F S1x128x3x1536 .f32) (main_arg2 : FVec F S1x128x16x64x128 .f32) (main_arg3 : FVec F S1x4x1536 .f32) (main_arg4 : FVec F S1x1536 .f32) (main_arg5 : FVec F S1x16 .f32) (main_arg6 : FVec F S1x16 .f32) (main_arg7 : FVec F S1x16 .f32) (main_arg8 : FVec F S1x1024 .f32) : IVec S1x16 1 :=
  let main_cst : FVec F S_ .f32 := constant S_ .f32 0xFF800000#32
  let main_v0 : FVec F S1x16 .f32 := broadcastInDim S1x16 ![] bcast_S_S1x16 main_cst
  let main_v1 : IVec S1x16 1 := cmpf .ogt main_arg5 main_v0
  main_v1
-- ==== XCore.lean ====
abbrev S17408x1024 : Shape := ⟨2, ![17408, 1024]⟩
abbrev S2048x2048 : Shape := ⟨2, ![2048, 2048]⟩
abbrev S8x256x2048 : Shape := ⟨3, ![8, 256, 2048]⟩
abbrev S34x512x1024 : Shape := ⟨3, ![34, 512, 1024]⟩
abbrev S32x512x1024 : Shape := ⟨3, ![32, 512, 1024]⟩
abbrev S1x512x1024 : Shape := ⟨3, ![1, 512, 1024]⟩
abbrev S1x256x1024 : Shape := ⟨3, ![1, 256, 1024]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S2048x2048, .f32⟩
  | .hbm, ⟨2, _⟩ => ⟨S8x256x2048, .f32⟩
  | .hbm, ⟨3, _⟩ => ⟨S34x512x1024, .f32⟩
  | .hbm, ⟨4, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x512x1024, .f32⟩
  | .local _ .vmem, ⟨7, _⟩ => ⟨S1x512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![v2.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XCoreRefIdeal.lean ====
abbrev S17408x1024 : Shape := ⟨2, ![17408, 1024]⟩
abbrev S2048x2048 : Shape := ⟨2, ![2048, 2048]⟩
abbrev S16384x1024 : Shape := ⟨2, ![16384, 1024]⟩
abbrev S8x2048x4x256 : Shape := ⟨4, ![8, 2048, 4, 256]⟩
abbrev S2048x1024 : Shape := ⟨2, ![2048, 1024]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S32x512x1024 : Shape := ⟨3, ![32, 512, 1024]⟩

abbrev nBuf : Space → Nat
  | .hbm => 29
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2048x2048, .f32⟩
  | .hbm, ⟨2, _⟩ => ⟨S16384x1024, .f32⟩
  | .hbm, ⟨3, _⟩ => ⟨S8x2048x4x256, .f32⟩
  | .hbm, ⟨4, _⟩ => ⟨S2048x1024, .f32⟩
  | .hbm, ⟨5, _⟩ => ⟨S8x256x4x256, .f32⟩
  | .hbm, ⟨6, _⟩ => ⟨S2048x1024, .f32⟩
  | .hbm, ⟨7, _⟩ => ⟨S8x256x4x256, .f32⟩
  | .hbm, ⟨8, _⟩ => ⟨S8x4x2048x256, .f32⟩
  | .hbm, ⟨9, _⟩ => ⟨S_, .f32⟩
  | .hbm, ⟨10, _⟩ => ⟨S8x4x2048x256, .f32⟩
  | .hbm, ⟨11, _⟩ => ⟨S8x4x2048x256, .f32⟩
  | .hbm, ⟨12, _⟩ => ⟨S_, .f32⟩
  | .hbm, ⟨13, _⟩ => ⟨S8x4x2048, .f32⟩
  | .hbm, ⟨14, _⟩ => ⟨S_, .f32⟩
  | .hbm, ⟨15, _⟩ => ⟨S8x4x2048, .f32⟩
  | .hbm, ⟨16, _⟩ => ⟨S8x4x2048, .f32⟩
  | .hbm, ⟨17, _⟩ => ⟨S8x4x2048x1, .f32⟩
  | .hbm, ⟨18, _⟩ => ⟨S8x4x2048x256, .f32⟩
  | .hbm, ⟨19, _⟩ => ⟨S8x4x2048x256, .f32⟩
  | .hbm, ⟨20, _⟩ => ⟨S8x4x2048x256, .f32⟩
  | .hbm, ⟨21, _⟩ => ⟨S_, .f32⟩
  | .hbm, ⟨22, _⟩ => ⟨S8x4x2048, .f32⟩
  | .hbm, ⟨23, _⟩ => ⟨S8x4x2048x1, .f32⟩
  | .hbm, ⟨24, _⟩ => ⟨S8x4x2048x256, .f32⟩
  | .hbm, ⟨25, _⟩ => ⟨S8x4x2048x256, .f32⟩
  | .hbm, ⟨26, _⟩ => ⟨S8x4x256x2048, .f32⟩
  | .hbm, ⟨27, _⟩ => ⟨S8x2048x4x256, .f32⟩
  | .hbm, ⟨28, _⟩ => ⟨S32x512x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== XCache.lean ====
abbrev S17408x1024 : Shape := ⟨2, ![17408, 1024]⟩
abbrev S1x128x256x4x256 : Shape := ⟨5, ![1, 128, 256, 4, 256]⟩
abbrev S2176x8x1024 : Shape := ⟨3, ![2176, 8, 1024]⟩
abbrev S128x8x1024 : Shape := ⟨3, ![128, 8, 1024]⟩
abbrev S4x8x1024 : Shape := ⟨3, ![4, 8, 1024]⟩
abbrev S1x4x256x4x256 : Shape := ⟨5, ![1, 4, 256, 4, 256]⟩
abbrev S32x1024 : Shape := ⟨2, ![32, 1024]⟩
abbrev S1x1x256x4x256 : Shape := ⟨5, ![1, 1, 256, 4, 256]⟩
abbrev S256x4x256 : Shape := ⟨3, ![256, 4, 256]⟩
abbrev S1024x256 : Shape := ⟨2, ![1024, 256]⟩
abbrev S1x8x256 : Shape := ⟨3, ![1, 8, 256]⟩
abbrev S8x256 : Shape := ⟨2, ![8, 256]⟩
abbrev S32x256 : Shape := ⟨2, ![32, 256]⟩
abbrev S32 : Shape := ⟨1, ![32]⟩
abbrev S32x1 : Shape := ⟨2, ![32, 1]⟩

abbrev nBuf : Space → Nat
  | .hbm => 5
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1x128x256x4x256, .f32⟩
  | .hbm, ⟨2, _⟩ => ⟨S1x128x256x4x256, .f32⟩
  | .hbm, ⟨3, _⟩ => ⟨S2176x8x1024, .f32⟩
  | .hbm, ⟨4, _⟩ => ⟨S128x8x1024, .f32⟩
  | .local _ .vmem, ⟨0, _⟩ => ⟨S4x8x1024, .f32⟩
  | .local _ .vmem, ⟨1, _⟩ => ⟨S4x8x1024, .f32⟩
  | .local _ .vmem, ⟨2, _⟩ => ⟨S1x4x256x4x256, .f32⟩
  | .local _ .vmem, ⟨3, _⟩ => ⟨S1x4x256x4x256, .f32⟩
  | .local _ .vmem, ⟨4, _⟩ => ⟨S1x4x256x4x256, .f32⟩
  | .local _ .vmem, ⟨5, _⟩ => ⟨S1x4x256x4x256, .f32⟩
  | .local _ .vmem, ⟨6, _⟩ => ⟨S4x8x1024, .f32⟩
  | .local _ .vmem, ⟨7, _⟩ => ⟨S4x8x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XCacheRefIdeal.lean ====
abbrev S17408x1024 : Shape := ⟨2, ![17408, 1024]⟩
abbrev S1x128x256x4x256 : Shape := ⟨5, ![1, 128, 256, 4, 256]⟩
abbrev S1024x1024 : Shape := ⟨2, ![1024, 1024]⟩
abbrev S128x8x4x256 : Shape := ⟨4, ![128, 8, 4, 256]⟩
abbrev S128x256x4x256 : Shape := ⟨4, ![128, 256, 4, 256]⟩
abbrev S128x4x8x256 : Shape := ⟨4, ![128, 4, 8, 256]⟩
abbrev S_ : Shape := ⟨0, ![]⟩
abbrev S128x4x8 : Shape := ⟨3, ![128, 4, 8]⟩
abbrev S128x4x8x1 : Shape := ⟨4, ![128, 4, 8, 1]⟩
abbrev S128x4x256x8 : Shape := ⟨4, ![128, 4, 256, 8]⟩
abbrev S128x8x1024 : Shape := ⟨3, ![128, 8, 1024]⟩

abbrev nBuf : Space → Nat
  | .hbm => 28
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1x128x256x4x256, .f32⟩
  | .hbm, ⟨2, _⟩ => ⟨S1x128x256x4x256, .f32⟩
  | .hbm, ⟨3, _⟩ => ⟨S1024x1024, .f32⟩
  | .hbm, ⟨4, _⟩ => ⟨S128x8x4x256, .f32⟩
  | .hbm, ⟨5, _⟩ => ⟨S128x256x4x256, .f32⟩
  | .hbm, ⟨6, _⟩ => ⟨S128x256x4x256, .f32⟩
  | .hbm, ⟨7, _⟩ => ⟨S128x4x8x256, .f32⟩
  | .hbm, ⟨8, _⟩ => ⟨S_, .f32⟩
  | .hbm, ⟨9, _⟩ => ⟨S128x4x8x256, .f32⟩
  | .hbm, ⟨10, _⟩ => ⟨S128x4x8x256, .f32⟩
  | .hbm, ⟨11, _⟩ => ⟨S_, .f32⟩
  | .hbm, ⟨12, _⟩ => ⟨S128x4x8, .f32⟩
  | .hbm, ⟨13, _⟩ => ⟨S_, .f32⟩
  | .hbm, ⟨14, _⟩ => ⟨S128x4x8, .f32⟩
  | .hbm, ⟨15, _⟩ => ⟨S128x4x8, .f32⟩
  | .hbm, ⟨16, _⟩ => ⟨S128x4x8x1, .f32⟩
  | .hbm, ⟨17, _⟩ => ⟨S128x4x8x256, .f32⟩
  | .hbm, ⟨18, _⟩ => ⟨S128x4x8x256, .f32⟩
  | .hbm, ⟨19, _⟩ => ⟨S128x4x8x256, .f32⟩
  | .hbm, ⟨20, _⟩ => ⟨S_, .f32⟩
  | .hbm, ⟨21, _⟩ => ⟨S128x4x8, .f32⟩
  | .hbm, ⟨22, _⟩ => ⟨S128x4x8x1, .f32⟩
  | .hbm, ⟨23, _⟩ => ⟨S128x4x8x256, .f32⟩
  | .hbm, ⟨24, _⟩ => ⟨S128x4x8x256, .f32⟩
  | .hbm, ⟨25, _⟩ => ⟨S128x4x256x8, .f32⟩
  | .hbm, ⟨26, _⟩ => ⟨S128x8x4x256, .f32⟩
  | .hbm, ⟨27, _⟩ => ⟨S128x8x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== InProj.lean ====
abbrev S8x2048x1024 : Shape := ⟨3, ![8, 2048, 1024]⟩
abbrev S128x8x1024 : Shape := ⟨3, ![128, 8, 1024]⟩
abbrev S1x1024 : Shape := ⟨2, ![1, 1024]⟩
abbrev S1x1024x6688 : Shape := ⟨3, ![1, 1024, 6688]⟩
abbrev S16384x1024 : Shape := ⟨2, ![16384, 1024]⟩
abbrev S1024x1024 : Shape := ⟨2, ![1024, 1024]⟩
abbrev S1024x6688 : Shape := ⟨2, ![1024, 6688]⟩
abbrev S1024x3072 : Shape := ⟨2, ![1024, 3072]⟩
abbrev S1024x1536 : Shape := ⟨2, ![1024, 1536]⟩
abbrev S1024x32 : Shape := ⟨2, ![1024, 32]⟩
abbrev S_ : Shape := ⟨0, ![]⟩
abbrev S1024x480 : Shape := ⟨2, ![1024, 480]⟩
abbrev S1024x7168 : Shape := ⟨2, ![1024, 7168]⟩
abbrev S1024 : Shape := ⟨1, ![1024]⟩
abbrev S17408x7168 : Shape := ⟨2, ![17408, 7168]⟩
abbrev S1024x1 : Shape := ⟨2, ![1024, 1]⟩
abbrev S272x64x7168 : Shape := ⟨3, ![272, 64, 7168]⟩
abbrev S2176x8x7168 : Shape := ⟨3, ![2176, 8, 7168]⟩
abbrev S8x3x3072 : Shape := ⟨3, ![8, 3, 3072]⟩
abbrev S8x3x1536 : Shape := ⟨3, ![8, 3, 1536]⟩
abbrev S128x3x3072 : Shape := ⟨3, ![128, 3, 3072]⟩
abbrev S128x3x1536 : Shape := ⟨3, ![128, 3, 1536]⟩
abbrev S1x8x3x3072 : Shape := ⟨4, ![1, 8, 3, 3072]⟩
abbrev S1x8x3x1536 : Shape := ⟨4, ![1, 8, 3, 1536]⟩
abbrev S1x128x3x3072 : Shape := ⟨4, ![1, 128, 3, 3072]⟩
abbrev S1x128x3x1536 : Shape := ⟨4, ![1, 128, 3, 1536]⟩

abbrev nBuf : Space → Nat
  | .hbm => 29
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024, .f32⟩
  | .hbm, ⟨3, _⟩ => ⟨S1x1024x6688, .f32⟩
  | .hbm, ⟨4, _⟩ => ⟨S16384x1024, .f32⟩
  | .hbm, ⟨5, _⟩ => ⟨S1024x1024, .f32⟩
  | .hbm, ⟨6, _⟩ => ⟨S1024x6688, .f32⟩
  | .hbm, ⟨7, _⟩ => ⟨S1024x3072, .f32⟩
  | .hbm, ⟨8, _⟩ => ⟨S1024x1536, .f32⟩
  | .hbm, ⟨9, _⟩ => ⟨S1024x32, .f32⟩
  | .hbm, ⟨10, _⟩ => ⟨S_, .f32⟩
  | .hbm, ⟨11, _⟩ => ⟨S1024x480, .f32⟩
  | .hbm, ⟨12, _⟩ => ⟨S1024x1024, .f32⟩
  | .hbm, ⟨13, _⟩ => ⟨S1024x1024, .f32⟩
  | .hbm, ⟨14, _⟩ => ⟨S1024x7168, .f32⟩
  | .hbm, ⟨15, _⟩ => ⟨S1024x7168, .bf16⟩
  | .hbm, ⟨16, _⟩ => ⟨S1024, .f32⟩
  | .hbm, ⟨17, _⟩ => ⟨S1x1024, .f32⟩
  | .hbm, ⟨18, _⟩ => ⟨S17408x7168, .f32⟩
  | .hbm, ⟨19, _⟩ => ⟨S272x64x7168, .f32⟩
  | .hbm, ⟨20, _⟩ => ⟨S2176x8x7168, .f32⟩
  | .hbm, ⟨21, _⟩ => ⟨S8x3x3072, .f32⟩
  | .hbm, ⟨22, _⟩ => ⟨S8x3x1536, .f32⟩
  | .hbm, ⟨23, _⟩ => ⟨S128x3x3072, .f32⟩
  | .hbm, ⟨24, _⟩ => ⟨S128x3x1536, .f32⟩
  | .hbm, ⟨25, _⟩ => ⟨S1x8x3x3072, .f32⟩
  | .hbm, ⟨26, _⟩ => ⟨S1x8x3x1536, .f32⟩
  | .hbm, ⟨27, _⟩ => ⟨S1x128x3x3072, .f32⟩
  | .hbm, ⟨28, _⟩ => ⟨S1x128x3x1536, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 7], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8x2048x1024 : Shape := ⟨3, ![8, 2048, 1024]⟩
abbrev S128x8x1024 : Shape := ⟨3, ![128, 8, 1024]⟩
abbrev S1x1024 : Shape := ⟨2, ![1, 1024]⟩
abbrev S1x1024x6688 : Shape := ⟨3, ![1, 1024, 6688]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x6688 : Shape := ⟨2, ![1024, 6688]⟩
abbrev S8x2048x6688 : Shape := ⟨3, ![8, 2048, 6688]⟩
abbrev S128x8 : Shape := ⟨2, ![128, 8]⟩
abbrev S128x8x1 : Shape := ⟨3, ![128, 8, 1]⟩
abbrev S128x8x6688 : Shape := ⟨3, ![128, 8, 6688]⟩
abbrev S16384x6688 : Shape := ⟨2, ![16384, 6688]⟩
abbrev S17408x6688 : Shape := ⟨2, ![17408, 6688]⟩
abbrev S17408x3072 : Shape := ⟨2, ![17408, 3072]⟩
abbrev S17408x1536 : Shape := ⟨2, ![17408, 1536]⟩
abbrev S17408x1024 : Shape := ⟨2, ![17408, 1024]⟩
abbrev S17408x32 : Shape := ⟨2, ![17408, 32]⟩
abbrev S17408x480 : Shape := ⟨2, ![17408, 480]⟩
abbrev S17408x7168 : Shape := ⟨2, ![17408, 7168]⟩
abbrev S8x3x3072 : Shape := ⟨3, ![8, 3, 3072]⟩
abbrev S1x8x3x3072 : Shape := ⟨4, ![1, 8, 3, 3072]⟩
abbrev S8x3x1536 : Shape := ⟨3, ![8, 3, 1536]⟩
abbrev S1x8x3x1536 : Shape := ⟨4, ![1, 8, 3, 1536]⟩
abbrev S128x3x3072 : Shape := ⟨3, ![128, 3, 3072]⟩
abbrev S1x128x3x3072 : Shape := ⟨4, ![1, 128, 3, 3072]⟩
abbrev S128x3x1536 : Shape := ⟨3, ![128, 3, 1536]⟩
abbrev S1x128x3x1536 : Shape := ⟨4, ![1, 128, 3, 1536]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1x1024, .f32⟩
  | .hbm, ⟨3, _⟩ => ⟨S1x1024x6688, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x6688, .f32⟩
  | .hbm, ⟨22, _⟩ => ⟨S8x2048x6688, .f32⟩
  | .hbm, ⟨23, _⟩ => ⟨S1024, .f32⟩
  | .hbm, ⟨24, _⟩ => ⟨S128x8x1024, .f32⟩
  | .hbm, ⟨25, _⟩ => ⟨S_, .f32⟩
  | .hbm, ⟨26, _⟩ => ⟨S128x8, .f32⟩
  | .hbm, ⟨27, _⟩ => ⟨S128x8x1, .f32⟩
  | .hbm, ⟨28, _⟩ => ⟨S_, .f32⟩
  | .hbm, ⟨29, _⟩ => ⟨S128x8x1, .f32⟩
  | .hbm, ⟨30, _⟩ => ⟨S128x8x1, .f32⟩
  | .hbm, ⟨31, _⟩ => ⟨S_, .f32⟩
  | .hbm, ⟨32, _⟩ => ⟨S128x8x1, .f32⟩
  | .hbm, ⟨33, _⟩ => ⟨S128x8x1, .f32⟩
  | .hbm, ⟨34, _⟩ => ⟨S128x8x1, .f32⟩
  | .hbm, ⟨35, _⟩ => ⟨S128x8x1024, .f32⟩
  | .hbm, ⟨36, _⟩ => ⟨S128x8x1024, .f32⟩
  | .hbm, ⟨37, _⟩ => ⟨S1x1x1024, .f32⟩
  | .hbm, ⟨38, _⟩ => ⟨S128x8x1024, .f32⟩
  | .hbm, ⟨39, _⟩ => ⟨S128x8x1024, .f32⟩
  | .hbm, ⟨40, _⟩ => ⟨S1024x6688, .f32⟩
  | .hbm, ⟨41, _⟩ => ⟨S128x8x6688, .f32⟩
  | .hbm, ⟨42, _⟩ => ⟨S16384x6688, .f32⟩
  | .hbm, ⟨43, _⟩ => ⟨S1024x6688, .f32⟩
  | .hbm, ⟨44, _⟩ => ⟨S17408x6688, .f32⟩
  | .hbm, ⟨45, _⟩ => ⟨S17408x3072, .f32⟩
  | .hbm, ⟨46, _⟩ => ⟨S17408x1536, .f32⟩
  | .hbm, ⟨47, _⟩ => ⟨S17408x1024, .f32⟩
  | .hbm, ⟨48, _⟩ => ⟨S17408x1024, .f32⟩
  | .hbm, ⟨49, _⟩ => ⟨S17408x32, .f32⟩
  | .hbm, ⟨50, _⟩ => ⟨S_, .f32⟩
  | .hbm, ⟨51, _⟩ => ⟨S17408x480, .f32⟩
  | .hbm, ⟨52, _⟩ => ⟨S17408x7168, .f32⟩
  | .hbm, ⟨53, _⟩ => ⟨S8x3x3072, .f32⟩
  | .hbm, ⟨54, _⟩ => ⟨S1x8x3x3072, .f32⟩
  | .hbm, ⟨55, _⟩ => ⟨S8x3x1536, .f32⟩
  | .hbm, ⟨56, _⟩ => ⟨S1x8x3x1536, .f32⟩
  | .hbm, ⟨57, _⟩ => ⟨S128x3x3072, .f32⟩
  | .hbm, ⟨58, _⟩ => ⟨S1x128x3x3072, .f32⟩
  | .hbm, ⟨59, _⟩ => ⟨S128x3x1536, .f32⟩
  | .hbm, ⟨60, _⟩ => ⟨S1x128x3x1536, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== MemKV.lean ====
abbrev S8x256x1024 : Shape := ⟨3, ![8, 256, 1024]⟩
abbrev S1x1024 : Shape := ⟨2, ![1, 1024]⟩
abbrev S1x1024x2048 : Shape := ⟨3, ![1, 1024, 2048]⟩
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S8x256x2048 : Shape := ⟨3, ![8, 256, 2048]⟩
abbrev S8x256x4x256 : Shape := ⟨4, ![8, 256, 4, 256]⟩
abbrev S1x8x256x4x256 : Shape := ⟨5, ![1, 8, 256, 4, 256]⟩

abbrev nBuf : Space → Nat
  | .hbm => 16
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S2048x1024, .f32⟩
  | .hbm, ⟨4, _⟩ => ⟨S1024, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S2048x2048, .f32⟩
  | .hbm, ⟨9, _⟩ => ⟨S8x256x2048, .f32⟩
  | .hbm, ⟨10, _⟩ => ⟨S8x256x1024, .f32⟩
  | .hbm, ⟨11, _⟩ => ⟨S8x256x4x256, .f32⟩
  | .hbm, ⟨12, _⟩ => ⟨S1x8x256x4x256, .f32⟩
  | .hbm, ⟨13, _⟩ => ⟨S8x256x1024, .f32⟩
  | .hbm, ⟨14, _⟩ => ⟨S8x256x4x256, .f32⟩
  | .hbm, ⟨15, _⟩ => ⟨S1x8x256x4x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKVRefIdeal.lean ====
abbrev S8x256x1024 : Shape := ⟨3, ![8, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x2048 : Shape := ⟨2, ![1024, 2048]⟩
abbrev S8x256x2048 : Shape := ⟨3, ![8, 256, 2048]⟩
abbrev S2048x2048 : Shape := ⟨2, ![2048, 2048]⟩
abbrev S1x8x256x4x256 : Shape := ⟨5, ![1, 8, 256, 4, 256]⟩

abbrev nBuf : Space → Nat
  | .hbm => 27
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x2048, .f32⟩
  | .hbm, ⟨21, _⟩ => ⟨S8x256x2048, .f32⟩
  | .hbm, ⟨22, _⟩ => ⟨S8x256x1024, .f32⟩
  | .hbm, ⟨23, _⟩ => ⟨S8x256x1024, .f32⟩
  | .hbm, ⟨24, _⟩ => ⟨S2048x2048, .f32⟩
  | .hbm, ⟨25, _⟩ => ⟨S1x8x256x4x256, .f32⟩
  | .hbm, ⟨26, _⟩ => ⟨S1x8x256x4x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== XQ.lean ====
abbrev S17408x1024 : Shape := ⟨2, ![17408, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S17408x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XQRefIdeal.lean ====
abbrev S17408x1024 : Shape := ⟨2, ![17408, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1024x1024 : Shape := ⟨2, ![1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S17408x1024, .f32⟩
  | .hbm, ⟨5, _⟩ => ⟨S_, .f32⟩
  | .hbm, ⟨6, _⟩ => ⟨S17408, .f32⟩
  | .hbm, ⟨7, _⟩ => ⟨S17408x1, .f32⟩
  | .hbm, ⟨8, _⟩ => ⟨S_, .f32⟩
  | .hbm, ⟨9, _⟩ => ⟨S17408x1, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S17408x1, .f32⟩
  | .hbm, ⟨15, _⟩ => ⟨S17408x1024, .f32⟩
  | .hbm, ⟨16, _⟩ => ⟨S17408x1024, .f32⟩
  | .hbm, ⟨17, _⟩ => ⟨S1x1024, .f32⟩
  | .hbm, ⟨18, _⟩ => ⟨S17408x1024, .f32⟩
  | .hbm, ⟨19, _⟩ => ⟨S17408x1024, .f32⟩
  | .hbm, ⟨20, _⟩ => ⟨S1024x1024, .f32⟩
  | .hbm, ⟨21, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixOut.lean ====
abbrev S8x32x64x1024 : Shape := ⟨4, ![8, 32, 64, 1024]⟩
abbrev S128x1x8x1024 : Shape := ⟨4, ![128, 1, 8, 1024]⟩
abbrev S1x2048x1024 : Shape := ⟨3, ![1, 2048, 1024]⟩
abbrev S8x2048x1024 : Shape := ⟨3, ![8, 2048, 1024]⟩
abbrev S128x8x1024 : Shape := ⟨3, ![128, 8, 1024]⟩
abbrev S16384x1024 : Shape := ⟨2, ![16384, 1024]⟩
abbrev S1024x1024 : Shape := ⟨2, ![1024, 1024]⟩
abbrev S2048x1024 : Shape := ⟨2, ![2048, 1024]⟩
abbrev S17408x1024 : Shape := ⟨2, ![17408, 1024]⟩
abbrev S512x1024 : Shape := ⟨2, ![512, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x32x64x1024, .f32⟩
  | .hbm, ⟨1, _⟩ => ⟨S128x1x8x1024, .f32⟩
  | .hbm, ⟨2, _⟩ => ⟨S8x32x64x1024, .f32⟩
  | .hbm, ⟨3, _⟩ => ⟨S128x1x8x1024, .f32⟩
  | .hbm, ⟨4, _⟩ => ⟨S1x2048x1024, .f32⟩
  | .hbm, ⟨5, _⟩ => ⟨S8x2048x1024, .f32⟩
  | .hbm, ⟨6, _⟩ => ⟨S128x8x1024, .f32⟩
  | .hbm, ⟨7, _⟩ => ⟨S16384x1024, .f32⟩
  | .hbm, ⟨8, _⟩ => ⟨S1024x1024, .f32⟩
  | .hbm, ⟨9, _⟩ => ⟨S2048x1024, .f32⟩
  | .hbm, ⟨10, _⟩ => ⟨S2048x1024, .bf16⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S1024x1024, .f32⟩
  | .hbm, ⟨15, _⟩ => ⟨S1024x1024, .bf16⟩
  | .hbm, ⟨16, _⟩ => ⟨S1024x1024, .bf16⟩
  | .hbm, ⟨17, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8x32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutRefIdeal.lean ====
abbrev S8x32x64x1024 : Shape := ⟨4, ![8, 32, 64, 1024]⟩
abbrev S128x1x8x1024 : Shape := ⟨4, ![128, 1, 8, 1024]⟩
abbrev S1x2048x1024 : Shape := ⟨3, ![1, 2048, 1024]⟩
abbrev S8x2048x1024 : Shape := ⟨3, ![8, 2048, 1024]⟩
abbrev S128x8x1024 : Shape := ⟨3, ![128, 8, 1024]⟩
abbrev S8x2048x2048 : Shape := ⟨3, ![8, 2048, 2048]⟩
abbrev S2048x1024 : Shape := ⟨2, ![2048, 1024]⟩
abbrev S128x8x2048 : Shape := ⟨3, ![128, 8, 2048]⟩
abbrev S16384x1024 : Shape := ⟨2, ![16384, 1024]⟩
abbrev S1024x1024 : Shape := ⟨2, ![1024, 1024]⟩
abbrev S17408x1024 : Shape := ⟨2, ![17408, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x32x64x1024, .f32⟩
  | .hbm, ⟨1, _⟩ => ⟨S128x1x8x1024, .f32⟩
  | .hbm, ⟨2, _⟩ => ⟨S8x32x64x1024, .f32⟩
  | .hbm, ⟨3, _⟩ => ⟨S128x1x8x1024, .f32⟩
  | .hbm, ⟨4, _⟩ => ⟨S1x2048x1024, .f32⟩
  | .hbm, ⟨5, _⟩ => ⟨S8x2048x1024, .f32⟩
  | .hbm, ⟨6, _⟩ => ⟨S128x8x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S2048x1024, .f32⟩
  | .hbm, ⟨11, _⟩ => ⟨S8x2048x1024, .f32⟩
  | .hbm, ⟨12, _⟩ => ⟨S8x2048x1024, .f32⟩
  | .hbm, ⟨13, _⟩ => ⟨S128x8x1024, .f32⟩
  | .hbm, ⟨14, _⟩ => ⟨S128x8x1024, .f32⟩
  | .hbm, ⟨15, _⟩ => ⟨S128x8x2048, .f32⟩
  | .hbm, ⟨16, _⟩ => ⟨S2048x1024, .f32⟩
  | .hbm, ⟨17, _⟩ => ⟨S128x8x1024, .f32⟩
  | .hbm, ⟨18, _⟩ => ⟨S128x8x1024, .f32⟩
  | .hbm, ⟨19, _⟩ => ⟨S16384x1024, .f32⟩
  | .hbm, ⟨20, _⟩ => ⟨S1024x1024, .f32⟩
  | .hbm, ⟨21, _⟩ => ⟨S17408x1024, .f32⟩
  | _, _ => ⟨S8x32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== XOut.lean ====
abbrev S32x512x1024 : Shape := ⟨3, ![32, 512, 1024]⟩
abbrev S128x8x1024 : Shape := ⟨3, ![128, 8, 1024]⟩
abbrev S1x1024x1024 : Shape := ⟨3, ![1, 1024, 1024]⟩
abbrev S17408x1024 : Shape := ⟨2, ![17408, 1024]⟩
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32x512x1024, .f32⟩
  | .hbm, ⟨1, _⟩ => ⟨S128x8x1024, .f32⟩
  | .hbm, ⟨2, _⟩ => ⟨S1x1024x1024, .f32⟩
  | .hbm, ⟨3, _⟩ => ⟨S17408x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XOutRefIdeal.lean ====
abbrev S32x512x1024 : Shape := ⟨3, ![32, 512, 1024]⟩
abbrev S128x8x1024 : Shape := ⟨3, ![128, 8, 1024]⟩
abbrev S1x1024x1024 : Shape := ⟨3, ![1, 1024, 1024]⟩
abbrev S17408x1024 : Shape := ⟨2, ![17408, 1024]⟩
abbrev S16384x1024 : Shape := ⟨2, ![16384, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S128x8x1024, .f32⟩
  | .hbm, ⟨2, _⟩ => ⟨S1x1024x1024, .f32⟩
  | .hbm, ⟨3, _⟩ => ⟨S17408x1024, .f32⟩
  | .hbm, ⟨4, _⟩ => ⟨S16384x1024, .f32⟩
  | .hbm, ⟨5, _⟩ => ⟨S1024x1024, .f32⟩
  | .hbm, ⟨6, _⟩ => ⟨S17408x1024, .f32⟩
  | .hbm, ⟨7, _⟩ => ⟨S1024x1024, .f32⟩
  | .hbm, ⟨8, _⟩ => ⟨S17408x1024, .f32⟩
  | .hbm, ⟨9, _⟩ => ⟨S17408x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SsdS.lean ====
abbrev S17408x7168 : Shape := ⟨2, ![17408, 7168]⟩
abbrev S1x128x3x1536 : Shape := ⟨4, ![1, 128, 3, 1536]⟩
abbrev S1x128x16x64x128 : Shape := ⟨5, ![1, 128, 16, 64, 128]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S4x1536 : Shape := ⟨2, ![4, 1536]⟩
abbrev S1536 : Shape := ⟨1, ![1536]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S2x128 : Shape := ⟨2, ![2, 128]⟩
abbrev S16x64 : Shape := ⟨2, ![16, 64]⟩
abbrev S1024 : Shape := ⟨1, ![1024]⟩
abbrev S128 : Shape := ⟨1, ![128]⟩
abbrev S128x1 : Shape := ⟨2, ![128, 1]⟩
abbrev S128x1024 : Shape := ⟨2, ![128, 1024]⟩
abbrev S2048 : Shape := ⟨1, ![2048]⟩
abbrev S1x2048 : Shape := ⟨2, ![1, 2048]⟩
abbrev S128x2048 : Shape := ⟨2, ![128, 2048]⟩
abbrev S2176x8x7168 : Shape := ⟨3, ![2176, 8, 7168]⟩
abbrev S128x3x1536 : Shape := ⟨3, ![128, 3, 1536]⟩
abbrev S128x8x1536 : Shape := ⟨3, ![128, 8, 1536]⟩
abbrev S128x16x64x128 : Shape := ⟨4, ![128, 16, 64, 128]⟩
abbrev S128x8x128x128 : Shape := ⟨4, ![128, 8, 128, 128]⟩
abbrev S128x1x8x1024 : Shape := ⟨4, ![128, 1, 8, 1024]⟩
abbrev S8x8x1536 : Shape := ⟨3, ![8, 8, 1536]⟩
abbrev S8x8x128 : Shape := ⟨3, ![8, 8, 128]⟩
abbrev S8x8x1024 : Shape := ⟨3, ![8, 8, 1024]⟩
abbrev S8x8x128x128 : Shape := ⟨4, ![8, 8, 128, 128]⟩
abbrev S8x1x8x1024 : Shape := ⟨4, ![8, 1, 8, 1024]⟩
abbrev S8x16x1536 : Shape := ⟨3, ![8, 16, 1536]⟩
abbrev S8x8 : Shape := ⟨2, ![8, 8]⟩
abbrev S8x128 : Shape := ⟨2, ![8, 128]⟩
abbrev S1x8x1536 : Shape := ⟨3, ![1, 8, 1536]⟩
abbrev S8x1536 : Shape := ⟨2, ![8, 1536]⟩
abbrev S8x1024 : Shape := ⟨2, ![8, 1024]⟩
abbrev S1x8x128 : Shape := ⟨3, ![1, 8, 128]⟩
abbrev S8x2048 : Shape := ⟨2, ![8, 2048]⟩
abbrev S128x8 : Shape := ⟨2, ![128, 8]⟩
abbrev S1x8 : Shape := ⟨2, ![1, 8]⟩
abbrev S1x1x128x128 : Shape := ⟨4, ![1, 1, 128, 128]⟩
abbrev S128x128 : Shape := ⟨2, ![128, 128]⟩
abbrev S64x128 : Shape := ⟨2, ![64, 128]⟩
abbrev S8 : Shape := ⟨1, ![8]⟩
abbrev S8x1 : Shape := ⟨2, ![8, 1]⟩
abbrev S1x1x8x128 : Shape := ⟨4, ![1, 1, 8, 128]⟩

abbrev nBuf : Space → Nat
  | .hbm => 106
  | .vmem => 22
  | .smem => 0
  | _ => 0

abbrev bufTy : (tb : Table) → Fin (tcTables nBuf tb) → BufTy
  | .hbm, ⟨0, _⟩ => ⟨S17408x7168, .f32⟩
  | .hbm, ⟨1, _⟩ => ⟨S1x128x3x1536, .f32⟩
  | .hbm, ⟨2, _⟩ => ⟨S1x128x16x64x128, .f32⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S4x1536, .f32⟩
  | .hbm, ⟨10, _⟩ => ⟨S1536, .f32⟩
  | .hbm, ⟨11, _⟩ => ⟨S1x1536, .f32⟩
  | .hbm, ⟨12, _⟩ => ⟨S16, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S16, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S2x128, .f32⟩
  | .hbm, ⟨31, _⟩ => ⟨S16, .f32⟩
  | .hbm, ⟨32, _⟩ => ⟨S16x64, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S128, .i32⟩
  | .hbm, ⟨38, _⟩ => ⟨S128x1, .i32⟩
  | .hbm, ⟨39, _⟩ => ⟨S1024, .i32⟩
  | .hbm, ⟨40, _⟩ => ⟨S1x1024, .i32⟩
  | .hbm, ⟨41, _⟩ => ⟨S_, .i32⟩
  | .hbm, ⟨42, _⟩ => ⟨S_, .i32⟩
  | .hbm, ⟨43, _⟩ => ⟨S1x1024, .i32⟩
  | .hbm, ⟨44, _⟩ => ⟨S1x1024, .i32⟩
  | .hbm, ⟨45, _⟩ => ⟨S1x1024, .i32⟩
  | .hbm, ⟨46, _⟩ => ⟨S_, .i32⟩
  | .hbm, ⟨47, _⟩ => ⟨S1x1024, .i32⟩
  | .hbm, ⟨48, _⟩ => ⟨S1x1024, .i1⟩
  | .hbm, ⟨49, _⟩ => ⟨S1x1024, .i32⟩
  | .hbm, ⟨50, _⟩ => ⟨S1x1024, .i32⟩
  | .hbm, ⟨51, _⟩ => ⟨S_, .i32⟩
  | .hbm, ⟨52, _⟩ => ⟨S1x1024, .i32⟩
  | .hbm, ⟨53, _⟩ => ⟨S1x1024, .i1⟩
  | .hbm, ⟨54, _⟩ => ⟨S1x1024, .i1⟩
  | .hbm, ⟨55, _⟩ => ⟨S_, .i32⟩
  | .hbm, ⟨56, _⟩ => ⟨S1x1024, .i32⟩
  | .hbm, ⟨57, _⟩ => ⟨S1x1024, .i32⟩
  | .hbm, ⟨58, _⟩ => ⟨S1x1024, .i32⟩
  | .hbm, ⟨59, _⟩ => ⟨S_, .i32⟩
  | .hbm, ⟨60, _⟩ => ⟨S1x1024, .i32⟩
  | .hbm, ⟨61, _⟩ => ⟨S1x1024, .i32⟩
  | .hbm, ⟨62, _⟩ => ⟨S128x1024, .i32⟩
  | .hbm, ⟨63, _⟩ => ⟨S128x1024, .i32⟩
  | .hbm, ⟨64, _⟩ => ⟨S128x1024, .i1⟩
  | .hbm, ⟨65, _⟩ => ⟨S128x1024, .bf16⟩
  | .hbm, ⟨66, _⟩ => ⟨S128, .i32⟩
  | .hbm, ⟨67, _⟩ => ⟨S128x1, .i32⟩
  | .hbm, ⟨68, _⟩ => ⟨S2048, .i32⟩
  | .hbm, ⟨69, _⟩ => ⟨S1x2048, .i32⟩
  | .hbm, ⟨70, _⟩ => ⟨S_, .i32⟩
  | .hbm, ⟨71, _⟩ => ⟨S_, .i32⟩
  | .hbm, ⟨72, _⟩ => ⟨S1x2048, .i32⟩
  | .hbm, ⟨73, _⟩ => ⟨S1x2048, .i32⟩
  | .hbm, ⟨74, _⟩ => ⟨S1x2048, .i32⟩
  | .hbm, ⟨75, _⟩ => ⟨S_, .i32⟩
  | .hbm, ⟨76, _⟩ => ⟨S1x2048, .i32⟩
  | .hbm, ⟨77, _⟩ => ⟨S1x2048, .i1⟩
  | .hbm, ⟨78, _⟩ => ⟨S1x2048, .i32⟩
  | .hbm, ⟨79, _⟩ => ⟨S1x2048, .i32⟩
  | .hbm, ⟨80, _⟩ => ⟨S_, .i32⟩
  | .hbm, ⟨81, _⟩ => ⟨S1x2048, .i32⟩
  | .hbm, ⟨82, _⟩ => ⟨S1x2048, .i1⟩
  | .hbm, ⟨83, _⟩ => ⟨S1x2048, .i1⟩
  | .hbm, ⟨84, _⟩ => ⟨S_, .i32⟩
  | .hbm, ⟨85, _⟩ => ⟨S1x2048, .i32⟩
  | .hbm, ⟨86, _⟩ => ⟨S1x2048, .i32⟩
  | .hbm, ⟨87, _⟩ => ⟨S1x2048, .i32⟩
  | .hbm, ⟨88, _⟩ => ⟨S_, .i32⟩
  | .hbm, ⟨89, _⟩ => ⟨S1x2048, .i32⟩
  | .hbm, ⟨90, _⟩ => ⟨S1x2048, .i32⟩
  | .hbm, ⟨91, _⟩ => ⟨S128x2048, .i32⟩
  | .hbm, ⟨92, _⟩ => ⟨S128x2048, .i32⟩
  | .hbm, ⟨93, _⟩ => ⟨S128x2048, .i1⟩
  | .hbm, ⟨94, _⟩ => ⟨S128x2048, .bf16⟩
  | .hbm, ⟨95, _⟩ => ⟨S2176x8x7168, .f32⟩
  | .hbm, ⟨96, _⟩ => ⟨S128x3x1536, .f32⟩
  | .hbm, ⟨97, _⟩ => ⟨S_, .i32⟩
  | .hbm, ⟨98, _⟩ => ⟨S_, .f32⟩
  | .hbm, ⟨99, _⟩ => ⟨S128x8x1536, .f32⟩
  | .hbm, ⟨100, _⟩ => ⟨S128x16x64x128, .f32⟩
  | .hbm, ⟨101, _⟩ => ⟨S128x8x128x128, .f32⟩
  | .hbm, ⟨102, _⟩ => ⟨S128x1x8x1024, .f32⟩
  | .hbm, ⟨103, _⟩ => ⟨S128x8x128x128, .f32⟩
  | .hbm, ⟨104, _⟩ => ⟨S128x16x64x128, .f32⟩
  | .hbm, ⟨105, _⟩ => ⟨S1x128x16x64x128, .f32⟩
  | .local _ .vmem, ⟨0, _⟩ => ⟨S8x8x1536, .f32⟩
  | .local _ .vmem, ⟨1, _⟩ => ⟨S8x8x1536, .f32⟩
  | .local _ .vmem, ⟨2, _⟩ => ⟨S8x8x128, .f32⟩
  | .local _ .vmem, ⟨3, _⟩ => ⟨S8x8x128, .f32⟩
  | .local _ .vmem, ⟨4, _⟩ => ⟨S8x8x1024, .f32⟩
  | .local _ .vmem, ⟨5, _⟩ => ⟨S8x8x1024, .f32⟩
  | .local _ .vmem, ⟨6, _⟩ => ⟨S8x8x1536, .f32⟩
  | .local _ .vmem, ⟨7, _⟩ => ⟨S8x8x1536, .f32⟩
  | .local _ .vmem, ⟨8, _⟩ => ⟨S8x8x128x128, .f32⟩
  | .local _ .vmem, ⟨9, _⟩ => ⟨S8x8x128x128, .f32⟩
  | .local _ .vmem, ⟨10, _⟩ => ⟨S4x1536, .f32⟩
  | .local _ .vmem, ⟨11, _⟩ => ⟨S1x1536, .f32⟩
  | .local _ .vmem, ⟨12, _⟩ => ⟨S2x128, .f32⟩
  | .local _ .vmem, ⟨13, _⟩ => ⟨S1x1024, .f32⟩
  | .local _ .vmem, ⟨14, _⟩ => ⟨S1x1024, .f32⟩
  | .local _ .vmem, ⟨15, _⟩ => ⟨S128x1024, .bf16⟩
  | .local _ .vmem, ⟨16, _⟩ => ⟨S128x2048, .bf16⟩
  | .local _ .vmem, ⟨17, _⟩ => ⟨S8x1x8x1024, .f32⟩
  | .local _ .vmem, ⟨18, _⟩ => ⟨S8x1x8x1024, .f32⟩
  | .local _ .vmem, ⟨19, _⟩ => ⟨S8x8x128x128, .f32⟩
  | .local _ .vmem, ⟨20, _⟩ => ⟨S8x8x128x128, .f32⟩
  | .local _ .vmem, ⟨21, _⟩ => ⟨S8x16x1536, .f32⟩
  | _, _ => ⟨S17408x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v37 : Ref sig .tc := ⟨.hbm, 87, rfl⟩
abbrev main_c_7 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_8 : Ref sig .tc := ⟨.hbm, 97, rfl⟩
abbrev main_call2_v0 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49_0 : Ref sig .tc := ⟨.hbm, 102, rfl⟩
abbrev main_v49_1 : Ref sig .tc := ⟨.hbm, 103, rfl⟩
abbrev main_v50 : Ref sig .tc := ⟨.hbm, 104, rfl⟩
abbrev main_v51 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c1_i32_0 : BitVec 32 := 1#32
  let v2 : BitVec 32 := Scalar.muli v1 c1_i32_0
  let c256_i32 : BitVec 32 := 256#32
  let v3 : BitVec 32 := Scalar.addi c256_i32 v2
  let v4 : BitVec 32 := Scalar.addi v3 arg1
  let c0_i32_1 : BitVec 32 := 0#32
  let c2_i32 : BitVec 32 := 2#32
  let c0_i32_2 : BitVec 32 := 0#32
  ![v4.toNat, c0_i32_1.toNat, c2_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c1_i32_0 : BitVec 32 := 1#32
  let v2 : BitVec 32 := Scalar.muli v1 c1_i32_0
  let c256_i32 : BitVec 32 := 256#32
  let v3 : BitVec 32 := Scalar.addi c256_i32 v2
  let v4 : BitVec 32 := Scalar.addi v3 arg1
  let c0_i32_1 : BitVec 32 := 0#32
  let c36_i32 : BitVec 32 := 36#32
  let c0_i32_2 : BitVec 32 := 0#32
  ![v4.toNat, c0_i32_1.toNat, c36_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c1_i32_0 : BitVec 32 := 1#32
  let v2 : BitVec 32 := Scalar.muli v1 c1_i32_0
  let c256_i32 : BitVec 32 := 256#32
  let v3 : BitVec 32 := Scalar.addi c256_i32 v2
  let v4 : BitVec 32 := Scalar.addi v3 arg1
  let c0_i32_1 : BitVec 32 := 0#32
  let c6_i32 : BitVec 32 := 6#32
  let c0_i32_2 : BitVec 32 := 0#32
  ![v4.toNat, c0_i32_1.toNat, c6_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S8x1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== SsdSRefIdeal.lean ====
abbrev S17408x7168 : Shape := ⟨2, ![17408, 7168]⟩
abbrev S1x128x3x1536 : Shape := ⟨4, ![1, 128, 3, 1536]⟩
abbrev S1x128x16x64x128 : Shape := ⟨5, ![1, 128, 16, 64, 128]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1024x7168 : Shape := ⟨2, ![1024, 7168]⟩
abbrev S128x8x7168 : Shape := ⟨3, ![128, 8, 7168]⟩
abbrev S128x8x1536 : Shape := ⟨3, ![128, 8, 1536]⟩
abbrev S128x8x16 : Shape := ⟨3, ![128, 8, 16]⟩
abbrev S128x8x1024 : Shape := ⟨3, ![128, 8, 1024]⟩
abbrev S128x3x1536 : Shape := ⟨3, ![128, 3, 1536]⟩
abbrev S128x11x1536 : Shape := ⟨3, ![128, 11, 1536]⟩
abbrev S4x1536 : Shape := ⟨2, ![4, 1536]⟩
abbrev S1536 : Shape := ⟨1, ![1536]⟩
abbrev S1x1x1536 : Shape := ⟨3, ![1, 1, 1536]⟩
abbrev S_ : Shape := ⟨0, ![]⟩
abbrev S128x8x2x8x64 : Shape := ⟨5, ![128, 8, 2, 8, 64]⟩
abbrev S128x8x256 : Shape := ⟨3, ![128, 8, 256]⟩
abbrev S128x8x2x128 : Shape := ⟨4, ![128, 8, 2, 128]⟩
abbrev S16 : Shape := ⟨1, ![16]⟩
abbrev S1x1x16 : Shape := ⟨3, ![1, 1, 16]⟩
abbrev S128x8x2x8 : Shape := ⟨4, ![128, 8, 2, 8]⟩
abbrev S2x8 : Shape := ⟨2, ![2, 8]⟩
abbrev S1x1x2x8 : Shape := ⟨4, ![1, 1, 2, 8]⟩
abbrev S128x8x2x8x1 : Shape := ⟨5, ![128, 8, 2, 8, 1]⟩
abbrev S128x1x2x8 : Shape := ⟨4, ![128, 1, 2, 8]⟩
abbrev S128x16x64x128 : Shape := ⟨4, ![128, 16, 64, 128]⟩
abbrev S128x2x8x64x128 : Shape := ⟨5, ![128, 2, 8, 64, 128]⟩
abbrev S128x2x8 : Shape := ⟨3, ![128, 2, 8]⟩
abbrev S128x2x8x1x1 : Shape := ⟨5, ![128, 2, 8, 1, 1]⟩
abbrev S8x8 : Shape := ⟨2, ![8, 8]⟩
abbrev S1x8x8x1x1 : Shape := ⟨5, ![1, 8, 8, 1, 1]⟩
abbrev S128x8x1x2x8 : Shape := ⟨5, ![128, 8, 1, 2, 8]⟩
abbrev S128x1x8x2x8 : Shape := ⟨5, ![128, 1, 8, 2, 8]⟩
abbrev S128x8x8x2x8 : Shape := ⟨5, ![128, 8, 8, 2, 8]⟩
abbrev S128x2x8x8 : Shape := ⟨4, ![128, 2, 8, 8]⟩
abbrev S128x8x8x2 : Shape := ⟨4, ![128, 8, 8, 2]⟩
abbrev S128x8x8x2x1 : Shape := ⟨5, ![128, 8, 8, 2, 1]⟩
abbrev S128x2x8x64x8 : Shape := ⟨5, ![128, 2, 8, 64, 8]⟩
abbrev S2x8x1 : Shape := ⟨3, ![2, 8, 1]⟩
abbrev S1x1x2x8x1 : Shape := ⟨5, ![1, 1, 2, 8, 1]⟩
abbrev S128x8x2x512 : Shape := ⟨4, ![128, 8, 2, 512]⟩
abbrev S1024 : Shape := ⟨1, ![1024]⟩
abbrev S2x512 : Shape := ⟨2, ![2, 512]⟩
abbrev S128x8x2 : Shape := ⟨3, ![128, 8, 2]⟩
abbrev S128x8x2x1 : Shape := ⟨4, ![128, 8, 2, 1]⟩
abbrev S1x1x2x512 : Shape := ⟨4, ![1, 1, 2, 512]⟩
abbrev S128x1x8x1024 : Shape := ⟨4, ![128, 1, 8, 1024]⟩

abbrev nBuf : Space → Nat
  | .hbm => 194
  | .vmem => 0
  | .smem => 0
  | _ => 0

abbrev hbmTy0_0 (i : Nat) : BufTy := match i % 128 with
  | 0 => ⟨S17408x7168, .f32⟩
  | 1 => ⟨S1x128x3x1536, .f32⟩
  | 2 => ⟨S1x128x16x64x128, .f32⟩
  | 3 => ⟨S1x4x1536, .f32⟩
  | 4 => ⟨S1x1536, .f32⟩
  | 5 => ⟨S1x16, .f32⟩
  | 6 => ⟨S1x16, .f32⟩
  | 7 => ⟨S1x16, .f32⟩
  | 8 => ⟨S1x1024, .f32⟩
  | 9 => ⟨S1024x7168, .f32⟩
  | 10 => ⟨S128x8x7168, .f32⟩
  | 11 => ⟨S128x8x1536, .f32⟩
  | 12 => ⟨S128x8x16, .f32⟩
  | 13 => ⟨S128x8x1024, .f32⟩
  | 14 => ⟨S128x3x1536, .f32⟩
  | 15 => ⟨S128x11x1536, .f32⟩
  | 16 => ⟨S4x1536, .f32⟩
  | 17 => ⟨S128x8x1536, .f32⟩
  | 18 => ⟨S1x1536, .f32⟩
  | 19 => ⟨S1536, .f32⟩
  | 20 => ⟨S1x1x1536, .f32⟩
  | 21 => ⟨S128x8x1536, .f32⟩
  | 22 => ⟨S128x8x1536, .f32⟩
  | 23 => ⟨S128x8x1536, .f32⟩
  | 24 => ⟨S1x1536, .f32⟩
  | 25 => ⟨S1536, .f32⟩
  | 26 => ⟨S1x1x1536, .f32⟩
  | 27 => ⟨S128x8x1536, .f32⟩
  | 28 => ⟨S128x8x1536, .f32⟩
  | 29 => ⟨S128x8x1536, .f32⟩
  | 30 => ⟨S128x8x1536, .f32⟩
  | 31 => ⟨S1x1536, .f32⟩
  | 32 => ⟨S1536, .f32⟩
  | 33 => ⟨S1x1x1536, .f32⟩
  | 34 => ⟨S128x8x1536, .f32⟩
  | 35 => ⟨S128x8x1536, .f32⟩
  | 36 => ⟨S128x8x1536, .f32⟩
  | 37 => ⟨S128x8x1536, .f32⟩
  | 38 => ⟨S1x1536, .f32⟩
  | 39 => ⟨S1536, .f32⟩
  | 40 => ⟨S1x1x1536, .f32⟩
  | 41 => ⟨S128x8x1536, .f32⟩
  | 42 => ⟨S128x8x1536, .f32⟩
  | 43 => ⟨S128x8x1536, .f32⟩
  | 44 => ⟨S1536, .f32⟩
  | 45 => ⟨S1x1x1536, .f32⟩
  | 46 => ⟨S128x8x1536, .f32⟩
  | 47 => ⟨S128x8x1536, .f32⟩
  | 48 => ⟨S128x8x1536, .f32⟩
  | 49 => ⟨S128x8x1536, .f32⟩
  | 50 => ⟨S_, .f32⟩
  | 51 => ⟨S128x8x1536, .f32⟩
  | 52 => ⟨S128x8x1536, .f32⟩
  | 53 => ⟨S_, .f32⟩
  | 54 => ⟨S128x8x1536, .f32⟩
  | 55 => ⟨S128x8x1536, .f32⟩
  | 56 => ⟨S128x8x1536, .f32⟩
  | 57 => ⟨S128x8x1024, .f32⟩
  | 58 => ⟨S128x8x2x8x64, .f32⟩
  | 59 => ⟨S128x8x256, .f32⟩
  | 60 => ⟨S128x8x2x128, .f32⟩
  | 61 => ⟨S128x8x256, .f32⟩
  | 62 => ⟨S128x8x2x128, .f32⟩
  | 63 => ⟨S16, .f32⟩
  | 64 => ⟨S1x1x16, .f32⟩
  | 65 => ⟨S128x8x16, .f32⟩
  | 66 => ⟨S128x8x16, .f32⟩
  | 67 => ⟨S_, .f32⟩
  | 68 => ⟨S128x8x16, .f32⟩
  | 69 => ⟨S128x8x16, .f32⟩
  | 70 => ⟨S128x8x16, .f32⟩
  | 71 => ⟨S128x8x16, .f32⟩
  | 72 => ⟨S128x8x16, .i1⟩
  | 73 => ⟨S128x8x16, .f32⟩
  | 74 => ⟨S128x8x16, .f32⟩
  | 75 => ⟨S128x8x16, .f32⟩
  | 76 => ⟨S128x8x16, .f32⟩
  | 77 => ⟨S128x8x16, .f32⟩
  | 78 => ⟨S128x8x16, .f32⟩
  | 79 => ⟨S128x8x16, .f32⟩
  | 80 => ⟨S128x8x16, .f32⟩
  | 81 => ⟨S128x8x2x8, .f32⟩
  | 82 => ⟨S16, .f32⟩
  | 83 => ⟨S16, .f32⟩
  | 84 => ⟨S2x8, .f32⟩
  | 85 => ⟨S2x8, .f32⟩
  | 86 => ⟨S1x1x2x8, .f32⟩
  | 87 => ⟨S128x8x2x8, .f32⟩
  | 88 => ⟨S128x8x2x8, .f32⟩
  | 89 => ⟨S_, .f32⟩
  | 90 => ⟨S_, .f32⟩
  | 91 => ⟨S128x8x2x8, .f32⟩
  | 92 => ⟨S128x8x2x8x1, .f32⟩
  | 93 => ⟨S128x8x2x8x64, .f32⟩
  | 94 => ⟨S128x8x2x8x64, .f32⟩
  | 95 => ⟨S128x1x2x8, .f32⟩
  | 96 => ⟨S128x8x2x8, .f32⟩
  | 97 => ⟨S128x8x2x8, .f32⟩
  | 98 => ⟨S128x8x2x8, .f32⟩
  | 99 => ⟨S128x16x64x128, .f32⟩
  | 100 => ⟨S128x2x8x64x128, .f32⟩
  | 101 => ⟨S128x1x2x8, .f32⟩
  | 102 => ⟨S128x2x8, .f32⟩
  | 103 => ⟨S128x2x8, .f32⟩
  | 104 => ⟨S128x2x8x1x1, .f32⟩
  | 105 => ⟨S128x2x8x64x128, .f32⟩
  | 106 => ⟨S128x2x8x64x128, .f32⟩
  | 107 => ⟨S128x8x2x8x1, .f32⟩
  | 108 => ⟨S128x8x2x8x64, .f32⟩
  | 109 => ⟨S128x8x2x8x64, .f32⟩
  | 110 => ⟨S128x2x8x64x128, .f32⟩
  | 111 => ⟨S128x2x8x64x128, .f32⟩
  | 112 => ⟨S_, .i1⟩
  | 113 => ⟨S8x8, .i1⟩
  | 114 => ⟨S8x8, .i32⟩
  | 115 => ⟨S_, .i32⟩
  | 116 => ⟨S8x8, .i32⟩
  | 117 => ⟨S8x8, .i32⟩
  | 118 => ⟨S8x8, .i32⟩
  | 119 => ⟨S8x8, .i1⟩
  | 120 => ⟨S_, .i1⟩
  | 121 => ⟨S8x8, .i1⟩
  | 122 => ⟨S8x8, .i1⟩
  | 123 => ⟨S1x8x8x1x1, .i1⟩
  | 124 => ⟨S128x8x1x2x8, .f32⟩
  | 125 => ⟨S128x1x8x2x8, .f32⟩
  | 126 => ⟨S128x8x8x2x8, .f32⟩
  | 127 => ⟨S128x8x8x2x8, .f32⟩
  | _ => ⟨S17408x7168, .f32⟩

abbrev hbmTy0_1 (i : Nat) : BufTy := match i % 128 with
  | 0 => ⟨S128x8x8x2x8, .f32⟩
  | 1 => ⟨S_, .f32⟩
  | 2 => ⟨S_, .f32⟩
  | 3 => ⟨S128x8x8x2x8, .i1⟩
  | 4 => ⟨S128x8x8x2x8, .f32⟩
  | 5 => ⟨S128x8x8x2x8, .f32⟩
  | 6 => ⟨S128x8x8x2x8, .f32⟩
  | 7 => ⟨S_, .f32⟩
  | 8 => ⟨S_, .f32⟩
  | 9 => ⟨S128x8x8x2x8, .i1⟩
  | 10 => ⟨S128x8x8x2x8, .f32⟩
  | 11 => ⟨S128x8x8x2x8, .f32⟩
  | 12 => ⟨S128x2x8x8, .f32⟩
  | 13 => ⟨S128x8x8x2, .f32⟩
  | 14 => ⟨S128x8x8x2x1, .f32⟩
  | 15 => ⟨S128x8x8x2x8, .f32⟩
  | 16 => ⟨S128x8x8x2x8, .f32⟩
  | 17 => ⟨S128x2x8x64x8, .f32⟩
  | 18 => ⟨S128x8x2x8x64, .f32⟩
  | 19 => ⟨S128x2x8x64x8, .f32⟩
  | 20 => ⟨S128x8x2x8x64, .f32⟩
  | 21 => ⟨S128x8x2x8, .f32⟩
  | 22 => ⟨S128x8x2x8x1, .f32⟩
  | 23 => ⟨S128x8x2x8x64, .f32⟩
  | 24 => ⟨S128x8x2x8x64, .f32⟩
  | 25 => ⟨S128x8x2x8x64, .f32⟩
  | 26 => ⟨S16, .f32⟩
  | 27 => ⟨S2x8, .f32⟩
  | 28 => ⟨S2x8x1, .f32⟩
  | 29 => ⟨S1x1x2x8x1, .f32⟩
  | 30 => ⟨S128x8x2x8x64, .f32⟩
  | 31 => ⟨S128x8x2x8x64, .f32⟩
  | 32 => ⟨S128x8x2x8x64, .f32⟩
  | 33 => ⟨S128x8x2x8x64, .f32⟩
  | 34 => ⟨S128x8x2x8x64, .f32⟩
  | 35 => ⟨S128x8x2x8x64, .f32⟩
  | 36 => ⟨S_, .f32⟩
  | 37 => ⟨S128x8x2x8x64, .f32⟩
  | 38 => ⟨S128x8x2x8x64, .f32⟩
  | 39 => ⟨S_, .f32⟩
  | 40 => ⟨S128x8x2x8x64, .f32⟩
  | 41 => ⟨S128x8x2x8x64, .f32⟩
  | 42 => ⟨S128x8x2x8x64, .f32⟩
  | 43 => ⟨S128x8x2x8x64, .f32⟩
  | 44 => ⟨S128x8x2x512, .f32⟩
  | 45 => ⟨S1024, .f32⟩
  | 46 => ⟨S2x512, .f32⟩
  | 47 => ⟨S128x8x2x512, .f32⟩
  | 48 => ⟨S_, .f32⟩
  | 49 => ⟨S128x8x2, .f32⟩
  | 50 => ⟨S128x8x2x1, .f32⟩
  | 51 => ⟨S_, .f32⟩
  | 52 => ⟨S128x8x2x1, .f32⟩
  | 53 => ⟨S128x8x2x1, .f32⟩
  | 54 => ⟨S_, .f32⟩
  | 55 => ⟨S128x8x2x1, .f32⟩
  | 56 => ⟨S128x8x2x1, .f32⟩
  | 57 => ⟨S128x8x2x1, .f32⟩
  | 58 => ⟨S128x8x2x512, .f32⟩
  | 59 => ⟨S128x8x2x512, .f32⟩
  | 60 => ⟨S1x1x2x512, .f32⟩
  | 61 => ⟨S128x8x2x512, .f32⟩
  | 62 => ⟨S128x8x2x512, .f32⟩
  | 63 => ⟨S128x1x8x1024, .f32⟩
  | 64 => ⟨S128x16x64x128, .f32⟩
  | 65 => ⟨S1x128x16x64x128, .f32⟩
  | _ => ⟨S17408x7168, .f32⟩

abbrev hbmTy (i : Nat) : BufTy := match i / 128 with
  | 0 => hbmTy0_0 i
  | 1 => hbmTy0_1 i
  | _ => ⟨S17408x7168, .f32⟩

abbrev bufTy : (tb : Table) → Fin (tcTables nBuf tb) → BufTy
  | .hbm, ⟨i, _⟩ => hbmTy i
  | _, _ => ⟨S17408x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call2_call0_cst : Ref sig .tc := ⟨.hbm, 89, rfl⟩
abbrev main_call2_call0_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c : Ref sig .tc := ⟨.hbm, 112, rfl⟩
abbrev main_v80 : Ref sig .tc := ⟨.hbm, 113, rfl⟩
abbrev main_call3_v0 : Ref sig .tc := ⟨.hbm, 114, rfl⟩
abbrev main_call3_c : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_c_0 : Ref sig .tc := ⟨.hbm, 120, rfl⟩
abbrev main_call3_v5 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_v88 : Ref sig .tc := ⟨.hbm, 133, rfl⟩
abbrev main_v89 : Ref sig .tc := ⟨.hbm, 134, rfl⟩
abbrev main_cst_0 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_call6_v0 : Ref sig .tc := ⟨.hbm, 162, rfl⟩
abbrev main_call6_v1 : Ref sig .tc := ⟨.hbm, 163, rfl⟩
abbrev main_call6_cst : Ref sig .tc := ⟨.hbm, 164, rfl⟩
abbrev main_call6_v2 : Ref sig .tc := ⟨.hbm, 165, rfl⟩
abbrev main_call6_v3 : Ref sig .tc := ⟨.hbm, 166, rfl⟩
abbrev main_call6_cst_0 : Ref sig .tc := ⟨.hbm, 167, rfl⟩
abbrev main_call6_v4 : Ref sig .tc := ⟨.hbm, 168, rfl⟩
abbrev main_call6_v5 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_1 : Ref sig .tc := ⟨.hbm, 176, rfl⟩
abbrev main_v119 : Ref sig .tc := ⟨.hbm, 177, rfl⟩
abbrev main_v120 : Ref sig .tc := ⟨.hbm, 178, rfl⟩
abbrev main_cst_2 : Ref sig .tc := ⟨.hbm, 179, rfl⟩
abbrev main_v121 : Ref sig .tc := ⟨.hbm, 180, rfl⟩
abbrev main_v122 : Ref sig .tc := ⟨.hbm, 181, rfl⟩
abbrev main_cst_3 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩

abbrev nD : Nat := 1
abbrev τ : Topo := Topo.v7x

variable {F : FTy → Type} [FloatOps F]
-- ==== Proof.Frames.lean ====
/-
  Every program runs to its end, leaves its arguments as they were and every semaphore counter at nought.
-/
module

public import proofs.«01_k».proof.Defs
public import proofs.«01_k».proof.Proof.Gen.XCore.Frame
public import proofs.«01_k».proof.Proof.Gen.XCoreIdeal.Frame
public import proofs.«01_k».proof.Proof.Gen.XCoreRefIdeal.Run
public import proofs.«01_k».proof.Proof.Gen.XCache.Frame
public import proofs.«01_k».proof.Proof.Gen.XCacheIdeal.Frame
public import proofs.«01_k».proof.Proof.Gen.XCacheRefIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.MemKV.Frame
public import proofs.«01_k».proof.Proof.Gen.MemKVIdeal.Frame
public import proofs.«01_k».proof.Proof.Gen.MemKVRefIdeal.Run
public import proofs.«01_k».proof.Proof.Gen.XQ.Frame
public import proofs.«01_k».proof.Proof.Gen.XQIdeal.Frame
public import proofs.«01_k».proof.Proof.Gen.XQRefIdeal.Run
public import proofs.«01_k».proof.Proof.Gen.MixOut.Frame
public import proofs.«01_k».proof.Proof.Gen.MixOutIdeal.Frame
public import proofs.«01_k».proof.Proof.Gen.MixOutRefIdeal.Run
public import proofs.«01_k».proof.Proof.Gen.XOut.Frame
public import proofs.«01_k».proof.Proof.Gen.XOutIdeal.Frame
public import proofs.«01_k».proof.Proof.Gen.XOutRefIdeal.Run
public import proofs.«01_k».proof.Proof.Gen.SsdS.Frame
public import proofs.«01_k».proof.Proof.Gen.SsdSIdeal.Frame
public import proofs.«01_k».proof.Proof.Gen.SsdSRefIdeal.Run
public import Idealize.ShloMosaic.Lib.Quiescent

@[expose] public section

noncomputable section

namespace Cert.Proof

open Idealize.ShloMosaic Idealize.SL.Sem

/-- The reference of `XCore` runs, leaves its arguments and ends quiescent: it has no semaphore. -/
theorem ref_frame_XCore : Cert.quiescent_XCoreRefIdeal (hXCoreRefIdeal := Cert.XCoreRefIdeal.Gen.facts) :=
  fun m ρ _ => (θ_run _ _ _).mono (fun _ h => ⟨fun c => (h c).2, sem_eq_zero_of_no_sems rfl _⟩) (Cert.XCoreRefIdeal.Value.run m ρ)

/-- The reference of `XCache` runs, leaves its arguments and ends quiescent: it has no semaphore. -/
theorem ref_frame_XCache : Cert.quiescent_XCacheRefIdeal (hXCacheRefIdeal := Cert.XCacheRefIdeal.Gen.facts) :=
  fun m ρ _ => (θ_run _ _ _).mono (fun _ h => ⟨fun c => (h c).2, sem_eq_zero_of_no_sems rfl _⟩) (Cert.XCacheRefIdeal.Value.run m ρ)

/-- The reference of `InProj` runs, leaves its arguments and ends quiescent: it has no semaphore. -/
theorem ref_frame_InProj : Cert.quiescent_InProjRefIdeal (hInProjRefIdeal := Cert.InProjRefIdeal.Gen.facts) :=
  fun m ρ _ => (θ_run _ _ _).mono (fun _ h => ⟨fun c => (h c).2.2.2.2.2, sem_eq_zero_of_no_sems rfl _⟩) (Cert.InProjRefIdeal.Value.run m ρ)

/-- The reference of `MemKV` runs, leaves its arguments and ends quiescent: it has no semaphore. -/
theorem ref_frame_MemKV : Cert.quiescent_MemKVRefIdeal (hMemKVRefIdeal := Cert.MemKVRefIdeal.Gen.facts) :=
  fun m ρ _ => (θ_run _ _ _).mono (fun _ h => ⟨fun c => (h c).2.2.2, sem_eq_zero_of_no_sems rfl _⟩) (Cert.MemKVRefIdeal.Value.run m ρ)

/-- The reference of `XQ` runs, leaves its arguments and ends quiescent: it has no semaphore. -/
theorem ref_frame_XQ : Cert.quiescent_XQRefIdeal (hXQRefIdeal := Cert.XQRefIdeal.Gen.facts) :=
  fun m ρ _ => (θ_run _ _ _).mono (fun _ h => ⟨fun c => (h c).2, sem_eq_zero_of_no_sems rfl _⟩) (Cert.XQRefIdeal.Value.run m ρ)

/-- The reference of `MixOut` runs, leaves its arguments and ends quiescent: it has no semaphore. -/
theorem ref_frame_MixOut : Cert.quiescent_MixOutRefIdeal (hMixOutRefIdeal := Cert.MixOutRefIdeal.Gen.facts) :=
  fun m ρ _ => (θ_run _ _ _).mono (fun _ h => ⟨fun c => (h c).2, sem_eq_zero_of_no_sems rfl _⟩) (Cert.MixOutRefIdeal.Value.run m ρ)

/-- The reference of `XOut` runs, leaves its arguments and ends quiescent: it has no semaphore. -/
theorem ref_frame_XOut : Cert.quiescent_XOutRefIdeal (hXOutRefIdeal := Cert.XOutRefIdeal.Gen.facts) :=
  fun m ρ _ => (θ_run _ _ _).mono (fun _ h => ⟨fun c => (h c).2, sem_eq_zero_of_no_sems rfl _⟩) (Cert.XOutRefIdeal.Value.run m ρ)

/-- The reference of `SsdS` runs, leaves its arguments and ends quiescent: it has no semaphore. -/
theorem ref_frame_SsdS : Cert.quiescent_SsdSRefIdeal (hSsdSRefIdeal := Cert.SsdSRefIdeal.Gen.facts) :=
  fun m ρ _ => (θ_run _ _ _).mono (fun _ h => ⟨fun c => (h c).2.2, sem_eq_zero_of_no_sems rfl _⟩) (Cert.SsdSRefIdeal.Value.run m ρ)

end Cert.Proof

end
-- ==== Proof.Attention.Softmax.lean ====
/-
  Softmax attention of one query on the extended reals: the scaled score of a query against a key, the maximum of a
  list of scores, and the mean of the values weighted by the softmax of the scores. Nothing here names a program.
-/
module

public import Idealize.ShloMosaic.Lib.Pointwise

@[expose] public section

noncomputable section

namespace Attention

open Idealize.ShloMosaic

/-- The score of a query against a key: their product over the 256 lanes of a head, times 1/16. -/
def score (q k : Fin 256 → EReal) : EReal := (∑ x, q x * k x) * Ideal.ofBits .f32 0x3D800000#32

/-- The greatest of a list of scores. -/
def top {n : Nat} (s : Fin n → EReal) : EReal := Finset.fold max (Ideal.ofBits .f32 0xFF800000#32) s Finset.univ

/-- The values' mean, weighted by the softmax of the scores. -/
def attend {n : Nat} (s v : Fin n → EReal) : EReal :=
  ∑ x, Ideal.div (Ideal.exp (s x - top s)) (∑ y, Ideal.exp (s y - top s)) * v x

/-- The bit pattern of minus infinity denotes the least extended real. -/
theorem ofBits_neg_inf : Ideal.ofBits .f32 0xFF800000#32 = (⊥ : EReal) := by
  simp [Ideal.ofBits, Ideal.ieee]

/-- The lane of head `d / 256` at offset `x`. -/
def lane (d : Fin 1024) (x : Fin 256) : Fin 1024 := ⟨d.val / 256 * 256 + x.val, by omega⟩

end Attention

end
-- ==== Proof.XCore.Block.lean ====
/-
  One point of the prompt's cross-attention: what it stores into its block of 512 rows. The block is stored as four pieces of
  256 lanes, one per head; every piece is the attention of the block's queries in that head.
-/
module

public import proofs.«01_k».proof.Proof.Gen.XCoreIdeal.Frame
public import proofs.«01_k».proof.Proof.Attention.Softmax
public import Idealize.ShloMosaic.Lib.Pipeline.Value

@[expose] public section

set_option maxRecDepth 16384

noncomputable section

namespace Cert.XCoreIdeal.RefValue

open Cert.XCoreIdeal Cert.XCoreIdeal.Gen Idealize.ShloMosaic Attention

/-- One head's piece: attention of the queries `q` over the keys `k` and the values `v`, row by row. -/
theorem head_apply (k v : Vec Ideal S1x256x256 .f32) (q : Vec Ideal S1x512x256 .f32) (z : Fin 1) (r : Fin 512) (d : Fin 256) :
    k0_pay1 k v q (ix3 z r d) = attend (fun j => score (fun x => q (ix3 0 r x)) (fun x => k (ix3 0 j x))) (fun j => v (ix3 0 j d)) := by
  pointwise [k0_pay1]
  rfl

/-- The same, spelt as the second head's piece. -/
theorem head2 (k v : Vec Ideal S1x256x256 .f32) (q : Vec Ideal S1x512x256 .f32) :
    k0_pay4 (k0_pay2 k) (k0_pay3 v) q = k0_pay1 k v q := rfl

/-- The same, spelt as the third head's piece. -/
theorem head3 (k v : Vec Ideal S1x256x256 .f32) (q : Vec Ideal S1x512x256 .f32) :
    k0_pay8 (k0_pay5 v) (k0_pay6 k q) (k0_pay7 k q) = k0_pay1 k v q := rfl

/-- The same, spelt as the fourth head's piece. -/
theorem head4 (k v : Vec Ideal S1x256x256 .f32) (q : Vec Ideal S1x512x256 .f32) : k0_pay9 k v q = k0_pay1 k v q := rfl

/-- The whole block: in lane `d`, the attention of the row's query in head `d / 256`. -/
def blockAt (q : Vec Ideal S1x512x1024 .f32) (k v : Vec Ideal S1x256x1024 .f32) (i : S1x512x1024.Idx) : Elt Ideal .f32 :=
  attend (fun j => score (fun x => q (ix3 0 (i 1) (lane (i 2) x))) (fun x => k (ix3 0 j (lane (i 2) x))))
    (fun j => v (ix3 0 j (i 2)))

/-- The piece of lanes `256 h` to `256 h + 255`, taken from blocks, is that part of the whole block. -/
theorem piece (q : Vec Ideal S1x512x1024 .f32) (k v : Vec Ideal S1x256x1024 .f32) (o : Nat) (ho : o % 256 = 0)
    (iq : ∀ a, (![0, 0, o] : Fin 3 → Nat) a + S1x512x256.size a ≤ S1x512x1024.size a)
    (ik : ∀ a, (![0, 0, o] : Fin 3 → Nat) a + S1x256x256.size a ≤ S1x256x1024.size a) (x : S1x512x256.Idx) :
    k0_pay1 (View.ld k (Rect.unit (s := S1x256x1024) ![0, 0, o] S1x256x256.size ik))
        (View.ld v (Rect.unit (s := S1x256x1024) ![0, 0, o] S1x256x256.size ik))
        (View.ld q (Rect.unit (s := S1x512x1024) ![0, 0, o] S1x512x256.size iq)) x
      = blockAt q k v ((Rect.unit (s := S1x512x1024) ![0, 0, o] S1x512x256.size iq).emb x) := by
  idx_vars x
  rw [head_apply]
  pointwise
  have e1 : (Rect.unit (s := S1x512x1024) ![0, 0, o] S1x512x256.size iq).emb (ix3 x0 x1 x2) 1 = x1 :=
    Fin.ext (show 0 + 1 * x1.val = x1.val by omega)
  have h : o + 256 ≤ 1024 := iq 2
  have e2 : (Rect.unit (s := S1x512x1024) ![0, 0, o] S1x512x256.size iq).emb (ix3 x0 x1 x2) 2
      = (⟨o + x2.val, by omega⟩ : Fin 1024) :=
    Fin.ext (show o + 1 * x2.val = o + x2.val by omega)
  have e3 : ∀ y : Fin 256, lane (⟨o + x2.val, by omega⟩ : Fin 1024) y = ⟨o + y.val, by omega⟩ := fun y =>
    Fin.ext (show (o + x2.val) / 256 * 256 + y.val = o + y.val by omega)
  unfold blockAt
  rw [e1, e2]
  refine congrArg₂ attend (funext fun j => congrArg₂ score (funext fun y => ?_) (funext fun y => ?_)) rfl
  · exact congrArg (fun z => q (ix3 0 x1 z)) (e3 y).symm
  · exact congrArg (fun z => k (ix3 0 j z)) (e3 y).symm

/-- WHAT A POINT STORES: its output block, whole. -/
theorem out_apply (q : Vec Ideal S1x512x1024 .f32) (k v : Vec Ideal S1x256x1024 .f32) (i : S1x512x1024.Idx) :
    out0_3 q k v i = blockAt q k v i := by
  unfold out0_3
  refine View.canon_apply_of_pieces (blockAt q k v) _ ?_ i (cover0_3 _ _ _ _ i)
  intro p hp
  simp only [List.mem_cons, List.not_mem_nil, or_false] at hp
  rcases hp with rfl | rfl | rfl | rfl
  · exact fun x => piece q k v 768 rfl _ _ x
  · exact fun x => (congrFun (head3 _ _ _) x).trans (piece q k v 512 rfl _ _ x)
  · exact fun x => (congrFun (head2 _ _ _) x).trans (piece q k v 256 rfl _ _ x)
  · exact fun x => piece q k v 0 rfl _ _ x

end Cert.XCoreIdeal.RefValue

end
-- ==== Proof.XCore.Reference.lean ====
/-
  The reference of the prompt's cross-attention read at an index: row `l` of sequence `b`, lane `d`, is the attention of
  that row's query in head `d / 256` over the 256 memory slots of the sequence.
-/
module

public import proofs.«01_k».proof.Proof.Gen.XCoreRefIdeal.Read
public import proofs.«01_k».proof.Proof.Attention.Softmax

@[expose] public section

set_option maxRecDepth 16384

noncomputable section

namespace Cert.XCoreRefIdeal.RefValue

open Cert.XCoreRefIdeal Cert.XCoreRefIdeal.Read Idealize.ShloMosaic Attention

variable (a : (⟨S17408x1024, .f32⟩ : BufTy).Contents (Elt Ideal)) (kv : (⟨S2048x2048, .f32⟩ : BufTy).Contents (Elt Ideal))

/-- Row `l` of sequence `b` among the rows of the query array. -/
def row (b : Fin 8) (l : Fin 2048) : Fin 17408 := ⟨b.val * 2048 + l.val, by omega⟩

/-- Slot `j` of sequence `b` among the rows of the memory's keys and values. -/
def slot (b : Fin 8) (j : Fin 256) : Fin 2048 := ⟨b.val * 256 + j.val, by omega⟩

/-- Lane `x` of head `h`. -/
def lane4 (h : Fin 4) (x : Fin 256) : Fin 1024 := ⟨h.val * 256 + x.val, by omega⟩

/-- Lane `d` of the keys' half of the memory's columns. -/
def kcol (d : Fin 1024) : Fin 2048 := ⟨d.val, by omega⟩

/-- Lane `d` of the values' half of the memory's columns. -/
def vcol (d : Fin 1024) : Fin 2048 := ⟨1024 + d.val, by omega⟩

/-- The queries by sequence, row, head and lane. -/
theorem query_apply (b : Fin 8) (l : Fin 2048) (h : Fin 4) (x : Fin 256) :
    val_main_v1 a (ix4 b l h x) = a (ix2 (row b l) (lane4 h x)) := by
  rw [val_main_v1_apply, val_main_v0_apply]
  refine congrArg a (funext fun r => Fin.ext ?_)
  match r with
  | ⟨0, _⟩ => show (((b.val * 2048 + l.val) * 4 + h.val) * 256 + x.val) / 1024 = b.val * 2048 + l.val; omega
  | ⟨1, _⟩ => show (((b.val * 2048 + l.val) * 4 + h.val) * 256 + x.val) % 1024 = h.val * 256 + x.val; omega

/-- The keys by sequence, slot, head and lane. -/
theorem key_apply (b : Fin 8) (j : Fin 256) (h : Fin 4) (x : Fin 256) :
    val_main_v3 kv (ix4 b j h x) = kv (ix2 (slot b j) (kcol (lane4 h x))) := by
  rw [val_main_v3_apply, val_main_v2_apply]
  refine congrArg kv (funext fun r => Fin.ext ?_)
  match r with
  | ⟨0, _⟩ => show (((b.val * 256 + j.val) * 4 + h.val) * 256 + x.val) / 1024 = b.val * 256 + j.val; omega
  | ⟨1, _⟩ => show (((b.val * 256 + j.val) * 4 + h.val) * 256 + x.val) % 1024 = h.val * 256 + x.val; omega

/-- The values by sequence, slot, head and lane. -/
theorem value_apply (b : Fin 8) (j : Fin 256) (h : Fin 4) (x : Fin 256) :
    val_main_v5 kv (ix4 b j h x) = kv (ix2 (slot b j) (vcol (lane4 h x))) := by
  rw [val_main_v5_apply, val_main_v4_apply]
  refine congrArg kv (funext fun r => Fin.ext ?_)
  match r with
  | ⟨0, _⟩ => show (((b.val * 256 + j.val) * 4 + h.val) * 256 + x.val) / 1024 = b.val * 256 + j.val; omega
  | ⟨1, _⟩ => show 1024 + (((b.val * 256 + j.val) * 4 + h.val) * 256 + x.val) % 1024 = 1024 + (h.val * 256 + x.val); omega

/-- The scores of one row's query in one head against the sequence's slots. -/
def scores (b : Fin 8) (h : Fin 4) (l : Fin 2048) (j : Fin 256) : EReal :=
  score (fun x => a (ix2 (row b l) (lane4 h x))) (fun x => kv (ix2 (slot b j) (kcol (lane4 h x))))

/-- The reference's scaled scores. -/
theorem score_apply (b : Fin 8) (h : Fin 4) (l : Fin 2048) (j : Fin 256) :
    val_main_v8 a kv (ix4 b h l j) = scores a kv b h l j := by
  rw [val_main_v8_apply, val_main_v6_apply, val_main_v7_apply, val_main_cst_apply]
  refine congrArg (· * _) (Finset.sum_congr rfl fun x _ => ?_)
  rw [show lidx_main_v6 (ix4 b h l j) x = ix4 b l h x from eq_ix4 _,
    show ridx_main_v6 (ix4 b h l j) x = ix4 b j h x from eq_ix4 _, query_apply, key_apply]

/-- The reference's row maximum. -/
theorem max_apply (b : Fin 8) (h : Fin 4) (l : Fin 2048) :
    val_main_v9 a kv (ix3 b h l) = top (scores a kv b h l) := by
  have e : ∀ j, val_main_v8 a kv (ix4 b h l j) = scores a kv b h l j := score_apply a kv b h l
  unfold val_main_v9
  generalize val_main_v8 a kv = y at e
  simp only [val_main_cst_0]
  pointwise
  exact congrArg (fun f => Finset.fold max (Ideal.ofBits .f32 0xFF800000#32) f Finset.univ) (funext e)

/-- The reference's exponential of a score less the row maximum. -/
theorem exp_apply (b : Fin 8) (h : Fin 4) (l : Fin 2048) (j : Fin 256) :
    val_main_v15 a kv (ix4 b h l j) = Ideal.exp (scores a kv b h l j - top (scores a kv b h l)) := by
  rw [val_main_v15_apply, val_main_v14_apply, score_apply, val_main_v13_apply, val_main_v12_apply, val_main_v11_apply,
    val_main_v10_apply, val_main_cst_1_apply,
    show idx_main_v12 (idx_main_v13 (ix4 b h l j)) = ix3 b h l from eq_ix3 _, max_apply]
  show Ideal.exp (_ - max (Ideal.ofBits .f32 0xFF800000#32) _) = _
  rw [ofBits_neg_inf, bot_sup_eq]

/-- The reference's softmax weights. -/
theorem weight_apply (b : Fin 8) (h : Fin 4) (l : Fin 2048) (j : Fin 256) :
    val_main_v19 a kv (ix4 b h l j) = Ideal.div (Ideal.exp (scores a kv b h l j - top (scores a kv b h l)))
      (∑ y, Ideal.exp (scores a kv b h l y - top (scores a kv b h l))) := by
  rw [val_main_v19_apply, exp_apply, val_main_v18_apply, val_main_v17_apply, val_main_v16_apply, val_main_cst_2_apply]
  show Ideal.div _ (Ideal.ofBits .f32 0x00000000#32 + _) = _
  rw [Ideal.ofBits_zero_f32, zero_add]
  refine congrArg (Ideal.div _) (Finset.sum_congr rfl fun y _ => ?_)
  rw [show idx_main_v16 (idx_main_v17 (idx_main_v18 (ix4 b h l j))) y = ix4 b h l y from eq_ix4 _, exp_apply]

/-- The reference's attention, by sequence, head, lane and row. -/
theorem mean_apply (b : Fin 8) (h : Fin 4) (x : Fin 256) (l : Fin 2048) :
    val_main_v20 a kv (ix4 b h x l) = attend (scores a kv b h l) (fun j => kv (ix2 (slot b j) (vcol (lane4 h x)))) := by
  rw [val_main_v20_apply]
  refine Finset.sum_congr rfl fun j _ => ?_
  rw [show lidx_main_v20 (ix4 b h x l) j = ix4 b j h x from eq_ix4 _,
    show ridx_main_v20 (ix4 b h x l) j = ix4 b h l j from eq_ix4 _, value_apply, weight_apply]
  exact mul_comm _ _

/-- THE REFERENCE AT AN INDEX: block `n` of 512 rows (four to a sequence), row `r` in it, lane `d`. -/
theorem ref_apply (n : Fin 32) (r : Fin 512) (d : Fin 1024) :
    val_main_v22 a kv (ix3 n r d)
      = attend (scores a kv ⟨n.val / 4, by omega⟩ ⟨d.val / 256, by omega⟩ ⟨n.val % 4 * 512 + r.val, by omega⟩)
          (fun j => kv (ix2 (slot ⟨n.val / 4, by omega⟩ j) (vcol d))) := by
  have e : idx_main_v21 (idx_main_v22 (ix3 n r d)) = ix4 ⟨n.val / 4, by omega⟩ ⟨d.val / 256, by omega⟩
      ⟨d.val % 256, by omega⟩ ⟨n.val % 4 * 512 + r.val, by omega⟩ := by
    refine funext fun z => Fin.ext ?_
    match z with
    | ⟨0, _⟩ => show ((n.val * 512 + r.val) * 1024 + d.val) / 2097152 = n.val / 4; omega
    | ⟨1, _⟩ => show ((n.val * 512 + r.val) * 1024 + d.val) / 256 % 4 = d.val / 256; omega
    | ⟨2, _⟩ => show ((n.val * 512 + r.val) * 1024 + d.val) % 256 = d.val % 256; omega
    | ⟨3, _⟩ => show ((n.val * 512 + r.val) * 1024 + d.val) / 1024 % 2048 = n.val % 4 * 512 + r.val; omega
  rw [val_main_v22_apply, val_main_v21_apply, e, mean_apply]
  have l : lane4 ⟨d.val / 256, by omega⟩ ⟨d.val % 256, by omega⟩ = d :=
    Fin.ext (show d.val / 256 * 256 + d.val % 256 = d.val by omega)
  rw [l]

end Cert.XCoreRefIdeal.RefValue

end
-- ==== Proof.XCore.Array.lean ====
/-
  The prompt's cross-attention after the run: the result array, whole, as the attention of each row over its sequence's
  slots, and so the reference's array.
-/
module

public import proofs.«01_k».proof.Proof.Gen.XCoreIdeal.Value
public import proofs.«01_k».proof.Proof.XCore.Block
public import proofs.«01_k».proof.Proof.XCore.Reference
public import Idealize.ShloMosaic.Lib.Pipeline.ValueKit
public import Idealize.ShloMosaic.Lib.StableHlo.ReadAt

@[expose] public section

set_option maxRecDepth 16384

noncomputable section

namespace Cert.XCoreIdeal.RefValue

open Cert.XCoreIdeal Cert.XCoreIdeal.Gen Idealize.ShloMosaic Idealize.ShloMosaic.TcCoe Attention
open Idealize.ShloMosaic.Pipeline (Dat)

variable (m : (ℓ : Loc nD τ sig) → Buf (Elt Ideal) ℓ)

/-- Where the four windows' blocks lie at a point: the query's and the result's block is the point's own, the keys' and the
    values' are the two column halves of its sequence. -/
theorem idx : ∀ t : Fin cfg0.N, win0_0.index t = ![t.val, 0, 0] ∧ win0_1.index t = ![t.val / 4, 0, 0]
    ∧ win0_2.index t = ![t.val / 4, 0, 1] ∧ win0_3.index t = ![t.val, 0, 0] :=
  (by decide +kernel : ∀ t : Fin grid0.N, _)

/-- The queries as the region finds them, in blocks of 512 rows. -/
theorem queries_apply (c : Dev nD) (n : Fin 34) (r : Fin 512) (d : Fin 1024) :
    V m c main_v1 (ix3 n r d) = m ((c : Thread nD τ).loc main_arg0) (ix2 ⟨n.val * 512 + r.val, by omega⟩ d) := by
  unfold V
  after_reads_at

/-- The keys and values as the region finds them, by sequence. -/
theorem memory_apply (c : Dev nD) (b : Fin 8) (j : Fin 256) (d : Fin 2048) :
    V m c main_v0 (ix3 b j d) = m ((c : Thread nD τ).loc main_arg1) (ix2 ⟨b.val * 256 + j.val, by omega⟩ d) := by
  unfold V
  after_reads_at

/-- A point's block of queries, read at an index. -/
theorem q_apply (c : Dev nD) (t : Fin cfg0.N) (r : Fin 512) (d : Fin 1024) :
    (iblk m c 0 t : Vec Ideal S1x512x1024 .f32) (ix3 0 r d)
      = m ((c : Thread nD τ).loc main_arg0) (ix2 ⟨t.val * 512 + r.val, by have := t.isLt; have h : cfg0.N = 32 := N_0; omega⟩ d) := by
  have ht : t.val < 32 := lt_of_lt_of_eq t.isLt N_0
  refine Eq.trans ?_ (queries_apply m c ⟨t.val, by omega⟩ r d)
  blk_ext [iblk, idx t]

/-- A point's block of keys, read at an index. -/
theorem k_apply (c : Dev nD) (t : Fin cfg0.N) (j : Fin 256) (d : Fin 1024) :
    (iblk m c 1 t : Vec Ideal S1x256x1024 .f32) (ix3 0 j d)
      = m ((c : Thread nD τ).loc main_arg1) (ix2 ⟨t.val / 4 * 256 + j.val, by have := t.isLt; have h : cfg0.N = 32 := N_0; omega⟩ ⟨d.val, by omega⟩) := by
  have ht : t.val < 32 := lt_of_lt_of_eq t.isLt N_0
  refine Eq.trans ?_ (memory_apply m c ⟨t.val / 4, by omega⟩ j ⟨d.val, by omega⟩)
  blk_ext [iblk, idx t]

/-- A point's block of values, read at an index. -/
theorem v_apply (c : Dev nD) (t : Fin cfg0.N) (j : Fin 256) (d : Fin 1024) :
    (iblk m c 2 t : Vec Ideal S1x256x1024 .f32) (ix3 0 j d)
      = m ((c : Thread nD τ).loc main_arg1) (ix2 ⟨t.val / 4 * 256 + j.val, by have := t.isLt; have h : cfg0.N = 32 := N_0; omega⟩ ⟨1024 + d.val, by omega⟩) := by
  have ht : t.val < 32 := lt_of_lt_of_eq t.isLt N_0
  refine Eq.trans ?_ (memory_apply m c ⟨t.val / 4, by omega⟩ j ⟨1024 + d.val, by omega⟩)
  blk_ext [iblk, idx t]

/-- The result array after the run is the reference's. -/
theorem final (c : Dev nD) : (dats m 0 c).arrAt 3 cfg0.N
    = Cert.XCoreRefIdeal.Read.val_main_v22 (m ((c : Thread nD τ).loc main_arg0)) (m ((c : Thread nD τ).loc main_arg1)) := by
  refine (dats m 0 c).arrAt_eq_of_covers 3 _ (by decide +kernel) fun t hf y => ?_
  blk_simp
  rw [after0_3, out_apply]
  have ht : t.val < 32 := lt_of_lt_of_eq t.isLt N_0
  obtain ⟨y0, y1, y2, rfl⟩ : ∃ (y0 : Fin 1) (y1 : Fin 512) (y2 : Fin 1024), y = ix3 y0 y1 y2 := ⟨y 0, y 1, y 2, eq_ix3 y⟩
  have e : (win0_3.blk t).view.emb (ix3 y0 y1 y2) = ix3 (⟨t.val, ht⟩ : Fin 32) y1 y2 := by
    blk_ext [idx t]
  refine Eq.trans ?_ (congrArg _ e.symm)
  rw [Cert.XCoreRefIdeal.RefValue.ref_apply]
  refine congrArg₂ attend (funext fun j => congrArg₂ score (funext fun x => ?_) (funext fun x => ?_)) (funext fun j => ?_)
  · refine (q_apply m c t y1 (lane y2 x)).trans (congrArg (m ((c : Thread nD τ).loc main_arg0)) ?_)
    exact congrArg₂ ix2 (Fin.ext (show t.val * 512 + y1.val = t.val / 4 * 2048 + (t.val % 4 * 512 + y1.val) by omega)) rfl
  · exact k_apply m c t j (lane y2 x)
  · exact v_apply m c t j y2

end Cert.XCoreIdeal.RefValue

end
-- ==== Proof.XCore.Claims.lean ====
/-
  The value claim of the prompt's cross-attention: at the ideal instance the kernel's result array is the reference's.
-/
module

public import proofs.«01_k».proof.Defs
public import proofs.«01_k».proof.Proof.XCore.Array
public import proofs.«01_k».proof.Proof.Gen.XCoreRefIdeal.Run

@[expose] public section

noncomputable section

namespace Cert.Proof

open Idealize.ShloMosaic Idealize.SL.Sem

/-- Kernel and reference end with the same array, from the same arguments. -/
theorem xcore_algebraic : Cert.algebraic_XCoreIdeal_XCoreRefIdeal
    (hXCoreIdeal := Cert.XCoreIdeal.Gen.facts) (hXCoreRefIdeal := Cert.XCoreRefIdeal.Gen.facts) :=
  fun m ρ m' ρ' _ hag =>
    ⟨fun c => Cert.XCoreRefIdeal.Read.val_main_v22 (m ((c.tc : Thread _ _).loc Cert.XCoreIdeal.main_arg0))
        (m ((c.tc : Thread _ _).loc Cert.XCoreIdeal.main_arg1)),
      (θ_run _ _ _).mono (fun _ h c => ⟨(h c).1.trans (Cert.XCoreIdeal.RefValue.final m c), (h c).2⟩)
        (Cert.XCoreIdeal.Value.run_blocks m ρ),
      (θ_run _ _ _).mono (fun _ h c => ⟨((h c).1.trans (Cert.XCoreRefIdeal.Read.val_main_v22_eq _ _)).trans
          (congrArg₂ (Cert.XCoreRefIdeal.Read.val_main_v22 (F := Ideal)) (hag c).1 (hag c).2), (h c).2⟩)
        (Cert.XCoreRefIdeal.Value.run m' ρ')⟩

end Cert.Proof

end
-- ==== Proof.Attention.Masked.lean ====
/-
  Attention over a list of keys of which only some count: where the others' scores are minus infinity, the attention over
  the whole list is the attention over those that count.
-/
module

public import proofs.«01_k».proof.Proof.Attention.Softmax

@[expose] public section

noncomputable section

namespace Attention

open Idealize.ShloMosaic

/-- A maximum over a list is not below any of its scores. -/
theorem le_top {n : Nat} (s : Fin n → EReal) (i : Fin n) : s i ≤ top s :=
  (Finset.le_fold_max (s i)).2 (.inr ⟨i, Finset.mem_univ i, le_rfl⟩)

/-- What bounds every score bounds their maximum. -/
theorem top_le {n : Nat} (s : Fin n → EReal) (b : EReal) (h : ∀ i, s i ≤ b) : top s ≤ b :=
  (Finset.fold_max_le b).2 ⟨by rw [ofBits_neg_inf]; exact bot_le, fun i _ => h i⟩

/-- Scores of minus infinity do not move the maximum. -/
theorem top_masked {n k : Nat} (e : Fin k → Fin n) (s : Fin n → EReal) (h : ∀ i, (∀ j, e j ≠ i) → s i = ⊥) :
    top s = top (fun j => s (e j)) := by
  refine le_antisymm (top_le _ _ fun i => ?_) (top_le _ _ fun j => le_top s (e j))
  by_cases hi : ∃ j, e j = i
  · obtain ⟨j, rfl⟩ := hi
    exact le_top (fun j => s (e j)) j
  · rw [h i fun j hj => hi ⟨j, hj⟩]; exact bot_le

/-- Minus infinity less anything has exponential nought. -/
theorem exp_bot_sub (x : EReal) : Ideal.exp (⊥ - x) = 0 := by
  rw [EReal.bot_sub]; rfl

/-- With at least one score, all of them finite, the sum of the exponentials is not nought. -/
theorem sum_exp_ne_zero {k : Nat} [NeZero k] (s : Fin k → EReal) (hs : ∀ j, s j ≠ ⊥ ∧ s j ≠ ⊤) :
    ∑ j, Ideal.exp (s j - top s) ≠ 0 := by
  have nonneg : ∀ x : EReal, 0 ≤ Ideal.exp x := fun x => by
    induction x with
    | bot => exact le_refl _
    | top => exact _root_.le_top
    | coe r => exact EReal.coe_nonneg.2 (Real.exp_pos r).le
  have ht : top s ≠ ⊤ := fun h => by
    rcases (Finset.le_fold_max (s := Finset.univ) (f := s) (b := Ideal.ofBits .f32 0xFF800000#32) ⊤).1 h.ge with h | ⟨i, _, h⟩
    · rw [ofBits_neg_inf] at h; exact absurd h (by simp)
    · exact (hs i).2 (top_le_iff.1 h)
  have hb : top s ≠ ⊥ := fun h => (hs 0).1 (le_bot_iff.1 (h ▸ Attention.le_top s 0))
  intro h0
  have := (Finset.sum_eq_zero_iff_of_nonneg fun j _ => nonneg (s j - top s)).1 h0 0 (Finset.mem_univ _)
  revert this ht hb
  generalize top s = t
  obtain ⟨h1, h2⟩ := hs 0
  revert h1 h2
  generalize s 0 = u
  intro h1 h2 ht hb h
  lift u to ℝ using ⟨h2, h1⟩
  lift t to ℝ using ⟨ht, hb⟩
  rw [← EReal.coe_sub] at h
  exact absurd (EReal.coe_eq_zero.1 h) (Real.exp_pos _).ne'

/-- Masked attention: the places of the list outside the range of `e` have score minus infinity, so they drop out, provided
the scores that count are finite (else every exponential may vanish, and nought over nought is minus infinity). -/
theorem attend_masked {n k : Nat} [NeZero k] (e : Fin k → Fin n) (he : Function.Injective e) (s v : Fin n → EReal)
    (h : ∀ i, (∀ j, e j ≠ i) → s i = ⊥) (hf : ∀ j, s (e j) ≠ ⊥ ∧ s (e j) ≠ ⊤) :
    attend s v = attend (fun j => s (e j)) (fun j => v (e j)) := by
  unfold attend
  rw [top_masked e s h]
  have hn := sum_exp_ne_zero (fun j => s (e j)) hf
  have hs : ∑ y, Ideal.exp (s y - top fun j => s (e j)) = ∑ j, Ideal.exp (s (e j) - top fun j => s (e j)) :=
    (Finset.sum_of_injOn e (fun _ _ _ _ hxy => he hxy) (fun _ _ => Finset.mem_univ _)
      (fun i _ hi => by rw [h i fun j hj => hi ⟨j, Finset.mem_univ _, hj⟩, exp_bot_sub]) (fun _ _ => rfl)).symm
  rw [hs]
  refine (Finset.sum_of_injOn e (fun _ _ _ _ hxy => he hxy) (fun _ _ => Finset.mem_univ _)
      (fun i _ hi => ?_) (fun _ _ => rfl)).symm
  rw [h i fun j hj => hi ⟨j, Finset.mem_univ _, hj⟩, exp_bot_sub, Ideal.div, if_neg hn, zero_mul, zero_mul]

/-- A score of finite queries and keys is finite. -/
theorem score_finite (q k : Fin 256 → EReal) (hq : ∀ x, q x ≠ ⊥ ∧ q x ≠ ⊤) (hk : ∀ x, k x ≠ ⊥ ∧ k x ≠ ⊤) :
    score q k ≠ ⊥ ∧ score q k ≠ ⊤ := by
  have hsum : ∀ s : Finset (Fin 256), ∃ r : ℝ, ∑ x ∈ s, q x * k x = (r : EReal) := fun s => by
    induction s using Finset.induction_on with
    | empty => exact ⟨0, by simp⟩
    | insert a s ha ih =>
      obtain ⟨r, hr⟩ := ih
      obtain ⟨qa, hqa⟩ : ∃ u : ℝ, q a = (u : EReal) := ⟨(q a).toReal, (EReal.coe_toReal (hq a).2 (hq a).1).symm⟩
      obtain ⟨ka, hka⟩ : ∃ u : ℝ, k a = (u : EReal) := ⟨(k a).toReal, (EReal.coe_toReal (hk a).2 (hk a).1).symm⟩
      exact ⟨qa * ka + r, by rw [Finset.sum_insert ha, hr, hqa, hka]; push_cast; rfl⟩
  obtain ⟨c, hc⟩ : ∃ c : ℝ, Ideal.ofBits .f32 0x3D800000#32 = (c : EReal) := by
    simp only [Ideal.ofBits, Ideal.ieee]
    exact ⟨_, rfl⟩
  obtain ⟨r, hr⟩ := hsum Finset.univ
  unfold score
  rw [hr, hc, ← EReal.coe_mul]
  exact ⟨EReal.coe_ne_bot _, EReal.coe_ne_top _⟩

end Attention

end
-- ==== Proof.XCache.Block.lean ====
/-
  One sequence of the sample's cross-attention as the kernel computes it: the four heads' queries stacked as 32 rows against
  all 1024 (slot, head) keys, with minus infinity where row and key are of different heads; and what a point of four
  sequences stores.
-/
module

public import proofs.«01_k».proof.Proof.Gen.XCacheIdeal.Frame
public import proofs.«01_k».proof.Proof.Attention.Masked
public import Idealize.ShloMosaic.Lib.Pipeline.Value

@[expose] public section

set_option maxRecDepth 16384

noncomputable section

namespace Cert.XCacheIdeal.RefValue

open Cert.XCacheIdeal Cert.XCacheIdeal.Gen Idealize.ShloMosaic Attention

/-- The mask: row and key are of the same head. -/
theorem mask_apply (r : Fin 32) (c : Fin 1024) : k0_pay5 (ix2 r c) = BitVec.ofBool (r.val / 8 = c.val % 4) := by
  have h1 : ∀ r : Fin 32, IntOp.shrsi .vector (BitVec.ofNat 32 r.val) 3#32 = BitVec.ofNat 32 (r.val / 8) := by
    decide +kernel
  have h2 : ∀ c : Fin 1024, IntOp.andi (BitVec.ofNat 32 c.val) 3#32 = BitVec.ofNat 32 (c.val % 4) := by decide +kernel
  have h3 : ∀ a b : Fin 4, IntOp.cmpi .eq (BitVec.ofNat 32 a.val) (BitVec.ofNat 32 b.val)
      = BitVec.ofBool (a.val = b.val) := by
    decide +kernel
  pointwise [k0_pay5]
  rw [h1, h2]
  exact h3 ⟨r.val / 8, by omega⟩ ⟨c.val % 4, by omega⟩

/-- The masked scores of one row: the score against the key where row and key are of the same head, else minus infinity. -/
theorem logit_apply (k : Vec Ideal S1x1x256x4x256 .f32) (q0 q1 q2 q3 : Vec Ideal S1x8x256 .f32) (h : Fin 4) (l : Fin 8)
    (c : Fin 1024) :
    k0_pay7 k q0 q1 q2 q3 (ix2 ⟨h.val * 8 + l.val, by omega⟩ c) = if h.val = c.val % 4 then
      score (fun x => (![q0, q1, q2, q3] h : Vec Ideal S1x8x256 .f32) (ix3 0 l x))
        (fun x => k (ix5 0 0 ⟨c.val / 4, by omega⟩ ⟨c.val % 4, by omega⟩ x)) else ⊥ := by
  have hs : ∀ (b : Bool) (x y : EReal), Scalar.select (BitVec.ofBool b) x y = if b then x else y := fun b x y => by
    cases b <;> rfl
  pointwise [k0_pay7]
  rw [mask_apply, hs, ofBits_neg_inf]
  have hh : (h.val * 8 + l.val) / 8 = h.val := by omega
  simp only [hh, decide_eq_true_eq]
  refine if_congr Iff.rfl ?_ rfl
  unfold score
  refine congrArg (· * _) (Finset.sum_congr rfl fun x _ => congrArg (· * _) ?_)
  match h with
  | 0 => exact (dif_pos (show 0 * 8 + l.val < 8 by omega)).trans (
      congrArg (fun z => q0 (ix3 0 z x)) (Fin.ext (by show 0 * 8 + l.val = l.val; omega)))
  | 1 => exact (dif_neg (show ¬ 1 * 8 + l.val < 8 by omega)).trans ((dif_pos (show 1 * 8 + l.val - 8 < 8 by omega)).trans (
      congrArg (fun z => q1 (ix3 0 z x)) (Fin.ext (by show 1 * 8 + l.val - 8 = l.val; omega))))
  | 2 => exact (dif_neg (show ¬ 2 * 8 + l.val < 8 by omega)).trans ((dif_neg (show ¬ 2 * 8 + l.val - 8 < 8 by omega)).trans ((dif_pos (show 2 * 8 + l.val - 8 - 8 < 8 by omega)).trans (
      congrArg (fun z => q2 (ix3 0 z x)) (Fin.ext (by show 2 * 8 + l.val - 8 - 8 = l.val; omega)))))
  | 3 => exact (dif_neg (show ¬ 3 * 8 + l.val < 8 by omega)).trans ((dif_neg (show ¬ 3 * 8 + l.val - 8 < 8 by omega)).trans ((dif_neg (show ¬ 3 * 8 + l.val - 8 - 8 < 8 by omega)).trans (
      congrArg (fun z => q3 (ix3 0 z x)) (Fin.ext (by show 3 * 8 + l.val - 8 - 8 - 8 = l.val; omega)))))

/-- The four heads' rows against all the keys. -/
def stacked (k v : Vec Ideal S1x1x256x4x256 .f32) (q0 q1 q2 q3 : Vec Ideal S1x8x256 .f32) : FVec Ideal S32x256 .f32 :=
  k0_pay9 (k0_pay6 v) (k0_pay7 k q0 q1 q2 q3) (k0_pay8 k q0 q1 q2 q3)

/-- A stacked row is the attention over all 1024 (slot, head) keys, at the masked scores. -/
theorem stacked_masked (k v : Vec Ideal S1x1x256x4x256 .f32) (q0 q1 q2 q3 : Vec Ideal S1x8x256 .f32) (r : Fin 32) (d : Fin 256) :
    stacked k v q0 q1 q2 q3 (ix2 r d) = attend (fun c => k0_pay7 k q0 q1 q2 q3 (ix2 r c))
      (fun c : Fin 1024 => v (ix5 0 0 ⟨c.val / 4, by omega⟩ ⟨c.val % 4, by omega⟩ d)) := by
  unfold stacked k0_pay8
  generalize k0_pay7 k q0 q1 q2 q3 = L
  pointwise [k0_pay9, k0_pay6]
  rfl

/-- A stacked row is its own head's attention, where queries and keys are finite. -/
theorem stacked_apply (k v : Vec Ideal S1x1x256x4x256 .f32) (q0 q1 q2 q3 : Vec Ideal S1x8x256 .f32) (h : Fin 4) (l : Fin 8)
    (d : Fin 256) (hk : ∀ i, k i ≠ (⊥ : EReal) ∧ k i ≠ (⊤ : EReal))
    (hq : ∀ x, (![q0, q1, q2, q3] h : Vec Ideal S1x8x256 .f32) (ix3 0 l x) ≠ (⊥ : EReal)
      ∧ (![q0, q1, q2, q3] h : Vec Ideal S1x8x256 .f32) (ix3 0 l x) ≠ (⊤ : EReal)) :
    stacked k v q0 q1 q2 q3 (ix2 ⟨h.val * 8 + l.val, by omega⟩ d)
      = attend (fun j => score (fun x => (![q0, q1, q2, q3] h : Vec Ideal S1x8x256 .f32) (ix3 0 l x))
          (fun x => k (ix5 0 0 j h x))) (fun j => v (ix5 0 0 j h d)) := by
  rw [stacked_masked]
  have hc : ∀ j : Fin 256, ((⟨j.val * 4 + h.val, by omega⟩ : Fin 1024).val / 4 = j.val
      ∧ (⟨j.val * 4 + h.val, by omega⟩ : Fin 1024).val % 4 = h.val) := fun j => by
    constructor <;> (show _ = _) <;> simp only <;> omega
  have hL : ∀ j : Fin 256, k0_pay7 k q0 q1 q2 q3 (ix2 ⟨h.val * 8 + l.val, by omega⟩ (⟨j.val * 4 + h.val, by omega⟩ : Fin 1024))
      = score (fun x => (![q0, q1, q2, q3] h : Vec Ideal S1x8x256 .f32) (ix3 0 l x)) (fun x => k (ix5 0 0 j h x)) := fun j => by
    rw [logit_apply, if_pos (hc j).2.symm]
    refine congrArg (score _) (funext fun x => congrArg k ?_)
    rw [show (⟨(⟨j.val * 4 + h.val, by omega⟩ : Fin 1024).val / 4, by omega⟩ : Fin 256) = j from Fin.ext (hc j).1,
      show (⟨(⟨j.val * 4 + h.val, by omega⟩ : Fin 1024).val % 4, by omega⟩ : Fin 4) = h from Fin.ext (hc j).2]
  refine (attend_masked (fun j : Fin 256 => (⟨j.val * 4 + h.val, by omega⟩ : Fin 1024)) ?_ _ _ ?_ ?_).trans ?_
  · intro a b hab
    have : a.val * 4 + h.val = b.val * 4 + h.val := congrArg Fin.val hab
    exact Fin.ext (by omega)
  · intro c hc'
    rw [logit_apply, if_neg]
    intro e
    exact hc' ⟨c.val / 4, by omega⟩ (Fin.ext (by show c.val / 4 * 4 + h.val = c.val; omega))
  · intro j
    rw [hL]
    exact score_finite _ _ hq fun x => hk _
  · refine congrArg₂ attend (funext hL) (funext fun j => ?_)
    rw [show (⟨(⟨j.val * 4 + h.val, by omega⟩ : Fin 1024).val / 4, by omega⟩ : Fin 256) = j from Fin.ext (hc j).1,
      show (⟨(⟨j.val * 4 + h.val, by omega⟩ : Fin 1024).val % 4, by omega⟩ : Fin 4) = h from Fin.ext (hc j).2]

/-- The head of a lane. -/
def headOf (d : Fin 1024) : Fin 4 := ⟨d.val / 256, by omega⟩

/-- The offset of a lane in its head. -/
def offOf (d : Fin 1024) : Fin 256 := ⟨d.val % 256, by omega⟩

/-- The whole block: at a sequence, row and lane, the attention of the row's query in the lane's head. -/
def blockAt (q : Vec Ideal S4x8x1024 .f32) (k v : Vec Ideal S1x4x256x4x256 .f32) (i : S4x8x1024.Idx) : Elt Ideal .f32 :=
  attend (fun j => score (fun x => q (ix3 (i 0) (i 1) (lane (i 2) x))) (fun x => k (ix5 0 (i 0) j (headOf (i 2)) x)))
    (fun j => v (ix5 0 (i 0) j (headOf (i 2)) (offOf (i 2))))

/-- The first head's rows of a stack. -/
theorem rows0 (v L M) (z : Fin 1) (l : Fin 8) (d : Fin 256) : k0_pay10 (F := Ideal) v L M (ix3 z l d)
    = k0_pay9 v L M (ix2 ⟨(0 : Fin 4).val * 8 + l.val, by show 0 * 8 + l.val < 32; omega⟩ d) := by
  unfold k0_pay10
  generalize k0_pay9 v L M = S
  pointwise

/-- The second head's rows of a stack. -/
theorem rows1 (v L M) (z : Fin 1) (l : Fin 8) (d : Fin 256) : k0_pay11 (F := Ideal) v L M (ix3 z l d)
    = k0_pay9 v L M (ix2 ⟨(1 : Fin 4).val * 8 + l.val, by show 1 * 8 + l.val < 32; omega⟩ d) := by
  unfold k0_pay11
  generalize k0_pay9 v L M = S
  pointwise

/-- The third head's rows of a stack. -/
theorem rows2 (v L M) (z : Fin 1) (l : Fin 8) (d : Fin 256) : k0_pay12 (F := Ideal) v L M (ix3 z l d)
    = k0_pay9 v L M (ix2 ⟨(2 : Fin 4).val * 8 + l.val, by show 2 * 8 + l.val < 32; omega⟩ d) := by
  unfold k0_pay12
  generalize k0_pay9 v L M = S
  pointwise

/-- The fourth head's rows of a stack. -/
theorem rows3 (v L M) (z : Fin 1) (l : Fin 8) (d : Fin 256) : k0_pay13 (F := Ideal) v L M (ix3 z l d)
    = k0_pay9 v L M (ix2 ⟨(3 : Fin 4).val * 8 + l.val, by show 3 * 8 + l.val < 32; omega⟩ d) := by
  unfold k0_pay13
  generalize k0_pay9 v L M = S
  pointwise

/-- The rows of head `h` in the stack of sequence `s`, taken from blocks, are that part of the whole block. -/
theorem piece (q : Vec Ideal S4x8x1024 .f32) (k v : Vec Ideal S1x4x256x4x256 .f32)
    (hq : ∀ i, q i ≠ (⊥ : EReal) ∧ q i ≠ (⊤ : EReal)) (hk : ∀ i, k i ≠ (⊥ : EReal) ∧ k i ≠ (⊤ : EReal)) (s : Nat)
    (ik : ∀ a, (![0, s, 0, 0, 0] : Fin 5 → Nat) a + S1x1x256x4x256.size a ≤ S1x4x256x4x256.size a)
    (iq : ∀ h : Fin 4, ∀ a, (![s, 0, h.val * 256] : Fin 3 → Nat) a + S1x8x256.size a ≤ S4x8x1024.size a) (h : Fin 4)
    (z : Fin 1) (l : Fin 8) (d : Fin 256) :
    stacked (View.ld k (Rect.unit (s := S1x4x256x4x256) ![0, s, 0, 0, 0] S1x1x256x4x256.size ik))
        (View.ld v (Rect.unit (s := S1x4x256x4x256) ![0, s, 0, 0, 0] S1x1x256x4x256.size ik))
        (View.ld q (Rect.unit (s := S4x8x1024) ![s, 0, (0 : Fin 4).val * 256] S1x8x256.size (iq 0)))
        (View.ld q (Rect.unit (s := S4x8x1024) ![s, 0, (1 : Fin 4).val * 256] S1x8x256.size (iq 1)))
        (View.ld q (Rect.unit (s := S4x8x1024) ![s, 0, (2 : Fin 4).val * 256] S1x8x256.size (iq 2)))
        (View.ld q (Rect.unit (s := S4x8x1024) ![s, 0, (3 : Fin 4).val * 256] S1x8x256.size (iq 3)))
        (ix2 ⟨h.val * 8 + l.val, by omega⟩ d)
      = blockAt q k v ((Rect.unit (s := S4x8x1024) ![s, 0, h.val * 256] S1x8x256.size (iq h)).emb (ix3 z l d)) := by
  have hs : s < 4 := by have : s + 1 ≤ 4 := iq 0 0; omega
  have hz := z.isLt
  have hv : ∀ h' : Fin 4, ∀ x : Fin 256, (![View.ld q (Rect.unit (s := S4x8x1024) ![s, 0, (0 : Fin 4).val * 256] S1x8x256.size (iq 0)),
        View.ld q (Rect.unit (s := S4x8x1024) ![s, 0, (1 : Fin 4).val * 256] S1x8x256.size (iq 1)),
        View.ld q (Rect.unit (s := S4x8x1024) ![s, 0, (2 : Fin 4).val * 256] S1x8x256.size (iq 2)),
        View.ld q (Rect.unit (s := S4x8x1024) ![s, 0, (3 : Fin 4).val * 256] S1x8x256.size (iq 3))] h' : Vec Ideal S1x8x256 .f32)
        (ix3 0 l x) = q (ix3 ⟨s, hs⟩ l ⟨h'.val * 256 + x.val, by omega⟩) := fun h' x => by
    fin_cases h' <;> refine congrArg q (funext fun a => Fin.ext ?_) <;> fin_cases a <;> (simp; try omega)
  rw [stacked_apply]
  · have e0 : (Rect.unit (s := S4x8x1024) ![s, 0, h.val * 256] S1x8x256.size (iq h)).emb (ix3 z l d) 0 = (⟨s, hs⟩ : Fin 4) :=
      Fin.ext (show s + 1 * z.val = s by omega)
    have e1 : (Rect.unit (s := S4x8x1024) ![s, 0, h.val * 256] S1x8x256.size (iq h)).emb (ix3 z l d) 1 = l :=
      Fin.ext (show 0 + 1 * l.val = l.val by omega)
    have e2 : (Rect.unit (s := S4x8x1024) ![s, 0, h.val * 256] S1x8x256.size (iq h)).emb (ix3 z l d) 2
        = (⟨h.val * 256 + d.val, by omega⟩ : Fin 1024) := Fin.ext (show h.val * 256 + 1 * d.val = h.val * 256 + d.val by omega)
    have e3 : ∀ y : Fin 256, lane (⟨h.val * 256 + d.val, by omega⟩ : Fin 1024) y = ⟨h.val * 256 + y.val, by omega⟩ := fun y =>
      Fin.ext (show (h.val * 256 + d.val) / 256 * 256 + y.val = h.val * 256 + y.val by omega)
    have e4 : headOf (⟨h.val * 256 + d.val, by omega⟩ : Fin 1024) = h := Fin.ext (show (h.val * 256 + d.val) / 256 = h.val by omega)
    have e5 : offOf (⟨h.val * 256 + d.val, by omega⟩ : Fin 1024) = d := Fin.ext (show (h.val * 256 + d.val) % 256 = d.val by omega)
    have ek : ∀ (w : Vec Ideal S1x4x256x4x256 .f32) (j : Fin 256) (x : Fin 256),
        View.ld w (Rect.unit (s := S1x4x256x4x256) ![0, s, 0, 0, 0] S1x1x256x4x256.size ik) (ix5 0 0 j h x) = w (ix5 0 ⟨s, hs⟩ j h x) :=
      fun w j x => congrArg w (funext fun a => Fin.ext (by fin_cases a <;> simp))
    unfold blockAt
    rw [e0, e1, e2, e4, e5]
    refine congrArg₂ attend (funext fun j => congrArg₂ score (funext fun y => ?_) (funext fun y => ek k j y)) (funext fun j => ek v j d)
    rw [hv]
    exact congrArg (fun w => q (ix3 ⟨s, hs⟩ l w)) (e3 y).symm
  · exact fun i => hk _
  · intro x
    rw [hv]
    exact hq _

/-- WHAT A POINT STORES: its output block, whole. -/
theorem out_apply (q : Vec Ideal S4x8x1024 .f32) (k v : Vec Ideal S1x4x256x4x256 .f32)
    (hq : ∀ i, q i ≠ (⊥ : EReal) ∧ q i ≠ (⊤ : EReal)) (hk : ∀ i, k i ≠ (⊥ : EReal) ∧ k i ≠ (⊤ : EReal)) (i : S4x8x1024.Idx) :
    out0_3 q k v i = blockAt q k v i := by
  have key := piece q k v hq hk
  have at' : ∀ (s : Nat) (h : Fin 4) (ik : ∀ a, (![0, s, 0, 0, 0] : Fin 5 → Nat) a + S1x1x256x4x256.size a ≤ S1x4x256x4x256.size a)
      (iq : ∀ h : Fin 4, ∀ a, (![s, 0, h.val * 256] : Fin 3 → Nat) a + S1x8x256.size a ≤ S4x8x1024.size a)
      {P : Vec Ideal S1x8x256 .f32}, (∀ z l d, P (ix3 z l d) = stacked
        (View.ld k (Rect.unit (s := S1x4x256x4x256) ![0, s, 0, 0, 0] S1x1x256x4x256.size ik))
        (View.ld v (Rect.unit (s := S1x4x256x4x256) ![0, s, 0, 0, 0] S1x1x256x4x256.size ik))
        (View.ld q (Rect.unit (s := S4x8x1024) ![s, 0, (0 : Fin 4).val * 256] S1x8x256.size (iq 0)))
        (View.ld q (Rect.unit (s := S4x8x1024) ![s, 0, (1 : Fin 4).val * 256] S1x8x256.size (iq 1)))
        (View.ld q (Rect.unit (s := S4x8x1024) ![s, 0, (2 : Fin 4).val * 256] S1x8x256.size (iq 2)))
        (View.ld q (Rect.unit (s := S4x8x1024) ![s, 0, (3 : Fin 4).val * 256] S1x8x256.size (iq 3)))
        (ix2 ⟨h.val * 8 + l.val, by omega⟩ d)) →
      ∀ x, P x = blockAt q k v ((Rect.unit (s := S4x8x1024) ![s, 0, h.val * 256] S1x8x256.size (iq h)).emb x) :=
    fun s h ik iq P hP x => by
      idx_vars x
      exact (hP x0 x1 x2).trans (key s ik iq h x0 x1 x2)
  unfold out0_3
  refine View.canon_apply_of_pieces (blockAt q k v) _ ?_ i (cover0_3 _ _ _ _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl | rfl | rfl | rfl
  · exact at' 3 3 inb_S1x4x256x4x256_S1x1x256x4x256_0_3_0_0_0 (by decide) (rows3 _ _ _)
  · exact at' 3 2 inb_S1x4x256x4x256_S1x1x256x4x256_0_3_0_0_0 (by decide) (rows2 _ _ _)
  · exact at' 3 1 inb_S1x4x256x4x256_S1x1x256x4x256_0_3_0_0_0 (by decide) (rows1 _ _ _)
  · exact at' 3 0 inb_S1x4x256x4x256_S1x1x256x4x256_0_3_0_0_0 (by decide) (rows0 _ _ _)
  · exact at' 2 3 inb_S1x4x256x4x256_S1x1x256x4x256_0_2_0_0_0 (by decide) (rows3 _ _ _)
  · exact at' 2 2 inb_S1x4x256x4x256_S1x1x256x4x256_0_2_0_0_0 (by decide) (rows2 _ _ _)
  · exact at' 2 1 inb_S1x4x256x4x256_S1x1x256x4x256_0_2_0_0_0 (by decide) (rows1 _ _ _)
  · exact at' 2 0 inb_S1x4x256x4x256_S1x1x256x4x256_0_2_0_0_0 (by decide) (rows0 _ _ _)
  · exact at' 1 3 inb_S1x4x256x4x256_S1x1x256x4x256_0_1_0_0_0 (by decide) (rows3 _ _ _)
  · exact at' 1 2 inb_S1x4x256x4x256_S1x1x256x4x256_0_1_0_0_0 (by decide) (rows2 _ _ _)
  · exact at' 1 1 inb_S1x4x256x4x256_S1x1x256x4x256_0_1_0_0_0 (by decide) (rows1 _ _ _)
  · exact at' 1 0 inb_S1x4x256x4x256_S1x1x256x4x256_0_1_0_0_0 (by decide) (rows0 _ _ _)
  · exact at' 0 3 inb_S1x4x256x4x256_S1x1x256x4x256_0_0_0_0_0 (by decide) (rows3 _ _ _)
  · exact at' 0 2 inb_S1x4x256x4x256_S1x1x256x4x256_0_0_0_0_0 (by decide) (rows2 _ _ _)
  · exact at' 0 1 inb_S1x4x256x4x256_S1x1x256x4x256_0_0_0_0_0 (by decide) (rows1 _ _ _)
  · exact at' 0 0 inb_S1x4x256x4x256_S1x1x256x4x256_0_0_0_0_0 (by decide) (rows0 _ _ _)

end Cert.XCacheIdeal.RefValue

end
-- ==== Proof.XCache.Reference.lean ====
/-
  The reference of the sample's cross-attention read at an index: at a sequence, row and lane it is the softmax attention of
  the row's query over that sequence's 256 cached keys of the lane's head.
-/
module

public import proofs.«01_k».proof.Proof.Gen.XCacheRefIdeal.Read
public import proofs.«01_k».proof.Proof.Attention.Softmax

@[expose] public section

set_option maxRecDepth 16384

noncomputable section

namespace Cert.XCacheRefIdeal.RefValue

open Cert.XCacheRefIdeal Cert.XCacheRefIdeal.Read Idealize.ShloMosaic Attention

variable (a : (⟨S17408x1024, .f32⟩ : BufTy).Contents (Elt Ideal)) (k v : (⟨S1x128x256x4x256, .f32⟩ : BufTy).Contents (Elt Ideal))

/-- Row `l` of sequence `s` among the rows of the query array. -/
def row (s : Fin 128) (l : Fin 8) : Fin 17408 := ⟨16384 + (s.val * 8 + l.val), by omega⟩

/-- Lane `x` of head `h`. -/
def lane4 (h : Fin 4) (x : Fin 256) : Fin 1024 := ⟨h.val * 256 + x.val, by omega⟩

/-- The queries by sequence, row, head and lane. -/
theorem query_apply (s : Fin 128) (l : Fin 8) (h : Fin 4) (x : Fin 256) :
    val_main_v1 a (ix4 s l h x) = a (ix2 (row s l) (lane4 h x)) := by
  rw [val_main_v1_apply, val_main_v0_apply]
  refine congrArg a (funext fun r => Fin.ext ?_)
  match r with
  | ⟨0, _⟩ => show 16384 + (((s.val * 8 + l.val) * 4 + h.val) * 256 + x.val) / 1024 = 16384 + (s.val * 8 + l.val); omega
  | ⟨1, _⟩ => show (((s.val * 8 + l.val) * 4 + h.val) * 256 + x.val) % 1024 = h.val * 256 + x.val; omega

/-- The keys by sequence, slot, head and lane. -/
theorem key_apply (s : Fin 128) (j : Fin 256) (h : Fin 4) (x : Fin 256) :
    val_main_v2 k (ix4 s j h x) = k (ix5 0 s j h x) := by
  rw [val_main_v2_apply]
  refine congrArg k (funext fun r => Fin.ext ?_)
  match r with
  | ⟨0, _⟩ => rfl
  | ⟨1, _⟩ => show (((s.val * 256 + j.val) * 4 + h.val) * 256 + x.val) / 262144 % 128 = s.val; omega
  | ⟨2, _⟩ => show (((s.val * 256 + j.val) * 4 + h.val) * 256 + x.val) / 1024 % 256 = j.val; omega
  | ⟨3, _⟩ => show (((s.val * 256 + j.val) * 4 + h.val) * 256 + x.val) / 256 % 4 = h.val; omega
  | ⟨4, _⟩ => show (((s.val * 256 + j.val) * 4 + h.val) * 256 + x.val) % 256 = x.val; omega

/-- The values by sequence, slot, head and lane. -/
theorem value_apply (s : Fin 128) (j : Fin 256) (h : Fin 4) (x : Fin 256) :
    val_main_v3 v (ix4 s j h x) = v (ix5 0 s j h x) := key_apply v s j h x

/-- The scores of one row's query in one head against the sequence's slots. -/
def scores (s : Fin 128) (h : Fin 4) (l : Fin 8) (j : Fin 256) : EReal :=
  score (fun x => a (ix2 (row s l) (lane4 h x))) (fun x => k (ix5 0 s j h x))

/-- The reference's scaled scores. -/
theorem score_apply (s : Fin 128) (h : Fin 4) (l : Fin 8) (j : Fin 256) :
    val_main_v6 a k (ix4 s h l j) = scores a k s h l j := by
  rw [val_main_v6_apply, val_main_v4_apply, val_main_v5_apply, val_main_cst_apply]
  refine congrArg (· * _) (Finset.sum_congr rfl fun x _ => ?_)
  rw [show lidx_main_v4 (ix4 s h l j) x = ix4 s l h x from eq_ix4 _,
    show ridx_main_v4 (ix4 s h l j) x = ix4 s j h x from eq_ix4 _, query_apply, key_apply]

/-- The reference's row maximum. -/
theorem max_apply (s : Fin 128) (h : Fin 4) (l : Fin 8) :
    val_main_v7 a k (ix3 s h l) = top (scores a k s h l) := by
  have e : ∀ j, val_main_v6 a k (ix4 s h l j) = scores a k s h l j := score_apply a k s h l
  unfold val_main_v7
  generalize val_main_v6 a k = y at e
  simp only [val_main_cst_0]
  pointwise
  exact congrArg (fun f => Finset.fold max (Ideal.ofBits .f32 0xFF800000#32) f Finset.univ) (funext e)

/-- The reference's exponential of a score less the row maximum. -/
theorem exp_apply (s : Fin 128) (h : Fin 4) (l : Fin 8) (j : Fin 256) :
    val_main_v13 a k (ix4 s h l j) = Ideal.exp (scores a k s h l j - top (scores a k s h l)) := by
  rw [val_main_v13_apply, val_main_v12_apply, score_apply, val_main_v11_apply, val_main_v10_apply, val_main_v9_apply,
    val_main_v8_apply, val_main_cst_1_apply,
    show idx_main_v10 (idx_main_v11 (ix4 s h l j)) = ix3 s h l from eq_ix3 _, max_apply]
  show Ideal.exp (_ - max (Ideal.ofBits .f32 0xFF800000#32) _) = _
  rw [ofBits_neg_inf, bot_sup_eq]

/-- The reference's softmax weights. -/
theorem weight_apply (s : Fin 128) (h : Fin 4) (l : Fin 8) (j : Fin 256) :
    val_main_v17 a k (ix4 s h l j) = Ideal.div (Ideal.exp (scores a k s h l j - top (scores a k s h l)))
      (∑ y, Ideal.exp (scores a k s h l y - top (scores a k s h l))) := by
  rw [val_main_v17_apply, exp_apply, val_main_v16_apply, val_main_v15_apply, val_main_v14_apply, val_main_cst_2_apply]
  show Ideal.div _ (Ideal.ofBits .f32 0x00000000#32 + _) = _
  rw [Ideal.ofBits_zero_f32, zero_add]
  refine congrArg (Ideal.div _) (Finset.sum_congr rfl fun y _ => ?_)
  rw [show idx_main_v14 (idx_main_v15 (idx_main_v16 (ix4 s h l j))) y = ix4 s h l y from eq_ix4 _, exp_apply]

/-- The reference's attention, by sequence, head, lane and row. -/
theorem mean_apply (s : Fin 128) (h : Fin 4) (x : Fin 256) (l : Fin 8) :
    val_main_v18 a k v (ix4 s h x l) = attend (scores a k s h l) (fun j => v (ix5 0 s j h x)) := by
  rw [val_main_v18_apply]
  refine Finset.sum_congr rfl fun j _ => ?_
  rw [show lidx_main_v18 (ix4 s h x l) j = ix4 s j h x from eq_ix4 _,
    show ridx_main_v18 (ix4 s h x l) j = ix4 s h l j from eq_ix4 _, value_apply, weight_apply]
  exact mul_comm _ _

/-- THE REFERENCE AT AN INDEX: sequence, row and lane. -/
theorem ref_apply (s : Fin 128) (r : Fin 8) (d : Fin 1024) :
    val_main_v20 a k v (ix3 s r d)
      = attend (scores a k s ⟨d.val / 256, by omega⟩ r) (fun j => v (ix5 0 s j ⟨d.val / 256, by omega⟩ ⟨d.val % 256, by omega⟩)) := by
  have e : idx_main_v19 (idx_main_v20 (ix3 s r d)) = ix4 s ⟨d.val / 256, by omega⟩ ⟨d.val % 256, by omega⟩ r := by
    refine funext fun z => Fin.ext ?_
    match z with
    | ⟨0, _⟩ => show ((s.val * 8 + r.val) * 1024 + d.val) / 8192 = s.val; omega
    | ⟨1, _⟩ => show ((s.val * 8 + r.val) * 1024 + d.val) / 256 % 4 = d.val / 256; omega
    | ⟨2, _⟩ => show ((s.val * 8 + r.val) * 1024 + d.val) % 256 = d.val % 256; omega
    | ⟨3, _⟩ => show ((s.val * 8 + r.val) * 1024 + d.val) / 1024 % 8 = r.val; omega
  rw [val_main_v20_apply, val_main_v19_apply, e, mean_apply]

end Cert.XCacheRefIdeal.RefValue

end
-- ==== Proof.XCache.Array.lean ====
/-
  The sample's cross-attention, whole: the result array after the run is the reference's, where the queries and the keys
  are finite.
-/
module

public import proofs.«01_k».proof.Proof.Gen.XCacheIdeal.Value
public import proofs.«01_k».proof.Proof.XCache.Block
public import proofs.«01_k».proof.Proof.XCache.Reference
public import Idealize.ShloMosaic.Lib.Pipeline.ValueKit
public import Idealize.ShloMosaic.Lib.StableHlo.ReadAt

@[expose] public section

set_option maxRecDepth 16384

noncomputable section

namespace Cert.XCacheIdeal.RefValue

open Cert.XCacheIdeal Cert.XCacheIdeal.Gen Idealize.ShloMosaic Idealize.ShloMosaic.TcCoe Attention
open Idealize.ShloMosaic.Pipeline (Dat)

variable (m : (ℓ : Loc nD τ sig) → Buf (Elt Ideal) ℓ)

/-- Where the four windows' blocks lie at a point: four sequences each, the queries' after the prompt's rows. -/
theorem idx : ∀ t : Fin cfg0.N, win0_0.index t = ![512 + t.val, 0, 0] ∧ win0_1.index t = ![0, t.val, 0, 0, 0]
    ∧ win0_2.index t = ![0, t.val, 0, 0, 0] ∧ win0_3.index t = ![t.val, 0, 0] :=
  (by decide +kernel : ∀ t : Fin grid0.N, _)

/-- The queries as the region finds them, in blocks of 8 rows. -/
theorem queries_apply (c : Dev nD) (n : Fin 2176) (r : Fin 8) (d : Fin 1024) :
    V m c main_v0 (ix3 n r d) = m ((c : Thread nD τ).loc main_arg0) (ix2 ⟨n.val * 8 + r.val, by omega⟩ d) := by
  unfold V
  after_reads_at

/-- The keys as the region finds them. -/
theorem keys_eq (c : Dev nD) (i : S1x128x256x4x256.Idx) : V m c main_arg1 i = m ((c : Thread nD τ).loc main_arg1) i := by
  rw [V_main_arg1]

/-- The values as the region finds them. -/
theorem values_eq (c : Dev nD) (i : S1x128x256x4x256.Idx) : V m c main_arg2 i = m ((c : Thread nD τ).loc main_arg2) i := by
  rw [V_main_arg2]

/-- A point's block of queries, read at an index. -/
theorem q_apply (c : Dev nD) (t : Fin cfg0.N) (s : Fin 4) (r : Fin 8) (d : Fin 1024) :
    (iblk m c 0 t : Vec Ideal S4x8x1024 .f32) (ix3 s r d)
      = m ((c : Thread nD τ).loc main_arg0) (ix2 ⟨16384 + ((t.val * 4 + s.val) * 8 + r.val), by have := t.isLt; have h : cfg0.N = 32 := N_0; omega⟩ d) := by
  have ht : t.val < 32 := lt_of_lt_of_eq t.isLt N_0
  refine Eq.trans (b := V m c main_v0 (ix3 ⟨2048 + (t.val * 4 + s.val), by omega⟩ r d)) ?_ ((queries_apply m c _ r d).trans (congrArg (fun z => m ((c : Thread nD τ).loc main_arg0) (ix2 z d)) (Fin.ext ?_)))
  · blk_ext [iblk, idx t]
  · show (2048 + (t.val * 4 + s.val)) * 8 + r.val = 16384 + ((t.val * 4 + s.val) * 8 + r.val); omega

/-- A point's block of keys, read at an index. -/
theorem k_apply (c : Dev nD) (t : Fin cfg0.N) (s : Fin 4) (j : Fin 256) (h : Fin 4) (x : Fin 256) :
    (iblk m c 1 t : Vec Ideal S1x4x256x4x256 .f32) (ix5 0 s j h x)
      = m ((c : Thread nD τ).loc main_arg1) (ix5 0 ⟨t.val * 4 + s.val, by have := t.isLt; have h : cfg0.N = 32 := N_0; omega⟩ j h x) := by
  have ht : t.val < 32 := lt_of_lt_of_eq t.isLt N_0
  refine Eq.trans ?_ (keys_eq m c _)
  blk_ext [iblk, idx t]

/-- A point's block of values, read at an index. -/
theorem v_apply (c : Dev nD) (t : Fin cfg0.N) (s : Fin 4) (j : Fin 256) (h : Fin 4) (x : Fin 256) :
    (iblk m c 2 t : Vec Ideal S1x4x256x4x256 .f32) (ix5 0 s j h x)
      = m ((c : Thread nD τ).loc main_arg2) (ix5 0 ⟨t.val * 4 + s.val, by have := t.isLt; have h : cfg0.N = 32 := N_0; omega⟩ j h x) := by
  have ht : t.val < 32 := lt_of_lt_of_eq t.isLt N_0
  refine Eq.trans ?_ (values_eq m c _)
  blk_ext [iblk, idx t]

/-- The result array after the run is the reference's. -/
theorem final (c : Dev nD)
    (hq : ∀ (s : Fin 128) (r : Fin 8) (d : Fin 1024), m ((c : Thread nD τ).loc main_arg0) (ix2 (Cert.XCacheRefIdeal.RefValue.row s r) d) ≠ (⊥ : EReal)
      ∧ m ((c : Thread nD τ).loc main_arg0) (ix2 (Cert.XCacheRefIdeal.RefValue.row s r) d) ≠ (⊤ : EReal))
    (hk : ∀ i : S1x128x256x4x256.Idx, m ((c : Thread nD τ).loc main_arg1) i ≠ (⊥ : EReal) ∧ m ((c : Thread nD τ).loc main_arg1) i ≠ (⊤ : EReal)) :
    (dats m 0 c).arrAt 3 cfg0.N = Cert.XCacheRefIdeal.Read.val_main_v20 (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  have ht : t.val < 32 := lt_of_lt_of_eq t.isLt N_0
  rw [after0_3, out_apply]
  rotate_left
  · intro i
    obtain ⟨i0, i1, i2, rfl⟩ : ∃ (i0 : Fin 4) (i1 : Fin 8) (i2 : Fin 1024), i = ix3 i0 i1 i2 := ⟨i 0, i 1, i 2, eq_ix3 i⟩
    rw [q_apply]
    exact hq ⟨t.val * 4 + i0.val, by omega⟩ i1 i2
  · intro i
    obtain ⟨i0, i1, i2, i3, i4, rfl⟩ : ∃ (i0 : Fin 1) (i1 : Fin 4) (i2 : Fin 256) (i3 : Fin 4) (i4 : Fin 256), i = ix5 i0 i1 i2 i3 i4 :=
      ⟨i 0, i 1, i 2, i 3, i 4, eq_ix5 i⟩
    obtain rfl : i0 = 0 := Subsingleton.elim _ _
    rw [k_apply]
    exact hk _
  obtain ⟨y0, y1, y2, rfl⟩ : ∃ (y0 : Fin 4) (y1 : Fin 8) (y2 : Fin 1024), y = ix3 y0 y1 y2 := ⟨y 0, y 1, y 2, eq_ix3 y⟩
  have e : (win0_3.blk t).view.emb (ix3 y0 y1 y2) = ix3 (⟨t.val * 4 + y0.val, by omega⟩ : Fin 128) y1 y2 := by
    blk_ext [idx t]
  refine Eq.trans ?_ (congrArg _ e.symm)
  rw [Cert.XCacheRefIdeal.RefValue.ref_apply]
  refine congrArg₂ attend (funext fun j => congrArg₂ score (funext fun x => ?_) (funext fun x => ?_)) (funext fun j => ?_)
  · exact q_apply m c t y0 y1 (lane y2 x)
  · exact k_apply m c t y0 j (headOf y2) x
  · exact v_apply m c t y0 j (headOf y2) (offOf y2)

end Cert.XCacheIdeal.RefValue

end
-- ==== Proof.XCache.Claims.lean ====
/-
  The value claim of the sample's cross-attention: at the ideal instance the kernel's result array is the reference's,
  where the queries and the cached keys are finite.
-/
module

public import proofs.«01_k».proof.Defs
public import proofs.«01_k».proof.Proof.XCache.Array
public import proofs.«01_k».proof.Proof.Gen.XCacheRefIdeal.Run

@[expose] public section

noncomputable section

namespace Cert.Proof

open Idealize.ShloMosaic Idealize.SL.Sem

/-- The side conditions of the precondition's operations. -/
theorem finite_scores_facts : Cert.Pre_finite_scores.Facts where
  slices_S17408x1024_S1024x1024_16384_0 := by decide
  bcast_S_S1024x1024 := by decide
  bcast_S_S1x128x256x4x256 := by decide

/-- A number whose absolute value is below infinity is finite. -/
theorem finite_of_abs_lt (x : Ideal .f32)
    (h : BitVec.ofBool (decide ((FloatOps.absf x : Ideal .f32) < (Ideal.ofBits .f32 0x7F800000#32 : EReal))) = 1#1) :
    x ≠ (⊥ : EReal) ∧ x ≠ (⊤ : EReal) := by
  have e : (Ideal.ofBits .f32 0x7F800000#32 : EReal) = ⊤ := by simp [Ideal.ofBits, Ideal.ieee]
  have hd : ∀ b : Bool, BitVec.ofBool b = 1#1 → b = true := by decide
  have h' := of_decide_eq_true (hd _ h)
  rw [e] at h'
  constructor <;> rintro rfl
  · exact absurd h' (by show ¬ (max (⊥ : EReal) (-⊥) < ⊤); simp)
  · exact absurd h' (by show ¬ (max (⊤ : EReal) (-⊤) < ⊤); simp)

/-- Kernel and reference end with the same array, from the same arguments, the queries and the keys being finite. -/
theorem xcache_algebraic : Cert.algebraic_XCacheIdeal_XCacheRefIdeal_pre_finite_scores
    (hXCacheIdeal := Cert.XCacheIdeal.Gen.facts) (hXCacheRefIdeal := Cert.XCacheRefIdeal.Gen.facts)
    (hPre_finite_scores := finite_scores_facts) :=
  fun m ρ m' ρ' hpre hag =>
    have hq : ∀ (c : Dev Cert.XCacheIdeal.nD) (s : Fin 128) (r : Fin 8) (d : Fin 1024),
        m ((c.tc : Thread _ _).loc Cert.XCacheIdeal.main_arg0) (ix2 (Cert.XCacheRefIdeal.RefValue.row s r) d) ≠ (⊥ : EReal)
        ∧ m ((c.tc : Thread _ _).loc Cert.XCacheIdeal.main_arg0) (ix2 (Cert.XCacheRefIdeal.RefValue.row s r) d) ≠ (⊤ : EReal) :=
      fun c s r d => by
        have h := congrFun (hpre c).1 (ix2 (⟨s.val * 8 + r.val, by omega⟩ : Fin 1024) d)
        revert h
        unfold Cert.Pre_finite_scores.fn
        pointwise
        exact finite_of_abs_lt _
    have hk : ∀ (c : Dev Cert.XCacheIdeal.nD) (i : Cert.XCacheIdeal.S1x128x256x4x256.Idx),
        m ((c.tc : Thread _ _).loc Cert.XCacheIdeal.main_arg1) i ≠ (⊥ : EReal)
        ∧ m ((c.tc : Thread _ _).loc Cert.XCacheIdeal.main_arg1) i ≠ (⊤ : EReal) := fun c i => by
        have h := congrFun (hpre c).2 i
        revert h
        unfold Cert.Pre_finite_scores.fn
        pointwise
        exact finite_of_abs_lt _
    ⟨fun c => Cert.XCacheRefIdeal.Read.val_main_v20 (m ((c.tc : Thread _ _).loc Cert.XCacheIdeal.main_arg0))
        (m ((c.tc : Thread _ _).loc Cert.XCacheIdeal.main_arg1)) (m ((c.tc : Thread _ _).loc Cert.XCacheIdeal.main_arg2)),
      (θ_run _ _ _).mono (fun _ h c => ⟨(h c).1.trans (Cert.XCacheIdeal.RefValue.final m c (hq c) (hk c)), (h c).2⟩)
        (Cert.XCacheIdeal.Value.run_blocks m ρ),
      (θ_run _ _ _).mono (fun _ h c => ⟨((h c).1.trans (Cert.XCacheRefIdeal.Read.val_main_v20_eq _ _ _)).trans
          (by rw [(hag c).1, (hag c).2.1, (hag c).2.2]), (h c).2⟩)
        (Cert.XCacheRefIdeal.Value.run m' ρ')⟩

end Cert.Proof

end
-- ==== Proof.Projection.Norm.lean ====
/-
  A row's RMS normalization and its product with a matrix, over the extended reals.
-/
module

public import Idealize.ShloMosaic.Lib.Pointwise

@[expose] public section

noncomputable section

namespace Projection

open Idealize.ShloMosaic

/-- A row of 1024 numbers divided by the root of its mean square (plus a small constant), times a weight. -/
def normed (x g : Fin 1024 → EReal) (j : Fin 1024) : EReal :=
  x j * Ideal.rsqrt (Ideal.div (∑ i, x i * x i) (Ideal.ofBits .f32 0x44800000#32) + Ideal.ofBits .f32 0x358637BD#32) * g j

/-- The product of a row and a column of 1024 numbers. -/
def product (x w : Fin 1024 → EReal) : EReal := ∑ j, x j * w j

end Projection

end
-- ==== Proof.InProj.Block.lean ====
/-
  The input projection: what a point of the grid stores, and what the scratch holds, read at an index.
-/
module

public import proofs.«01_k».proof.Proof.Gen.InProjIdeal.Frame
public import proofs.«01_k».proof.Proof.Projection.Norm
public import Idealize.ShloMosaic.Lib.Pipeline.ValueKit
public import Idealize.ShloMosaic.Lib.Pipeline.ValueKit.Held
public import Idealize.ShloMosaic.Lib.StableHlo.ReadAt

@[expose] public section

set_option maxRecDepth 16384

noncomputable section

namespace Cert.InProjIdeal.RefValue

open Cert.InProjIdeal Cert.InProjIdeal.Gen Idealize.ShloMosaic Idealize.ShloMosaic.TcCoe Projection

variable (m : (ℓ : Loc nD τ sig) → Buf (Elt Ideal) ℓ)

/-- The normalized rows that the first point of a row tile writes to the scratch. -/
theorem norm_apply (i : grid0.Coords) (a b : Vec Ideal S1024x1024 .f32) (g : Vec Ideal S1x1024 .f32) (r j : Fin 1024) :
    k0_pay1 i a b g (ix2 r j) = normed (fun y => if (i 0).val < 16 then a (ix2 r y) else b (ix2 r y)) (fun y => g (ix2 0 y)) j := by
  have hb : ∀ n : Fin 17, Scalar.cmpi .slt (BitVec.ofNat 32 n.val) 16#32 = if n.val < 16 then 1#1 else 0#1 := by decide +kernel
  have hs : ∀ x y : EReal, Scalar.select (Scalar.cmpi .slt (BitVec.ofNat 32 (i 0).val) 16#32) x y = if (i 0).val < 16 then x else y := by
    intro x y
    rw [hb (i 0)]
    by_cases h : (i 0).val < 16
    · rw [if_pos h, if_pos h]; rfl
    · rw [if_neg h, if_neg h]; rfl
  unfold k0_pay1
  pointwise
  simp only [hs]
  rfl

/-- The product a point stores. -/
theorem product_apply (x w : Vec Ideal S1024x1024 .bf16) (r d : Fin 1024) :
    k0_pay2 x w (ix2 r d) = product (fun j => x (ix2 r j)) (fun j => w (ix2 j d)) := by
  pointwise [k0_pay2]
  rfl

/-- The block of the result at a point: the scratch's rows times the point's columns of the weights. -/
theorem out_apply (c : Dev nD) (t : Fin cfg0.N) (r d : Fin 1024) : (outsAt0 m c t.val t.isLt).1 (ix2 r d)
    = product (fun j => (outsAt0 m c t.val t.isLt).2 (ix2 r j)) (fun j => (iblk m c 3 t : Vec Ideal S1024x1024 .bf16) (ix2 j d)) := by
  by_cases h0 : t.val % 7 = 0
  · rw [outsAt0_A m c t h0]
    frame_out
    exact product_apply _ _ r d
  · rw [outsAt0_B m c t h0]
    frame_out
    refine (product_apply _ _ r d).trans (congrArg (fun z => product z _) (funext fun j => ?_))
    exact congrFun (Memref.IsWhole.read_unread (Memref.isWhole_whole cc0_scratch0) _) (ix2 r j)

/-- A point's first grid coordinate is its row tile. -/
theorem coord : ∀ t : Fin cfg0.N, (grid0.coords t 0).val = t.val / 7 :=
  (by decide +kernel : ∀ t : Fin grid0.N, _)

/-- The scratch after a point: its row tile's rows normalized, as the tile's first point wrote them. -/
theorem held_apply (c : Dev nD) (t : Fin cfg0.N) (i : S1024x1024.Idx) : (outsAt0 m c t.val t.isLt).2 i
    = k0_pay1 (grid0.coords ⟨7 * (t.val / 7), Pipeline.run_start_lt t⟩) (iblk m c 0 ⟨7 * (t.val / 7), Pipeline.run_start_lt t⟩)
        (iblk m c 1 ⟨7 * (t.val / 7), Pipeline.run_start_lt t⟩) (iblk m c 2 ⟨7 * (t.val / 7), Pipeline.run_start_lt t⟩) i :=
  Pipeline.eq_of_write_hold_apply (fun n h => (outsAt0 m c n h).2) 7
    (fun t => k0_pay1 (grid0.coords t) (iblk m c 0 t) (iblk m c 1 t) (iblk m c 2 t))
    (fun t h0 i => by rw [outsAt0_A m c t h0]; frame_out)
    (fun t h0 i => by rw [outsAt0_B m c t h0]; rfl) t i

end Cert.InProjIdeal.RefValue

end
-- ==== Proof.InProj.Reference.lean ====
/-
  The reference of the input projection read at an index: a normalized row of the prompt or the sample times a column of
  the weights, the columns laid out in six groups, one of them nought.
-/
module

public import proofs.«01_k».proof.Proof.Gen.InProjRefIdeal.Read
public import proofs.«01_k».proof.Proof.Projection.Norm

@[expose] public section

set_option maxRecDepth 16384

noncomputable section

namespace Cert.InProjRefIdeal.RefValue

open Cert.InProjRefIdeal Cert.InProjRefIdeal.Read Idealize.ShloMosaic Projection

variable (xp : (⟨S8x2048x1024, .f32⟩ : BufTy).Contents (Elt Ideal)) (xs : (⟨S128x8x1024, .f32⟩ : BufTy).Contents (Elt Ideal))
  (g : (⟨S1x1024, .f32⟩ : BufTy).Contents (Elt Ideal)) (w : (⟨S1x1024x6688, .f32⟩ : BufTy).Contents (Elt Ideal))

/-- Row `n` of the two groups one after the other: the prompt's 16384 rows, then the sample's 1024. -/
def rowOf (n : Fin 17408) (j : Fin 1024) : EReal :=
  if h : n.val < 16384 then xp (ix3 (⟨n.val / 2048, by omega⟩ : Fin 8) (⟨n.val % 2048, by omega⟩ : Fin 2048) j)
  else xs (ix3 (⟨(n.val - 16384) / 8, by omega⟩ : Fin 128) (⟨(n.val - 16384) % 8, by omega⟩ : Fin 8) j)

/-- Column `d` of the laid-out result, from a row of the 6688 columns of the weights' order. -/
def column (f : Fin 6688 → EReal) (d : Fin 7168) : EReal :=
  if h : d.val < 4608 then f ⟨d.val, by omega⟩
  else if h : d.val < 4640 then f ⟨d.val + 2048, by omega⟩
  else if h : d.val < 5120 then 0
  else f ⟨d.val - 512, by omega⟩

/-- The prompt's normalized rows. -/
theorem prompt_norm_apply (b : Fin 8) (l : Fin 2048) (j : Fin 1024) :
    val_main_v13 xp g (ix3 b l j) = normed (fun y => xp (ix3 b l y)) (fun y => g (ix2 0 y)) j := by
  rw [val_main_v13_apply, val_main_v10_apply, val_main_v12_apply, val_main_v11_apply, val_main_v0_apply, val_main_v9_apply,
    val_main_v8_apply, val_main_v7_apply, val_main_v6_apply, val_main_cst_1_apply, val_main_v5_apply, val_main_v4_apply,
    val_main_cst_0_apply, val_main_v3_apply, val_main_v2_apply, val_main_cst_apply]
  have hsum : ∀ k : Fin 1024, val_main_v1 xp (idx_main_v2 (idx_main_v3 (idx_main_v9 (ix3 b l j))) k) = xp (ix3 b l k) * xp (ix3 b l k) := fun k => by
    rw [show idx_main_v2 (idx_main_v3 (idx_main_v9 (ix3 b l j))) k = ix3 b l k from eq_ix3 _, val_main_v1_apply]
    rfl
  simp only [hsum]
  show xp (ix3 b l j) * Ideal.rsqrt (Ideal.div (Ideal.ofBits .f32 0x00000000#32 + _) _ + _) * g _ = _
  rw [Ideal.ofBits_zero_f32, zero_add]
  refine congrArg₂ (· * ·) rfl (congrArg g (funext fun r => ?_))
  match r with
  | ⟨0, _⟩ => rfl
  | ⟨1, _⟩ => exact Fin.ext (show j.val % 1024 = j.val by omega)

/-- The sample's normalized rows. -/
theorem sample_norm_apply (b : Fin 128) (l : Fin 8) (j : Fin 1024) :
    val_main_v29 xs g (ix3 b l j) = normed (fun y => xs (ix3 b l y)) (fun y => g (ix2 0 y)) j := by
  rw [val_main_v29_apply, val_main_v26_apply, val_main_v28_apply, val_main_v27_apply, val_main_v16_apply, val_main_v25_apply,
    val_main_v24_apply, val_main_v23_apply, val_main_v22_apply, val_main_cst_4_apply, val_main_v21_apply, val_main_v20_apply,
    val_main_cst_3_apply, val_main_v19_apply, val_main_v18_apply, val_main_cst_2_apply]
  have hsum : ∀ k : Fin 1024, val_main_v17 xs (idx_main_v18 (idx_main_v19 (idx_main_v25 (ix3 b l j))) k) = xs (ix3 b l k) * xs (ix3 b l k) := fun k => by
    rw [show idx_main_v18 (idx_main_v19 (idx_main_v25 (ix3 b l j))) k = ix3 b l k from eq_ix3 _, val_main_v17_apply]
    rfl
  simp only [hsum]
  show xs (ix3 b l j) * Ideal.rsqrt (Ideal.div (Ideal.ofBits .f32 0x00000000#32 + _) _ + _) * g _ = _
  rw [Ideal.ofBits_zero_f32, zero_add]
  refine congrArg₂ (· * ·) rfl (congrArg g (funext fun r => ?_))
  match r with
  | ⟨0, _⟩ => rfl
  | ⟨1, _⟩ => exact Fin.ext (show j.val % 1024 = j.val by omega)

/-- The weights as a matrix. -/
theorem weight_apply (j : Fin 1024) (d : Fin 6688) : val_main_v14 w (ix2 j d) = w (ix3 0 j d) := by
  rw [val_main_v14_apply]
  refine congrArg w (funext fun r => Fin.ext ?_)
  match r with
  | ⟨0, _⟩ => rfl
  | ⟨1, _⟩ => show (j.val * 6688 + d.val) / 6688 % 1024 = j.val; omega
  | ⟨2, _⟩ => show (j.val * 6688 + d.val) % 6688 = d.val; omega

/-- The prompt's projection. -/
theorem prompt_apply (b : Fin 8) (l : Fin 2048) (d : Fin 6688) : val_main_v15 xp g w (ix3 b l d)
    = product (normed (fun y => xp (ix3 b l y)) (fun y => g (ix2 0 y))) (fun j => w (ix3 0 j d)) := by
  rw [val_main_v15_apply]
  refine Finset.sum_congr rfl fun j _ => ?_
  rw [show lidx_main_v15 (ix3 b l d) j = ix3 b l j from eq_ix3 _, show ridx_main_v15 (ix3 b l d) j = ix2 j d from eq_ix2 _,
    prompt_norm_apply, weight_apply]

/-- The sample's projection. -/
theorem sample_apply (b : Fin 128) (l : Fin 8) (d : Fin 6688) : val_main_v31 xs g w (ix3 b l d)
    = product (normed (fun y => xs (ix3 b l y)) (fun y => g (ix2 0 y))) (fun j => w (ix3 0 j d)) := by
  rw [val_main_v31_apply]
  refine Finset.sum_congr rfl fun j _ => ?_
  rw [show lidx_main_v31 (ix3 b l d) j = ix3 b l j from eq_ix3 _, show ridx_main_v31 (ix3 b l d) j = ix2 j d from eq_ix2 _,
    sample_norm_apply]
  exact congrArg (_ * ·) (weight_apply w j d)

/-- The projection of a row in the weights' own order of columns. -/
def proj (n : Fin 17408) (d : Fin 6688) : EReal :=
  product (normed (rowOf xp xs n) (fun y => g (ix2 0 y))) (fun j => w (ix3 0 j d))

/-- The two groups' projections, one after the other. -/
theorem both_apply (n : Fin 17408) (d : Fin 6688) : val_main_v34 xp xs g w (ix2 n d) = proj xp xs g w n d := by
  have hp : ∀ (n : Fin 16384), val_main_v32 xp g w (ix2 n d)
      = product (normed (fun y => xp (ix3 (⟨n.val / 2048, by omega⟩ : Fin 8) (⟨n.val % 2048, by omega⟩ : Fin 2048) y)) (fun y => g (ix2 0 y))) (fun j => w (ix3 0 j d)) := fun n => by
    rw [val_main_v32_apply, ← prompt_apply]
    refine congrArg (val_main_v15 xp g w) (funext fun r => Fin.ext ?_)
    match r with
    | ⟨0, _⟩ => show (n.val * 6688 + d.val) / 13697024 = n.val / 2048; omega
    | ⟨1, _⟩ => show (n.val * 6688 + d.val) / 6688 % 2048 = n.val % 2048; omega
    | ⟨2, _⟩ => show (n.val * 6688 + d.val) % 6688 = d.val; omega
  have hs : ∀ (n : Fin 1024), val_main_v33 xs g w (ix2 n d)
      = product (normed (fun y => xs (ix3 (⟨n.val / 8, by omega⟩ : Fin 128) (⟨n.val % 8, by omega⟩ : Fin 8) y)) (fun y => g (ix2 0 y))) (fun j => w (ix3 0 j d)) := fun n => by
    rw [val_main_v33_apply, ← sample_apply]
    refine congrArg (val_main_v31 xs g w) (funext fun r => Fin.ext ?_)
    match r with
    | ⟨0, _⟩ => show (n.val * 6688 + d.val) / 53504 = n.val / 8; omega
    | ⟨1, _⟩ => show (n.val * 6688 + d.val) / 6688 % 8 = n.val % 8; omega
    | ⟨2, _⟩ => show (n.val * 6688 + d.val) % 6688 = d.val; omega
  unfold val_main_v34 proj
  generalize val_main_v32 xp g w = yp at hp
  generalize val_main_v33 xs g w = ys at hs
  pointwise
  by_cases h : n.val < 16384
  · rw [dif_pos h, hp]
    refine congrArg (fun z => product (normed z _) _) (funext fun y => ?_)
    unfold rowOf
    rw [dif_pos h]
  · rw [dif_neg h, hs]
    refine congrArg (fun z => product (normed z _) _) (funext fun y => ?_)
    unfold rowOf
    rw [dif_neg h]

/-- THE REFERENCE AT AN INDEX. -/
theorem ref_apply (n : Fin 17408) (d : Fin 7168) : val_main_v41 xp xs g w (ix2 n d) = column (proj xp xs g w n) d := by
  have h35 : ∀ d, val_main_v35 xp xs g w (ix2 n d) = proj xp xs g w n ⟨d.val, by omega⟩ := fun d => by
    rw [val_main_v35_apply, ← both_apply]; exact congrArg _ (eq_ix2 _)
  have h36 : ∀ d, val_main_v36 xp xs g w (ix2 n d) = proj xp xs g w n ⟨3072 + d.val, by omega⟩ := fun d => by
    rw [val_main_v36_apply, ← both_apply]; exact congrArg _ (eq_ix2 _)
  have h37 : ∀ d, val_main_v37 xp xs g w (ix2 n d) = proj xp xs g w n ⟨4608 + d.val, by omega⟩ := fun d => by
    rw [val_main_v37_apply, ← both_apply]; exact congrArg _ (eq_ix2 _)
  have h38 : ∀ d, val_main_v38 xp xs g w (ix2 n d) = proj xp xs g w n ⟨5632 + d.val, by omega⟩ := fun d => by
    rw [val_main_v38_apply, ← both_apply]; exact congrArg _ (eq_ix2 _)
  have h39 : ∀ d, val_main_v39 xp xs g w (ix2 n d) = proj xp xs g w n ⟨6656 + d.val, by omega⟩ := fun d => by
    rw [val_main_v39_apply, ← both_apply]; exact congrArg _ (eq_ix2 _)
  have h40 : ∀ d, val_main_v40 (F := Ideal) (ix2 n d) = (0 : EReal) := fun d => by
    rw [val_main_v40_apply, val_main_cst_5_apply]; exact Ideal.ofBits_zero_f32
  unfold val_main_v41
  generalize proj xp xs g w n = f at h35 h36 h37 h38 h39
  generalize val_main_v35 xp xs g w = y35 at h35
  generalize val_main_v36 xp xs g w = y36 at h36
  generalize val_main_v37 xp xs g w = y37 at h37
  generalize val_main_v38 xp xs g w = y38 at h38
  generalize val_main_v39 xp xs g w = y39 at h39
  generalize val_main_v40 (F := Ideal) = y40 at h40
  pointwise
  unfold column
  by_cases h1 : d.val < 3072
  · rw [dif_pos h1, h35, dif_pos (show d.val < 4608 by omega)]
  rw [dif_neg h1]
  by_cases h2 : d.val - 3072 < 1536
  · rw [dif_pos h2, h36, dif_pos (show d.val < 4608 by omega)]
    exact congrArg f (Fin.ext (show 3072 + (d.val - 3072) = d.val by omega))
  rw [dif_neg h2, dif_neg (show ¬ d.val < 4608 by omega)]
  by_cases h3 : d.val - 3072 - 1536 < 32
  · rw [dif_pos h3, h39, dif_pos (show d.val < 4640 by omega)]
    exact congrArg f (Fin.ext (show 6656 + (d.val - 3072 - 1536) = d.val + 2048 by omega))
  rw [dif_neg h3, dif_neg (show ¬ d.val < 4640 by omega)]
  by_cases h4 : d.val - 3072 - 1536 - 32 < 480
  · rw [dif_pos h4, h40, dif_pos (show d.val < 5120 by omega)]
  rw [dif_neg h4, dif_neg (show ¬ d.val < 5120 by omega)]
  by_cases h5 : d.val - 3072 - 1536 - 32 - 480 < 1024
  · rw [dif_pos h5, h37]
    exact congrArg f (Fin.ext (show 4608 + (d.val - 3072 - 1536 - 32 - 480) = d.val - 512 by omega))
  · rw [dif_neg h5, h38]
    exact congrArg f (Fin.ext (show 5632 + (d.val - 3072 - 1536 - 32 - 480 - 1024) = d.val - 512 by omega))

/-- The prompt's first state is the last three rows of each sequence, the first 3072 columns. -/
theorem prompt_qkv_apply (b : Fin 8) (t : Fin 3) (d : Fin 3072) : val_main_v43 xp g w (ix4 0 b t d)
    = val_main_v41 xp xs g w (ix2 (⟨b.val * 2048 + (2045 + t.val), by omega⟩ : Fin 17408) (⟨d.val, by omega⟩ : Fin 7168)) := by
  rw [val_main_v43_apply, val_main_v42_apply, show idx_main_v42 (idx_main_v43 (ix4 0 b t d))
      = ix3 b (⟨2045 + t.val, by omega⟩ : Fin 2048) (⟨d.val, by omega⟩ : Fin 6688) from eq_ix3 _, prompt_apply, ref_apply]
  unfold column proj
  rw [dif_pos (show d.val < 4608 by omega)]
  refine congrArg (fun z => product (normed z _) _) (funext fun y => ?_)
  unfold rowOf
  rw [dif_pos (show b.val * 2048 + (2045 + t.val) < 16384 by omega)]
  refine congrArg xp (congrArg₂ (ix3 · · y) (Fin.ext ?_) (Fin.ext ?_))
  · show b.val = (b.val * 2048 + (2045 + t.val)) / 2048
    omega
  · show 2045 + t.val = (b.val * 2048 + (2045 + t.val)) % 2048
    omega

/-- The prompt's second state is the last three rows of each sequence, the next 1536 columns. -/
theorem prompt_xbc_apply (b : Fin 8) (t : Fin 3) (d : Fin 1536) : val_main_v45 xp g w (ix4 0 b t d)
    = val_main_v41 xp xs g w (ix2 (⟨b.val * 2048 + (2045 + t.val), by omega⟩ : Fin 17408) (⟨3072 + d.val, by omega⟩ : Fin 7168)) := by
  rw [val_main_v45_apply, val_main_v44_apply, show idx_main_v44 (idx_main_v45 (ix4 0 b t d))
      = ix3 b (⟨2045 + t.val, by omega⟩ : Fin 2048) (⟨3072 + d.val, by omega⟩ : Fin 6688) from eq_ix3 _, prompt_apply, ref_apply]
  unfold column proj
  rw [dif_pos (show 3072 + d.val < 4608 by omega)]
  refine congrArg (fun z => product (normed z _) _) (funext fun y => ?_)
  unfold rowOf
  rw [dif_pos (show b.val * 2048 + (2045 + t.val) < 16384 by omega)]
  refine congrArg xp (congrArg₂ (ix3 · · y) (Fin.ext ?_) (Fin.ext ?_))
  · show b.val = (b.val * 2048 + (2045 + t.val)) / 2048
    omega
  · show 2045 + t.val = (b.val * 2048 + (2045 + t.val)) % 2048
    omega

/-- The sample's first state is the last three rows of each sequence, the first 3072 columns. -/
theorem sample_qkv_apply (b : Fin 128) (t : Fin 3) (d : Fin 3072) : val_main_v47 xs g w (ix4 0 b t d)
    = val_main_v41 xp xs g w (ix2 (⟨16384 + b.val * 8 + (5 + t.val), by omega⟩ : Fin 17408) (⟨d.val, by omega⟩ : Fin 7168)) := by
  rw [val_main_v47_apply, val_main_v46_apply, show idx_main_v46 (idx_main_v47 (ix4 0 b t d))
      = ix3 b (⟨5 + t.val, by omega⟩ : Fin 8) (⟨d.val, by omega⟩ : Fin 6688) from eq_ix3 _, sample_apply, ref_apply]
  unfold column proj
  rw [dif_pos (show d.val < 4608 by omega)]
  refine congrArg (fun z => product (normed z _) _) (funext fun y => ?_)
  unfold rowOf
  rw [dif_neg (show ¬ 16384 + b.val * 8 + (5 + t.val) < 16384 by omega)]
  refine congrArg xs (congrArg₂ (ix3 · · y) (Fin.ext ?_) (Fin.ext ?_))
  · show b.val = ((16384 + b.val * 8 + (5 + t.val) - 16384)) / 8
    omega
  · show 5 + t.val = ((16384 + b.val * 8 + (5 + t.val) - 16384)) % 8
    omega

/-- The sample's second state is the last three rows of each sequence, the next 1536 columns. -/
theorem sample_xbc_apply (b : Fin 128) (t : Fin 3) (d : Fin 1536) : val_main_v49 xs g w (ix4 0 b t d)
    = val_main_v41 xp xs g w (ix2 (⟨16384 + b.val * 8 + (5 + t.val), by omega⟩ : Fin 17408) (⟨3072 + d.val, by omega⟩ : Fin 7168)) := by
  rw [val_main_v49_apply, val_main_v48_apply, show idx_main_v48 (idx_main_v49 (ix4 0 b t d))
      = ix3 b (⟨5 + t.val, by omega⟩ : Fin 8) (⟨3072 + d.val, by omega⟩ : Fin 6688) from eq_ix3 _, sample_apply, ref_apply]
  unfold column proj
  rw [dif_pos (show 3072 + d.val < 4608 by omega)]
  refine congrArg (fun z => product (normed z _) _) (funext fun y => ?_)
  unfold rowOf
  rw [dif_neg (show ¬ 16384 + b.val * 8 + (5 + t.val) < 16384 by omega)]
  refine congrArg xs (congrArg₂ (ix3 · · y) (Fin.ext ?_) (Fin.ext ?_))
  · show b.val = ((16384 + b.val * 8 + (5 + t.val) - 16384)) / 8
    omega
  · show 5 + t.val = ((16384 + b.val * 8 + (5 + t.val) - 16384)) % 8
    omega

end Cert.InProjRefIdeal.RefValue

end
-- ==== Proof.InProj.Array.lean ====
/-
  The input projection after the run: the result array, whole, as the product of each normalized row with each column, and
  so the reference's array.
-/
module

public import proofs.«01_k».proof.Proof.Gen.InProjIdeal.Frame
public import proofs.«01_k».proof.Proof.InProj.Block
public import proofs.«01_k».proof.Proof.InProj.Reference
public import Idealize.ShloMosaic.Lib.Pipeline.ValueKit
public import Idealize.ShloMosaic.Lib.StableHlo.ReadAt

@[expose] public section

set_option maxRecDepth 16384

noncomputable section

namespace Cert.InProjIdeal.RefValue

open Cert.InProjIdeal Cert.InProjIdeal.Gen Idealize.ShloMosaic Idealize.ShloMosaic.TcCoe Projection
open Cert.InProjRefIdeal.RefValue (rowOf column proj)
open Idealize.ShloMosaic.Pipeline (Dat)

variable (m : (ℓ : Loc nD τ sig) → Buf (Elt Ideal) ℓ)

/-- Where the five windows' blocks lie at a point. -/
theorem idx : ∀ t : Fin cfg0.N, win0_0.index t = ![min (t.val / 7) 15, 0] ∧ win0_1.index t = ![t.val / 7 - 16, 0]
    ∧ win0_2.index t = ![0, 0] ∧ win0_3.index t = ![0, t.val % 7] ∧ win0_4.index t = ![t.val / 7, t.val % 7] :=
  (by decide +kernel : ∀ t : Fin grid0.N, _)

/-- The prompt's rows as the region finds them. -/
theorem prompt_apply (c : Dev nD) (n : Fin 16384) (j : Fin 1024) :
    V m c main_v0 (ix2 n j) = m ((c : Thread nD τ).loc main_arg0) (ix3 (⟨n.val / 2048, by omega⟩ : Fin 8) (⟨n.val % 2048, by omega⟩ : Fin 2048) j) := by
  unfold V
  after_reads_at

/-- The sample's rows as the region finds them. -/
theorem sample_apply (c : Dev nD) (n : Fin 1024) (j : Fin 1024) :
    V m c main_v1 (ix2 n j) = m ((c : Thread nD τ).loc main_arg1) (ix3 (⟨n.val / 8, by omega⟩ : Fin 128) (⟨n.val % 8, by omega⟩ : Fin 8) j) := by
  unfold V
  after_reads_at

/-- The norm's gain as the region finds it. -/
theorem gain_apply (c : Dev nD) (j : Fin 1024) :
    V m c main_v12 (ix2 0 j) = m ((c : Thread nD τ).loc main_arg2) (ix2 0 j) := by
  unfold V
  after_reads_at

/-- The weights as the region finds them: the columns laid out in groups. -/
theorem weight_apply (c : Dev nD) (j : Fin 1024) (d : Fin 7168) :
    V m c main_v10 (ix2 j d) = column (fun d => m ((c : Thread nD τ).loc main_arg3) (ix3 0 j d)) d := by
  unfold V
  after_reads_at
  unfold column
  by_cases h1 : d.val < 3072
  · rw [dif_pos h1, dif_pos (show d.val < 4608 by omega)]
    after_reads_at
  rw [dif_neg h1]
  by_cases h2 : d.val - 3072 < 1536
  · rw [dif_pos h2, dif_pos (show d.val < 4608 by omega)]
    after_reads_at
    exact congrArg (fun z => m ((c : Thread nD τ).loc main_arg3) (ix3 0 j z)) (Fin.ext (show 3072 + (d.val - 3072) = d.val by omega))
  rw [dif_neg h2, dif_neg (show ¬ d.val < 4608 by omega)]
  by_cases h3 : d.val - 3072 - 1536 < 32
  · rw [dif_pos h3, dif_pos (show d.val < 4640 by omega)]
    after_reads_at
    exact congrArg (fun z => m ((c : Thread nD τ).loc main_arg3) (ix3 0 j z)) (Fin.ext (show 6656 + (d.val - 3072 - 1536) = d.val + 2048 by omega))
  rw [dif_neg h3, dif_neg (show ¬ d.val < 4640 by omega)]
  by_cases h4 : d.val - 3072 - 1536 - 32 < 480
  · rw [dif_pos h4, dif_pos (show d.val < 5120 by omega)]
    after_reads_at
  rw [dif_neg h4, dif_neg (show ¬ d.val < 5120 by omega)]
  by_cases h5 : d.val - 3072 - 1536 - 32 - 480 < 1024
  · rw [dif_pos h5]
    after_reads_at
    exact congrArg (fun z => m ((c : Thread nD τ).loc main_arg3) (ix3 0 j z)) (Fin.ext (show 4608 + (d.val - 3072 - 1536 - 32 - 480) = d.val - 512 by omega))
  · rw [dif_neg h5]
    after_reads_at
    exact congrArg (fun z => m ((c : Thread nD τ).loc main_arg3) (ix3 0 j z)) (Fin.ext (show 5632 + (d.val - 3072 - 1536 - 32 - 480 - 1024) = d.val - 512 by omega))

/-- A point's block of the prompt's rows. -/
theorem p_apply (c : Dev nD) (t : Fin cfg0.N) (r : Fin 1024) (j : Fin 1024) :
    (iblk m c 0 t : Vec Ideal S1024x1024 .f32) (ix2 r j)
      = V m c main_v0 (ix2 (⟨min (t.val / 7) 15 * 1024 + r.val, by omega⟩ : Fin 16384) j) := by
  blk_ext [iblk, idx t]

/-- A point's block of the sample's rows. -/
theorem s_apply (c : Dev nD) (t : Fin cfg0.N) (r : Fin 1024) (j : Fin 1024) (h : t.val / 7 = 16) :
    (iblk m c 1 t : Vec Ideal S1024x1024 .f32) (ix2 r j) = V m c main_v1 (ix2 r j) := by
  blk_ext [iblk, idx t]

/-- A point's block of the gain is the whole of it. -/
theorem g_apply (c : Dev nD) (t : Fin cfg0.N) (j : Fin 1024) :
    (iblk m c 2 t : Vec Ideal S1x1024 .f32) (ix2 0 j) = V m c main_v12 (ix2 0 j) := by
  blk_ext [iblk, idx t]

/-- A point's block of the weights. -/
theorem w_apply (c : Dev nD) (t : Fin cfg0.N) (j : Fin 1024) (d : Fin 1024) :
    (iblk m c 3 t : Vec Ideal S1024x1024 .bf16) (ix2 j d)
      = V m c main_v10 (ix2 j (⟨t.val % 7 * 1024 + d.val, by omega⟩ : Fin 7168)) := by
  blk_ext [iblk, idx t]

/-- The scratch after a point: the normalized rows of the point's row tile. -/
theorem scratch_apply (c : Dev nD) (t : Fin cfg0.N) (ht : t.val < 119) (r : Fin 1024) (j : Fin 1024) :
    (outsAt0 m c t.val t.isLt).2 (ix2 r j)
      = normed (rowOf (m ((c : Thread nD τ).loc main_arg0)) (m ((c : Thread nD τ).loc main_arg1)) ⟨t.val / 7 * 1024 + r.val, by omega⟩)
          (fun y => m ((c : Thread nD τ).loc main_arg2) (ix2 0 y)) j := by
  rw [held_apply, norm_apply]
  refine congrArg₂ (fun x g => normed x g j) (funext fun y => ?_) (funext fun y => ?_)
  · rw [coord, show (7 * (t.val / 7)) / 7 = t.val / 7 by omega]
    unfold rowOf
    by_cases h : t.val / 7 < 16
    · rw [if_pos h, dif_pos (show t.val / 7 * 1024 + r.val < 16384 by omega), p_apply, prompt_apply]
      refine congrArg (m ((c : Thread nD τ).loc main_arg0)) (congrArg₂ (ix3 · · y) (Fin.ext ?_) (Fin.ext ?_))
      · show (min (7 * (t.val / 7) / 7) 15 * 1024 + r.val) / 2048 = (t.val / 7 * 1024 + r.val) / 2048
        omega
      · show (min (7 * (t.val / 7) / 7) 15 * 1024 + r.val) % 2048 = (t.val / 7 * 1024 + r.val) % 2048
        omega
    · rw [if_neg h, dif_neg (show ¬ t.val / 7 * 1024 + r.val < 16384 by omega), s_apply m c _ r y (show 7 * (t.val / 7) / 7 = 16 by omega), sample_apply]
      refine congrArg (m ((c : Thread nD τ).loc main_arg1)) (congrArg₂ (ix3 · · y) (Fin.ext ?_) (Fin.ext ?_))
      · show r.val / 8 = (t.val / 7 * 1024 + r.val - 16384) / 8
        omega
      · show r.val % 8 = (t.val / 7 * 1024 + r.val - 16384) % 8
        omega
  · rw [g_apply, gain_apply]

/-- A product with a laid-out column is the laid-out product: the columns of nought give nought. -/
theorem product_column (x : Fin 1024 → EReal) (w : Fin 1024 → Fin 6688 → EReal) (d : Fin 7168) :
    product x (fun j => column (w j) d) = column (fun d => product x (fun j => w j d)) d := by
  unfold column product
  split_ifs
  · rfl
  · rfl
  · simp
  · rfl

/-- The result array after the run is the reference's. -/
theorem final (c : Dev nD) : (dats m 0 c).arrAt 4 cfg0.N
    = Cert.InProjRefIdeal.Read.val_main_v41 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  have ht : t.val < 119 := lt_of_lt_of_eq t.isLt N_0
  obtain ⟨y0, y1, rfl⟩ : ∃ (y0 : Fin 1024) (y1 : Fin 1024), y = ix2 y0 y1 := ⟨y 0, y 1, eq_ix2 y⟩
  rw [after0_4, out_apply]
  have e : (win0_4.blk t).view.emb (ix2 y0 y1)
      = ix2 (⟨t.val / 7 * 1024 + y0.val, by omega⟩ : Fin 17408) (⟨t.val % 7 * 1024 + y1.val, by omega⟩ : Fin 7168) := by
    blk_ext [idx t]
  refine Eq.trans ?_ (congrArg _ e.symm)
  rw [Cert.InProjRefIdeal.RefValue.ref_apply]
  exact (congrArg₂ product (funext fun j => scratch_apply m c t ht y0 j)
    (funext fun j => (w_apply m c t j y1).trans (weight_apply m c j _))).trans (product_column _ _ _)

end Cert.InProjIdeal.RefValue

end
-- ==== Proof.InProj.States.lean ====
/-
  The four convolution states, which the host cuts from the result array after the region.
-/
module

public import proofs.«01_k».proof.Proof.InProj.Array

@[expose] public section

set_option maxRecDepth 16384

noncomputable section

namespace Cert.InProjIdeal.RefValue

open Cert.InProjIdeal Cert.InProjIdeal.Gen Idealize.ShloMosaic Idealize.ShloMosaic.TcCoe Projection

variable (m : (ℓ : Loc nD τ sig) → Buf (Elt Ideal) ℓ)

/-- What the lines after the region leave: the prompt's first state is the last three rows of each sequence, the first 3072 columns. -/
theorem prompt_qkv_tail (U : Valuation τ sig (Elt Ideal)) (b : Fin 8) (t : Fin 3) (d : Fin 3072) :
    StableHlo.after (hostOps1 (F := Ideal)) U (Proc.devRef .tc main_v20) (ix4 0 b t d)
      = U (Proc.devRef .tc main_v13) (ix2 (⟨b.val * 2048 + (2045 + t.val), by omega⟩ : Fin 17408) (⟨d.val, by omega⟩ : Fin 7168)) := by
  after_reads_at
  exact congrArg (fun z => U (Proc.devRef .tc main_v13) (ix2 z _)) (Fin.ext (show (31 + 32 * b.val) * 64 + (61 + t.val) = b.val * 2048 + (2045 + t.val) by omega))

/-- What the lines after the region leave: the prompt's second state is the last three rows of each sequence, the next 1536 columns. -/
theorem prompt_xbc_tail (U : Valuation τ sig (Elt Ideal)) (b : Fin 8) (t : Fin 3) (d : Fin 1536) :
    StableHlo.after (hostOps1 (F := Ideal)) U (Proc.devRef .tc main_v21) (ix4 0 b t d)
      = U (Proc.devRef .tc main_v13) (ix2 (⟨b.val * 2048 + (2045 + t.val), by omega⟩ : Fin 17408) (⟨3072 + d.val, by omega⟩ : Fin 7168)) := by
  after_reads_at
  exact congrArg (fun z => U (Proc.devRef .tc main_v13) (ix2 z _)) (Fin.ext (show (31 + 32 * b.val) * 64 + (61 + t.val) = b.val * 2048 + (2045 + t.val) by omega))

/-- What the lines after the region leave: the sample's first state is the last three rows of each sequence, the first 3072 columns. -/
theorem sample_qkv_tail (U : Valuation τ sig (Elt Ideal)) (b : Fin 128) (t : Fin 3) (d : Fin 3072) :
    StableHlo.after (hostOps1 (F := Ideal)) U (Proc.devRef .tc main_v22) (ix4 0 b t d)
      = U (Proc.devRef .tc main_v13) (ix2 (⟨16384 + b.val * 8 + (5 + t.val), by omega⟩ : Fin 17408) (⟨d.val, by omega⟩ : Fin 7168)) := by
  after_reads_at
  exact congrArg (fun z => U (Proc.devRef .tc main_v13) (ix2 z _)) (Fin.ext (show (2048 + b.val) * 8 + (5 + t.val) = 16384 + b.val * 8 + (5 + t.val) by omega))

/-- What the lines after the region leave: the sample's second state is the last three rows of each sequence, the next 1536 columns. -/
theorem sample_xbc_tail (U : Valuation τ sig (Elt Ideal)) (b : Fin 128) (t : Fin 3) (d : Fin 1536) :
    StableHlo.after (hostOps1 (F := Ideal)) U (Proc.devRef .tc main_v23) (ix4 0 b t d)
      = U (Proc.devRef .tc main_v13) (ix2 (⟨16384 + b.val * 8 + (5 + t.val), by omega⟩ : Fin 17408) (⟨3072 + d.val, by omega⟩ : Fin 7168)) := by
  after_reads_at
  exact congrArg (fun z => U (Proc.devRef .tc main_v13) (ix2 z _)) (Fin.ext (show (2048 + b.val) * 8 + (5 + t.val) = 16384 + b.val * 8 + (5 + t.val) by omega))

/-- The lines after the region find the result array as the region left it. -/
theorem array_exit (c : Dev nD) :
    Pipeline.withArrays spec0 c (V0 m c) (fun w => (dats m 0 c).arrAt w cfg0.N) (Proc.devRef .tc main_v13) = (dats m 0 c).arrAt 4 cfg0.N :=
  Pipeline.withArrays_arr spec0 launch0.win.arr_inj c (V0 m c) _ 4

/-- An index of a state, by its coordinates. -/
theorem state_index {B W : Nat} (i : Shape.Idx ⟨4, ![1, B, 3, W]⟩) : ∃ (b : Fin B) (t : Fin 3) (d : Fin W), i = ix4 0 b t d :=
  ⟨i 1, i 2, i 3, (eq_ix4 i).trans (congrArg (ix4 · (i 1) (i 2) (i 3)) (Subsingleton.elim (α := Fin 1) (i 0) 0))⟩

/-- That state after the run is the reference's: the prompt's first state is the last three rows of each sequence, the first 3072 columns. -/
theorem prompt_qkv_final (c : Dev nD) : Pipeline.afterTail₀ cfgs (dats m) 0 (V0 m) [hostOps1] c main_v20
    = Cert.InProjRefIdeal.Read.val_main_v43 (m ((c : Thread nD τ).loc main_arg0)) (m ((c : Thread nD τ).loc main_arg2)) (m ((c : Thread nD τ).loc main_arg3)) := by
  funext i
  obtain ⟨b, t, d, rfl⟩ : ∃ (b : Fin 8) (t : Fin 3) (d : Fin 3072), i = ix4 0 b t d := state_index i
  rw [Cert.InProjRefIdeal.RefValue.prompt_qkv_apply (m ((c : Thread nD τ).loc main_arg0)) (m ((c : Thread nD τ).loc main_arg1)), ← final m c, ← array_exit m c]
  exact prompt_qkv_tail _ b t d

/-- That state after the run is the reference's: the prompt's second state is the last three rows of each sequence, the next 1536 columns. -/
theorem prompt_xbc_final (c : Dev nD) : Pipeline.afterTail₀ cfgs (dats m) 0 (V0 m) [hostOps1] c main_v21
    = Cert.InProjRefIdeal.Read.val_main_v45 (m ((c : Thread nD τ).loc main_arg0)) (m ((c : Thread nD τ).loc main_arg2)) (m ((c : Thread nD τ).loc main_arg3)) := by
  funext i
  obtain ⟨b, t, d, rfl⟩ : ∃ (b : Fin 8) (t : Fin 3) (d : Fin 1536), i = ix4 0 b t d := state_index i
  rw [Cert.InProjRefIdeal.RefValue.prompt_xbc_apply (m ((c : Thread nD τ).loc main_arg0)) (m ((c : Thread nD τ).loc main_arg1)), ← final m c, ← array_exit m c]
  exact prompt_xbc_tail _ b t d

/-- That state after the run is the reference's: the sample's first state is the last three rows of each sequence, the first 3072 columns. -/
theorem sample_qkv_final (c : Dev nD) : Pipeline.afterTail₀ cfgs (dats m) 0 (V0 m) [hostOps1] c main_v22
    = Cert.InProjRefIdeal.Read.val_main_v47 (m ((c : Thread nD τ).loc main_arg1)) (m ((c : Thread nD τ).loc main_arg2)) (m ((c : Thread nD τ).loc main_arg3)) := by
  funext i
  obtain ⟨b, t, d, rfl⟩ : ∃ (b : Fin 128) (t : Fin 3) (d : Fin 3072), i = ix4 0 b t d := state_index i
  rw [Cert.InProjRefIdeal.RefValue.sample_qkv_apply (m ((c : Thread nD τ).loc main_arg0)) (m ((c : Thread nD τ).loc main_arg1)), ← final m c, ← array_exit m c]
  exact sample_qkv_tail _ b t d

/-- That state after the run is the reference's: the sample's second state is the last three rows of each sequence, the next 1536 columns. -/
theorem sample_xbc_final (c : Dev nD) : Pipeline.afterTail₀ cfgs (dats m) 0 (V0 m) [hostOps1] c main_v23
    = Cert.InProjRefIdeal.Read.val_main_v49 (m ((c : Thread nD τ).loc main_arg1)) (m ((c : Thread nD τ).loc main_arg2)) (m ((c : Thread nD τ).loc main_arg3)) := by
  funext i
  obtain ⟨b, t, d, rfl⟩ : ∃ (b : Fin 128) (t : Fin 3) (d : Fin 1536), i = ix4 0 b t d := state_index i
  rw [Cert.InProjRefIdeal.RefValue.sample_xbc_apply (m ((c : Thread nD τ).loc main_arg0)) (m ((c : Thread nD τ).loc main_arg1)), ← final m c, ← array_exit m c]
  exact sample_xbc_tail _ b t d

end Cert.InProjIdeal.RefValue

end
-- ==== Proof.InProj.Claims.lean ====
/-
  The value claim of the input projection: from any memory the kernel and the reference leave the same array.
-/
module

public import proofs.«01_k».proof.Defs
public import proofs.«01_k».proof.Proof.InProj.States
public import proofs.«01_k».proof.Proof.Gen.InProjRefIdeal.Run

@[expose] public section

noncomputable section

namespace Cert.Proof

open Idealize.ShloMosaic Idealize.SL.Sem

/-- The idealized input projection and its reference end with the same five arrays - the projection and the four convolution
    states cut from it - from the same arguments. -/
theorem inproj_algebraic : Cert.algebraic_InProjIdeal_InProjRefIdeal
    (hInProjIdeal := Cert.InProjIdeal.Gen.facts) (hInProjRefIdeal := Cert.InProjRefIdeal.Gen.facts) :=
  fun m ρ m' ρ' _ hag =>
    ⟨fun c => Cert.InProjRefIdeal.Read.val_main_v41 (m ((c.tc : Thread _ _).loc Cert.InProjIdeal.main_arg0)) (m ((c.tc : Thread _ _).loc Cert.InProjIdeal.main_arg1)) (m ((c.tc : Thread _ _).loc Cert.InProjIdeal.main_arg2)) (m ((c.tc : Thread _ _).loc Cert.InProjIdeal.main_arg3)),
      fun c => Cert.InProjRefIdeal.Read.val_main_v43 (m ((c.tc : Thread _ _).loc Cert.InProjIdeal.main_arg0)) (m ((c.tc : Thread _ _).loc Cert.InProjIdeal.main_arg2)) (m ((c.tc : Thread _ _).loc Cert.InProjIdeal.main_arg3)),
      fun c => Cert.InProjRefIdeal.Read.val_main_v45 (m ((c.tc : Thread _ _).loc Cert.InProjIdeal.main_arg0)) (m ((c.tc : Thread _ _).loc Cert.InProjIdeal.main_arg2)) (m ((c.tc : Thread _ _).loc Cert.InProjIdeal.main_arg3)),
      fun c => Cert.InProjRefIdeal.Read.val_main_v47 (m ((c.tc : Thread _ _).loc Cert.InProjIdeal.main_arg1)) (m ((c.tc : Thread _ _).loc Cert.InProjIdeal.main_arg2)) (m ((c.tc : Thread _ _).loc Cert.InProjIdeal.main_arg3)),
      fun c => Cert.InProjRefIdeal.Read.val_main_v49 (m ((c.tc : Thread _ _).loc Cert.InProjIdeal.main_arg1)) (m ((c.tc : Thread _ _).loc Cert.InProjIdeal.main_arg2)) (m ((c.tc : Thread _ _).loc Cert.InProjIdeal.main_arg3)),
      (θ_run _ _ _).mono (fun _ h c =>
          ⟨((h.1 c).1 4).trans (Cert.InProjIdeal.RefValue.final m c),
            ((h.1 c).2 _ (Pipeline.mem_restRefs_of _ (by decide) (by decide))).trans (Cert.InProjIdeal.RefValue.prompt_qkv_final m c),
            ((h.1 c).2 _ (Pipeline.mem_restRefs_of _ (by decide) (by decide))).trans (Cert.InProjIdeal.RefValue.prompt_xbc_final m c),
            ((h.1 c).2 _ (Pipeline.mem_restRefs_of _ (by decide) (by decide))).trans (Cert.InProjIdeal.RefValue.sample_qkv_final m c),
            ((h.1 c).2 _ (Pipeline.mem_restRefs_of _ (by decide) (by decide))).trans (Cert.InProjIdeal.RefValue.sample_xbc_final m c),
            h.2 c⟩)
        (θ_run_and (Cert.InProjIdeal.Gen.run_main m ρ) (Cert.InProjIdeal.Gen.unchanged m ρ)),
      (θ_run _ _ _).mono (fun _ h c =>
          ⟨((h c).1.trans (Cert.InProjRefIdeal.Read.val_main_v41_eq _ _)).trans (by rw [(hag c).1, (hag c).2.1, (hag c).2.2.1, (hag c).2.2.2]),
            ((h c).2.1.trans (Cert.InProjRefIdeal.Read.val_main_v43_eq _ _ _)).trans (by rw [(hag c).1, (hag c).2.2.1, (hag c).2.2.2]),
            ((h c).2.2.1.trans (Cert.InProjRefIdeal.Read.val_main_v45_eq _ _ _)).trans (by rw [(hag c).1, (hag c).2.2.1, (hag c).2.2.2]),
            ((h c).2.2.2.1.trans (Cert.InProjRefIdeal.Read.val_main_v47_eq _ _ _)).trans (by rw [(hag c).2.1, (hag c).2.2.1, (hag c).2.2.2]),
            ((h c).2.2.2.2.1.trans (Cert.InProjRefIdeal.Read.val_main_v49_eq _ _ _)).trans (by rw [(hag c).2.1, (hag c).2.2.1, (hag c).2.2.2]),
            (h c).2.2.2.2.2⟩)
        (Cert.InProjRefIdeal.Value.run m' ρ')⟩

end Cert.Proof

end
-- ==== Proof.Projection.Pick.lean ====
/-
  The choice between the prompt's block and the sample's by the row tile, and the sum over 2048 as two sums over 1024.
-/
module

public import Idealize.ShloMosaic.Lib.Pointwise

@[expose] public section

noncomputable section

namespace Projection

open Idealize.ShloMosaic

/-- The first 32 of 34 row tiles are the prompt's. -/
theorem pick (n : Fin 34) (x y : EReal) :
    Scalar.select (Scalar.cmpi .slt (BitVec.ofNat 32 n.val) 32#32) x y = if n.val < 32 then x else y := by
  have hb : ∀ n : Fin 34, Scalar.cmpi .slt (BitVec.ofNat 32 n.val) 32#32 = if n.val < 32 then 1#1 else 0#1 := by decide +kernel
  rw [hb n]
  by_cases h : n.val < 32
  · rw [if_pos h, if_pos h]; rfl
  · rw [if_neg h, if_neg h]; rfl

/-- A sum over 2048 is the sum over its first half and the sum over its second. -/
theorem sum_halves (f : Fin 2048 → EReal) :
    ∑ k, f k = (∑ k : Fin 1024, f ⟨k.val, by omega⟩) + ∑ k : Fin 1024, f ⟨1024 + k.val, by omega⟩ :=
  Fin.sum_univ_add (a := 1024) (b := 1024) f

end Projection

end
-- ==== Proof.MemKV.Block.lean ====
/-
  The memory's projection: what a point of the grid stores, and what the scratch holds, read at an index.
-/
module

public import proofs.«01_k».proof.Proof.Gen.MemKVIdeal.Frame
public import proofs.«01_k».proof.Proof.Projection.Norm
public import proofs.«01_k».proof.Proof.Projection.Pick
public import Idealize.ShloMosaic.Lib.Pipeline.ValueKit
public import Idealize.ShloMosaic.Lib.Pipeline.ValueKit.Held
public import Idealize.ShloMosaic.Lib.StableHlo.ReadAt

@[expose] public section

set_option maxRecDepth 16384

noncomputable section

namespace Cert.MemKVIdeal.RefValue

open Cert.MemKVIdeal Cert.MemKVIdeal.Gen Idealize.ShloMosaic Idealize.ShloMosaic.TcCoe Projection

variable (m : (ℓ : Loc nD τ sig) → Buf (Elt Ideal) ℓ)

/-- The normalized rows that are written to the scratch. -/
theorem norm_apply (x : Vec Ideal S512x1024 .f32) (g : Vec Ideal S1x1024 .f32) (r : Fin 512) (j : Fin 1024) :
    k0_pay1 x g (ix2 r j) = normed (fun y => x (ix2 r y)) (fun y => g (ix2 0 y)) j := by
  pointwise [k0_pay1]
  rfl

/-- The product a point stores. -/
theorem product_apply (x : Vec Ideal S512x1024 .bf16) (w : Vec Ideal S1024x1024 .bf16) (r : Fin 512) (d : Fin 1024) :
    k0_pay2 x w (ix2 r d) = product (fun j => x (ix2 r j)) (fun j => w (ix2 j d)) := by
  pointwise [k0_pay2]
  rfl

/-- The block of the result at a point: the scratch's rows times the point's columns of the weights. -/
theorem out_apply (c : Dev nD) (t : Fin cfg0.N) (r : Fin 512) (d : Fin 1024) : (outsAt0 m c t.val t.isLt).1 (ix2 r d)
    = product (fun j => (outsAt0 m c t.val t.isLt).2 (ix2 r j)) (fun j => (iblk m c 2 t : Vec Ideal S1024x1024 .bf16) (ix2 j d)) := by
  by_cases h0 : t.val % 2 = 0
  · rw [outsAt0_A m c t h0]
    frame_out
    exact product_apply _ _ r d
  · rw [outsAt0_B m c t h0]
    frame_out
    refine (product_apply _ _ r d).trans (congrArg (fun z => product z _) (funext fun j => ?_))
    exact congrFun (Memref.IsWhole.read_unread (Memref.isWhole_whole cc0_scratch0) _) (ix2 r j)

/-- The scratch after a point: its row tile's rows normalized, as the tile's first point wrote them. -/
theorem held_apply (c : Dev nD) (t : Fin cfg0.N) (i : S512x1024.Idx) : (outsAt0 m c t.val t.isLt).2 i
    = k0_pay1 (iblk m c 0 ⟨2 * (t.val / 2), Pipeline.run_start_lt t⟩) (iblk m c 1 ⟨2 * (t.val / 2), Pipeline.run_start_lt t⟩) i :=
  Pipeline.eq_of_write_hold_apply (fun n h => (outsAt0 m c n h).2) 2
    (fun t => k0_pay1 (iblk m c 0 t) (iblk m c 1 t))
    (fun t h0 i => by rw [outsAt0_A m c t h0]; frame_out)
    (fun t h0 i => by rw [outsAt0_B m c t h0]; rfl) t i

end Cert.MemKVIdeal.RefValue

end
-- ==== Proof.MemKV.Reference.lean ====
/-
  The reference of the memory's projection read at an index: a normalized row of the memory times a column of the weights.
-/
module

public import proofs.«01_k».proof.Proof.Gen.MemKVRefIdeal.Read
public import proofs.«01_k».proof.Proof.Projection.Norm
public import proofs.«01_k».proof.Proof.Projection.Pick

@[expose] public section

set_option maxRecDepth 16384

noncomputable section

namespace Cert.MemKVRefIdeal.RefValue

open Cert.MemKVRefIdeal Cert.MemKVRefIdeal.Read Idealize.ShloMosaic Projection

variable (x : (⟨S8x256x1024, .f32⟩ : BufTy).Contents (Elt Ideal)) (g : (⟨S1x1024, .f32⟩ : BufTy).Contents (Elt Ideal))
  (w : (⟨S1x1024x2048, .f32⟩ : BufTy).Contents (Elt Ideal))

/-- The normalized rows. -/
theorem norm_apply (b : Fin 8) (l : Fin 256) (j : Fin 1024) :
    val_main_v13 x g (ix3 b l j) = normed (fun y => x (ix3 b l y)) (fun y => g (ix2 0 y)) j := by
  rw [val_main_v13_apply, val_main_v10_apply, val_main_v12_apply, val_main_v11_apply, val_main_v0_apply, val_main_v9_apply,
    val_main_v8_apply, val_main_v7_apply, val_main_v6_apply, val_main_cst_1_apply, val_main_v5_apply, val_main_v4_apply,
    val_main_cst_0_apply, val_main_v3_apply, val_main_v2_apply, val_main_cst_apply]
  have hsum : ∀ k : Fin 1024, val_main_v1 x (idx_main_v2 (idx_main_v3 (idx_main_v9 (ix3 b l j))) k) = x (ix3 b l k) * x (ix3 b l k) := fun k => by
    rw [show idx_main_v2 (idx_main_v3 (idx_main_v9 (ix3 b l j))) k = ix3 b l k from eq_ix3 _, val_main_v1_apply]
    rfl
  simp only [hsum]
  show x (ix3 b l j) * Ideal.rsqrt (Ideal.div (Ideal.ofBits .f32 0x00000000#32 + _) _ + _) * g _ = _
  rw [Ideal.ofBits_zero_f32, zero_add]
  refine congrArg₂ (· * ·) rfl (congrArg g (funext fun r => ?_))
  match r with
  | ⟨0, _⟩ => rfl
  | ⟨1, _⟩ => exact Fin.ext (show j.val % 1024 = j.val by omega)

/-- The weights as a matrix. -/
theorem weight_apply (j : Fin 1024) (d : Fin 2048) : val_main_v14 w (ix2 j d) = w (ix3 0 j d) := by
  rw [val_main_v14_apply]
  refine congrArg w (funext fun r => Fin.ext ?_)
  match r with
  | ⟨0, _⟩ => rfl
  | ⟨1, _⟩ => show (j.val * 2048 + d.val) / 2048 % 1024 = j.val; omega
  | ⟨2, _⟩ => show (j.val * 2048 + d.val) % 2048 = d.val; omega

/-- THE REFERENCE AT AN INDEX. -/
theorem ref_apply (n d : Fin 2048) : val_main_v18 x g w (ix2 n d)
    = product (normed (fun y => x (ix3 (⟨n.val / 256, by omega⟩ : Fin 8) (⟨n.val % 256, by omega⟩ : Fin 256) y)) (fun y => g (ix2 0 y)))
        (fun j => w (ix3 0 j d)) := by
  rw [val_main_v18_apply, show idx_main_v18 (ix2 n d) = ix3 (⟨n.val / 256, by omega⟩ : Fin 8) (⟨n.val % 256, by omega⟩ : Fin 256) d from
    funext fun r => Fin.ext (by
      match r with
      | ⟨0, _⟩ => show (n.val * 2048 + d.val) / 524288 = n.val / 256; omega
      | ⟨1, _⟩ => show (n.val * 2048 + d.val) / 2048 % 256 = n.val % 256; omega
      | ⟨2, _⟩ => show (n.val * 2048 + d.val) % 2048 = d.val; omega), val_main_v15_apply]
  refine Finset.sum_congr rfl fun j _ => ?_
  rw [show lidx_main_v15 (ix3 (⟨n.val / 256, by omega⟩ : Fin 8) (⟨n.val % 256, by omega⟩ : Fin 256) d) j
      = ix3 (⟨n.val / 256, by omega⟩ : Fin 8) (⟨n.val % 256, by omega⟩ : Fin 256) j from eq_ix3 _,
    show ridx_main_v15 (ix3 (⟨n.val / 256, by omega⟩ : Fin 8) (⟨n.val % 256, by omega⟩ : Fin 256) d) j = ix2 j d from eq_ix2 _,
    norm_apply, weight_apply]

/-- The keys in heads are the first half of the columns. -/
theorem keys_apply (b : Fin 8) (l : Fin 256) (h : Fin 4) (e : Fin 256) : val_main_v19 x g w (ix5 0 b l h e)
    = val_main_v18 x g w (ix2 (⟨b.val * 256 + l.val, by omega⟩ : Fin 2048) (⟨h.val * 256 + e.val, by omega⟩ : Fin 2048)) := by
  rw [val_main_v19_apply, val_main_v16_apply, val_main_v18_apply]
  refine congrArg (val_main_v15 x g w) (funext fun r => Fin.ext ?_)
  match r with
  | ⟨0, _⟩ => show ((((0 * 8 + b.val) * 256 + l.val) * 4 + h.val) * 256 + e.val) / 262144 = ((b.val * 256 + l.val) * 2048 + (h.val * 256 + e.val)) / 524288; omega
  | ⟨1, _⟩ => show ((((0 * 8 + b.val) * 256 + l.val) * 4 + h.val) * 256 + e.val) / 1024 % 256 = ((b.val * 256 + l.val) * 2048 + (h.val * 256 + e.val)) / 2048 % 256; omega
  | ⟨2, _⟩ => show ((((0 * 8 + b.val) * 256 + l.val) * 4 + h.val) * 256 + e.val) % 1024 = ((b.val * 256 + l.val) * 2048 + (h.val * 256 + e.val)) % 2048; omega

/-- The values in heads are the second half of the columns. -/
theorem values_apply (b : Fin 8) (l : Fin 256) (h : Fin 4) (e : Fin 256) : val_main_v20 x g w (ix5 0 b l h e)
    = val_main_v18 x g w (ix2 (⟨b.val * 256 + l.val, by omega⟩ : Fin 2048) (⟨1024 + (h.val * 256 + e.val), by omega⟩ : Fin 2048)) := by
  rw [val_main_v20_apply, val_main_v17_apply, val_main_v18_apply]
  refine congrArg (val_main_v15 x g w) (funext fun r => Fin.ext ?_)
  match r with
  | ⟨0, _⟩ => show ((((0 * 8 + b.val) * 256 + l.val) * 4 + h.val) * 256 + e.val) / 262144 = ((b.val * 256 + l.val) * 2048 + (1024 + (h.val * 256 + e.val))) / 524288; omega
  | ⟨1, _⟩ => show ((((0 * 8 + b.val) * 256 + l.val) * 4 + h.val) * 256 + e.val) / 1024 % 256 = ((b.val * 256 + l.val) * 2048 + (1024 + (h.val * 256 + e.val))) / 2048 % 256; omega
  | ⟨2, _⟩ => show 1024 + ((((0 * 8 + b.val) * 256 + l.val) * 4 + h.val) * 256 + e.val) % 1024 = ((b.val * 256 + l.val) * 2048 + (1024 + (h.val * 256 + e.val))) % 2048; omega

end Cert.MemKVRefIdeal.RefValue

end
-- ==== Proof.MemKV.Array.lean ====
/-
  The memory's projection after the run: the result array, whole, and so the reference's array.
-/
module

public import proofs.«01_k».proof.Proof.Gen.MemKVIdeal.Frame
public import proofs.«01_k».proof.Proof.MemKV.Block
public import proofs.«01_k».proof.Proof.MemKV.Reference
public import Idealize.ShloMosaic.Lib.Pipeline.ValueKit
public import Idealize.ShloMosaic.Lib.StableHlo.ReadAt

@[expose] public section

set_option maxRecDepth 16384

noncomputable section

namespace Cert.MemKVIdeal.RefValue

open Cert.MemKVIdeal Cert.MemKVIdeal.Gen Idealize.ShloMosaic Idealize.ShloMosaic.TcCoe Projection
open Idealize.ShloMosaic.Pipeline (Dat)

variable (m : (ℓ : Loc nD τ sig) → Buf (Elt Ideal) ℓ)

/-- Where the four windows' blocks lie at a point. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The memory's rows as the region finds them. -/
theorem rows_apply (c : Dev nD) (n : Fin 2048) (j : Fin 1024) : V m c main_v0 (ix2 n j) = m ((c : Thread nD τ).loc main_arg0) (ix3 (⟨n.val / 256, by omega⟩ : Fin 8) (⟨n.val % 256, by omega⟩ : Fin 256) j) := by
  unfold V
  after_reads_at

/-- The norm's gain as the region finds it. -/
theorem gain_apply (c : Dev nD) (j : Fin 1024) : V m c main_v4 (ix2 0 j) = m ((c : Thread nD τ).loc main_arg1) (ix2 0 j) := by
  unfold V
  after_reads_at

/-- The weights as the region finds them. -/
theorem weight_apply (c : Dev nD) (j : Fin 1024) (d : Fin 2048) : V m c main_v3 (ix2 j d) = m ((c : Thread nD τ).loc main_arg2) (ix3 0 j d) := by
  unfold V
  after_reads_at

/-- A point's block of the rows. -/
theorem x_apply (c : Dev nD) (t : Fin cfg0.N) (ht : t.val < 8) (r : Fin 512) (j : Fin 1024) :
    (iblk m c 0 t : Vec Ideal S512x1024 .f32) (ix2 r j) = V m c main_v0 (ix2 (⟨t.val / 2 * 512 + r.val, by omega⟩ : Fin 2048) j) := by
  blk_ext [iblk, idx t]

/-- A point's block of the gain is the whole of it. -/
theorem g_apply (c : Dev nD) (t : Fin cfg0.N) (j : Fin 1024) :
    (iblk m c 1 t : Vec Ideal S1x1024 .f32) (ix2 0 j) = V m c main_v4 (ix2 0 j) := by
  blk_ext [iblk, idx t]

/-- A point's block of the weights. -/
theorem w_apply (c : Dev nD) (t : Fin cfg0.N) (j : Fin 1024) (d : Fin 1024) :
    (iblk m c 2 t : Vec Ideal S1024x1024 .bf16) (ix2 j d) = V m c main_v3 (ix2 j (⟨t.val % 2 * 1024 + d.val, by omega⟩ : Fin 2048)) := by
  blk_ext [iblk, idx t]

/-- The scratch after a point: the normalized rows of the point's row tile. -/
theorem scratch_apply (c : Dev nD) (t : Fin cfg0.N) (ht : t.val < 8) (r : Fin 512) (j : Fin 1024) :
    (outsAt0 m c t.val t.isLt).2 (ix2 r j)
      = normed (fun y => m ((c : Thread nD τ).loc main_arg0) (ix3 (⟨(t.val / 2 * 512 + r.val) / 256, by omega⟩ : Fin 8) (⟨(t.val / 2 * 512 + r.val) % 256, by omega⟩ : Fin 256) y))
          (fun y => m ((c : Thread nD τ).loc main_arg1) (ix2 0 y)) j := by
  rw [held_apply, norm_apply]
  refine congrArg₂ (fun x g => normed x g j) (funext fun y => ?_) (funext fun y => ?_)
  · rw [x_apply m c _ (show 2 * (t.val / 2) < 8 by omega), rows_apply]
    refine congrArg (m ((c : Thread nD τ).loc main_arg0)) (congrArg₂ (ix3 · · y) (Fin.ext ?_) (Fin.ext ?_))
    · show (2 * (t.val / 2) / 2 * 512 + r.val) / 256 = (t.val / 2 * 512 + r.val) / 256
      omega
    · show (2 * (t.val / 2) / 2 * 512 + r.val) % 256 = (t.val / 2 * 512 + r.val) % 256
      omega
  · rw [g_apply, gain_apply]

/-- The result array after the run is the reference's. -/
theorem final (c : Dev nD) : (dats m 0 c).arrAt 3 cfg0.N
    = Cert.MemKVRefIdeal.Read.val_main_v18 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht : t.val < 8 := lt_of_lt_of_eq t.isLt N_0
  obtain ⟨y0, y1, rfl⟩ : ∃ (y0 : Fin 512) (y1 : Fin 1024), y = ix2 y0 y1 := ⟨y 0, y 1, eq_ix2 y⟩
  rw [after0_3, out_apply]
  have e : (win0_3.blk t).view.emb (ix2 y0 y1) = ix2 (⟨t.val / 2 * 512 + y0.val, by omega⟩ : Fin 2048) (⟨t.val % 2 * 1024 + y1.val, by omega⟩ : Fin 2048) := by
    blk_ext [idx t]
  refine Eq.trans ?_ (congrArg _ e.symm)
  rw [Cert.MemKVRefIdeal.RefValue.ref_apply]
  exact congrArg₂ product (funext fun j => scratch_apply m c t ht y0 j)
    (funext fun j => (w_apply m c t j y1).trans (weight_apply m c j _))

end Cert.MemKVIdeal.RefValue

end
-- ==== Proof.MemKV.Heads.lean ====
/-
  The memory's keys and values in heads, which the host cuts from the result array after the region.
-/
module

public import proofs.«01_k».proof.Proof.MemKV.Array

@[expose] public section

set_option maxRecDepth 16384

noncomputable section

namespace Cert.MemKVIdeal.RefValue

open Cert.MemKVIdeal Cert.MemKVIdeal.Gen Idealize.ShloMosaic Idealize.ShloMosaic.TcCoe Projection

variable (m : (ℓ : Loc nD τ sig) → Buf (Elt Ideal) ℓ)

/-- What the lines after the region leave in the keys' buffer: the first half of the columns, in heads. -/
theorem keys_tail (U : Valuation τ sig (Elt Ideal)) (b : Fin 8) (l : Fin 256) (h : Fin 4) (e : Fin 256) :
    StableHlo.after (hostOps1 (F := Ideal)) U (Proc.devRef .tc main_v9) (ix5 0 b l h e)
      = U (Proc.devRef .tc main_v5) (ix2 (⟨b.val * 256 + l.val, by omega⟩ : Fin 2048) (⟨h.val * 256 + e.val, by omega⟩ : Fin 2048)) := by
  after_reads_at

/-- What the lines after the region leave in the values' buffer: the second half of the columns, in heads. -/
theorem values_tail (U : Valuation τ sig (Elt Ideal)) (b : Fin 8) (l : Fin 256) (h : Fin 4) (e : Fin 256) :
    StableHlo.after (hostOps1 (F := Ideal)) U (Proc.devRef .tc main_v12) (ix5 0 b l h e)
      = U (Proc.devRef .tc main_v5) (ix2 (⟨b.val * 256 + l.val, by omega⟩ : Fin 2048) (⟨1024 + (h.val * 256 + e.val), by omega⟩ : Fin 2048)) := by
  after_reads_at

/-- The lines after the region find the result array as the region left it. -/
theorem array_exit (c : Dev nD) :
    Pipeline.withArrays spec0 c (V0 m c) (fun w => (dats m 0 c).arrAt w cfg0.N) (Proc.devRef .tc main_v5) = (dats m 0 c).arrAt 3 cfg0.N :=
  Pipeline.withArrays_arr spec0 launch0.win.arr_inj c (V0 m c) _ 3

/-- An index of an array in heads, by its coordinates. -/
theorem heads_index (i : S1x8x256x4x256.Idx) : ∃ (b : Fin 8) (l : Fin 256) (h : Fin 4) (e : Fin 256), i = ix5 0 b l h e :=
  ⟨i 1, i 2, i 3, i 4, (eq_ix5 i).trans (congrArg (ix5 · (i 1) (i 2) (i 3) (i 4)) (Subsingleton.elim (α := Fin 1) (i 0) 0))⟩

/-- The keys after the run are the reference's. -/
theorem keys_final (c : Dev nD) : Pipeline.afterTail₀ cfgs (dats m) 0 (V0 m) [hostOps1] c main_v9
    = Cert.MemKVRefIdeal.Read.val_main_v19 (m ((c : Thread nD τ).loc main_arg0)) (m ((c : Thread nD τ).loc main_arg1)) (m ((c : Thread nD τ).loc main_arg2)) := by
  funext i
  obtain ⟨b, l, h, e, rfl⟩ := heads_index i
  rw [Cert.MemKVRefIdeal.RefValue.keys_apply, ← final m c, ← array_exit m c]
  exact keys_tail _ b l h e

/-- The values after the run are the reference's. -/
theorem values_final (c : Dev nD) : Pipeline.afterTail₀ cfgs (dats m) 0 (V0 m) [hostOps1] c main_v12
    = Cert.MemKVRefIdeal.Read.val_main_v20 (m ((c : Thread nD τ).loc main_arg0)) (m ((c : Thread nD τ).loc main_arg1)) (m ((c : Thread nD τ).loc main_arg2)) := by
  funext i
  obtain ⟨b, l, h, e, rfl⟩ := heads_index i
  rw [Cert.MemKVRefIdeal.RefValue.values_apply, ← final m c, ← array_exit m c]
  exact values_tail _ b l h e

end Cert.MemKVIdeal.RefValue

end
-- ==== Proof.MemKV.Claims.lean ====
/-
  The value claim of the memory's projection: at the ideal instance the kernel's result array is the reference's.
-/
module

public import proofs.«01_k».proof.Defs
public import proofs.«01_k».proof.Proof.MemKV.Heads
public import proofs.«01_k».proof.Proof.Gen.MemKVRefIdeal.Run

@[expose] public section

noncomputable section

namespace Cert.Proof

open Idealize.ShloMosaic Idealize.SL.Sem

/-- Kernel and reference end with the same three arrays - the projection, and its keys and values in heads - from the same
    arguments. -/
theorem memkv_algebraic : Cert.algebraic_MemKVIdeal_MemKVRefIdeal
    (hMemKVIdeal := Cert.MemKVIdeal.Gen.facts) (hMemKVRefIdeal := Cert.MemKVRefIdeal.Gen.facts) :=
  fun m ρ m' ρ' _ hag =>
    ⟨fun c => Cert.MemKVRefIdeal.Read.val_main_v18 (m ((c.tc : Thread _ _).loc Cert.MemKVIdeal.main_arg0)) (m ((c.tc : Thread _ _).loc Cert.MemKVIdeal.main_arg1)) (m ((c.tc : Thread _ _).loc Cert.MemKVIdeal.main_arg2)),
      fun c => Cert.MemKVRefIdeal.Read.val_main_v19 (m ((c.tc : Thread _ _).loc Cert.MemKVIdeal.main_arg0)) (m ((c.tc : Thread _ _).loc Cert.MemKVIdeal.main_arg1)) (m ((c.tc : Thread _ _).loc Cert.MemKVIdeal.main_arg2)),
      fun c => Cert.MemKVRefIdeal.Read.val_main_v20 (m ((c.tc : Thread _ _).loc Cert.MemKVIdeal.main_arg0)) (m ((c.tc : Thread _ _).loc Cert.MemKVIdeal.main_arg1)) (m ((c.tc : Thread _ _).loc Cert.MemKVIdeal.main_arg2)),
      (θ_run _ _ _).mono (fun _ h c =>
          ⟨((h.1 c).1 3).trans (Cert.MemKVIdeal.RefValue.final m c),
            ((h.1 c).2 _ (Pipeline.mem_restRefs_of _ (by decide) (by decide))).trans (Cert.MemKVIdeal.RefValue.keys_final m c),
            ((h.1 c).2 _ (Pipeline.mem_restRefs_of _ (by decide) (by decide))).trans (Cert.MemKVIdeal.RefValue.values_final m c), h.2 c⟩)
        (θ_run_and (Cert.MemKVIdeal.Gen.run_main m ρ) (Cert.MemKVIdeal.Gen.unchanged m ρ)),
      (θ_run _ _ _).mono (fun _ h c =>
          ⟨((h c).1.trans (Cert.MemKVRefIdeal.Read.val_main_v18_eq _ _ _)).trans (by rw [(hag c).1, (hag c).2.1, (hag c).2.2]),
            ((h c).2.1.trans (Cert.MemKVRefIdeal.Read.val_main_v19_eq _ _ _)).trans (by rw [(hag c).1, (hag c).2.1, (hag c).2.2]),
            ((h c).2.2.1.trans (Cert.MemKVRefIdeal.Read.val_main_v20_eq _ _ _)).trans (by rw [(hag c).1, (hag c).2.1, (hag c).2.2]), (h c).2.2.2⟩)
        (Cert.MemKVRefIdeal.Value.run m' ρ')⟩

end Cert.Proof

end
-- ==== Proof.XQ.Block.lean ====
/-
  The query projection: what a point of the grid stores, read at an index.
-/
module

public import proofs.«01_k».proof.Proof.Gen.XQIdeal.Frame
public import proofs.«01_k».proof.Proof.Projection.Norm
public import proofs.«01_k».proof.Proof.Projection.Pick
public import Idealize.ShloMosaic.Lib.Pipeline.ValueKit
public import Idealize.ShloMosaic.Lib.Pipeline.ValueKit.Held
public import Idealize.ShloMosaic.Lib.StableHlo.ReadAt

@[expose] public section

set_option maxRecDepth 16384

noncomputable section

namespace Cert.XQIdeal.RefValue

open Cert.XQIdeal Cert.XQIdeal.Gen Idealize.ShloMosaic Idealize.ShloMosaic.TcCoe Projection

variable (m : (ℓ : Loc nD τ sig) → Buf (Elt Ideal) ℓ)

/-- The normalized rows that are written to the scratch. -/
theorem norm_apply (x : Vec Ideal S512x1024 .f32) (g : Vec Ideal S1x1024 .f32) (r : Fin 512) (j : Fin 1024) :
    k0_pay1 x g (ix2 r j) = normed (fun y => x (ix2 r y)) (fun y => g (ix2 0 y)) j := by
  pointwise [k0_pay1]
  rfl

/-- The product a point stores. -/
theorem product_apply (x : Vec Ideal S512x1024 .bf16) (w : Vec Ideal S1024x1024 .bf16) (r : Fin 512) (d : Fin 1024) :
    k0_pay2 x w (ix2 r d) = product (fun j => x (ix2 r j)) (fun j => w (ix2 j d)) := by
  pointwise [k0_pay2]
  rfl

/-- The block of the result at a point: the point's normalized rows times the weights. -/
theorem out_apply (c : Dev nD) (t : Fin cfg0.N) (r : Fin 512) (d : Fin 1024) : outsAt0 m c t (ix2 r d)
    = product (normed (fun y => (iblk m c 0 t : Vec Ideal S512x1024 .f32) (ix2 r y)) (fun y => (iblk m c 1 t : Vec Ideal S1x1024 .f32) (ix2 0 y)))
        (fun j => (iblk m c 2 t : Vec Ideal S1024x1024 .bf16) (ix2 j d)) := by
  unfold outsAt0
  frame_out
  refine (product_apply _ _ r d).trans (congrArg (fun z => product z _) (funext fun j => ?_))
  exact norm_apply _ _ r j

end Cert.XQIdeal.RefValue

end
-- ==== Proof.XQ.Reference.lean ====
/-
  The reference of the query projection read at an index: a normalized row times a column of the weights.
-/
module

public import proofs.«01_k».proof.Proof.Gen.XQRefIdeal.Read
public import proofs.«01_k».proof.Proof.Projection.Norm
public import proofs.«01_k».proof.Proof.Projection.Pick

@[expose] public section

set_option maxRecDepth 16384

noncomputable section

namespace Cert.XQRefIdeal.RefValue

open Cert.XQRefIdeal Cert.XQRefIdeal.Read Idealize.ShloMosaic Projection

variable (x : (⟨S17408x1024, .f32⟩ : BufTy).Contents (Elt Ideal)) (g : (⟨S1x1024, .f32⟩ : BufTy).Contents (Elt Ideal))
  (w : (⟨S1x1024x1024, .f32⟩ : BufTy).Contents (Elt Ideal))

/-- The normalized rows. -/
theorem norm_apply (n : Fin 17408) (j : Fin 1024) :
    val_main_v13 x g (ix2 n j) = normed (fun y => x (ix2 n y)) (fun y => g (ix2 0 y)) j := by
  rw [val_main_v13_apply, val_main_v10_apply, val_main_v12_apply, val_main_v11_apply, val_main_v0_apply, val_main_v9_apply,
    val_main_v8_apply, val_main_v7_apply, val_main_v6_apply, val_main_cst_1_apply, val_main_v5_apply, val_main_v4_apply,
    val_main_cst_0_apply, val_main_v3_apply, val_main_v2_apply, val_main_cst_apply]
  have hsum : ∀ k : Fin 1024, val_main_v1 x (idx_main_v2 (idx_main_v3 (idx_main_v9 (ix2 n j))) k) = x (ix2 n k) * x (ix2 n k) := fun k => by
    rw [show idx_main_v2 (idx_main_v3 (idx_main_v9 (ix2 n j))) k = ix2 n k from eq_ix2 _, val_main_v1_apply]
    rfl
  simp only [hsum]
  show x (ix2 n j) * Ideal.rsqrt (Ideal.div (Ideal.ofBits .f32 0x00000000#32 + _) _ + _) * g _ = _
  rw [Ideal.ofBits_zero_f32, zero_add]
  refine congrArg₂ (· * ·) rfl (congrArg g (funext fun r => ?_))
  match r with
  | ⟨0, _⟩ => rfl
  | ⟨1, _⟩ => exact Fin.ext (show j.val % 1024 = j.val by omega)

/-- The weights as a matrix. -/
theorem weight_apply (j d : Fin 1024) : val_main_v14 w (ix2 j d) = w (ix3 0 j d) := by
  rw [val_main_v14_apply]
  refine congrArg w (funext fun r => Fin.ext ?_)
  match r with
  | ⟨0, _⟩ => rfl
  | ⟨1, _⟩ => show (j.val * 1024 + d.val) / 1024 % 1024 = j.val; omega
  | ⟨2, _⟩ => show (j.val * 1024 + d.val) % 1024 = d.val; omega

/-- THE REFERENCE AT AN INDEX. -/
theorem ref_apply (n : Fin 17408) (d : Fin 1024) : val_main_v15 x g w (ix2 n d)
    = product (normed (fun y => x (ix2 n y)) (fun y => g (ix2 0 y))) (fun j => w (ix3 0 j d)) := by
  rw [val_main_v15_apply]
  refine Finset.sum_congr rfl fun j _ => ?_
  rw [show lidx_main_v15 (ix2 n d) j = ix2 n j from eq_ix2 _, show ridx_main_v15 (ix2 n d) j = ix2 j d from eq_ix2 _,
    norm_apply, weight_apply]

end Cert.XQRefIdeal.RefValue

end
-- ==== Proof.XQ.Array.lean ====
/-
  The query projection after the run: the result array, whole, and so the reference's array.
-/
module

public import proofs.«01_k».proof.Proof.Gen.XQIdeal.Value
public import proofs.«01_k».proof.Proof.XQ.Block
public import proofs.«01_k».proof.Proof.XQ.Reference
public import Idealize.ShloMosaic.Lib.Pipeline.ValueKit
public import Idealize.ShloMosaic.Lib.StableHlo.ReadAt

@[expose] public section

set_option maxRecDepth 16384

noncomputable section

namespace Cert.XQIdeal.RefValue

open Cert.XQIdeal Cert.XQIdeal.Gen Idealize.ShloMosaic Idealize.ShloMosaic.TcCoe Projection
open Idealize.ShloMosaic.Pipeline (Dat)

variable (m : (ℓ : Loc nD τ sig) → Buf (Elt Ideal) ℓ)

/-- Where the four windows' blocks lie at a point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The norm's gain as the region finds it. -/
theorem gain_apply (c : Dev nD) (j : Fin 1024) : V m c main_v3 (ix2 0 j) = m ((c : Thread nD τ).loc main_arg1) (ix2 0 j) := by
  unfold V
  after_reads_at

/-- The weights as the region finds them. -/
theorem weight_apply (c : Dev nD) (j : Fin 1024) (d : Fin 1024) : V m c main_v2 (ix2 j d) = m ((c : Thread nD τ).loc main_arg2) (ix3 0 j d) := by
  unfold V
  after_reads_at

/-- The rows as the region finds them. -/
theorem rows_apply (c : Dev nD) (n : Fin 17408) (j : Fin 1024) : V m c main_arg0 (ix2 n j) = m ((c : Thread nD τ).loc main_arg0) (ix2 n j) := by
  unfold V
  after_reads_at

/-- A point's block of the rows. -/
theorem x_apply (c : Dev nD) (t : Fin cfg0.N) (ht : t.val < 34) (r : Fin 512) (j : Fin 1024) :
    (iblk m c 0 t : Vec Ideal S512x1024 .f32) (ix2 r j) = V m c main_arg0 (ix2 (⟨t.val * 512 + r.val, by omega⟩ : Fin 17408) j) := by
  blk_ext [iblk, idx t]

/-- A point's block of the gain is the whole of it. -/
theorem g_apply (c : Dev nD) (t : Fin cfg0.N) (j : Fin 1024) :
    (iblk m c 1 t : Vec Ideal S1x1024 .f32) (ix2 0 j) = V m c main_v3 (ix2 0 j) := by
  blk_ext [iblk, idx t]

/-- A point's block of the weights is the whole of them. -/
theorem w_apply (c : Dev nD) (t : Fin cfg0.N) (j : Fin 1024) (d : Fin 1024) :
    (iblk m c 2 t : Vec Ideal S1024x1024 .bf16) (ix2 j d) = V m c main_v2 (ix2 j d) := by
  blk_ext [iblk, idx t]

/-- The result array after the run is the reference's. -/
theorem final (c : Dev nD) : (dats m 0 c).arrAt 3 cfg0.N
    = Cert.XQRefIdeal.Read.val_main_v15 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht : t.val < 34 := lt_of_lt_of_eq t.isLt N_0
  obtain ⟨y0, y1, rfl⟩ : ∃ (y0 : Fin 512) (y1 : Fin 1024), y = ix2 y0 y1 := ⟨y 0, y 1, eq_ix2 y⟩
  rw [after0_3, out_apply]
  have e : (win0_3.blk t).view.emb (ix2 y0 y1) = ix2 (⟨t.val * 512 + y0.val, by omega⟩ : Fin 17408) y1 := by
    blk_ext [idx t]
  refine Eq.trans ?_ (congrArg _ e.symm)
  rw [Cert.XQRefIdeal.RefValue.ref_apply]
  refine congrArg₂ product (congrArg₂ normed (funext fun j => ?_) (funext fun j => ?_)) (funext fun j => ?_)
  · exact (x_apply m c t ht y0 j).trans (rows_apply m c _ j)
  · exact (g_apply m c t j).trans (gain_apply m c j)
  · exact (w_apply m c t j y1).trans (weight_apply m c j y1)

end Cert.XQIdeal.RefValue

end
-- ==== Proof.XQ.Claims.lean ====
/-
  The value claim of the query projection: at the ideal instance the kernel's result array is the reference's.
-/
module

public import proofs.«01_k».proof.Defs
public import proofs.«01_k».proof.Proof.XQ.Array
public import proofs.«01_k».proof.Proof.Gen.XQRefIdeal.Run

@[expose] public section

noncomputable section

namespace Cert.Proof

open Idealize.ShloMosaic Idealize.SL.Sem

/-- Kernel and reference end with the same array, from the same arguments. -/
theorem xq_algebraic : Cert.algebraic_XQIdeal_XQRefIdeal
    (hXQIdeal := Cert.XQIdeal.Gen.facts) (hXQRefIdeal := Cert.XQRefIdeal.Gen.facts) :=
  fun m ρ m' ρ' _ hag =>
    ⟨fun c => Cert.XQRefIdeal.Read.val_main_v15 (m ((c.tc : Thread _ _).loc Cert.XQIdeal.main_arg0)) (m ((c.tc : Thread _ _).loc Cert.XQIdeal.main_arg1)) (m ((c.tc : Thread _ _).loc Cert.XQIdeal.main_arg2)),
      (θ_run _ _ _).mono (fun _ h c => ⟨(h c).1.trans (Cert.XQIdeal.RefValue.final m c), (h c).2⟩)
        (Cert.XQIdeal.Value.run_blocks m ρ),
      (θ_run _ _ _).mono (fun _ h c => ⟨((h c).1.trans (Cert.XQRefIdeal.Read.val_main_v15_eq _ _ _)).trans
          (by rw [(hag c).1, (hag c).2.1, (hag c).2.2]), (h c).2⟩)
        (Cert.XQRefIdeal.Value.run m' ρ')⟩

end Cert.Proof

end
-- ==== Proof.MixOut.Block.lean ====
/-
  The mixers' output projection: what a point of the grid stores, read at an index.
-/
module

public import proofs.«01_k».proof.Proof.Gen.MixOutIdeal.Frame
public import proofs.«01_k».proof.Proof.Projection.Norm
public import proofs.«01_k».proof.Proof.Projection.Pick
public import Idealize.ShloMosaic.Lib.Pipeline.ValueKit
public import Idealize.ShloMosaic.Lib.Pipeline.ValueKit.Held
public import Idealize.ShloMosaic.Lib.StableHlo.ReadAt

@[expose] public section

set_option maxRecDepth 16384

noncomputable section

namespace Cert.MixOutIdeal.RefValue

open Cert.MixOutIdeal Cert.MixOutIdeal.Gen Idealize.ShloMosaic Idealize.ShloMosaic.TcCoe Projection

variable (m : (ℓ : Loc nD τ sig) → Buf (Elt Ideal) ℓ)

/-- The stored value: the residual plus the two chosen rows times the two halves of the weights. -/
theorem pay_apply (i : grid0.Coords) (a b a' b' : Vec Ideal S512x1024 .f32) (w w' : Vec Ideal S1024x1024 .bf16)
    (x y : Vec Ideal S512x1024 .f32) (r : Fin 512) (d : Fin 1024) :
    k0_pay1 i a b a' b' w w' x y (ix2 r d) = (if (i 0).val < 32 then x (ix2 r d) else y (ix2 r d))
      + (product (fun j => if (i 0).val < 32 then a (ix2 r j) else b (ix2 r j)) (fun j => w (ix2 j d))
        + product (fun j => if (i 0).val < 32 then a' (ix2 r j) else b' (ix2 r j)) (fun j => w' (ix2 j d))) := by
  have hs : ∀ x y : EReal, Scalar.select (Scalar.cmpi .slt (BitVec.ofNat 32 (i 0).val) 32#32) x y = if (i 0).val < 32 then x else y := pick (i 0)
  unfold k0_pay1
  pointwise
  simp only [hs]
  rfl

/-- The block of the result at a point. -/
theorem out_apply (i : grid0.Coords) (a b a' b' : Vec Ideal S512x1024 .f32) (w w' : Vec Ideal S1024x1024 .bf16)
    (x y : Vec Ideal S512x1024 .f32) (r : Fin 512) (d : Fin 1024) :
    out0_8 i a b a' b' w w' x y (ix2 r d) = (if (i 0).val < 32 then x (ix2 r d) else y (ix2 r d))
      + (product (fun j => if (i 0).val < 32 then a (ix2 r j) else b (ix2 r j)) (fun j => w (ix2 j d))
        + product (fun j => if (i 0).val < 32 then a' (ix2 r j) else b' (ix2 r j)) (fun j => w' (ix2 j d))) := by
  unfold out0_8
  frame_out
  exact pay_apply i a b a' b' w w' x y r d

/-- A point's grid coordinate is its row tile. -/
theorem coord : ∀ t : Fin cfg0.N, (grid0.coords t 0).val = t.val :=
  (by decide +kernel : ∀ t : Fin grid0.N, _)

end Cert.MixOutIdeal.RefValue

end
-- ==== Proof.MixOut.Reference.lean ====
/-
  The reference of the mixers' output projection read at an index: the residual plus the two mixers' rows, beside each other,
  times a column of the weights.
-/
module

public import proofs.«01_k».proof.Proof.Gen.MixOutRefIdeal.Read
public import proofs.«01_k».proof.Proof.Projection.Norm
public import proofs.«01_k».proof.Proof.Projection.Pick

@[expose] public section

set_option maxRecDepth 16384

noncomputable section

namespace Cert.MixOutRefIdeal.RefValue

open Cert.MixOutRefIdeal Cert.MixOutRefIdeal.Read Idealize.ShloMosaic Projection

variable (dp : (⟨S8x32x64x1024, .f32⟩ : BufTy).Contents (Elt Ideal)) (ds : (⟨S128x1x8x1024, .f32⟩ : BufTy).Contents (Elt Ideal))
  (sp : (⟨S8x32x64x1024, .f32⟩ : BufTy).Contents (Elt Ideal)) (ss : (⟨S128x1x8x1024, .f32⟩ : BufTy).Contents (Elt Ideal))
  (w : (⟨S1x2048x1024, .f32⟩ : BufTy).Contents (Elt Ideal)) (xp : (⟨S8x2048x1024, .f32⟩ : BufTy).Contents (Elt Ideal))
  (xs : (⟨S128x8x1024, .f32⟩ : BufTy).Contents (Elt Ideal))

/-- Row `n` of a mixer's two groups one after the other: the prompt's 16384 rows, then the sample's 1024. -/
def mixOf (p : (⟨S8x32x64x1024, .f32⟩ : BufTy).Contents (Elt Ideal)) (s : (⟨S128x1x8x1024, .f32⟩ : BufTy).Contents (Elt Ideal))
    (n : Fin 17408) (j : Fin 1024) : EReal :=
  if h : n.val < 16384 then p (ix4 (⟨n.val / 2048, by omega⟩ : Fin 8) (⟨n.val % 2048 / 64, by omega⟩ : Fin 32) (⟨n.val % 2048 % 64, by omega⟩ : Fin 64) j)
  else s (ix4 (⟨(n.val - 16384) / 8, by omega⟩ : Fin 128) 0 (⟨(n.val - 16384) % 8, by omega⟩ : Fin 8) j)

/-- Row `n` of the residual's two groups one after the other. -/
def rowOf (n : Fin 17408) (j : Fin 1024) : EReal :=
  if h : n.val < 16384 then xp (ix3 (⟨n.val / 2048, by omega⟩ : Fin 8) (⟨n.val % 2048, by omega⟩ : Fin 2048) j)
  else xs (ix3 (⟨(n.val - 16384) / 8, by omega⟩ : Fin 128) (⟨(n.val - 16384) % 8, by omega⟩ : Fin 8) j)

/-- The prompt's two outputs beside each other, read at an index of the first half … -/
theorem prompt_low (b : Fin 8) (l : Fin 2048) (j : Fin 1024) :
    val_main_v2 dp sp (ix3 b l (⟨j.val, by omega⟩ : Fin 2048)) = dp (ix4 b (⟨l.val / 64, by omega⟩ : Fin 32) (⟨l.val % 64, by omega⟩ : Fin 64) j) := by
  have h : val_main_v0 dp (ix3 b l j) = dp (ix4 b (⟨l.val / 64, by omega⟩ : Fin 32) (⟨l.val % 64, by omega⟩ : Fin 64) j) := by
    rw [val_main_v0_apply]
    refine congrArg dp (funext fun r => Fin.ext ?_)
    match r with
    | ⟨0, _⟩ => show ((b.val * 2048 + l.val) * 1024 + j.val) / 2097152 = b.val; omega
    | ⟨1, _⟩ => show ((b.val * 2048 + l.val) * 1024 + j.val) / 65536 % 32 = l.val / 64; omega
    | ⟨2, _⟩ => show ((b.val * 2048 + l.val) * 1024 + j.val) / 1024 % 64 = l.val % 64; omega
    | ⟨3, _⟩ => show ((b.val * 2048 + l.val) * 1024 + j.val) % 1024 = j.val; omega
  unfold val_main_v2
  generalize val_main_v0 dp = ya at h
  generalize val_main_v1 sp = yb
  pointwise
  exact h

/-- … and of the second. -/
theorem prompt_high (b : Fin 8) (l : Fin 2048) (j : Fin 1024) :
    val_main_v2 dp sp (ix3 b l (⟨1024 + j.val, by omega⟩ : Fin 2048)) = sp (ix4 b (⟨l.val / 64, by omega⟩ : Fin 32) (⟨l.val % 64, by omega⟩ : Fin 64) j) := by
  have h : val_main_v1 sp (ix3 b l j) = sp (ix4 b (⟨l.val / 64, by omega⟩ : Fin 32) (⟨l.val % 64, by omega⟩ : Fin 64) j) := by
    rw [val_main_v1_apply]
    refine congrArg sp (funext fun r => Fin.ext ?_)
    match r with
    | ⟨0, _⟩ => show ((b.val * 2048 + l.val) * 1024 + j.val) / 2097152 = b.val; omega
    | ⟨1, _⟩ => show ((b.val * 2048 + l.val) * 1024 + j.val) / 65536 % 32 = l.val / 64; omega
    | ⟨2, _⟩ => show ((b.val * 2048 + l.val) * 1024 + j.val) / 1024 % 64 = l.val % 64; omega
    | ⟨3, _⟩ => show ((b.val * 2048 + l.val) * 1024 + j.val) % 1024 = j.val; omega
  unfold val_main_v2
  generalize val_main_v0 dp = ya
  generalize val_main_v1 sp = yb at h
  pointwise
  exact h

/-- The weights as a matrix. -/
theorem prompt_weight (j : Fin 2048) (d : Fin 1024) : val_main_v3 w (ix2 j d) = w (ix3 0 j d) := by
  rw [val_main_v3_apply]
  refine congrArg w (funext fun r => Fin.ext ?_)
  match r with
  | ⟨0, _⟩ => rfl
  | ⟨1, _⟩ => show (j.val * 1024 + d.val) / 1024 % 2048 = j.val; omega
  | ⟨2, _⟩ => show (j.val * 1024 + d.val) % 1024 = d.val; omega

/-- The prompt's result. -/
theorem prompt_apply (b : Fin 8) (l : Fin 2048) (d : Fin 1024) : val_main_v5 dp sp w xp (ix3 b l d)
    = xp (ix3 b l d) + (product (fun j => dp (ix4 b (⟨l.val / 64, by omega⟩ : Fin 32) (⟨l.val % 64, by omega⟩ : Fin 64) j)) (fun j => w (ix3 0 (⟨j.val, by omega⟩ : Fin 2048) d))
      + product (fun j => sp (ix4 b (⟨l.val / 64, by omega⟩ : Fin 32) (⟨l.val % 64, by omega⟩ : Fin 64) j)) (fun j => w (ix3 0 (⟨1024 + j.val, by omega⟩ : Fin 2048) d))) := by
  rw [val_main_v5_apply, val_main_v4_apply, sum_halves]
  refine congrArg (xp (ix3 b l d) + ·) (congrArg₂ (· + ·) (Finset.sum_congr rfl fun j _ => ?_) (Finset.sum_congr rfl fun j _ => ?_))
  · rw [show lidx_main_v4 (ix3 b l d) (⟨j.val, by omega⟩ : Fin 2048) = ix3 b l (⟨j.val, by omega⟩ : Fin 2048) from eq_ix3 _,
      show ridx_main_v4 (ix3 b l d) (⟨j.val, by omega⟩ : Fin 2048) = ix2 (⟨j.val, by omega⟩ : Fin 2048) d from eq_ix2 _,
      prompt_low, prompt_weight]
  · rw [show lidx_main_v4 (ix3 b l d) (⟨1024 + j.val, by omega⟩ : Fin 2048) = ix3 b l (⟨1024 + j.val, by omega⟩ : Fin 2048) from eq_ix3 _,
      show ridx_main_v4 (ix3 b l d) (⟨1024 + j.val, by omega⟩ : Fin 2048) = ix2 (⟨1024 + j.val, by omega⟩ : Fin 2048) d from eq_ix2 _,
      prompt_high, prompt_weight]

/-- The sample's two outputs beside each other, read at an index of the first half … -/
theorem sample_low (b : Fin 128) (l : Fin 8) (j : Fin 1024) :
    val_main_v8 ds ss (ix3 b l (⟨j.val, by omega⟩ : Fin 2048)) = ds (ix4 b 0 l j) := by
  have h : val_main_v6 ds (ix3 b l j) = ds (ix4 b 0 l j) := by
    rw [val_main_v6_apply]
    refine congrArg ds (funext fun r => Fin.ext ?_)
    match r with
    | ⟨0, _⟩ => show ((b.val * 8 + l.val) * 1024 + j.val) / 8192 = b.val; omega
    | ⟨1, _⟩ => rfl
    | ⟨2, _⟩ => show ((b.val * 8 + l.val) * 1024 + j.val) / 1024 % 8 = l.val; omega
    | ⟨3, _⟩ => show ((b.val * 8 + l.val) * 1024 + j.val) % 1024 = j.val; omega
  unfold val_main_v8
  generalize val_main_v6 ds = ya at h
  generalize val_main_v7 ss = yb
  pointwise
  exact h

/-- … and of the second. -/
theorem sample_high (b : Fin 128) (l : Fin 8) (j : Fin 1024) :
    val_main_v8 ds ss (ix3 b l (⟨1024 + j.val, by omega⟩ : Fin 2048)) = ss (ix4 b 0 l j) := by
  have h : val_main_v7 ss (ix3 b l j) = ss (ix4 b 0 l j) := by
    rw [val_main_v7_apply]
    refine congrArg ss (funext fun r => Fin.ext ?_)
    match r with
    | ⟨0, _⟩ => show ((b.val * 8 + l.val) * 1024 + j.val) / 8192 = b.val; omega
    | ⟨1, _⟩ => rfl
    | ⟨2, _⟩ => show ((b.val * 8 + l.val) * 1024 + j.val) / 1024 % 8 = l.val; omega
    | ⟨3, _⟩ => show ((b.val * 8 + l.val) * 1024 + j.val) % 1024 = j.val; omega
  unfold val_main_v8
  generalize val_main_v6 ds = ya
  generalize val_main_v7 ss = yb at h
  pointwise
  exact h

/-- The weights as a matrix. -/
theorem sample_weight (j : Fin 2048) (d : Fin 1024) : val_main_v9 w (ix2 j d) = w (ix3 0 j d) := by
  rw [val_main_v9_apply]
  refine congrArg w (funext fun r => Fin.ext ?_)
  match r with
  | ⟨0, _⟩ => rfl
  | ⟨1, _⟩ => show (j.val * 1024 + d.val) / 1024 % 2048 = j.val; omega
  | ⟨2, _⟩ => show (j.val * 1024 + d.val) % 1024 = d.val; omega

/-- The sample's result. -/
theorem sample_apply (b : Fin 128) (l : Fin 8) (d : Fin 1024) : val_main_v11 ds ss w xs (ix3 b l d)
    = xs (ix3 b l d) + (product (fun j => ds (ix4 b 0 l j)) (fun j => w (ix3 0 (⟨j.val, by omega⟩ : Fin 2048) d))
      + product (fun j => ss (ix4 b 0 l j)) (fun j => w (ix3 0 (⟨1024 + j.val, by omega⟩ : Fin 2048) d))) := by
  rw [val_main_v11_apply, val_main_v10_apply, sum_halves]
  refine congrArg (xs (ix3 b l d) + ·) (congrArg₂ (· + ·) (Finset.sum_congr rfl fun j _ => ?_) (Finset.sum_congr rfl fun j _ => ?_))
  · rw [show lidx_main_v10 (ix3 b l d) (⟨j.val, by omega⟩ : Fin 2048) = ix3 b l (⟨j.val, by omega⟩ : Fin 2048) from eq_ix3 _,
      show ridx_main_v10 (ix3 b l d) (⟨j.val, by omega⟩ : Fin 2048) = ix2 (⟨j.val, by omega⟩ : Fin 2048) d from eq_ix2 _,
      sample_low, sample_weight]
  · rw [show lidx_main_v10 (ix3 b l d) (⟨1024 + j.val, by omega⟩ : Fin 2048) = ix3 b l (⟨1024 + j.val, by omega⟩ : Fin 2048) from eq_ix3 _,
      show ridx_main_v10 (ix3 b l d) (⟨1024 + j.val, by omega⟩ : Fin 2048) = ix2 (⟨1024 + j.val, by omega⟩ : Fin 2048) d from eq_ix2 _,
      sample_high, sample_weight]

/-- THE REFERENCE AT AN INDEX. -/
theorem ref_apply (n : Fin 17408) (d : Fin 1024) : val_main_v14 dp ds sp ss w xp xs (ix2 n d)
    = rowOf xp xs n d + (product (mixOf dp ds n) (fun j => w (ix3 0 (⟨j.val, by omega⟩ : Fin 2048) d))
      + product (mixOf sp ss n) (fun j => w (ix3 0 (⟨1024 + j.val, by omega⟩ : Fin 2048) d))) := by
  have hp : ∀ n : Fin 16384, val_main_v12 dp sp w xp (ix2 n d)
      = val_main_v5 dp sp w xp (ix3 (⟨n.val / 2048, by omega⟩ : Fin 8) (⟨n.val % 2048, by omega⟩ : Fin 2048) d) := fun n => by
    rw [val_main_v12_apply]
    refine congrArg (val_main_v5 dp sp w xp) (funext fun r => Fin.ext ?_)
    match r with
    | ⟨0, _⟩ => show (n.val * 1024 + d.val) / 2097152 = n.val / 2048; omega
    | ⟨1, _⟩ => show (n.val * 1024 + d.val) / 1024 % 2048 = n.val % 2048; omega
    | ⟨2, _⟩ => show (n.val * 1024 + d.val) % 1024 = d.val; omega
  have hs : ∀ n : Fin 1024, val_main_v13 ds ss w xs (ix2 n d)
      = val_main_v11 ds ss w xs (ix3 (⟨n.val / 8, by omega⟩ : Fin 128) (⟨n.val % 8, by omega⟩ : Fin 8) d) := fun n => by
    rw [val_main_v13_apply]
    refine congrArg (val_main_v11 ds ss w xs) (funext fun r => Fin.ext ?_)
    match r with
    | ⟨0, _⟩ => show (n.val * 1024 + d.val) / 8192 = n.val / 8; omega
    | ⟨1, _⟩ => show (n.val * 1024 + d.val) / 1024 % 8 = n.val % 8; omega
    | ⟨2, _⟩ => show (n.val * 1024 + d.val) % 1024 = d.val; omega
  simp only [prompt_apply] at hp
  simp only [sample_apply] at hs
  unfold val_main_v14
  generalize val_main_v12 dp sp w xp = yp at hp
  generalize val_main_v13 ds ss w xs = ys at hs
  pointwise
  by_cases h : n.val < 16384
  · have ex : ∀ j, rowOf xp xs n j = _ := fun j => dif_pos h
    have ed : ∀ p s, mixOf p s n = _ := fun p s => funext fun j => dif_pos h
    rw [dif_pos h, hp, ex, ed, ed]
  · have ex : ∀ j, rowOf xp xs n j = _ := fun j => dif_neg h
    have ed : ∀ p s, mixOf p s n = _ := fun p s => funext fun j => dif_neg h
    rw [dif_neg h, hs, ex, ed, ed]

end Cert.MixOutRefIdeal.RefValue

end
-- ==== Proof.MixOut.Array.lean ====
/-
  The mixers' output projection after the run: the result array, whole, and so the reference's array.
-/
module

public import proofs.«01_k».proof.Proof.Gen.MixOutIdeal.Value
public import proofs.«01_k».proof.Proof.MixOut.Block
public import proofs.«01_k».proof.Proof.MixOut.Reference
public import Idealize.ShloMosaic.Lib.Pipeline.ValueKit
public import Idealize.ShloMosaic.Lib.StableHlo.ReadAt

@[expose] public section

set_option maxRecDepth 16384

noncomputable section

namespace Cert.MixOutIdeal.RefValue

open Cert.MixOutIdeal Cert.MixOutIdeal.Gen Idealize.ShloMosaic Idealize.ShloMosaic.TcCoe Projection
open Cert.MixOutRefIdeal.RefValue (mixOf rowOf)
open Idealize.ShloMosaic.Pipeline (Dat)

variable (m : (ℓ : Loc nD τ sig) → Buf (Elt Ideal) ℓ)

/-- Where the nine windows' blocks lie at a point. -/
theorem idx : ∀ t : Fin cfg0.N, win0_0.index t = ![min t.val 31, 0] ∧ win0_1.index t = ![t.val - 32, 0]
    ∧ win0_2.index t = ![min t.val 31, 0] ∧ win0_3.index t = ![t.val - 32, 0] ∧ win0_4.index t = ![0, 0] ∧ win0_5.index t = ![0, 0]
    ∧ win0_6.index t = ![min t.val 31, 0] ∧ win0_7.index t = ![t.val - 32, 0] ∧ win0_8.index t = ![t.val, 0] :=
  (by decide +kernel : ∀ t : Fin grid0.N, _)

/-- The first mixer's prompt rows as the region finds them. -/
theorem dp_entry (c : Dev nD) (n : Fin 16384) (j : Fin 1024) : V m c main_v4 (ix2 n j) = m ((c : Thread nD τ).loc main_arg0) (ix4 (⟨n.val / 2048, by omega⟩ : Fin 8) (⟨n.val % 2048 / 64, by omega⟩ : Fin 32) (⟨n.val % 2048 % 64, by omega⟩ : Fin 64) j) := by
  unfold V
  after_reads_at
  refine congrArg (m ((c : Thread nD τ).loc main_arg0)) (congrArg₂ (ix4 (⟨n.val / 2048, by omega⟩ : Fin 8) · · j) (Fin.ext ?_) (Fin.ext ?_))
  · show n.val / 64 % 32 = n.val % 2048 / 64
    omega
  · show n.val % 64 = n.val % 2048 % 64
    omega

/-- The first mixer's sample rows as the region finds them. -/
theorem ds_entry (c : Dev nD) (n : Fin 1024) (j : Fin 1024) : V m c main_v5 (ix2 n j) = m ((c : Thread nD τ).loc main_arg1) (ix4 (⟨n.val / 8, by omega⟩ : Fin 128) 0 (⟨n.val % 8, by omega⟩ : Fin 8) j) := by
  unfold V
  after_reads_at

/-- The second mixer's prompt rows as the region finds them. -/
theorem sp_entry (c : Dev nD) (n : Fin 16384) (j : Fin 1024) : V m c main_v6 (ix2 n j) = m ((c : Thread nD τ).loc main_arg2) (ix4 (⟨n.val / 2048, by omega⟩ : Fin 8) (⟨n.val % 2048 / 64, by omega⟩ : Fin 32) (⟨n.val % 2048 % 64, by omega⟩ : Fin 64) j) := by
  unfold V
  after_reads_at
  refine congrArg (m ((c : Thread nD τ).loc main_arg2)) (congrArg₂ (ix4 (⟨n.val / 2048, by omega⟩ : Fin 8) · · j) (Fin.ext ?_) (Fin.ext ?_))
  · show n.val / 64 % 32 = n.val % 2048 / 64
    omega
  · show n.val % 64 = n.val % 2048 % 64
    omega

/-- The second mixer's sample rows as the region finds them. -/
theorem ss_entry (c : Dev nD) (n : Fin 1024) (j : Fin 1024) : V m c main_v7 (ix2 n j) = m ((c : Thread nD τ).loc main_arg3) (ix4 (⟨n.val / 8, by omega⟩ : Fin 128) 0 (⟨n.val % 8, by omega⟩ : Fin 8) j) := by
  unfold V
  after_reads_at

/-- The first half of the weights as the region finds it. -/
theorem w1_entry (c : Dev nD) (j : Fin 1024) (d : Fin 1024) : V m c main_v8 (ix2 j d) = m ((c : Thread nD τ).loc main_arg4) (ix3 0 (⟨j.val, by omega⟩ : Fin 2048) d) := by
  unfold V
  after_reads_at

/-- The second half of the weights as the region finds it. -/
theorem w2_entry (c : Dev nD) (j : Fin 1024) (d : Fin 1024) : V m c main_v9 (ix2 j d) = m ((c : Thread nD τ).loc main_arg4) (ix3 0 (⟨1024 + j.val, by omega⟩ : Fin 2048) d) := by
  unfold V
  after_reads_at

/-- The prompt's residual as the region finds it. -/
theorem xp_entry (c : Dev nD) (n : Fin 16384) (j : Fin 1024) : V m c main_v0 (ix2 n j) = m ((c : Thread nD τ).loc main_arg5) (ix3 (⟨n.val / 2048, by omega⟩ : Fin 8) (⟨n.val % 2048, by omega⟩ : Fin 2048) j) := by
  unfold V
  after_reads_at

/-- The sample's residual as the region finds it. -/
theorem xs_entry (c : Dev nD) (n : Fin 1024) (j : Fin 1024) : V m c main_v1 (ix2 n j) = m ((c : Thread nD τ).loc main_arg6) (ix3 (⟨n.val / 8, by omega⟩ : Fin 128) (⟨n.val % 8, by omega⟩ : Fin 8) j) := by
  unfold V
  after_reads_at

/-- A point's block of a prompt's rows. -/
theorem dp_apply (c : Dev nD) (t : Fin cfg0.N) (r : Fin 512) (j : Fin 1024) :
    (iblk m c 0 t : Vec Ideal S512x1024 .f32) (ix2 r j) = V m c main_v4 (ix2 (⟨min t.val 31 * 512 + r.val, by omega⟩ : Fin 16384) j) := by
  blk_ext [iblk, idx t]

/-- A point's block of a prompt's rows. -/
theorem sp_apply (c : Dev nD) (t : Fin cfg0.N) (r : Fin 512) (j : Fin 1024) :
    (iblk m c 2 t : Vec Ideal S512x1024 .f32) (ix2 r j) = V m c main_v6 (ix2 (⟨min t.val 31 * 512 + r.val, by omega⟩ : Fin 16384) j) := by
  blk_ext [iblk, idx t]

/-- A point's block of a prompt's rows. -/
theorem xp_apply (c : Dev nD) (t : Fin cfg0.N) (r : Fin 512) (j : Fin 1024) :
    (iblk m c 6 t : Vec Ideal S512x1024 .f32) (ix2 r j) = V m c main_v0 (ix2 (⟨min t.val 31 * 512 + r.val, by omega⟩ : Fin 16384) j) := by
  blk_ext [iblk, idx t]

/-- A point's block of a sample's rows. -/
theorem ds_apply (c : Dev nD) (t : Fin cfg0.N) (ht : t.val < 34) (r : Fin 512) (j : Fin 1024) :
    (iblk m c 1 t : Vec Ideal S512x1024 .f32) (ix2 r j) = V m c main_v5 (ix2 (⟨(t.val - 32) * 512 + r.val, by omega⟩ : Fin 1024) j) := by
  blk_ext [iblk, idx t]

/-- A point's block of a sample's rows. -/
theorem ss_apply (c : Dev nD) (t : Fin cfg0.N) (ht : t.val < 34) (r : Fin 512) (j : Fin 1024) :
    (iblk m c 3 t : Vec Ideal S512x1024 .f32) (ix2 r j) = V m c main_v7 (ix2 (⟨(t.val - 32) * 512 + r.val, by omega⟩ : Fin 1024) j) := by
  blk_ext [iblk, idx t]

/-- A point's block of a sample's rows. -/
theorem xs_apply (c : Dev nD) (t : Fin cfg0.N) (ht : t.val < 34) (r : Fin 512) (j : Fin 1024) :
    (iblk m c 7 t : Vec Ideal S512x1024 .f32) (ix2 r j) = V m c main_v1 (ix2 (⟨(t.val - 32) * 512 + r.val, by omega⟩ : Fin 1024) j) := by
  blk_ext [iblk, idx t]

/-- A point's block of a half of the weights is the whole of it. -/
theorem w1_apply (c : Dev nD) (t : Fin cfg0.N) (j : Fin 1024) (d : Fin 1024) :
    (iblk m c 4 t : Vec Ideal S1024x1024 .bf16) (ix2 j d) = V m c main_v8 (ix2 j d) := by
  blk_ext [iblk, idx t]

/-- A point's block of a half of the weights is the whole of it. -/
theorem w2_apply (c : Dev nD) (t : Fin cfg0.N) (j : Fin 1024) (d : Fin 1024) :
    (iblk m c 5 t : Vec Ideal S1024x1024 .bf16) (ix2 j d) = V m c main_v9 (ix2 j d) := by
  blk_ext [iblk, idx t]

/-- A mixer's row of a point: the chosen one is the row of the two groups one after the other. -/
theorem mix_row (c : Dev nD) (t : Fin cfg0.N) (ht : t.val < 34) (r : Fin 512) (P : Vec Ideal S16384x1024 .f32) (S : Vec Ideal S1024x1024 .f32)
    (p : (⟨S8x32x64x1024, .f32⟩ : BufTy).Contents (Elt Ideal)) (s : (⟨S128x1x8x1024, .f32⟩ : BufTy).Contents (Elt Ideal))
    (hP : ∀ (n : Fin 16384) (j : Fin 1024), P (ix2 n j) = p (ix4 (⟨n.val / 2048, by omega⟩ : Fin 8) (⟨n.val % 2048 / 64, by omega⟩ : Fin 32) (⟨n.val % 2048 % 64, by omega⟩ : Fin 64) j))
    (hS : ∀ (n : Fin 1024) (j : Fin 1024), S (ix2 n j) = s (ix4 (⟨n.val / 8, by omega⟩ : Fin 128) 0 (⟨n.val % 8, by omega⟩ : Fin 8) j)) (j : Fin 1024) :
    (if (grid0.coords t 0).val < 32 then P (ix2 (⟨min t.val 31 * 512 + r.val, by omega⟩ : Fin 16384) j)
      else S (ix2 (⟨(t.val - 32) * 512 + r.val, by omega⟩ : Fin 1024) j))
      = mixOf p s ⟨t.val * 512 + r.val, by omega⟩ j := by
  rw [coord]
  unfold mixOf
  by_cases h : t.val < 32
  · rw [if_pos h, dif_pos (show t.val * 512 + r.val < 16384 by omega), hP]
    have e : min t.val 31 * 512 + r.val = t.val * 512 + r.val := by omega
    exact congrArg p (by simp only [e])
  · rw [if_neg h, dif_neg (show ¬ t.val * 512 + r.val < 16384 by omega), hS]
    have e : (t.val - 32) * 512 + r.val = t.val * 512 + r.val - 16384 := by omega
    exact congrArg s (by simp only [e])

/-- The result array after the run is the reference's. -/
theorem final (c : Dev nD) : (dats m 0 c).arrAt 8 cfg0.N
    = Cert.MixOutRefIdeal.Read.val_main_v14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  have ht : t.val < 34 := lt_of_lt_of_eq t.isLt N_0
  obtain ⟨y0, y1, rfl⟩ : ∃ (y0 : Fin 512) (y1 : Fin 1024), y = ix2 y0 y1 := ⟨y 0, y 1, eq_ix2 y⟩
  rw [after0_8, out_apply]
  have e : (win0_8.blk t).view.emb (ix2 y0 y1) = ix2 (⟨t.val * 512 + y0.val, by omega⟩ : Fin 17408) y1 := by
    blk_ext [idx t]
  refine Eq.trans ?_ (congrArg _ e.symm)
  rw [Cert.MixOutRefIdeal.RefValue.ref_apply]
  refine congrArg₂ (· + ·) ?_ (congrArg₂ (· + ·) (congrArg₂ product (funext fun j => ?_) (funext fun j => ?_)) (congrArg₂ product (funext fun j => ?_) (funext fun j => ?_)))
  · rw [coord]
    unfold rowOf
    by_cases h : t.val < 32
    · rw [if_pos h, dif_pos (show t.val * 512 + y0.val < 16384 by omega), xp_apply, xp_entry]
      have e : min t.val 31 * 512 + y0.val = t.val * 512 + y0.val := by omega
      exact congrArg (m ((c : Thread nD τ).loc main_arg5)) (by simp only [e])
    · rw [if_neg h, dif_neg (show ¬ t.val * 512 + y0.val < 16384 by omega), xs_apply m c t ht, xs_entry]
      have e : (t.val - 32) * 512 + y0.val = t.val * 512 + y0.val - 16384 := by omega
      exact congrArg (m ((c : Thread nD τ).loc main_arg6)) (by simp only [e])
  · rw [dp_apply, ds_apply m c t ht]
    exact mix_row c t ht y0 _ _ _ _ (dp_entry m c) (ds_entry m c) j
  · exact (w1_apply m c t j y1).trans (w1_entry m c j y1)
  · rw [sp_apply, ss_apply m c t ht]
    exact mix_row c t ht y0 _ _ _ _ (sp_entry m c) (ss_entry m c) j
  · exact (w2_apply m c t j y1).trans (w2_entry m c j y1)

end Cert.MixOutIdeal.RefValue

end
-- ==== Proof.MixOut.Claims.lean ====
/-
  The value claim of the mixers' output projection: at the ideal instance the kernel's result array is the reference's.
-/
module

public import proofs.«01_k».proof.Defs
public import proofs.«01_k».proof.Proof.MixOut.Array
public import proofs.«01_k».proof.Proof.Gen.MixOutRefIdeal.Run

@[expose] public section

noncomputable section

namespace Cert.Proof

open Idealize.ShloMosaic Idealize.SL.Sem

/-- Kernel and reference end with the same array, from the same arguments. -/
theorem mixout_algebraic : Cert.algebraic_MixOutIdeal_MixOutRefIdeal
    (hMixOutIdeal := Cert.MixOutIdeal.Gen.facts) (hMixOutRefIdeal := Cert.MixOutRefIdeal.Gen.facts) :=
  fun m ρ m' ρ' _ hag =>
    ⟨fun c => Cert.MixOutRefIdeal.Read.val_main_v14 (m ((c.tc : Thread _ _).loc Cert.MixOutIdeal.main_arg0)) (m ((c.tc : Thread _ _).loc Cert.MixOutIdeal.main_arg1)) (m ((c.tc : Thread _ _).loc Cert.MixOutIdeal.main_arg2)) (m ((c.tc : Thread _ _).loc Cert.MixOutIdeal.main_arg3)) (m ((c.tc : Thread _ _).loc Cert.MixOutIdeal.main_arg4)) (m ((c.tc : Thread _ _).loc Cert.MixOutIdeal.main_arg5)) (m ((c.tc : Thread _ _).loc Cert.MixOutIdeal.main_arg6)),
      (θ_run _ _ _).mono (fun _ h c => ⟨(h c).1.trans (Cert.MixOutIdeal.RefValue.final m c), (h c).2⟩)
        (Cert.MixOutIdeal.Value.run_blocks m ρ),
      (θ_run _ _ _).mono (fun _ h c => ⟨((h c).1.trans (Cert.MixOutRefIdeal.Read.val_main_v14_eq _ _ _ _ _ _ _)).trans
          (by rw [(hag c).1, (hag c).2.1, (hag c).2.2.1, (hag c).2.2.2.1, (hag c).2.2.2.2.1, (hag c).2.2.2.2.2.1, (hag c).2.2.2.2.2.2]), (h c).2⟩)
        (Cert.MixOutRefIdeal.Value.run m' ρ')⟩

end Cert.Proof

end
-- ==== Proof.XOut.Block.lean ====
/-
  The attention's output projection: what a point of the grid stores, read at an index.
-/
module

public import proofs.«01_k».proof.Proof.Gen.XOutIdeal.Frame
public import proofs.«01_k».proof.Proof.Projection.Norm
public import proofs.«01_k».proof.Proof.Projection.Pick
public import Idealize.ShloMosaic.Lib.Pipeline.ValueKit
public import Idealize.ShloMosaic.Lib.Pipeline.ValueKit.Held
public import Idealize.ShloMosaic.Lib.StableHlo.ReadAt

@[expose] public section

set_option maxRecDepth 16384

noncomputable section

namespace Cert.XOutIdeal.RefValue

open Cert.XOutIdeal Cert.XOutIdeal.Gen Idealize.ShloMosaic Idealize.ShloMosaic.TcCoe Projection

variable (m : (ℓ : Loc nD τ sig) → Buf (Elt Ideal) ℓ)

/-- The stored value: the residual plus the chosen rows times the weights. -/
theorem pay_apply (i : grid0.Coords) (a b x : Vec Ideal S512x1024 .f32) (w : Vec Ideal S1024x1024 .bf16) (r : Fin 512) (d : Fin 1024) :
    k0_pay1 i a b x w (ix2 r d) = x (ix2 r d)
      + product (fun j => if (i 0).val < 32 then a (ix2 r j) else b (ix2 r j)) (fun j => w (ix2 j d)) := by
  have hs : ∀ x y : EReal, Scalar.select (Scalar.cmpi .slt (BitVec.ofNat 32 (i 0).val) 32#32) x y = if (i 0).val < 32 then x else y := pick (i 0)
  unfold k0_pay1
  pointwise
  simp only [hs]
  rfl

/-- The block of the result at a point. -/
theorem out_apply (i : grid0.Coords) (a b : Vec Ideal S512x1024 .f32) (w : Vec Ideal S1024x1024 .bf16) (x : Vec Ideal S512x1024 .f32)
    (r : Fin 512) (d : Fin 1024) : out0_4 i a b w x (ix2 r d) = x (ix2 r d)
      + product (fun j => if (i 0).val < 32 then a (ix2 r j) else b (ix2 r j)) (fun j => w (ix2 j d)) := by
  unfold out0_4
  frame_out
  exact pay_apply i a b x w r d

/-- A point's grid coordinate is its row tile. -/
theorem coord : ∀ t : Fin cfg0.N, (grid0.coords t 0).val = t.val :=
  (by decide +kernel : ∀ t : Fin grid0.N, _)

end Cert.XOutIdeal.RefValue

end
-- ==== Proof.XOut.Reference.lean ====
/-
  The reference of the attention's output projection read at an index: the residual plus a row times a column of the weights.
-/
module

public import proofs.«01_k».proof.Proof.Gen.XOutRefIdeal.Read
public import proofs.«01_k».proof.Proof.Projection.Norm
public import proofs.«01_k».proof.Proof.Projection.Pick

@[expose] public section

set_option maxRecDepth 16384

noncomputable section

namespace Cert.XOutRefIdeal.RefValue

open Cert.XOutRefIdeal Cert.XOutRefIdeal.Read Idealize.ShloMosaic Projection

variable (ap : (⟨S32x512x1024, .f32⟩ : BufTy).Contents (Elt Ideal)) (ar : (⟨S128x8x1024, .f32⟩ : BufTy).Contents (Elt Ideal))
  (w : (⟨S1x1024x1024, .f32⟩ : BufTy).Contents (Elt Ideal)) (x : (⟨S17408x1024, .f32⟩ : BufTy).Contents (Elt Ideal))

/-- Row `n` of the two groups one after the other: the prompt's 16384 rows, then the sample's 1024. -/
def rowOf (n : Fin 17408) (j : Fin 1024) : EReal :=
  if h : n.val < 16384 then ap (ix3 (⟨n.val / 512, by omega⟩ : Fin 32) (⟨n.val % 512, by omega⟩ : Fin 512) j)
  else ar (ix3 (⟨(n.val - 16384) / 8, by omega⟩ : Fin 128) (⟨(n.val - 16384) % 8, by omega⟩ : Fin 8) j)

/-- The two groups' rows, one after the other. -/
theorem rows_apply (n : Fin 17408) (j : Fin 1024) : val_main_v2 ap ar (ix2 n j) = rowOf ap ar n j := by
  have hp : ∀ (n : Fin 16384), val_main_v0 ap (ix2 n j) = ap (ix3 (⟨n.val / 512, by omega⟩ : Fin 32) (⟨n.val % 512, by omega⟩ : Fin 512) j) := fun n => by
    rw [val_main_v0_apply]
    refine congrArg ap (funext fun r => Fin.ext ?_)
    match r with
    | ⟨0, _⟩ => show (n.val * 1024 + j.val) / 524288 = n.val / 512; omega
    | ⟨1, _⟩ => show (n.val * 1024 + j.val) / 1024 % 512 = n.val % 512; omega
    | ⟨2, _⟩ => show (n.val * 1024 + j.val) % 1024 = j.val; omega
  have hs : ∀ (n : Fin 1024), val_main_v1 ar (ix2 n j) = ar (ix3 (⟨n.val / 8, by omega⟩ : Fin 128) (⟨n.val % 8, by omega⟩ : Fin 8) j) := fun n => by
    rw [val_main_v1_apply]
    refine congrArg ar (funext fun r => Fin.ext ?_)
    match r with
    | ⟨0, _⟩ => show (n.val * 1024 + j.val) / 8192 = n.val / 8; omega
    | ⟨1, _⟩ => show (n.val * 1024 + j.val) / 1024 % 8 = n.val % 8; omega
    | ⟨2, _⟩ => show (n.val * 1024 + j.val) % 1024 = j.val; omega
  unfold val_main_v2 rowOf
  generalize val_main_v0 ap = yp at hp
  generalize val_main_v1 ar = ys at hs
  pointwise
  by_cases h : n.val < 16384
  · rw [dif_pos h, dif_pos h, hp]
  · rw [dif_neg h, dif_neg h, hs]

/-- THE REFERENCE AT AN INDEX. -/
theorem ref_apply (n : Fin 17408) (d : Fin 1024) : val_main_v5 ap ar w x (ix2 n d)
    = x (ix2 n d) + product (rowOf ap ar n) (fun j => w (ix3 0 j d)) := by
  rw [val_main_v5_apply, val_main_v4_apply]
  refine congrArg (x (ix2 n d) + ·) (Finset.sum_congr rfl fun j _ => ?_)
  rw [show lidx_main_v4 (ix2 n d) j = ix2 n j from eq_ix2 _, show ridx_main_v4 (ix2 n d) j = ix2 j d from eq_ix2 _,
    rows_apply, val_main_v3_apply]
  refine congrArg (_ * w ·) (funext fun r => Fin.ext ?_)
  match r with
  | ⟨0, _⟩ => rfl
  | ⟨1, _⟩ => show (j.val * 1024 + d.val) / 1024 % 1024 = j.val; omega
  | ⟨2, _⟩ => show (j.val * 1024 + d.val) % 1024 = d.val; omega

end Cert.XOutRefIdeal.RefValue

end
-- ==== Proof.XOut.Array.lean ====
/-
  The attention's output projection after the run: the result array, whole, and so the reference's array.
-/
module

public import proofs.«01_k».proof.Proof.Gen.XOutIdeal.Value
public import proofs.«01_k».proof.Proof.XOut.Block
public import proofs.«01_k».proof.Proof.XOut.Reference
public import Idealize.ShloMosaic.Lib.Pipeline.ValueKit
public import Idealize.ShloMosaic.Lib.StableHlo.ReadAt

@[expose] public section

set_option maxRecDepth 16384

noncomputable section

namespace Cert.XOutIdeal.RefValue

open Cert.XOutIdeal Cert.XOutIdeal.Gen Idealize.ShloMosaic Idealize.ShloMosaic.TcCoe Projection
open Cert.XOutRefIdeal.RefValue (rowOf)
open Idealize.ShloMosaic.Pipeline (Dat)

variable (m : (ℓ : Loc nD τ sig) → Buf (Elt Ideal) ℓ)

/-- Where the five windows' blocks lie at a point. -/
theorem idx : ∀ t : Fin cfg0.N, win0_0.index t = ![min t.val 31, 0] ∧ win0_1.index t = ![t.val - 32, 0]
    ∧ win0_2.index t = ![0, 0] ∧ win0_3.index t = ![t.val, 0] ∧ win0_4.index t = ![t.val, 0] :=
  (by decide +kernel : ∀ t : Fin grid0.N, _)

/-- The prompt's rows as the region finds them. -/
theorem prompt_apply (c : Dev nD) (n : Fin 16384) (j : Fin 1024) : V m c main_v0 (ix2 n j) = m ((c : Thread nD τ).loc main_arg0) (ix3 (⟨n.val / 512, by omega⟩ : Fin 32) (⟨n.val % 512, by omega⟩ : Fin 512) j) := by
  unfold V
  after_reads_at

/-- The sample's rows as the region finds them. -/
theorem sample_apply (c : Dev nD) (n : Fin 1024) (j : Fin 1024) : V m c main_v1 (ix2 n j) = m ((c : Thread nD τ).loc main_arg1) (ix3 (⟨n.val / 8, by omega⟩ : Fin 128) (⟨n.val % 8, by omega⟩ : Fin 8) j) := by
  unfold V
  after_reads_at

/-- The weights as the region finds them. -/
theorem weight_apply (c : Dev nD) (j : Fin 1024) (d : Fin 1024) : V m c main_v3 (ix2 j d) = m ((c : Thread nD τ).loc main_arg2) (ix3 0 j d) := by
  unfold V
  after_reads_at

/-- The residual as the region finds it. -/
theorem res_apply (c : Dev nD) (n : Fin 17408) (j : Fin 1024) : V m c main_arg3 (ix2 n j) = m ((c : Thread nD τ).loc main_arg3) (ix2 n j) := by
  unfold V
  after_reads_at

/-- A point's block of the prompt's rows. -/
theorem p_apply (c : Dev nD) (t : Fin cfg0.N) (r : Fin 512) (j : Fin 1024) :
    (iblk m c 0 t : Vec Ideal S512x1024 .f32) (ix2 r j) = V m c main_v0 (ix2 (⟨min t.val 31 * 512 + r.val, by omega⟩ : Fin 16384) j) := by
  blk_ext [iblk, idx t]

/-- A point's block of the sample's rows. -/
theorem s_apply (c : Dev nD) (t : Fin cfg0.N) (ht : t.val < 34) (r : Fin 512) (j : Fin 1024) :
    (iblk m c 1 t : Vec Ideal S512x1024 .f32) (ix2 r j) = V m c main_v1 (ix2 (⟨(t.val - 32) * 512 + r.val, by omega⟩ : Fin 1024) j) := by
  blk_ext [iblk, idx t]

/-- A point's block of the weights is the whole of them. -/
theorem w_apply (c : Dev nD) (t : Fin cfg0.N) (j : Fin 1024) (d : Fin 1024) :
    (iblk m c 2 t : Vec Ideal S1024x1024 .bf16) (ix2 j d) = V m c main_v3 (ix2 j d) := by
  blk_ext [iblk, idx t]

/-- A point's block of the residual. -/
theorem x_apply (c : Dev nD) (t : Fin cfg0.N) (ht : t.val < 34) (r : Fin 512) (j : Fin 1024) :
    (iblk m c 3 t : Vec Ideal S512x1024 .f32) (ix2 r j) = V m c main_arg3 (ix2 (⟨t.val * 512 + r.val, by omega⟩ : Fin 17408) j) := by
  blk_ext [iblk, idx t]

/-- The result array after the run is the reference's. -/
theorem final (c : Dev nD) : (dats m 0 c).arrAt 4 cfg0.N
    = Cert.XOutRefIdeal.Read.val_main_v5 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have ht : t.val < 34 := lt_of_lt_of_eq t.isLt N_0
  obtain ⟨y0, y1, rfl⟩ : ∃ (y0 : Fin 512) (y1 : Fin 1024), y = ix2 y0 y1 := ⟨y 0, y 1, eq_ix2 y⟩
  rw [after0_4, out_apply]
  have e : (win0_4.blk t).view.emb (ix2 y0 y1) = ix2 (⟨t.val * 512 + y0.val, by omega⟩ : Fin 17408) y1 := by
    blk_ext [idx t]
  refine Eq.trans ?_ (congrArg _ e.symm)
  rw [Cert.XOutRefIdeal.RefValue.ref_apply]
  refine congrArg₂ (· + ·) ((x_apply m c t ht y0 y1).trans (res_apply m c _ y1)) (congrArg₂ product (funext fun j => ?_) (funext fun j => ?_))
  · rw [coord]
    unfold rowOf
    by_cases h : t.val < 32
    · rw [if_pos h, dif_pos (show t.val * 512 + y0.val < 16384 by omega), p_apply, prompt_apply]
      refine congrArg (m ((c : Thread nD τ).loc main_arg0)) (congrArg₂ (ix3 · · j) (Fin.ext ?_) (Fin.ext ?_))
      · show (min t.val 31 * 512 + y0.val) / 512 = (t.val * 512 + y0.val) / 512
        omega
      · show (min t.val 31 * 512 + y0.val) % 512 = (t.val * 512 + y0.val) % 512
        omega
    · rw [if_neg h, dif_neg (show ¬ t.val * 512 + y0.val < 16384 by omega), s_apply m c t ht, sample_apply]
      refine congrArg (m ((c : Thread nD τ).loc main_arg1)) (congrArg₂ (ix3 · · j) (Fin.ext ?_) (Fin.ext ?_))
      · show ((t.val - 32) * 512 + y0.val) / 8 = (t.val * 512 + y0.val - 16384) / 8
        omega
      · show ((t.val - 32) * 512 + y0.val) % 8 = (t.val * 512 + y0.val - 16384) % 8
        omega
  · exact (w_apply m c t j y1).trans (weight_apply m c j y1)

end Cert.XOutIdeal.RefValue

end
-- ==== Proof.XOut.Claims.lean ====
/-
  The value claim of the attention's output projection: at the ideal instance the kernel's result array is the reference's.
-/
module

public import proofs.«01_k».proof.Defs
public import proofs.«01_k».proof.Proof.XOut.Array
public import proofs.«01_k».proof.Proof.Gen.XOutRefIdeal.Run

@[expose] public section

noncomputable section

namespace Cert.Proof

open Idealize.ShloMosaic Idealize.SL.Sem

/-- Kernel and reference end with the same array, from the same arguments. -/
theorem xout_algebraic : Cert.algebraic_XOutIdeal_XOutRefIdeal
    (hXOutIdeal := Cert.XOutIdeal.Gen.facts) (hXOutRefIdeal := Cert.XOutRefIdeal.Gen.facts) :=
  fun m ρ m' ρ' _ hag =>
    ⟨fun c => Cert.XOutRefIdeal.Read.val_main_v5 (m ((c.tc : Thread _ _).loc Cert.XOutIdeal.main_arg0)) (m ((c.tc : Thread _ _).loc Cert.XOutIdeal.main_arg1)) (m ((c.tc : Thread _ _).loc Cert.XOutIdeal.main_arg2)) (m ((c.tc : Thread _ _).loc Cert.XOutIdeal.main_arg3)),
      (θ_run _ _ _).mono (fun _ h c => ⟨(h c).1.trans (Cert.XOutIdeal.RefValue.final m c), (h c).2⟩)
        (Cert.XOutIdeal.Value.run_blocks m ρ),
      (θ_run _ _ _).mono (fun _ h c => ⟨((h c).1.trans (Cert.XOutRefIdeal.Read.val_main_v5_eq _ _ _ _)).trans
          (by rw [(hag c).1, (hag c).2.1, (hag c).2.2.1, (hag c).2.2.2]), (h c).2⟩)
        (Cert.XOutRefIdeal.Value.run m' ρ')⟩

end Cert.Proof

end
-- ==== Proof.SsdS.Unit.lean ====
/-
  One step of the state update as the kernel writes it, over the arrays it loads: the convolution of a sequence's eight
  rows, the step sizes, their running sum times minus the decay rates, and the state of one pair of heads after the
  eight rows. The body spells this out for eight sequences and eight pairs of heads; here it is written once.
-/
module

public import proofs.«01_k».proof.Proof.Gen.SsdSIdeal.Frame
public import Idealize.ShloMosaic.Lib.Pipeline.ValueKit

@[expose] public section

set_option maxRecDepth 16384

noncomputable section

namespace Cert.SsdSIdeal.RefValue

open Cert.SsdSIdeal Cert.SsdSIdeal.Gen Idealize.ShloMosaic

variable {F : FTy → Type} [FloatOps F]

/-- The convolution of eight rows with the four taps, the bias added. -/
def conv (x l1 l2 l3 : Vec F S1x8x1536 .f32) (w : Vec F S4x1536 .f32) (b : Vec F S1x1536 .f32) : FVec F S8x1536 .f32 :=
  have w' : FVec F S4x1536 .f32 := shapeCast S4x1536 w shapeCasts_S4x1536_S4x1536
  have t3 : FVec F S8x1536 .f32 := mulf (shapeCast S8x1536 x shapeCasts_S1x8x1536_S8x1536)
    (broadcastTo S8x1536 (extractStridedSlice S1x1536 ![3, 0] w' slices_S4x1536_o3_0_S1x1536) broadcasts_S1x1536_S8x1536)
  have t2 : FVec F S8x1536 .f32 := mulf (shapeCast S8x1536 l1 shapeCasts_S1x8x1536_S8x1536)
    (broadcastTo S8x1536 (extractStridedSlice S1x1536 ![2, 0] w' slices_S4x1536_o2_0_S1x1536) broadcasts_S1x1536_S8x1536)
  have t1 : FVec F S8x1536 .f32 := mulf (shapeCast S8x1536 l2 shapeCasts_S1x8x1536_S8x1536)
    (broadcastTo S8x1536 (extractStridedSlice S1x1536 ![1, 0] w' slices_S4x1536_o1_0_S1x1536) broadcasts_S1x1536_S8x1536)
  have t0 : FVec F S8x1536 .f32 := mulf (shapeCast S8x1536 l3 shapeCasts_S1x8x1536_S8x1536)
    (broadcastTo S8x1536 (extractStridedSlice S1x1536 ![0, 0] w' slices_S4x1536_o0_0_S1x1536) broadcasts_S1x1536_S8x1536)
  addf (addf (addf (addf t3 t2) t1) t0)
    (broadcastTo S8x1536 (shapeCast S1x1536 b shapeCasts_S1x1536_S1x1536) broadcasts_S1x1536_S8x1536)

/-- The convolution through `z · logistic z`. -/
def act (x l1 l2 l3 : Vec F S1x8x1536 .f32) (w : Vec F S4x1536 .f32) (b : Vec F S1x1536 .f32) : FVec F S8x1536 .f32 :=
  mulf (conv x l1 l2 l3 w b) (logistic (conv x l1 l2 l3 w b))

/-- The step sizes: the softplus of the gates plus their bias. -/
def steps (g : Vec F S1x8x128 .f32) (b : Vec F S1x128 .f32) : FVec F S8x128 .f32 :=
  have u : FVec F S8x128 .f32 := addf (shapeCast S8x128 g shapeCasts_S1x8x128_S8x128)
    (broadcastTo S8x128 (shapeCast S1x128 b shapeCasts_S1x128_S1x128) broadcasts_S1x128_S8x128)
  addf (maximumf u (broadcast S8x128 (Scalar.ofBits .f32 0x00000000#32)))
    (log1p (exp (subf (broadcast S8x128 (Scalar.ofBits .f32 0x00000000#32)) (absf u))))

/-- The step sizes times minus the decay rates. -/
def decays (d : FVec F S8x128 .f32) (a : Vec F S1x128 .f32) : FVec F S8x128 .f32 :=
  mulf d (broadcastTo S8x128 (subf (broadcast S1x128 (Scalar.ofBits .f32 0x00000000#32))
    (exp (shapeCast S1x128 a shapeCasts_S1x128_S1x128))) broadcasts_S1x128_S8x128)

/-- The first of the three narrow parts a number is cut into. -/
def part1 (x : FVec F S8x128 .f32) : FVec F S8x128 .bf16 := truncf .bf16 x bitsLt_bf16_f32
/-- What the first part leaves. -/
def rest1 (x : FVec F S8x128 .f32) : FVec F S8x128 .f32 := subf x (extf .f32 (part1 x) bitsLt_bf16_f32)
/-- The second part. -/
def part2 (x : FVec F S8x128 .f32) : FVec F S8x128 .bf16 := truncf .bf16 (rest1 x) bitsLt_bf16_f32
/-- The third part. -/
def part3 (x : FVec F S8x128 .f32) : FVec F S8x128 .bf16 :=
  truncf .bf16 (subf (rest1 x) (extf .f32 (part2 x) bitsLt_bf16_f32)) bitsLt_bf16_f32

/-- The lower triangle of ones. -/
def tri : FVec F S8x8 .bf16 := k0_pay5

/-- The running sums down the eight rows: the triangle times the three parts. -/
def sums (x : FVec F S8x128 .f32) : FVec F S8x128 .f32 :=
  addf (addf (matmul dot_S8x8_S8x128_S8x128_1_0_0_1_n_n none tri (part1 x) (constant S8x128 .f32 0x00000000#32))
    (matmul dot_S8x8_S8x128_S8x128_1_0_0_1_n_n none tri (part2 x) (constant S8x128 .f32 0x00000000#32)))
    (matmul dot_S8x8_S8x128_S8x128_1_0_0_1_n_n none tri (part3 x) (constant S8x128 .f32 0x00000000#32))

/-- One column per head spread over the head's 64 lanes: the three parts times a selection matrix. -/
def spread (x : FVec F S8x128 .f32) (s : Vec F S128x1024 .bf16) : FVec F S8x1024 .f32 :=
  have s' : FVec F S128x1024 .bf16 := shapeCast S128x1024 s shapeCasts_S128x1024_S128x1024
  addf (addf (matmul dot_S8x128_S128x1024_S8x1024_1_0_0_1_n_n none (part1 x) s' (constant S8x1024 .f32 0x00000000#32))
    (matmul dot_S8x128_S128x1024_S8x1024_1_0_0_1_n_n none (part2 x) s' (constant S8x1024 .f32 0x00000000#32)))
    (matmul dot_S8x128_S128x1024_S8x1024_1_0_0_1_n_n none (part3 x) s' (constant S8x1024 .f32 0x00000000#32))

/-- One column per head spread over 128 lanes. -/
def spreadWide (x : FVec F S8x128 .f32) (s : Vec F S128x2048 .bf16) : FVec F S8x2048 .f32 :=
  have s' : FVec F S128x2048 .bf16 := shapeCast S128x2048 s shapeCasts_S128x2048_S128x2048
  addf (addf (matmul dot_S8x128_S128x2048_S8x2048_1_0_0_1_n_n none (part1 x) s' (constant S8x2048 .f32 0x00000000#32))
    (matmul dot_S8x128_S128x2048_S8x2048_1_0_0_1_n_n none (part2 x) s' (constant S8x2048 .f32 0x00000000#32)))
    (matmul dot_S8x128_S128x2048_S8x2048_1_0_0_1_n_n none (part3 x) s' (constant S8x2048 .f32 0x00000000#32))

/-- The decay from each row to the last, spread over the lanes of the heads. -/
def ends (x : FVec F S8x128 .f32) (s : Vec F S128x1024 .bf16) : FVec F S8x1024 .f32 :=
  exp (subf (broadcastTo S8x1024 (extractStridedSlice S1x1024 ![7, 0] (spread x s) slices_S8x1024_o7_0_S1x1024)
    broadcasts_S1x1024_S8x1024) (spread x s))

/-- The decay over all eight rows, one head to 128 lanes. -/
def total (x : FVec F S8x128 .f32) (s : Vec F S128x2048 .bf16) : FVec F S1x2048 .f32 :=
  exp (extractStridedSlice S1x2048 ![7, 0] (spreadWide x s) slices_S8x2048_o7_0_S1x2048)

/-- The lanes times the step sizes. -/
def scaled (y : FVec F S8x1536 .f32) (d : FVec F S8x128 .f32) (s : Vec F S128x1024 .bf16) : FVec F S8x1024 .f32 :=
  mulf (extractStridedSlice S8x1024 ![0, 0] y slices_S8x1536_o0_0_S8x1024) (spread d s)

/-- What the eight rows add to the state of one pair of heads. -/
def added (o ob : Nat) (ho : S8x1024.Slices ![0, o] S8x128) (hb : S8x1536.Slices ![0, ob] S8x128) (xd e : FVec F S8x1024 .f32)
    (y : FVec F S8x1536 .f32) : FVec F S128x128 .f32 :=
  matmul dot_S8x128_S8x128_S128x128_0_0_1_1_n_n none
    (truncf .bf16 (mulf (extractStridedSlice S8x128 ![0, o] xd ho) (extractStridedSlice S8x128 ![0, o] e ho)) bitsLt_bf16_f32)
    (truncf .bf16 (extractStridedSlice S8x128 ![0, ob] y hb) bitsLt_bf16_f32) (constant S128x128 .f32 0x00000000#32)

/-- The state of one pair of heads after the rows: the state before times the decay of each head, and what the rows add. -/
def state (w0 w1 : Nat) (h0 : S1x2048.Slices ![0, w0] S1x128) (h1 : S1x2048.Slices ![0, w1] S1x128) (t : FVec F S1x2048 .f32)
    (p : Vec F S1x1x128x128 .f32) (q : FVec F S128x128 .f32) : FVec F S1x1x128x128 .f32 :=
  shapeCast S1x1x128x128 (addf (mulf (shapeCast S128x128 p shapeCasts_S1x1x128x128_S128x128)
    (concatenate S128x128 0
      [⟨S64x128, broadcastTo S64x128 (shapeCast S1x128 (extractStridedSlice S1x128 ![0, w0] t h0) shapeCasts_S1x128_S1x128)
        broadcasts_S1x128_S64x128⟩,
       ⟨S64x128, broadcastTo S64x128 (shapeCast S1x128 (extractStridedSlice S1x128 ![0, w1] t h1) shapeCasts_S1x128_S1x128)
        broadcasts_S1x128_S64x128⟩] concatenates_S64x128_S64x128_S128x128_d0)) q) shapeCasts_S128x128_S1x1x128x128

/-- THE STEP: the state of one pair of heads after the rows, from what the kernel loads. -/
def step (o ob w0 w1 : Nat) (ho : S8x1024.Slices ![0, o] S8x128) (hb : S8x1536.Slices ![0, ob] S8x128)
    (h0 : S1x2048.Slices ![0, w0] S1x128) (h1 : S1x2048.Slices ![0, w1] S1x128)
    (x l1 l2 l3 : Vec F S1x8x1536 .f32) (w : Vec F S4x1536 .f32) (cb : Vec F S1x1536 .f32)
    (g : Vec F S1x8x128 .f32) (a b : Vec F S1x128 .f32) (s : Vec F S128x1024 .bf16) (s' : Vec F S128x2048 .bf16)
    (p : Vec F S1x1x128x128 .f32) : FVec F S1x1x128x128 .f32 :=
  have d : FVec F S8x128 .f32 := steps g b
  have c : FVec F S8x128 .f32 := sums (decays d a)
  have y : FVec F S8x1536 .f32 := act x l1 l2 l3 w cb
  state w0 w1 h0 h1 (total c s') p (added o ob ho hb (scaled y d s) (ends c s) y)

end Cert.SsdSIdeal.RefValue

end
-- ==== Proof.SsdS.Math.lean ====
/-
  The state update of one lane and one state column, as mathematics over the extended reals: eight rows through a
  convolution and `z · logistic z`, the step sizes by softplus, and the state decayed and added to. And the two facts its
  kernel rests on: a number below infinity is the sum of the three parts it is cut into, and a product with a selection
  matrix picks a column.
-/
module

public import Idealize.ShloMosaic.Lib.Pointwise

@[expose] public section

noncomputable section

namespace Scan

open Idealize.ShloMosaic

/-- The softplus of a gate, as it is computed without overflow: `max(u, 0) + log(1 + exp(−|u|))`. -/
def softplus (u : EReal) : EReal := max u 0 + Ideal.log1p (Ideal.exp (-max u (-u)))

/-- An exponential is not negative. -/
theorem exp_nonneg (x : EReal) : 0 ≤ Ideal.exp x := by
  induction x using EReal.rec with
  | bot => exact le_refl _
  | top => exact le_top
  | coe r => exact EReal.coe_nonneg.2 (Real.exp_pos r).le

/-- The logarithm of one plus a number that is not negative is not negative. -/
theorem log1p_nonneg (x : EReal) (h : 0 ≤ x) : 0 ≤ Ideal.log1p x := by
  unfold Ideal.log1p
  induction x using EReal.rec with
  | bot => exact absurd h (by simp)
  | top => show 0 ≤ Ideal.log (1 + ⊤); rw [EReal.add_top_of_ne_bot (by decide)]; exact le_top
  | coe r =>
    have hr : 0 ≤ r := EReal.coe_nonneg.1 h
    rw [show (1 : EReal) + (r : EReal) = ((1 + r : ℝ) : EReal) from by push_cast; rfl]
    show 0 ≤ (if 1 + r ≤ 0 then (⊥ : EReal) else (Real.log (1 + r) : EReal))
    rw [if_neg (by linarith)]
    exact EReal.coe_nonneg.2 (Real.log_nonneg (by linarith))

/-- A softplus is not negative. -/
theorem softplus_nonneg (u : EReal) : 0 ≤ softplus u :=
  add_nonneg (le_max_right _ _) (log1p_nonneg _ (exp_nonneg _))

/-- The softplus of a number below infinity is below infinity. -/
theorem softplus_ne_top (u : EReal) (h : u ≠ ⊤) : softplus u ≠ ⊤ := by
  unfold softplus Ideal.log1p
  induction u using EReal.rec with
  | top => exact absurd rfl h
  | bot =>
    have e : -max (⊥ : EReal) (-⊥) = ⊥ := by simp
    rw [e]
    show max (⊥ : EReal) 0 + Ideal.log (1 + 0) ≠ ⊤
    rw [add_zero, max_eq_right bot_le, zero_add]
    show (if (1 : ℝ) ≤ 0 then (⊥ : EReal) else (Real.log 1 : EReal)) ≠ ⊤
    rw [if_neg (by norm_num)]
    exact EReal.coe_ne_top _
  | coe r =>
    have e : -max (r : EReal) (-(r : EReal)) = ((-max r (-r) : ℝ) : EReal) := by
      rw [EReal.coe_neg, EReal.coe_strictMono.monotone.map_max, EReal.coe_neg]
    rw [e]
    show max (r : EReal) 0 + Ideal.log (1 + (Real.exp (-max r (-r)) : EReal)) ≠ ⊤
    have hp := Real.exp_pos (-max r (-r))
    rw [show (1 : EReal) + (Real.exp (-max r (-r)) : EReal) = ((1 + Real.exp (-max r (-r)) : ℝ) : EReal) from by push_cast; rfl,
      show max (r : EReal) 0 = ((max r 0 : ℝ) : EReal) from (EReal.coe_strictMono.monotone.map_max (a := r) (b := 0)).symm]
    show ((max r 0 : ℝ) : EReal) + (if 1 + Real.exp (-max r (-r)) ≤ 0 then (⊥ : EReal)
      else (Real.log (1 + Real.exp (-max r (-r))) : EReal)) ≠ ⊤
    rw [if_neg (by linarith), ← EReal.coe_add]
    exact EReal.coe_ne_top _

/-- A number below infinity is the sum of its three parts: itself, what that leaves, and what both leave. -/
theorem three_parts (x : EReal) (h : x ≠ ⊤) : x + (x - x) + ((x - x) - (x - x)) = x := by
  induction x using EReal.rec with
  | top => exact absurd rfl h
  | bot => simp
  | coe r =>
    rw [← EReal.coe_sub, sub_self, EReal.coe_zero, sub_zero, add_zero, add_zero]

/-- The three parts of a column's numbers, each summed against a column that is one at `k` and zero elsewhere, add up to the
    number at `k`. -/
theorem pick_parts {N : Nat} (x s : Fin N → EReal) (k : Fin N) (h : x k ≠ ⊤) (hs : ∀ i, s i = if i = k then 1 else 0) :
    ∑ i, x i * s i + ∑ i, (x i - x i) * s i + ∑ i, ((x i - x i) - (x i - x i)) * s i = x k := by
  have pick : ∀ f : Fin N → EReal, ∑ i, f i * s i = f k := fun f => by
    rw [Finset.sum_eq_single k]
    · rw [hs, if_pos rfl, mul_one]
    · intro i _ hi; rw [hs, if_neg hi, mul_zero]
    · exact fun hk => absurd (Finset.mem_univ k) hk
  rw [pick, pick, pick]
  exact three_parts _ h

/-- The three parts of numbers below infinity, each summed against zeros and ones, add up to the sum of the numbers where
    there is a one. -/
theorem sum_parts {N : Nat} (x t : Fin N → EReal) (q : Fin N → Prop) [DecidablePred q] (h : ∀ i, x i ≠ ⊤)
    (ht : ∀ i, t i = if q i then 1 else 0) :
    ∑ i, t i * x i + ∑ i, t i * (x i - x i) + ∑ i, t i * ((x i - x i) - (x i - x i)) = ∑ i, if q i then x i else 0 := by
  rw [← Finset.sum_add_distrib, ← Finset.sum_add_distrib]
  refine Finset.sum_congr rfl fun i _ => ?_
  rw [ht]
  by_cases hq : q i
  · simp only [if_pos hq, one_mul]; exact three_parts _ (h i)
  · simp only [if_neg hq, zero_mul, add_zero]

/-- The decay exponent up to row `l`: the step sizes times minus the rate, summed. -/
def run (u : Fin 8 → EReal) (a : EReal) (l : Fin 8) : EReal :=
  ∑ i, if i ≤ l then softplus (u i) * -Ideal.exp a else 0

/-- One term of it is not above zero. -/
theorem term_nonpos (u a : EReal) : softplus u * -Ideal.exp a ≤ 0 := by
  rw [mul_neg]
  refine (EReal.neg_le_neg_iff.2 (mul_nonneg (softplus_nonneg u) (exp_nonneg a))).trans ?_
  rw [neg_zero]

/-- So a term is below infinity, -/
theorem term_ne_top (u a : EReal) : softplus u * -Ideal.exp a ≠ ⊤ := fun h => by
  have := term_nonpos u a
  rw [h] at this
  exact absurd this (by simp)

/-- and so is the exponent. -/
theorem run_ne_top (u : Fin 8 → EReal) (a : EReal) (l : Fin 8) : run u a l ≠ ⊤ := fun h => by
  have : run u a l ≤ 0 := Finset.sum_nonpos fun i _ => by
    split
    · exact term_nonpos _ _
    · exact le_refl _
  rw [h] at this
  exact absurd this (by simp)

/-- Where a step size before the softplus is plus infinity and the rate is not nought, the term is minus infinity, -/
theorem term_eq_bot (a : EReal) (ha : a ≠ ⊥) : softplus ⊤ * -Ideal.exp a = ⊥ := by
  have e : softplus ⊤ = ⊤ := by
    unfold softplus
    rw [max_eq_left le_top]
    exact EReal.top_add_of_ne_bot (ne_of_gt (lt_of_lt_of_le (by decide) (log1p_nonneg _ (exp_nonneg _))))
  have hp : 0 < Ideal.exp a := by
    induction a using EReal.rec with
    | bot => exact absurd rfl ha
    | top => exact EReal.zero_lt_top
    | coe r => exact EReal.coe_pos.2 (Real.exp_pos r)
  rw [e, mul_neg, EReal.top_mul_of_pos hp]
  rfl

/-- so the exponent is minus infinity from its row on, -/
theorem run_eq_bot (u : Fin 8 → EReal) (a : EReal) (l k : Fin 8) (h : u l = ⊤) (ha : a ≠ ⊥) (hk : l ≤ k) : run u a k = ⊥ := by
  unfold run
  rw [← Finset.add_sum_erase _ _ (Finset.mem_univ l), if_pos hk, h, term_eq_bot a ha]
  exact EReal.bot_add _

/-- and the row is decayed to nought. -/
theorem fade (u : Fin 8 → EReal) (a : EReal) (l : Fin 8) (h : u l = ⊤) (ha : a ≠ ⊥) :
    Ideal.exp (run u a 7 - run u a l) = 0 := by
  rw [run_eq_bot u a l 7 h ha (Fin.le_last l), run_eq_bot u a l l h ha (le_refl l)]
  rfl

/-- A row after the convolution over it and the three rows before, and `z · logistic z`. -/
def act (xp : Fin 11 → EReal) (w : Fin 4 → EReal) (b : EReal) (l : Fin 8) : EReal :=
  have z : EReal := xp ⟨l.val, by omega⟩ * w 0 + xp ⟨1 + l.val, by omega⟩ * w 1 + xp ⟨2 + l.val, by omega⟩ * w 2
    + xp ⟨3 + l.val, by omega⟩ * w 3 + b
  z * Ideal.logistic z

/-- The state after the eight rows: decayed, and added to. `x` and `n` are the lane's and the state column's rows. -/
def update (x n : Fin 8 → EReal) (u : Fin 8 → EReal) (a s : EReal) : EReal :=
  s * Ideal.exp (run u a 7) + ∑ l, x l * softplus (u l) * Ideal.exp (run u a 7 - run u a l) * n l

end Scan

end
-- ==== Proof.SsdS.Step.lean ====
/-
  One step of the state update, read at an index: the kernel's three-part products are the numbers themselves, so the step
  is the update of the mathematics, where the head's decay rate is not nought: a step size of plus infinity, which its three
  parts don't add up to, is then decayed to nought on both sides.
-/
module

public import proofs.«01_k».proof.Proof.SsdS.Unit
public import proofs.«01_k».proof.Proof.SsdS.Math

@[expose] public section

set_option maxRecDepth 16384

noncomputable section

namespace Cert.SsdSIdeal.RefValue

open Cert.SsdSIdeal Cert.SsdSIdeal.Gen Idealize.ShloMosaic Scan

/-- The activated convolution, at a row and a lane, over rows `xp` the four loads are windows of. -/
theorem act_apply (x l1 l2 l3 : Vec Ideal S1x8x1536 .f32) (w : Vec Ideal S4x1536 .f32) (b : Vec Ideal S1x1536 .f32)
    (xp : Fin 11 → EReal) (c : Fin 1536) (h0 : ∀ l : Fin 8, x (ix3 0 l c) = xp ⟨3 + l.val, by omega⟩)
    (h1 : ∀ l : Fin 8, l1 (ix3 0 l c) = xp ⟨2 + l.val, by omega⟩) (h2 : ∀ l : Fin 8, l2 (ix3 0 l c) = xp ⟨1 + l.val, by omega⟩)
    (h3 : ∀ l : Fin 8, l3 (ix3 0 l c) = xp ⟨l.val, by omega⟩) (l : Fin 8) :
    act x l1 l2 l3 w b (ix2 l c) = Scan.act xp (fun k => w (ix2 k c)) (b (ix2 0 c)) l := by
  have e : ∀ p q r s t : EReal, p + q + r + s + t = s + r + q + p + t := fun p q r s t => by
    rw [add_comm s r, add_comm (r + s) q, ← add_assoc, add_comm (q + r + s) p, ← add_assoc, ← add_assoc]
  unfold Scan.act
  pointwise [act, conv]
  rw [h0, h1, h2, h3, e]

/-- The step sizes. -/
theorem steps_apply (g : Vec Ideal S1x8x128 .f32) (b : Vec Ideal S1x128 .f32) (l : Fin 8) (k : Fin 128) :
    steps g b (ix2 l k) = softplus (g (ix3 0 l k) + b (ix2 0 k)) := by
  unfold softplus
  pointwise [steps]
  rw [zero_sub]
  rfl

/-- The step sizes times minus the decay rates. -/
theorem decays_apply (d : FVec Ideal S8x128 .f32) (a : Vec Ideal S1x128 .f32) (l : Fin 8) (k : Fin 128) :
    decays d a (ix2 l k) = d (ix2 l k) * -Ideal.exp (a (ix2 0 k)) := by
  pointwise [decays]
  rw [zero_sub]

/-- The triangle's entries. -/
theorem tri_apply (l m : Fin 8) : tri (F := Ideal) (ix2 l m) = if m ≤ l then (1 : EReal) else 0 := by
  have h : ∀ l m : Fin 8, BitVec.setWidth 32 (IntOp.cmpi CmpIPredicate.sge (BitVec.ofNat 32 l.val) (BitVec.ofNat 32 m.val))
      = if m ≤ l then 1#32 else 0#32 := by decide +kernel
  pointwise [tri, k0_pay5, k0_pay4]
  rw [h]
  split
  · show (((1#32 : BitVec 32).toInt : ℝ) : EReal) = 1
    simp
  · show (((0#32 : BitVec 32).toInt : ℝ) : EReal) = 0
    simp

/-- The running sums of numbers below infinity. -/
theorem sums_apply (x : FVec Ideal S8x128 .f32) (k : Fin 128) (h : ∀ l : Fin 8, x (ix2 l k) ≠ (⊤ : EReal)) (l : Fin 8) :
    sums x (ix2 l k) = ∑ i : Fin 8, if i ≤ l then (x (ix2 i k) : EReal) else 0 := by
  refine Eq.trans ?_ (sum_parts (fun i => (x (ix2 i k) : EReal)) (fun i => tri (F := Ideal) (ix2 l i)) (fun i => i ≤ l) h
    (fun i => tri_apply l i))
  unfold sums
  generalize tri (F := Ideal) = T
  pointwise [part1, part2, part3, rest1]

/-- A column spread over the lanes that select it. -/
theorem spread_apply (x : FVec Ideal S8x128 .f32) (s : Vec Ideal S128x1024 .bf16) (l : Fin 8) (q : Fin 1024) (k : Fin 128)
    (h : x (ix2 l k) ≠ (⊤ : EReal)) (hs : ∀ i : Fin 128, s (ix2 i q) = if i = k then (1 : EReal) else 0) :
    spread x s (ix2 l q) = x (ix2 l k) := by
  refine Eq.trans ?_ (pick_parts (fun i => (x (ix2 l i) : EReal)) (fun i => (s (ix2 i q) : EReal)) k h hs)
  pointwise [spread, part1, part2, part3, rest1]

/-- The same over the wide selection matrix. -/
theorem spreadWide_apply (x : FVec Ideal S8x128 .f32) (s : Vec Ideal S128x2048 .bf16) (l : Fin 8) (q : Fin 2048) (k : Fin 128)
    (h : x (ix2 l k) ≠ (⊤ : EReal)) (hs : ∀ i : Fin 128, s (ix2 i q) = if i = k then (1 : EReal) else 0) :
    spreadWide x s (ix2 l q) = x (ix2 l k) := by
  refine Eq.trans ?_ (pick_parts (fun i => (x (ix2 l i) : EReal)) (fun i => (s (ix2 i q) : EReal)) k h hs)
  pointwise [spreadWide, part1, part2, part3, rest1]

/-- The decay to the last row. -/
theorem ends_apply (x : FVec Ideal S8x128 .f32) (s : Vec Ideal S128x1024 .bf16) (l : Fin 8) (q : Fin 1024) :
    ends x s (ix2 l q) = Ideal.exp (spread x s (ix2 7 q) - spread x s (ix2 l q)) := by
  unfold ends
  generalize spread x s = y
  pointwise

/-- The decay over all rows. -/
theorem total_apply (x : FVec Ideal S8x128 .f32) (s : Vec Ideal S128x2048 .bf16) (q : Fin 2048) :
    total x s (ix2 0 q) = Ideal.exp (spreadWide x s (ix2 7 q)) := by
  unfold total
  generalize spreadWide x s = y
  pointwise

/-- The lanes times the step sizes. -/
theorem scaled_apply (y : FVec Ideal S8x1536 .f32) (d : FVec Ideal S8x128 .f32) (s : Vec Ideal S128x1024 .bf16) (l : Fin 8)
    (q : Fin 1024) : scaled y d s (ix2 l q) = y (ix2 l ⟨q.val, by omega⟩) * spread d s (ix2 l q) := by
  unfold scaled
  generalize spread d s = z
  pointwise

/-- What the rows add. -/
theorem added_apply (o ob : Nat) (ho : S8x1024.Slices ![0, o] S8x128) (hb : S8x1536.Slices ![0, ob] S8x128)
    (xd e : FVec Ideal S8x1024 .f32) (y : FVec Ideal S8x1536 .f32) (r n : Fin 128) (q : Fin 1024) (cn : Fin 1536)
    (hq : q.val = o + r.val) (hc : cn.val = ob + n.val) :
    added o ob ho hb xd e y (ix2 r n) = ∑ l : Fin 8, xd (ix2 l q) * e (ix2 l q) * y (ix2 l cn) := by
  obtain ⟨q, hq'⟩ := q
  obtain ⟨cn, hc'⟩ := cn
  simp only at hq hc
  subst hq hc
  pointwise [added]

/-- The state after the rows. -/
theorem state_apply (w0 w1 : Nat) (h0 : S1x2048.Slices ![0, w0] S1x128) (h1 : S1x2048.Slices ![0, w1] S1x128)
    (t : FVec Ideal S1x2048 .f32) (p : Vec Ideal S1x1x128x128 .f32) (a : FVec Ideal S128x128 .f32) (r n : Fin 128)
    (q : Fin 2048) (hq : q.val = (if r.val < 64 then w0 else w1) + n.val) :
    state w0 w1 h0 h1 t p a (ix4 0 0 r n) = p (ix4 0 0 r n) * t (ix2 0 q) + a (ix2 r n) := by
  obtain ⟨q, hq'⟩ := q
  simp only at hq
  subst hq
  pointwise [state]
  by_cases h : r.val < 64
  · simp only [h, if_true, dif_pos]
  · simp only [h, if_false, dif_neg, not_false_eq_true]

/-- THE STEP at a lane `r` and a state column `n`: the update of the head's column, where its decay rate is not nought.
    `k` is the head's column among the gates, `q` its lane, `cn` its row of the input matrix. -/
theorem step_apply (o ob w0 w1 : Nat) (ho : S8x1024.Slices ![0, o] S8x128) (hb : S8x1536.Slices ![0, ob] S8x128)
    (h0 : S1x2048.Slices ![0, w0] S1x128) (h1 : S1x2048.Slices ![0, w1] S1x128)
    (x l1 l2 l3 : Vec Ideal S1x8x1536 .f32) (w : Vec Ideal S4x1536 .f32) (cb : Vec Ideal S1x1536 .f32)
    (g : Vec Ideal S1x8x128 .f32) (a b : Vec Ideal S1x128 .f32) (s : Vec Ideal S128x1024 .bf16) (s' : Vec Ideal S128x2048 .bf16)
    (p : Vec Ideal S1x1x128x128 .f32) (r n : Fin 128) (q : Fin 1024) (cn : Fin 1536) (q' : Fin 2048) (k : Fin 128)
    (xp : Fin 1536 → Fin 11 → EReal)
    (hx0 : ∀ (l : Fin 8) (c : Fin 1536), x (ix3 0 l c) = xp c ⟨3 + l.val, by omega⟩)
    (hx1 : ∀ (l : Fin 8) (c : Fin 1536), l1 (ix3 0 l c) = xp c ⟨2 + l.val, by omega⟩)
    (hx2 : ∀ (l : Fin 8) (c : Fin 1536), l2 (ix3 0 l c) = xp c ⟨1 + l.val, by omega⟩)
    (hx3 : ∀ (l : Fin 8) (c : Fin 1536), l3 (ix3 0 l c) = xp c ⟨l.val, by omega⟩)
    (hq : q.val = o + r.val) (hc : cn.val = ob + n.val) (hq' : q'.val = (if r.val < 64 then w0 else w1) + n.val)
    (hs : ∀ i : Fin 128, s (ix2 i q) = if i = k then (1 : EReal) else 0)
    (hs' : ∀ i : Fin 128, s' (ix2 i q') = if i = k then (1 : EReal) else 0)
    (ha : a (ix2 0 k) ≠ (⊥ : EReal)) :
    step o ob w0 w1 ho hb h0 h1 x l1 l2 l3 w cb g a b s s' p (ix4 0 0 r n)
      = update (Scan.act (xp ⟨q.val, by omega⟩) (fun i => w (ix2 i ⟨q.val, by omega⟩)) (cb (ix2 0 ⟨q.val, by omega⟩)))
          (Scan.act (xp cn) (fun i => w (ix2 i cn)) (cb (ix2 0 cn)))
          (fun l => g (ix3 0 l k) + b (ix2 0 k)) (a (ix2 0 k)) (p (ix4 0 0 r n)) := by
  have hsum : ∀ l, sums (decays (steps g b) a) (ix2 l k) = run (fun l => g (ix3 0 l k) + b (ix2 0 k)) (a (ix2 0 k)) l := fun l => by
    rw [sums_apply]
    · refine Finset.sum_congr rfl fun i _ => ?_
      rw [decays_apply, steps_apply]
    · intro i
      rw [decays_apply, steps_apply]
      exact term_ne_top _ _
  have hr : ∀ l, sums (decays (steps g b) a) (ix2 l k) ≠ (⊤ : EReal) := fun l => by rw [hsum]; exact run_ne_top _ _ _
  unfold step
  rw [state_apply w0 w1 h0 h1 _ _ _ r n q' hq', total_apply, spreadWide_apply _ _ _ _ k (hr 7) hs', hsum,
    added_apply o ob ho hb _ _ _ r n q cn hq hc]
  unfold update
  refine congrArg _ (Finset.sum_congr rfl fun l _ => ?_)
  rw [scaled_apply, ends_apply, spread_apply _ _ _ _ k (hr 7) hs, spread_apply _ _ _ _ k (hr l) hs,
    hsum, hsum,
    act_apply x l1 l2 l3 w cb (xp cn) cn (fun l => hx0 l cn) (fun l => hx1 l cn) (fun l => hx2 l cn) (fun l => hx3 l cn),
    act_apply x l1 l2 l3 w cb (xp ⟨q.val, by omega⟩) ⟨q.val, by omega⟩ (fun l => hx0 l _) (fun l => hx1 l _) (fun l => hx2 l _)
      (fun l => hx3 l _)]
  by_cases hg : (g (ix3 0 l k) + b (ix2 0 k) : EReal) = ⊤
  · rw [fade (fun l => g (ix3 0 l k) + b (ix2 0 k)) (a (ix2 0 k)) l hg ha, mul_zero, mul_zero]
  · rw [spread_apply _ _ _ _ k (by rw [steps_apply]; exact softplus_ne_top _ hg) hs, steps_apply]

end Cert.SsdSIdeal.RefValue

end
-- ==== Proof.SsdS.Scratch.lean ====
/-
  The scratch the convolution reads: per sequence eight rows of the past and the sequence's own eight rows. The body
  fills it sequence by sequence, writing a sequence's last rows back over its past once it is done with; what a sequence
  reads is its own past and its own rows.
-/
module

public import proofs.«01_k».proof.Proof.SsdS.Step
public import Idealize.ShloMosaic.Lib.Pipeline.ValueKit
public import Idealize.ShloMosaic.Lib.WholeRead

@[expose] public section

set_option maxRecDepth 16384

noncomputable section

namespace Cert.SsdSIdeal.RefValue

open Cert.SsdSIdeal Cert.SsdSIdeal.Gen Idealize.ShloMosaic Idealize.ShloMosaic.View

/-- The eleven rows a sequence's convolution runs over: the last three of its past, and its own eight. -/
def rows (x0 x3 : Vec Ideal S8x8x1536 .f32) (j : Fin 8) (c : Fin 1536) (k : Fin 11) : EReal :=
  if h : k.val < 3 then x3 (ix3 j ⟨5 + k.val, by omega⟩ c) else x0 (ix3 j ⟨k.val - 3, by omega⟩ c)

/-- Rows stored elsewhere leave a row as it was. -/
theorem skip (a b : Nat) (inb : ∀ x, (![a, b, 0] : Fin 3 → Nat) x + S1x8x1536.size x ≤ S8x16x1536.size x)
    (v : S1x8x1536.Idx → Elt Ideal .f32) (L : List (Piece (Elt Ideal) S8x16x1536 .f32)) (j : Fin 8) (r : Fin 16) (c : Fin 1536)
    (h : a ≠ j.val ∨ r.val < b ∨ b + 8 ≤ r.val) :
    canon ((⟨Rect.unit ![a, b, 0] S1x8x1536.size inb, v⟩ : Piece (Elt Ideal) S8x16x1536 .f32) :: L) (ix3 j r c)
      = canon L (ix3 j r c) := by
  refine canon_cons_of_not_mem _ L fun hm => ?_
  obtain ⟨i, hi, he⟩ := (LoadRect.mem_set _).mp hm (0 : Fin 3)
  obtain ⟨i', hi', he'⟩ := (LoadRect.mem_set _).mp hm (1 : Fin 3)
  have h1 : i < 1 := hi
  have h2 : j.val = a + 1 * i := he
  have h3 : i' < 8 := hi'
  have h4 : r.val = b + 1 * i' := he'
  omega

/-- Rows just stored are what is read. -/
theorem hit (a b : Nat) (inb : ∀ x, (![a, b, 0] : Fin 3 → Nat) x + S1x8x1536.size x ≤ S8x16x1536.size x)
    (v : S1x8x1536.Idx → Elt Ideal .f32) (L : List (Piece (Elt Ideal) S8x16x1536 .f32)) (j : Fin 8) (r : Fin 8) (r' : Fin 16)
    (c : Fin 1536) (hj : j.val = a) (hr : r'.val = b + r.val) :
    canon ((⟨Rect.unit ![a, b, 0] S1x8x1536.size inb, v⟩ : Piece (Elt Ideal) S8x16x1536 .f32) :: L) (ix3 j r' c)
      = v (ix3 0 r c) := by
  have e : (Rect.unit (s := S8x16x1536) ![a, b, 0] S1x8x1536.size inb).emb (ix3 (0 : Fin 1) r c) = ix3 j r' c := by
    funext x; apply Fin.ext
    fin_cases x
    · show a + 1 * 0 = j.val; omega
    · show b + 1 * r.val = r'.val; omega
    · show 0 + 1 * c.val = c.val; omega
  rw [← e]
  exact canon_cons_emb (Rect.unit (s := S8x16x1536) ![a, b, 0] S1x8x1536.size inb) v L (ix3 (0 : Fin 1) r c)

/-- The scratch when sequence `k` reads it: the pasts of the sequences from `k` on, and the rows of sequence `k`. -/
def Holds (x0 x3 : Vec Ideal S8x8x1536 .f32) (L : List (Piece (Elt Ideal) S8x16x1536 .f32)) (k : Nat) : Prop :=
  (∀ (j r : Fin 8) (c : Fin 1536), k ≤ j.val → canon L (ix3 j ⟨r.val, by omega⟩ c) = x3 (ix3 j r c))
    ∧ ∀ (j r : Fin 8) (c : Fin 1536), j.val = k → canon L (ix3 j ⟨8 + r.val, by omega⟩ c) = x0 (ix3 j r c)

/-- At the first sequence. -/
theorem holds_zero (x0 x3 : Vec Ideal S8x8x1536 .f32) (inb inb') (v : S1x8x1536.Idx → Elt Ideal .f32) (v' : S8x8x1536.Idx → Elt Ideal .f32)
    (hv : ∀ r c, v (ix3 0 r c) = x0 (ix3 0 r c)) (hv' : ∀ i, v' i = x3 i) :
    Holds x0 x3 [⟨Rect.unit ![0, 8, 0] S1x8x1536.size inb, v⟩, ⟨Rect.unit ![0, 0, 0] S8x8x1536.size inb', v'⟩] 0 := by
  constructor
  · intro j r c _
    rw [skip _ _ _ _ _ _ _ _ (.inr (.inl (by show r.val < 8; omega)))]
    have e : (Rect.unit (s := S8x16x1536) ![0, 0, 0] S8x8x1536.size inb').emb (ix3 j r c) = ix3 j ⟨r.val, by omega⟩ c := by
      funext x; apply Fin.ext
      fin_cases x
      · show 0 + 1 * j.val = j.val; omega
      · show 0 + 1 * r.val = r.val; omega
      · show 0 + 1 * c.val = c.val; omega
    rw [← e]
    exact (canon_cons_emb (Rect.unit (s := S8x16x1536) ![0, 0, 0] S8x8x1536.size inb') v' [] (ix3 j r c)).trans (hv' _)
  · intro j r c hj
    rw [hit _ _ _ _ _ j r _ c hj rfl, hv]
    exact congrArg (fun z => x0 (ix3 z r c)) (Fin.ext hj.symm)

/-- From one sequence to the next. -/
theorem holds_succ (x0 x3 : Vec Ideal S8x8x1536 .f32) (k : Nat) (hk : k + 1 < 8) (inb inb') (v v' : S1x8x1536.Idx → Elt Ideal .f32)
    (L : List (Piece (Elt Ideal) S8x16x1536 .f32)) (hL : Holds x0 x3 L k) (hv : ∀ r c, v (ix3 0 r c) = x0 (ix3 ⟨k + 1, hk⟩ r c)) :
    Holds x0 x3 (⟨Rect.unit ![k + 1, 8, 0] S1x8x1536.size inb, v⟩ :: ⟨Rect.unit ![k, 0, 0] S1x8x1536.size inb', v'⟩ :: L) (k + 1) := by
  constructor
  · intro j r c hj
    rw [skip _ _ _ _ _ _ _ _ (.inr (.inl (by show r.val < 8; omega))), skip _ _ _ _ _ _ _ _ (.inl (by omega))]
    exact hL.1 j r c (by omega)
  · intro j r c hj
    rw [hit _ _ _ _ _ j r _ c hj rfl, hv]
    exact congrArg (fun z => x0 (ix3 z r c)) (Fin.ext hj.symm)

/-- A load of eight rows of sequence `k`'s scratch from row `o` on. -/
theorem load_apply {sig' : RefSig} {κ : Kind} {sp : Space} (V : View sig' κ sp S8x16x1536 .f32) (x0 x3 : Vec Ideal S8x8x1536 .f32)
    (L : List (Piece (Elt Ideal) S8x16x1536 .f32)) (k : Nat) (hL : Holds x0 x3 L k) (o : Nat) (ho : 5 ≤ o ∧ o ≤ 7)
    (inb : ∀ x, (![k, o, 0] : Fin 3 → Nat) x + S1x8x1536.size x ≤ S8x16x1536.size x) (j : Fin 8) (hj : j.val = k) (l : Fin 8)
    (c : Fin 1536) (q : Fin 11) (hq : q.val + 5 = o + l.val) :
    V.readCov L (Rect.unit (s := S8x16x1536) ![k, o, 0] S1x8x1536.size inb).toLoadRect (ix3 (0 : Fin 1) l c) = rows x0 x3 j c q := by
  rw [readCov_eq_canon']
  have e : (Rect.unit (s := S8x16x1536) ![k, o, 0] S1x8x1536.size inb).toLoadRect.idx (ix3 (0 : Fin 1) l c)
      = ix3 j ⟨o + l.val, by omega⟩ c := by
    funext x; apply Fin.ext
    fin_cases x
    · show k + 1 * 0 = j.val; omega
    · show o + 1 * l.val = o + l.val; omega
    · show 0 + 1 * c.val = c.val; omega
  refine (congrArg (canon L) e).trans ?_
  unfold rows
  by_cases h : q.val < 3
  · rw [dif_pos h]
    refine Eq.trans (congrArg (fun z => canon L (ix3 j z c)) (Fin.ext ?_)) (hL.1 j ⟨5 + q.val, by omega⟩ c (by omega))
    show o + l.val = 5 + q.val; omega
  · rw [dif_neg h]
    refine Eq.trans (congrArg (fun z => canon L (ix3 j z c)) (Fin.ext ?_)) (hL.2 j ⟨q.val - 3, by omega⟩ c hj)
    show o + l.val = 8 + (q.val - 3); omega

end Cert.SsdSIdeal.RefValue

end
-- ==== Proof.SsdS.Block.lean ====
/-
  A point of eight sequences: what it stores for the state, as one function of its blocks. Each of the 64 stores holds the
  state of one pair of heads of one sequence.
-/
module

public import proofs.«01_k».proof.Proof.SsdS.Scratch

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

/-- Sequence `j`'s load of rows lies in its block. -/
theorem inb_seq (j : Nat) (hj : j < 8) : ∀ x, (![j, 0, 0] : Fin 3 → Nat) x + S1x8x1536.size x ≤ S8x8x1536.size x := fun x => by
  fin_cases x
  · show j + 1 ≤ 8; omega
  · show 0 + 8 ≤ 8; omega
  · show 0 + 1536 ≤ 1536; omega

/-- Sequence `j`'s load of gates lies in its block. -/
theorem inb_gate (j : Nat) (hj : j < 8) : ∀ x, (![j, 0, 0] : Fin 3 → Nat) x + S1x8x128.size x ≤ S8x8x128.size x := fun x => by
  fin_cases x
  · show j + 1 ≤ 8; omega
  · show 0 + 8 ≤ 8; omega
  · show 0 + 128 ≤ 128; omega

/-- Sequence `j`'s load of scratch rows lies in the scratch. -/
theorem inb_row (j r : Nat) (hj : j < 8) (hr : r ≤ 8) :
    ∀ x, (![j, r, 0] : Fin 3 → Nat) x + S1x8x1536.size x ≤ S8x16x1536.size x := fun x => by
  fin_cases x
  · show j + 1 ≤ 8; omega
  · show r + 8 ≤ 16; omega
  · show 0 + 1536 ≤ 1536; omega

/-- The state of pair `p` of sequence `j` lies in the block. -/
theorem inb_pair (j p : Nat) (hj : j < 8) (hp : p < 8) :
    ∀ x, (![j, p, 0, 0] : Fin 4 → Nat) x + S1x1x128x128.size x ≤ S8x8x128x128.size x := fun x => by
  fin_cases x
  · show j + 1 ≤ 8; omega
  · show p + 1 ≤ 8; omega
  · show 0 + 128 ≤ 128; omega
  · show 0 + 128 ≤ 128; omega

/-- The lanes of pair `p`. -/
theorem slice_lanes (p : Nat) (hp : p < 8) : S8x1024.Slices ![0, 128 * p] S8x128 := by interval_cases p <;> decide
/-- The input columns of pair `p`'s group. -/
theorem slice_group (p : Nat) (hp : p < 8) : S8x1536.Slices ![0, 1024 + 128 * (p / 4)] S8x128 := by interval_cases p <;> decide
/-- The wide lanes of pair `p`'s first head. -/
theorem slice_first (p : Nat) (hp : p < 8) : S1x2048.Slices ![0, 256 * p] S1x128 := by interval_cases p <;> decide
/-- The wide lanes of pair `p`'s second head. -/
theorem slice_second (p : Nat) (hp : p < 8) : S1x2048.Slices ![0, 256 * p + 128] S1x128 := by interval_cases p <;> decide

/-- What the body stores for pair `p` of sequence `j`, the scratch holding `L` when the sequence reads it. -/
def stored (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg5 : Memref sig .tc .vmem S8x8x1536 .f32) (harg5 : arg5.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x3 : Vec Ideal S8x8x1536 .f32)
    (x4 : Vec Ideal S8x8x128x128 .f32) (x5 : Vec Ideal S4x1536 .f32) (x6 : Vec Ideal S1x1536 .f32) (x7 : Vec Ideal S2x128 .f32)
    (x10 : Vec Ideal S128x1024 .bf16) (x11 : Vec Ideal S128x2048 .bf16) : FVec Ideal S1x1x128x128 .f32 :=
  step (128 * p) (1024 + 128 * (p / 4)) (256 * p) (256 * p + 128) (slice_lanes p hp) (slice_group p hp) (slice_first p hp)
    (slice_second p hp)
    (readAt (Elt Ideal) arg2.view (Rect.unit (s := S8x8x1536) ![j, 0, 0] S1x8x1536.size (inb_seq j hj)).toLoadRect (harg2.unread x0))
    (arg16.view.readCov L (Rect.unit (s := S8x16x1536) ![j, 7, 0] S1x8x1536.size (inb_row j 7 hj (by decide))).toLoadRect)
    (arg16.view.readCov L (Rect.unit (s := S8x16x1536) ![j, 6, 0] S1x8x1536.size (inb_row j 6 hj (by decide))).toLoadRect)
    (arg16.view.readCov L (Rect.unit (s := S8x16x1536) ![j, 5, 0] S1x8x1536.size (inb_row j 5 hj (by decide))).toLoadRect)
    (readAt (Elt Ideal) arg7.view (Rect.unit (s := S4x1536) ![0, 0] S4x1536.size (by decide)).toLoadRect (harg7.unread x5))
    (readAt (Elt Ideal) arg8.view (Rect.unit (s := S1x1536) ![0, 0] S1x1536.size (by decide)).toLoadRect (harg8.unread x6))
    (readAt (Elt Ideal) arg3.view (Rect.unit (s := S8x8x128) ![j, 0, 0] S1x8x128.size (inb_gate j hj)).toLoadRect (harg3.unread x1))
    (readAt (Elt Ideal) arg9.view (Rect.unit (s := S2x128) ![0, 0] S1x128.size (by decide)).toLoadRect (harg9.unread x7))
    (readAt (Elt Ideal) arg9.view (Rect.unit (s := S2x128) ![1, 0] S1x128.size (by decide)).toLoadRect (harg9.unread x7))
    (readAt (Elt Ideal) arg12.view (Rect.unit (s := S128x1024) ![0, 0] S128x1024.size (by decide)).toLoadRect (harg12.unread x10))
    (readAt (Elt Ideal) arg13.view (Rect.unit (s := S128x2048) ![0, 0] S128x2048.size (by decide)).toLoadRect (harg13.unread x11))
    (arg15.view.readCov (H13_1 c arg6 harg6 x4)
      (Rect.unit (s := S8x8x128x128) ![j, p, 0, 0] S1x1x128x128.size (inb_pair j p hj hp)).toLoadRect)

/-- The state the whole block is to hold: at a sequence, a pair of heads, a lane of the two heads and a state column, the
    update of that lane's and that column's rows. The head of lane `r` of pair `p` is `2p + r / 64`, its gates in column
    `16 +` that; the column is of the pair's group. -/
def blockAt (x0 : Vec Ideal S8x8x1536 .f32) (x1 : Vec Ideal S8x8x128 .f32) (x3 : Vec Ideal S8x8x1536 .f32)
    (x4 : Vec Ideal S8x8x128x128 .f32) (x5 : Vec Ideal S4x1536 .f32) (x6 : Vec Ideal S1x1536 .f32) (x7 : Vec Ideal S2x128 .f32)
    (j p : Fin 8) (r n : Fin 128) : EReal :=
  have q : Fin 1536 := ⟨128 * p.val + r.val, by omega⟩
  have cn : Fin 1536 := ⟨1024 + 128 * (p.val / 4) + n.val, by omega⟩
  have k : Fin 128 := ⟨16 + (2 * p.val + r.val / 64), by omega⟩
  update (Scan.act (rows x0 x3 j q) (fun i => x5 (ix2 i q)) (x6 (ix2 0 q)))
    (Scan.act (rows x0 x3 j cn) (fun i => x5 (ix2 i cn)) (x6 (ix2 0 cn)))
    (fun l => x1 (ix3 j l k) + x7 (ix2 1 k)) (x7 (ix2 0 k)) (x4 (ix4 j p r n))

/-- The narrow selection matrix: lane `q` selects the column of its head, 64 lanes to a head. -/
def Narrow (s : Vec Ideal S128x1024 .bf16) : Prop :=
  ∀ (i : Fin 128) (q : Fin 1024), s (ix2 i q) = if i.val = 16 + q.val / 64 then (1 : EReal) else 0

/-- The wide selection matrix: 128 lanes to a head. -/
def Wide (s : Vec Ideal S128x2048 .bf16) : Prop :=
  ∀ (i : Fin 128) (q : Fin 2048), s (ix2 i q) = if i.val = 16 + q.val / 128 then (1 : EReal) else 0

/-- The logarithms of the sixteen heads' decay rates are not minus infinity. -/
def Rated (x7 : Vec Ideal S2x128 .f32) : Prop :=
  ∀ k : Fin 128, 16 ≤ k.val → k.val < 32 → x7 (ix2 0 k) ≠ (⊥ : EReal)

/-- A store is its part of the block. -/
theorem stored_apply (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg5 : Memref sig .tc .vmem S8x8x1536 .f32) (harg5 : arg5.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x3 : Vec Ideal S8x8x1536 .f32)
    (x4 : Vec Ideal S8x8x128x128 .f32) (x5 : Vec Ideal S4x1536 .f32) (x6 : Vec Ideal S1x1536 .f32) (x7 : Vec Ideal S2x128 .f32)
    (x10 : Vec Ideal S128x1024 .bf16) (x11 : Vec Ideal S128x2048 .bf16)
    (hL : Holds x0 x3 L j) (hs : Narrow x10) (hs' : Wide x11) (hg : Rated x7) (r n : Fin 128) :
    stored j p hj hp L c arg2 harg2 arg3 harg3 arg5 harg5 arg6 harg6 arg7 harg7 arg8 harg8 arg9 harg9 arg12 harg12 arg13 harg13 arg15 arg16 x0 x1 x3 x4 x5 x6 x7 x10 x11 (ix4 0 0 r n)
      = blockAt x0 x1 x3 x4 x5 x6 x7 ⟨j, hj⟩ ⟨p, hp⟩ r n := by
  have whole : ∀ {s : Shape} {e : EltTy} {m : Memref sig .tc .vmem s e} (h : m.IsWhole) (X : s.Idx → Elt Ideal e) (B : LoadRect s)
      (x : B.shape.Idx) (y : s.Idx), B.idx x = y → readAt (Elt Ideal) m.view B (h.unread X) x = X y :=
    fun h X B x y e => (h.readAt_unread X B x).trans (congrArg X e)
  have seq : ∀ (l : Fin 8) (d : Fin 1536), (readAt (Elt Ideal) arg2.view (Rect.unit (s := S8x8x1536) ![j, 0, 0] S1x8x1536.size (inb_seq j hj)).toLoadRect (harg2.unread x0)) (ix3 (0 : Fin 1) l d)
      = x0 (ix3 ⟨j, hj⟩ l d) := fun l d => whole harg2 x0 _ _ _ (by
    funext x; apply Fin.ext
    fin_cases x
    · show j + 1 * 0 = j; omega
    · show 0 + 1 * l.val = l.val; omega
    · show 0 + 1 * d.val = d.val; omega)
  have gate : ∀ (l : Fin 8) (d : Fin 128), (readAt (Elt Ideal) arg3.view (Rect.unit (s := S8x8x128) ![j, 0, 0] S1x8x128.size (inb_gate j hj)).toLoadRect (harg3.unread x1)) (ix3 (0 : Fin 1) l d)
      = x1 (ix3 ⟨j, hj⟩ l d) := fun l d => whole harg3 x1 _ _ _ (by
    funext x; apply Fin.ext
    fin_cases x
    · show j + 1 * 0 = j; omega
    · show 0 + 1 * l.val = l.val; omega
    · show 0 + 1 * d.val = d.val; omega)
  have taps : ∀ (l : Fin 4) (d : Fin 1536), (readAt (Elt Ideal) arg7.view (Rect.unit (s := S4x1536) ![0, 0] S4x1536.size (by decide)).toLoadRect (harg7.unread x5)) (ix2 l d) = x5 (ix2 l d) :=
    fun l d => whole harg7 x5 _ _ _ (by
      funext x; apply Fin.ext
      fin_cases x
      · show 0 + 1 * l.val = l.val; omega
      · show 0 + 1 * d.val = d.val; omega)
  have bias : ∀ (d : Fin 1536), (readAt (Elt Ideal) arg8.view (Rect.unit (s := S1x1536) ![0, 0] S1x1536.size (by decide)).toLoadRect (harg8.unread x6)) (ix2 0 d) = x6 (ix2 0 d) :=
    fun d => whole harg8 x6 _ _ _ (by
      funext x; apply Fin.ext
      fin_cases x
      · show 0 + 1 * 0 = 0; omega
      · show 0 + 1 * d.val = d.val; omega)
  have rate : ∀ (d : Fin 128), (readAt (Elt Ideal) arg9.view (Rect.unit (s := S2x128) ![0, 0] S1x128.size (by decide)).toLoadRect (harg9.unread x7)) (ix2 0 d) = x7 (ix2 0 d) :=
    fun d => whole harg9 x7 _ _ _ (by
      funext x; apply Fin.ext
      fin_cases x
      · show 0 + 1 * 0 = 0; omega
      · show 0 + 1 * d.val = d.val; omega)
  have shift : ∀ (d : Fin 128), (readAt (Elt Ideal) arg9.view (Rect.unit (s := S2x128) ![1, 0] S1x128.size (by decide)).toLoadRect (harg9.unread x7)) (ix2 0 d) = x7 (ix2 1 d) :=
    fun d => whole harg9 x7 _ _ _ (by
      funext x; apply Fin.ext
      fin_cases x
      · show 1 + 1 * 0 = 1; omega
      · show 0 + 1 * d.val = d.val; omega)
  have narrow : ∀ (l : Fin 128) (d : Fin 1024), (readAt (Elt Ideal) arg12.view (Rect.unit (s := S128x1024) ![0, 0] S128x1024.size (by decide)).toLoadRect (harg12.unread x10)) (ix2 l d) = x10 (ix2 l d) :=
    fun l d => whole harg12 x10 _ _ _ (by
      funext x; apply Fin.ext
      fin_cases x
      · show 0 + 1 * l.val = l.val; omega
      · show 0 + 1 * d.val = d.val; omega)
  have wide : ∀ (l : Fin 128) (d : Fin 2048), (readAt (Elt Ideal) arg13.view (Rect.unit (s := S128x2048) ![0, 0] S128x2048.size (by decide)).toLoadRect (harg13.unread x11)) (ix2 l d) = x11 (ix2 l d) :=
    fun l d => whole harg13 x11 _ _ _ (by
      funext x; apply Fin.ext
      fin_cases x
      · show 0 + 1 * l.val = l.val; omega
      · show 0 + 1 * d.val = d.val; omega)
  have prev : (arg15.view.readCov (H13_1 c arg6 harg6 x4)
      (Rect.unit (s := S8x8x128x128) ![j, p, 0, 0] S1x1x128x128.size (inb_pair j p hj hp)).toLoadRect) (ix4 (0 : Fin 1) (0 : Fin 1) r n)
      = x4 (ix4 ⟨j, hj⟩ ⟨p, hp⟩ r n) := by
    rw [readCov_eq_canon']
    have e : (Rect.unit (s := S8x8x128x128) ![j, p, 0, 0] S1x1x128x128.size (inb_pair j p hj hp)).toLoadRect.idx
        (ix4 (0 : Fin 1) (0 : Fin 1) r n) = ix4 ⟨j, hj⟩ ⟨p, hp⟩ r n := by
      funext x; apply Fin.ext
      fin_cases x
      · show j + 1 * 0 = j; omega
      · show p + 1 * 0 = p; omega
      · show 0 + 1 * r.val = r.val; omega
      · show 0 + 1 * n.val = n.val; omega
    refine (congrArg (canon (H13_1 c arg6 harg6 x4)) e).trans ?_
    unfold H13_1
    have e' : (Rect.unit (s := S8x8x128x128) ![0, 0, 0, 0] S8x8x128x128.size inb_S8x8x128x128_S8x8x128x128_0_0_0_0).emb
        (ix4 ⟨j, hj⟩ ⟨p, hp⟩ r n) = ix4 ⟨j, hj⟩ ⟨p, hp⟩ r n := by
      funext x; apply Fin.ext
      fin_cases x
      · show 0 + 1 * j = j; omega
      · show 0 + 1 * p = p; omega
      · show 0 + 1 * r.val = r.val; omega
      · show 0 + 1 * n.val = n.val; omega
    rw [← e', canon_cons_emb]
    have e3 : ∀ v : Vec Ideal S8x8x128x128 .f32, k0_pay3 v (ix4 ⟨j, hj⟩ ⟨p, hp⟩ r n) = v (ix4 ⟨j, hj⟩ ⟨p, hp⟩ r n) := fun v => by
      pointwise [k0_pay3]
    refine (e3 _).trans ((whole harg6 x4 _ _ _ e').trans (congrArg x4 e'.symm))
  unfold stored blockAt
  rw [step_apply (128 * p) (1024 + 128 * (p / 4)) (256 * p) (256 * p + 128) _ _ _ _ _ _ _ _ _ _ _ _ _ _ _ _ r n
    ⟨128 * p + r.val, by omega⟩ ⟨1024 + 128 * (p / 4) + n.val, by omega⟩
    ⟨(if r.val < 64 then 256 * p else 256 * p + 128) + n.val, by split <;> omega⟩ ⟨16 + (2 * p + r.val / 64), by omega⟩
    (rows x0 x3 ⟨j, hj⟩) ?_ ?_ ?_ ?_ rfl rfl rfl ?_ ?_ ?_]
  · simp only [taps, bias, gate, shift, rate, prev]
  · intro l d
    rw [seq]
    unfold rows
    rw [dif_neg (by show ¬ 3 + l.val < 3; omega)]
    exact congrArg (fun z => x0 (ix3 _ z d)) (Fin.ext (by show l.val = 3 + l.val - 3; omega))
  · exact fun l d => load_apply arg16.view x0 x3 L j hL 7 (by decide) _ ⟨j, hj⟩ rfl l d _ (by show 2 + l.val + 5 = 7 + l.val; omega)
  · exact fun l d => load_apply arg16.view x0 x3 L j hL 6 (by decide) _ ⟨j, hj⟩ rfl l d _ (by show 1 + l.val + 5 = 6 + l.val; omega)
  · exact fun l d => load_apply arg16.view x0 x3 L j hL 5 (by decide) _ ⟨j, hj⟩ rfl l d _ (by show l.val + 5 = 5 + l.val; omega)
  · intro i
    rw [narrow, hs]
    refine if_congr ⟨fun h => Fin.ext ?_, fun h => ?_⟩ rfl rfl
    · show i.val = 16 + (2 * p + r.val / 64)
      simp only at h; omega
    · rw [h]; show 16 + (2 * p + r.val / 64) = 16 + (128 * p + r.val) / 64; omega
  · intro i
    rw [wide, hs']
    have e : ((if r.val < 64 then 256 * p else 256 * p + 128) + n.val) / 128 = 2 * p + r.val / 64 := by
      split <;> omega
    refine if_congr ⟨fun h => Fin.ext ?_, fun h => ?_⟩ rfl rfl
    · show i.val = 16 + (2 * p + r.val / 64)
      simp only at h; omega
    · rw [h]; show 16 + (2 * p + r.val / 64) = 16 + ((if r.val < 64 then 256 * p else 256 * p + 128) + n.val) / 128; omega
  · rw [rate]
    exact hg _ (by show 16 ≤ 16 + (2 * p + r.val / 64); omega) (by show 16 + (2 * p + r.val / 64) < 32; omega)

end Cert.SsdSIdeal.RefValue

end
-- ==== Proof.SsdS.Entry.lean ====
/-
  What the state's kernel finds in its arrays: the projected rows by sequence, the past of the convolution behind five rows of
  padding, the states by pair of heads, the gates' parameters in their lanes, and the two matrices that spread a head's value
  over its columns.
-/
module

public import proofs.«01_k».proof.Proof.Gen.SsdSIdeal.Frame
public import proofs.«01_k».proof.Proof.SsdS.Block
public import Idealize.ShloMosaic.Lib.Pipeline.ValueKit
public import Idealize.ShloMosaic.Lib.StableHlo.ReadAt
public import Idealize.ShloMosaic.Lib.Routing.OpsOrder

@[expose] public section

set_option maxRecDepth 16384

noncomputable section

namespace Cert.SsdSIdeal.RefValue

open Cert.SsdSIdeal Cert.SsdSIdeal.Gen Idealize.ShloMosaic Idealize.ShloMosaic.TcCoe Scan
open Idealize.ShloMosaic.Pipeline (Dat)

variable (m : (ℓ : Loc nD τ sig) → Buf (Elt Ideal) ℓ)

/-- Where the windows' blocks lie at a point. -/
theorem idx : ∀ t : Fin cfg0.N, win0_0.index t = ![256 + t.val, 0, 2] ∧ win0_1.index t = ![256 + t.val, 0, 36]
    ∧ win0_3.index t = ![t.val, 0, 0] ∧ win0_4.index t = ![t.val, 0, 0, 0] ∧ win0_5.index t = ![0, 0] ∧ win0_6.index t = ![0, 0]
    ∧ win0_7.index t = ![0, 0] ∧ win0_10.index t = ![0, 0] ∧ win0_11.index t = ![0, 0] ∧ win0_13.index t = ![t.val, 0, 0, 0] :=
  (by decide +kernel : ∀ t : Fin grid0.N, _)

/-- The projected rows, by sequence of eight. -/
theorem proj_entry (c : Dev nD) (n : Fin 2176) (l : Fin 8) (d : Fin 7168) :
    V m c main_v44 (ix3 n l d) = m ((c : Thread nD τ).loc main_arg0) (ix2 ⟨n.val * 8 + l.val, by omega⟩ d) := by
  unfold V
  after_reads_at

/-- The convolution's past: its three rows lie behind five of padding. -/
theorem past_entry (c : Dev nD) (n : Fin 128) (k : Fin 3) (d : Fin 1536) :
    V m c main_v46 (ix3 n (⟨5 + k.val, by omega⟩ : Fin 8) d) = m ((c : Thread nD τ).loc main_arg1) (ix4 0 n k d) := by
  unfold V
  after_reads_at

/-- The states, two heads' rows together. -/
theorem state_entry (c : Dev nD) (n : Fin 128) (p : Fin 8) (r : Fin 128) (d : Fin 128) :
    V m c main_v48 (ix4 n p r d) = m ((c : Thread nD τ).loc main_arg2)
      (ix5 0 n (⟨p.val * 2 + r.val / 64, by omega⟩ : Fin 16) (⟨r.val % 64, by omega⟩ : Fin 64) d) := by
  unfold V
  after_reads_at

/-- The convolution's taps. -/
theorem taps_entry (c : Dev nD) (k : Fin 4) (d : Fin 1536) :
    V m c main_v0 (ix2 k d) = m ((c : Thread nD τ).loc main_arg3) (ix3 0 k d) := by
  unfold V
  after_reads_at

/-- The convolution's bias. -/
theorem bias_entry (c : Dev nD) (d : Fin 1536) :
    V m c main_v2 (ix2 0 d) = m ((c : Thread nD τ).loc main_arg4) (ix2 0 d) := by
  unfold V
  after_reads_at

/-- A fold that sets a value where one update lands ends at that update's. -/
theorem fold_hit {N : Nat} {α : Type} (g : Fin N → α) (k : Fin N) : ∀ (L : List (Fin N)) (a : α), (k ∈ L ∨ a = g k) →
    L.foldl (fun a n => if n = k then g n else a) a = g k
  | [], a, h => h.resolve_left List.not_mem_nil
  | n :: L, a, h => fold_hit g k L _ (by
      rcases eq_or_ne n k with rfl | hn
      · exact .inr (if_pos rfl)
      · rcases h with h | h
        · exact .inl ((List.mem_cons.1 h).resolve_left fun e => hn e.symm)
        · exact .inr ((if_neg hn).trans h))

/-- Where a head's parameter is put: the row's lane at column 16 and on. -/
theorem lands : ∀ n : Fin S16.numel, scatter_S1x128_S2_S16_0_0_01_0.resultIdx? (S16.rowMajor.symm n)
      (concatenate S2 0 [⟨S1, broadcastInDim S1 ![] bcast_S_S1 (constantI S_ 32 0#32)⟩,
        ⟨S1, broadcastInDim S1 ![] bcast_S_S1 (constantI S_ 32 16#32)⟩] concatenates_S1_S1_S2_d0)
      = some (ix2 (0 : Fin 1) (⟨16 + n.val, by have : n.val < 16 := n.isLt; omega⟩ : Fin 128)) := by
  decide +kernel

/-- The lane row of a head's parameter, read at the head's lane. -/
theorem lanes_apply (x : Vec Ideal S1x128 .f32) (u : Vec Ideal S16 .f32) (h : Fin 16) :
    Host.scatter scatter_S1x128_S2_S16_0_0_01_0 (fun _ b => b) x
      (concatenate S2 0 [⟨S1, broadcastInDim S1 ![] bcast_S_S1 (constantI S_ 32 0#32)⟩,
        ⟨S1, broadcastInDim S1 ![] bcast_S_S1 (constantI S_ 32 16#32)⟩] concatenates_S1_S1_S2_d0) u
      (ix2 (0 : Fin 1) (⟨16 + h.val, by omega⟩ : Fin 128)) = u (ix1 h) := by
  rw [← Routing.scatterIn_finRange, Routing.scatterIn_at]
  refine Eq.trans (congrArg (fun f => List.foldl f _ _) (funext fun a => funext fun n => ?_)) (fold_hit (fun n : Fin S16.numel => u (S16.rowMajor.symm n)) (⟨h.val, h.isLt⟩ : Fin S16.numel) (List.finRange S16.numel) (x (ix2 (0 : Fin 1) (⟨16 + h.val, by omega⟩ : Fin 128))) (.inl (List.mem_finRange _))) |>.trans ?_
  · rw [lands n]
    refine if_congr ⟨fun e => ?_, fun e => ?_⟩ rfl rfl
    · have := congrArg Fin.val (congrFun (Option.some.inj e) (1 : Fin 2))
      exact Fin.ext (Nat.add_left_cancel (show 16 + n.val = 16 + h.val from this))
    · subst e; rfl
  · exact congrArg u (by
      have key : ∀ h : Fin 16, S16.rowMajor.symm (⟨h.val, h.isLt⟩ : Fin S16.numel) = ix1 h := by decide +kernel
      exact key h)

/-- The gates' scale, in its lane. -/
theorem scale_entry (c : Dev nD) (h : Fin 16) :
    V m c main_v15 (ix2 (0 : Fin 2) (⟨16 + h.val, by omega⟩ : Fin 128)) = m ((c : Thread nD τ).loc main_arg5) (ix2 0 h) := by
  unfold V
  after_reads_at
  exact lanes_apply _ _ h

/-- The gates' bias, in its lane. -/
theorem shift_entry (c : Dev nD) (h : Fin 16) :
    V m c main_v15 (ix2 (1 : Fin 2) (⟨16 + h.val, by omega⟩ : Fin 128)) = m ((c : Thread nD τ).loc main_arg6) (ix2 0 h) := by
  unfold V
  after_reads_at
  exact lanes_apply _ _ h

/-- A word's quotient by a width, rounded down, and 16 added: as the host computes it. -/
def place (w x : BitVec 32) : BitVec 32 :=
  IntOp.addi
    (Scalar.select
      (IntOp.andi
        (IntOp.cmpi CmpIPredicate.ne (if x = 0 then 0 else if x.msb = true then -1 else 1 : BitVec 32)
          (if w = 0 then 0 else if BitVec.msb w = true then -1 else 1 : BitVec 32))
        (IntOp.cmpi CmpIPredicate.ne (IntOp.remsi ArithUnit.host x w) 0#32))
      (IntOp.subi (IntOp.divsi ArithUnit.host x w) 1#32)
      (IntOp.divsi ArithUnit.host x w))
    16#32

/-- A column's head, 64 columns to a head. -/
theorem place_narrow : ∀ q : Fin 1024, place 64#32 (BitVec.ofNat 32 q.val) = BitVec.ofNat 32 (16 + q.val / 64) := by
  decide +kernel

/-- A column's head, 128 columns to a head. -/
theorem place_wide : ∀ q : Fin 2048, place 128#32 (BitVec.ofNat 32 q.val) = BitVec.ofNat 32 (16 + q.val / 128) := by
  decide +kernel

/-- Whether two small numbers are the same, as a value. -/
theorem same (a b : Nat) (ha : a < 128) (hb : b < 128) :
    (FloatOps.uitofp (F := Ideal) FTy.bf16 (IntOp.cmpi CmpIPredicate.eq (BitVec.ofNat 32 a) (BitVec.ofNat 32 b)) : Elt Ideal .bf16)
      = if b = a then (1 : EReal) else 0 := by
  by_cases h : b = a
  · subst h
    rw [if_pos rfl]
    simp [IntOp.cmpi, FloatOps.uitofp]
  · rw [if_neg h]
    have : BitVec.ofNat 32 a ≠ BitVec.ofNat 32 b := fun e => h (by
      have := congrArg BitVec.toNat e
      simp only [BitVec.toNat_ofNat] at this
      omega)
    simp [IntOp.cmpi, FloatOps.uitofp, this]

/-- The matrix that spreads a head's value over its 64 columns. -/
theorem narrow_entry (c : Dev nD) (i : Fin 128) (q : Fin 1024) :
    (V m c main_v32 (ix2 i q) : Elt Ideal .bf16) = if i.val = 16 + q.val / 64 then (1 : EReal) else 0 := by
  unfold V
  after_reads_at
  refine (congrArg (fun w => FloatOps.uitofp (F := Ideal) FTy.bf16 (IntOp.cmpi CmpIPredicate.eq w (BitVec.ofNat 32 i.val))) (place_narrow q)).trans ?_
  exact same _ _ (by omega) i.isLt

/-- The matrix that spreads a head's value over its 128 columns. -/
theorem wide_entry (c : Dev nD) (i : Fin 128) (q : Fin 2048) :
    (V m c main_v43 (ix2 i q) : Elt Ideal .bf16) = if i.val = 16 + q.val / 128 then (1 : EReal) else 0 := by
  unfold V
  after_reads_at
  refine (congrArg (fun w => FloatOps.uitofp (F := Ideal) FTy.bf16 (IntOp.cmpi CmpIPredicate.eq w (BitVec.ofNat 32 i.val))) (place_wide q)).trans ?_
  exact same _ _ (by omega) i.isLt

/-- A point's rows: eight sequences of the sample, columns 3072 and on. -/
theorem rows_apply (c : Dev nD) (t : Fin cfg0.N) (j l : Fin 8) (d : Fin 1536) :
    (X0_0 m c t : Vec Ideal S8x8x1536 .f32) (ix3 j l d)
      = V m c main_v44 (ix3 (⟨2048 + t.val * 8 + j.val, by have := t.isLt; have h : cfg0.N = 16 := N_0; omega⟩ : Fin 2176) l (⟨3072 + d.val, by omega⟩ : Fin 7168)) := by
  unfold X0_0 Pipeline.Window.fill
  rw [dif_pos (moved0_0 t _)]
  blk_ext [iblk, idx t]

/-- A point's gates: columns 4608 and on. -/
theorem gates_apply (c : Dev nD) (t : Fin cfg0.N) (j l : Fin 8) (d : Fin 128) :
    (iblk m c 1 t : Vec Ideal S8x8x128 .f32) (ix3 j l d)
      = V m c main_v44 (ix3 (⟨2048 + t.val * 8 + j.val, by have := t.isLt; have h : cfg0.N = 16 := N_0; omega⟩ : Fin 2176) l (⟨4608 + d.val, by omega⟩ : Fin 7168)) := by
  blk_ext [iblk, idx t]

/-- A point's pasts. -/
theorem past_apply (c : Dev nD) (t : Fin cfg0.N) (j l : Fin 8) (d : Fin 1536) :
    (iblk m c 3 t : Vec Ideal S8x8x1536 .f32) (ix3 j l d)
      = V m c main_v46 (ix3 (⟨t.val * 8 + j.val, by have := t.isLt; have h : cfg0.N = 16 := N_0; omega⟩ : Fin 128) l d) := by
  blk_ext [iblk, idx t]

/-- A point's states. -/
theorem states_apply (c : Dev nD) (t : Fin cfg0.N) (j p : Fin 8) (r n : Fin 128) :
    (iblk m c 4 t : Vec Ideal S8x8x128x128 .f32) (ix4 j p r n)
      = V m c main_v48 (ix4 (⟨t.val * 8 + j.val, by have := t.isLt; have h : cfg0.N = 16 := N_0; omega⟩ : Fin 128) p r n) := by
  blk_ext [iblk, idx t]

/-- A point's taps, bias, parameters and matrices are the whole of each. -/
theorem taps_apply (c : Dev nD) (t : Fin cfg0.N) (k : Fin 4) (d : Fin 1536) :
    (iblk m c 5 t : Vec Ideal S4x1536 .f32) (ix2 k d) = V m c main_v0 (ix2 k d) := by
  blk_ext [iblk, idx t]

/-- The bias's block. -/
theorem bias_apply (c : Dev nD) (t : Fin cfg0.N) (d : Fin 1536) :
    (iblk m c 6 t : Vec Ideal S1x1536 .f32) (ix2 0 d) = V m c main_v2 (ix2 0 d) := by
  blk_ext [iblk, idx t]

/-- The parameters' block. -/
theorem lane_apply (c : Dev nD) (t : Fin cfg0.N) (i : Fin 2) (d : Fin 128) :
    (iblk m c 7 t : Vec Ideal S2x128 .f32) (ix2 i d) = V m c main_v15 (ix2 i d) := by
  blk_ext [iblk, idx t]

/-- The narrow matrix's block. -/
theorem narrow_apply (c : Dev nD) (t : Fin cfg0.N) : Narrow (iblk m c 10 t : Vec Ideal S128x1024 .bf16) := fun i q => by
  refine Eq.trans ?_ (narrow_entry m c i q)
  blk_ext [iblk, idx t]

/-- The wide matrix's block. -/
theorem wide_apply (c : Dev nD) (t : Fin cfg0.N) : Wide (iblk m c 11 t : Vec Ideal S128x2048 .bf16) := fun i q => by
  refine Eq.trans ?_ (wide_entry m c i q)
  blk_ext [iblk, idx t]

end Cert.SsdSIdeal.RefValue

end
-- ==== Proof.SsdS.Stores.lean ====
/-
  The body's stores, one by one: each is the state of one pair of heads of one sequence, and together they fill the block.
-/
module

public import proofs.«01_k».proof.Proof.SsdS.Block
public import Idealize.ShloMosaic.Lib.Pipeline.Value

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

/-- A load of one sequence's rows. -/
theorem load_seq (arg2 : Memref sig .tc .vmem S8x8x1536 .f32) (harg2 : arg2.IsWhole) (x0 : Vec Ideal S8x8x1536 .f32) (j : Nat)
    (hj : j < 8) (inb : ∀ x, (![j, 0, 0] : Fin 3 → Nat) x + S1x8x1536.size x ≤ S8x8x1536.size x)
    (h : S1x8x1536.ShapeCasts S8x1536) (h' : S8x1536.ShapeCasts S1x8x1536) (r : Fin 8) (d : Fin 1536) :
    (shapeCast S1x8x1536 (shapeCast S8x1536 (readAt (Elt Ideal) arg2.view (Rect.unit (s := S8x8x1536) ![j, 0, 0] S1x8x1536.size
      inb).toLoadRect (harg2.unread x0)) h) h' : Vec Ideal S1x8x1536 .f32) (ix3 0 r d) = x0 (ix3 ⟨j, hj⟩ r d) := by
  have e : (readAt (Elt Ideal) arg2.view (Rect.unit (s := S8x8x1536) ![j, 0, 0] S1x8x1536.size inb).toLoadRect
      (harg2.unread x0)) (ix3 (0 : Fin 1) r d) = x0 (ix3 ⟨j, hj⟩ r d) :=
    (harg2.readAt_unread x0 _ _).trans (congrArg x0 (by
      funext x; apply Fin.ext
      fin_cases x
      · show j + 1 * 0 = j; omega
      · show 0 + 1 * r.val = r.val; omega
      · show 0 + 1 * d.val = d.val; omega))
  refine Eq.trans ?_ e
  generalize readAt (Elt Ideal) arg2.view (Rect.unit (s := S8x8x1536) ![j, 0, 0] S1x8x1536.size inb).toLoadRect
      (harg2.unread x0) = v
  pointwise

/-- A load of all the pasts. -/
theorem load_past (arg5 : Memref sig .tc .vmem S8x8x1536 .f32) (harg5 : arg5.IsWhole) (x3 : Vec Ideal S8x8x1536 .f32)
    (inb : ∀ x, (![0, 0, 0] : Fin 3 → Nat) x + S8x8x1536.size x ≤ S8x8x1536.size x) (i : S8x8x1536.Idx) :
    k0_pay2 (readAt (Elt Ideal) arg5.view (Rect.unit (s := S8x8x1536) ![0, 0, 0] S8x8x1536.size
      inb).toLoadRect (harg5.unread x3)) i = x3 i := by
  obtain ⟨i0, i1, i2, rfl⟩ : ∃ (i0 i1 : Fin 8) (i2 : Fin 1536), i = ix3 i0 i1 i2 := ⟨i 0, i 1, i 2, eq_ix3 i⟩
  have e : (readAt (Elt Ideal) arg5.view (Rect.unit (s := S8x8x1536) ![0, 0, 0] S8x8x1536.size inb).toLoadRect
      (harg5.unread x3)) (ix3 i0 i1 i2) = x3 (ix3 i0 i1 i2) :=
    (harg5.readAt_unread x3 _ _).trans (congrArg x3 (by
      funext x; apply Fin.ext
      fin_cases x
      · show 0 + 1 * i0.val = i0.val; omega
      · show 0 + 1 * i1.val = i1.val; omega
      · show 0 + 1 * i2.val = i2.val; omega))
  refine Eq.trans ?_ e
  generalize readAt (Elt Ideal) arg5.view (Rect.unit (s := S8x8x1536) ![0, 0, 0] S8x8x1536.size inb).toLoadRect
      (harg5.unread x3) = v
  pointwise [k0_pay2]

/-- The scratch when the first sequence reads it, -/
theorem holds0 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_2 c arg2 harg2 arg5 harg5 x0 x3) 0 :=
  holds_zero x0 x3 _ _ _ _ (fun r d => load_seq arg2 harg2 x0 0 (by decide) _ shapeCasts_S1x8x1536_S8x1536
    shapeCasts_S8x1536_S1x8x1536 r d) (load_past arg5 harg5 x3 _)

/-- and when sequence 1 reads it. -/
theorem holds1 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_4 c arg2 harg2 arg5 harg5 arg16 x0 x3) 1 :=
  holds_succ x0 x3 0 (by decide) _ _ _ _ _ (holds0 c arg2 harg2 arg5 harg5 arg16 x0 x3)
    (fun r d => load_seq arg2 harg2 x0 1 (by decide) _ shapeCasts_S1x8x1536_S8x1536 shapeCasts_S8x1536_S1x8x1536 r d)

/-- and when sequence 2 reads it. -/
theorem holds2 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_6 c arg2 harg2 arg5 harg5 arg16 x0 x3) 2 :=
  holds_succ x0 x3 1 (by decide) _ _ _ _ _ (holds1 c arg2 harg2 arg5 harg5 arg16 x0 x3)
    (fun r d => load_seq arg2 harg2 x0 2 (by decide) _ shapeCasts_S1x8x1536_S8x1536 shapeCasts_S8x1536_S1x8x1536 r d)

/-- and when sequence 3 reads it. -/
theorem holds3 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_8 c arg2 harg2 arg5 harg5 arg16 x0 x3) 3 :=
  holds_succ x0 x3 2 (by decide) _ _ _ _ _ (holds2 c arg2 harg2 arg5 harg5 arg16 x0 x3)
    (fun r d => load_seq arg2 harg2 x0 3 (by decide) _ shapeCasts_S1x8x1536_S8x1536 shapeCasts_S8x1536_S1x8x1536 r d)

/-- and when sequence 4 reads it. -/
theorem holds4 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_10 c arg2 harg2 arg5 harg5 arg16 x0 x3) 4 :=
  holds_succ x0 x3 3 (by decide) _ _ _ _ _ (holds3 c arg2 harg2 arg5 harg5 arg16 x0 x3)
    (fun r d => load_seq arg2 harg2 x0 4 (by decide) _ shapeCasts_S1x8x1536_S8x1536 shapeCasts_S8x1536_S1x8x1536 r d)

/-- and when sequence 5 reads it. -/
theorem holds5 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_12 c arg2 harg2 arg5 harg5 arg16 x0 x3) 5 :=
  holds_succ x0 x3 4 (by decide) _ _ _ _ _ (holds4 c arg2 harg2 arg5 harg5 arg16 x0 x3)
    (fun r d => load_seq arg2 harg2 x0 5 (by decide) _ shapeCasts_S1x8x1536_S8x1536 shapeCasts_S8x1536_S1x8x1536 r d)

/-- and when sequence 6 reads it. -/
theorem holds6 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_14 c arg2 harg2 arg5 harg5 arg16 x0 x3) 6 :=
  holds_succ x0 x3 5 (by decide) _ _ _ _ _ (holds5 c arg2 harg2 arg5 harg5 arg16 x0 x3)
    (fun r d => load_seq arg2 harg2 x0 6 (by decide) _ shapeCasts_S1x8x1536_S8x1536 shapeCasts_S8x1536_S1x8x1536 r d)

/-- and when sequence 7 reads it. -/
theorem holds7 (c : Dev nD) (arg2 : Memref sig .tc .vmem S8x8x1536 .f32) (harg2 : arg2.IsWhole)
    (arg5 : Memref sig .tc .vmem S8x8x1536 .f32) (harg5 : arg5.IsWhole) (arg16 : Memref sig .tc .vmem S8x16x1536 .f32)
    (x0 x3 : Vec Ideal S8x8x1536 .f32) :
    Holds x0 x3 (HS0_16 c arg2 harg2 arg5 harg5 arg16 x0 x3) 7 :=
  holds_succ x0 x3 6 (by decide) _ _ _ _ _ (holds6 c arg2 harg2 arg5 harg5 arg16 x0 x3)
    (fun r d => load_seq arg2 harg2 x0 7 (by decide) _ shapeCasts_S1x8x1536_S8x1536 shapeCasts_S8x1536_S1x8x1536 r d)

/-- The block's states, as one function of the block's indices. -/
def fill (x0 : Vec Ideal S8x8x1536 .f32) (x1 : Vec Ideal S8x8x128 .f32) (x3 : Vec Ideal S8x8x1536 .f32)
    (x4 : Vec Ideal S8x8x128x128 .f32) (x5 : Vec Ideal S4x1536 .f32) (x6 : Vec Ideal S1x1536 .f32) (x7 : Vec Ideal S2x128 .f32)
    (y : S8x8x128x128.Idx) : Elt Ideal .f32 := blockAt x0 x1 x3 x4 x5 x6 x7 (y 0) (y 1) (y 2) (y 3)

/-- A store is its part of the block, at the store's own indices. -/
theorem stored_emb (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg5 : Memref sig .tc .vmem S8x8x1536 .f32) (harg5 : arg5.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x3 : Vec Ideal S8x8x1536 .f32)
    (x4 : Vec Ideal S8x8x128x128 .f32) (x5 : Vec Ideal S4x1536 .f32) (x6 : Vec Ideal S1x1536 .f32) (x7 : Vec Ideal S2x128 .f32)
    (x10 : Vec Ideal S128x1024 .bf16) (x11 : Vec Ideal S128x2048 .bf16)
    (hL : Holds x0 x3 L j) (hs : Narrow x10) (hs' : Wide x11) (hg : Rated x7)
    (inb : ∀ x, (![j, p, 0, 0] : Fin 4 → Nat) x + S1x1x128x128.size x ≤ S8x8x128x128.size x) (x : S1x1x128x128.Idx) :
    stored j p hj hp L c arg2 harg2 arg3 harg3 arg5 harg5 arg6 harg6 arg7 harg7 arg8 harg8 arg9 harg9 arg12 harg12 arg13 harg13 arg15 arg16 x0 x1 x3 x4 x5 x6 x7 x10 x11 x
      = (fill x0 x1 x3 x4 x5 x6 x7) ((Rect.unit (s := S8x8x128x128) ![j, p, 0, 0] S1x1x128x128.size inb).emb x) := by
  obtain ⟨a, b, r, n, rfl⟩ : ∃ (a b : Fin 1) (r n : Fin 128), x = ix4 a b r n := ⟨x 0, x 1, x 2, x 3, eq_ix4 x⟩
  obtain rfl : a = 0 := Subsingleton.elim _ _
  obtain rfl : b = 0 := Subsingleton.elim _ _
  have e : (Rect.unit (s := S8x8x128x128) ![j, p, 0, 0] S1x1x128x128.size inb).emb (ix4 (0 : Fin 1) (0 : Fin 1) r n)
      = ix4 ⟨j, hj⟩ ⟨p, hp⟩ r n := by
    funext x; apply Fin.ext
    fin_cases x
    · show j + 1 * 0 = j; omega
    · show p + 1 * 0 = p; omega
    · show 0 + 1 * r.val = r.val; omega
    · show 0 + 1 * n.val = n.val; omega
  rw [e]
  exact stored_apply j p hj hp L c arg2 harg2 arg3 harg3 arg5 harg5 arg6 harg6 arg7 harg7 arg8 harg8 arg9 harg9 arg12 harg12 arg13 harg13 arg15 arg16 x0 x1 x3 x4 x5 x6 x7 x10 x11 hL hs hs' hg r n

/-- Stores run from the first sequence's first pair of heads to the last's last, so the list holds the last one first. Where the
    newest store holds the index it decides the value, and where it does not the index lies in an older store. -/
theorem newest (j p : Nat) (hp : p < 8) (inb : ∀ x, (![j, p, 0, 0] : Fin 4 → Nat) x + S1x1x128x128.size x ≤ S8x8x128x128.size x)
    (w : Vec Ideal S1x1x128x128 .f32) (L : List (Piece (Elt Ideal) S8x8x128x128 .f32)) (G : S8x8x128x128.Idx → Elt Ideal .f32)
    (y : S8x8x128x128.Idx)
    (hw : ∀ x, w x = G ((Rect.unit (s := S8x8x128x128) ![j, p, 0, 0] S1x1x128x128.size inb).emb x))
    (hlt : 8 * (y 0).val + (y 1).val < 8 * j + p + 1)
    (hL : 8 * (y 0).val + (y 1).val < 8 * j + p → canon L y = G y) :
    canon ((⟨Rect.unit (s := S8x8x128x128) ![j, p, 0, 0] S1x1x128x128.size inb, w⟩ : Piece (Elt Ideal) S8x8x128x128 .f32) :: L) y
      = G y := by
  have h1 : (y 1).val < 8 := (y 1).isLt
  by_cases hy : 8 * (y 0).val + (y 1).val < 8 * j + p
  · refine (canon_cons_of_not_mem (⟨Rect.unit (s := S8x8x128x128) ![j, p, 0, 0] S1x1x128x128.size inb, w⟩ : Piece (Elt Ideal) S8x8x128x128 .f32) L ?_).trans (hL hy)
    intro hm
    obtain ⟨i, hi, he⟩ := (LoadRect.mem_set _).mp hm (0 : Fin 4)
    obtain ⟨i', hi', he'⟩ := (LoadRect.mem_set _).mp hm (1 : Fin 4)
    change (y 0).val = j + 1 * i at he
    change (y 1).val = p + 1 * i' at he'
    omega
  · have e : y = (Rect.unit (s := S8x8x128x128) ![j, p, 0, 0] S1x1x128x128.size inb).emb (ix4 (0 : Fin 1) (0 : Fin 1) (y 2) (y 3)) := by
      funext x; apply Fin.ext
      fin_cases x
      · show (y 0).val = j + 1 * 0; omega
      · show (y 1).val = p + 1 * 0; omega
      · show (y 2).val = 0 + 1 * (y 2).val; omega
      · show (y 3).val = 0 + 1 * (y 3).val; omega
    rw [e]
    exact (canon_cons_emb (Rect.unit (s := S8x8x128x128) ![j, p, 0, 0] S1x1x128x128.size inb) w L (ix4 (0 : Fin 1) (0 : Fin 1) (y 2) (y 3))).trans (hw _)

/-- A store's rectangle lies in the block. -/
theorem fits (j p : Nat) (hj : j < 8) (hp : p < 8) (x : Fin 4) :
    (![j, p, 0, 0] : Fin 4 → Nat) x + S1x1x128x128.size x ≤ S8x8x128x128.size x := by
  fin_cases x
  · show j + 1 ≤ 8; omega
  · show p + 1 ≤ 8; omega
  · show 0 + 128 ≤ 128; omega
  · show 0 + 128 ≤ 128; omega

set_option maxHeartbeats 4000000 in
/-- WHAT THE BODY LEAVES for the state, at an index: the block's update. -/
theorem out_apply (c : Dev nD) (i : grid0.Coords) (arg2 : Memref sig .tc .vmem S8x8x1536 .f32) (harg2 : arg2.IsWhole) (arg3 : Memref sig
    .tc .vmem S8x8x128 .f32) (harg3 : arg3.IsWhole) (arg4 : Memref sig .tc .vmem S8x8x1024 .f32) (harg4 :
    arg4.IsWhole) (arg5 : Memref sig .tc .vmem S8x8x1536 .f32) (harg5 : arg5.IsWhole) (arg6 : Memref sig .tc .vmem
    S8x8x128x128 .f32) (harg6 : arg6.IsWhole) (arg7 : Memref sig .tc .vmem S4x1536 .f32) (harg7 : arg7.IsWhole) (arg8
    : Memref sig .tc .vmem S1x1536 .f32) (harg8 : arg8.IsWhole) (arg9 : Memref sig .tc .vmem S2x128 .f32) (harg9 :
    arg9.IsWhole) (arg10 : Memref sig .tc .vmem S1x1024 .f32) (harg10 : arg10.IsWhole) (arg11 : Memref sig .tc .vmem
    S1x1024 .f32) (harg11 : arg11.IsWhole) (arg12 : Memref sig .tc .vmem S128x1024 .bf16) (harg12 : arg12.IsWhole)
    (arg13 : Memref sig .tc .vmem S128x2048 .bf16) (harg13 : arg13.IsWhole) (arg14 : Memref sig .tc .vmem S8x1x8x1024
    .f32) (harg14 : arg14.IsWhole) (arg15 : Memref sig .tc .vmem S8x8x128x128 .f32) (harg15 : arg15.IsWhole) (arg16 :
    Memref sig .tc .vmem S8x16x1536 .f32) (harg16 : arg16.IsWhole) (hc0 : cond0_0 i)     (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal
    S128x2048 .bf16)
    (hs : Narrow x10) (hs' : Wide x11) (hg : Rated x7) (y : S8x8x128x128.Idx) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
      = blockAt x0 x1 x3 x4 x5 x6 x7 (y 0) (y 1) (y 2) (y 3) := by
  have S : ∀ (j p : Nat) (hj : j < 8) (hp : p < 8) (L : List (Piece (Elt Ideal) S8x16x1536 .f32)) (hL : Holds x0 x3 L j)
      (x : S1x1x128x128.Idx), _ := fun j p hj hp L hL x =>
    stored_emb j p hj hp L c arg2 harg2 arg3 harg3 arg5 harg5 arg6 harg6 arg7 harg7 arg8 harg8 arg9 harg9 arg12 harg12 arg13 harg13 arg15 arg16 x0 x1 x3 x4 x5 x6 x7 x10 x11 hL hs hs' hg (fits j p hj hp) x
  show _ = (fill x0 x1 x3 x4 x5 x6 x7) y
  unfold out0_A_13
  rw [read_writes_junk_eq_canon]
  have hlt : 8 * (y 0).val + (y 1).val < 64 := by
    have h0 : (y 0).val < 8 := (y 0).isLt
    have h1 : (y 1).val < 8 := (y 1).isLt
    omega
  unfold kernelRun0_A
  dsimp only
  refine newest 7 7 (by decide) _ _ _ _ y (S 7 7 (by decide) (by decide) _ (holds7 c arg2 harg2 arg5 harg5 arg16 x0 x3)) hlt fun hlt => ?_
  refine newest 7 6 (by decide) _ _ _ _ y (S 7 6 (by decide) (by decide) _ (holds7 c arg2 harg2 arg5 harg5 arg16 x0 x3)) hlt fun hlt => ?_
  refine newest 7 5 (by decide) _ _ _ _ y (S 7 5 (by decide) (by decide) _ (holds7 c arg2 harg2 arg5 harg5 arg16 x0 x3)) hlt fun hlt => ?_
  refine newest 7 4 (by decide) _ _ _ _ y (S 7 4 (by decide) (by decide) _ (holds7 c arg2 harg2 arg5 harg5 arg16 x0 x3)) hlt fun hlt => ?_
  refine newest 7 3 (by decide) _ _ _ _ y (S 7 3 (by decide) (by decide) _ (holds7 c arg2 harg2 arg5 harg5 arg16 x0 x3)) hlt fun hlt => ?_
  refine newest 7 2 (by decide) _ _ _ _ y (S 7 2 (by decide) (by decide) _ (holds7 c arg2 harg2 arg5 harg5 arg16 x0 x3)) hlt fun hlt => ?_
  refine newest 7 1 (by decide) _ _ _ _ y (S 7 1 (by decide) (by decide) _ (holds7 c arg2 harg2 arg5 harg5 arg16 x0 x3)) hlt fun hlt => ?_
  refine newest 7 0 (by decide) _ _ _ _ y (S 7 0 (by decide) (by decide) _ (holds7 c arg2 harg2 arg5 harg5 arg16 x0 x3)) hlt fun hlt => ?_
  refine newest 6 7 (by decide) _ _ _ _ y (S 6 7 (by decide) (by decide) _ (holds6 c arg2 harg2 arg5 harg5 arg16 x0 x3)) hlt fun hlt => ?_
  refine newest 6 6 (by decide) _ _ _ _ y (S 6 6 (by decide) (by decide) _ (holds6 c arg2 harg2 arg5 harg5 arg16 x0 x3)) hlt fun hlt => ?_
  refine newest 6 5 (by decide) _ _ _ _ y (S 6 5 (by decide) (by decide) _ (holds6 c arg2 harg2 arg5 harg5 arg16 x0 x3)) hlt fun hlt => ?_
  refine newest 6 4 (by decide) _ _ _ _ y (S 6 4 (by decide) (by decide) _ (holds6 c arg2 harg2 arg5 harg5 arg16 x0 x3)) hlt fun hlt => ?_
  refine newest 6 3 (by decide) _ _ _ _ y (S 6 3 (by decide) (by decide) _ (holds6 c arg2 harg2 arg5 harg5 arg16 x0 x3)) hlt fun hlt => ?_
  refine newest 6 2 (by decide) _ _ _ _ y (S 6 2 (by decide) (by decide) _ (holds6 c arg2 harg2 arg5 harg5 arg16 x0 x3)) hlt fun hlt => ?_
  refine newest 6 1 (by decide) _ _ _ _ y (S 6 1 (by decide) (by decide) _ (holds6 c arg2 harg2 arg5 harg5 arg16 x0 x3)) hlt fun hlt => ?_
  refine newest 6 0 (by decide) _ _ _ _ y (S 6 0 (by decide) (by decide) _ (holds6 c arg2 harg2 arg5 harg5 arg16 x0 x3)) hlt fun hlt => ?_
  refine newest 5 7 (by decide) _ _ _ _ y (S 5 7 (by decide) (by decide) _ (holds5 c arg2 harg2 arg5 harg5 arg16 x0 x3)) hlt fun hlt => ?_
  refine newest 5 6 (by decide) _ _ _ _ y (S 5 6 (by decide) (by decide) _ (holds5 c arg2 harg2 arg5 harg5 arg16 x0 x3)) hlt fun hlt => ?_
  refine newest 5 5 (by decide) _ _ _ _ y (S 5 5 (by decide) (by decide) _ (holds5 c arg2 harg2 arg5 harg5 arg16 x0 x3)) hlt fun hlt => ?_
  refine newest 5 4 (by decide) _ _ _ _ y (S 5 4 (by decide) (by decide) _ (holds5 c arg2 harg2 arg5 harg5 arg16 x0 x3)) hlt fun hlt => ?_
  refine newest 5 3 (by decide) _ _ _ _ y (S 5 3 (by decide) (by decide) _ (holds5 c arg2 harg2 arg5 harg5 arg16 x0 x3)) hlt fun hlt => ?_
  refine newest 5 2 (by decide) _ _ _ _ y (S 5 2 (by decide) (by decide) _ (holds5 c arg2 harg2 arg5 harg5 arg16 x0 x3)) hlt fun hlt => ?_
  refine newest 5 1 (by decide) _ _ _ _ y (S 5 1 (by decide) (by decide) _ (holds5 c arg2 harg2 arg5 harg5 arg16 x0 x3)) hlt fun hlt => ?_
  refine newest 5 0 (by decide) _ _ _ _ y (S 5 0 (by decide) (by decide) _ (holds5 c arg2 harg2 arg5 harg5 arg16 x0 x3)) hlt fun hlt => ?_
  refine newest 4 7 (by decide) _ _ _ _ y (S 4 7 (by decide) (by decide) _ (holds4 c arg2 harg2 arg5 harg5 arg16 x0 x3)) hlt fun hlt => ?_
  refine newest 4 6 (by decide) _ _ _ _ y (S 4 6 (by decide) (by decide) _ (holds4 c arg2 harg2 arg5 harg5 arg16 x0 x3)) hlt fun hlt => ?_
  refine newest 4 5 (by decide) _ _ _ _ y (S 4 5 (by decide) (by decide) _ (holds4 c arg2 harg2 arg5 harg5 arg16 x0 x3)) hlt fun hlt => ?_
  refine newest 4 4 (by decide) _ _ _ _ y (S 4 4 (by decide) (by decide) _ (holds4 c arg2 harg2 arg5 harg5 arg16 x0 x3)) hlt fun hlt => ?_
  refine newest 4 3 (by decide) _ _ _ _ y (S 4 3 (by decide) (by decide) _ (holds4 c arg2 harg2 arg5 harg5 arg16 x0 x3)) hlt fun hlt => ?_
  refine newest 4 2 (by decide) _ _ _ _ y (S 4 2 (by decide) (by decide) _ (holds4 c arg2 harg2 arg5 harg5 arg16 x0 x3)) hlt fun hlt => ?_
  refine newest 4 1 (by decide) _ _ _ _ y (S 4 1 (by decide) (by decide) _ (holds4 c arg2 harg2 arg5 harg5 arg16 x0 x3)) hlt fun hlt => ?_
  refine newest 4 0 (by decide) _ _ _ _ y (S 4 0 (by decide) (by decide) _ (holds4 c arg2 harg2 arg5 harg5 arg16 x0 x3)) hlt fun hlt => ?_
  refine newest 3 7 (by decide) _ _ _ _ y (S 3 7 (by decide) (by decide) _ (holds3 c arg2 harg2 arg5 harg5 arg16 x0 x3)) hlt fun hlt => ?_
  refine newest 3 6 (by decide) _ _ _ _ y (S 3 6 (by decide) (by decide) _ (holds3 c arg2 harg2 arg5 harg5 arg16 x0 x3)) hlt fun hlt => ?_
  refine newest 3 5 (by decide) _ _ _ _ y (S 3 5 (by decide) (by decide) _ (holds3 c arg2 harg2 arg5 harg5 arg16 x0 x3)) hlt fun hlt => ?_
  refine newest 3 4 (by decide) _ _ _ _ y (S 3 4 (by decide) (by decide) _ (holds3 c arg2 harg2 arg5 harg5 arg16 x0 x3)) hlt fun hlt => ?_
  refine newest 3 3 (by decide) _ _ _ _ y (S 3 3 (by decide) (by decide) _ (holds3 c arg2 harg2 arg5 harg5 arg16 x0 x3)) hlt fun hlt => ?_
  refine newest 3 2 (by decide) _ _ _ _ y (S 3 2 (by decide) (by decide) _ (holds3 c arg2 harg2 arg5 harg5 arg16 x0 x3)) hlt fun hlt => ?_
  refine newest 3 1 (by decide) _ _ _ _ y (S 3 1 (by decide) (by decide) _ (holds3 c arg2 harg2 arg5 harg5 arg16 x0 x3)) hlt fun hlt => ?_
  refine newest 3 0 (by decide) _ _ _ _ y (S 3 0 (by decide) (by decide) _ (holds3 c arg2 harg2 arg5 harg5 arg16 x0 x3)) hlt fun hlt => ?_
  refine newest 2 7 (by decide) _ _ _ _ y (S 2 7 (by decide) (by decide) _ (holds2 c arg2 harg2 arg5 harg5 arg16 x0 x3)) hlt fun hlt => ?_
  refine newest 2 6 (by decide) _ _ _ _ y (S 2 6 (by decide) (by decide) _ (holds2 c arg2 harg2 arg5 harg5 arg16 x0 x3)) hlt fun hlt => ?_
  refine newest 2 5 (by decide) _ _ _ _ y (S 2 5 (by decide) (by decide) _ (holds2 c arg2 harg2 arg5 harg5 arg16 x0 x3)) hlt fun hlt => ?_
  unfold H13_22
  refine newest 2 4 (by decide) _ _ _ _ y (S 2 4 (by decide) (by decide) _ (holds2 c arg2 harg2 arg5 harg5 arg16 x0 x3)) hlt fun hlt => ?_
  refine newest 2 3 (by decide) _ _ _ _ y (S 2 3 (by decide) (by decide) _ (holds2 c arg2 harg2 arg5 harg5 arg16 x0 x3)) hlt fun hlt => ?_
  refine newest 2 2 (by decide) _ _ _ _ y (S 2 2 (by decide) (by decide) _ (holds2 c arg2 harg2 arg5 harg5 arg16 x0 x3)) hlt fun hlt => ?_
  refine newest 2 1 (by decide) _ _ _ _ y (S 2 1 (by decide) (by decide) _ (holds2 c arg2 harg2 arg5 harg5 arg16 x0 x3)) hlt fun hlt => ?_
  refine newest 2 0 (by decide) _ _ _ _ y (S 2 0 (by decide) (by decide) _ (holds2 c arg2 harg2 arg5 harg5 arg16 x0 x3)) hlt fun hlt => ?_
  refine newest 1 7 (by decide) _ _ _ _ y (S 1 7 (by decide) (by decide) _ (holds1 c arg2 harg2 arg5 harg5 arg16 x0 x3)) hlt fun hlt => ?_
  refine newest 1 6 (by decide) _ _ _ _ y (S 1 6 (by decide) (by decide) _ (holds1 c arg2 harg2 arg5 harg5 arg16 x0 x3)) hlt fun hlt => ?_
  refine newest 1 5 (by decide) _ _ _ _ y (S 1 5 (by decide) (by decide) _ (holds1 c arg2 harg2 arg5 harg5 arg16 x0 x3)) hlt fun hlt => ?_
  refine newest 1 4 (by decide) _ _ _ _ y (S 1 4 (by decide) (by decide) _ (holds1 c arg2 harg2 arg5 harg5 arg16 x0 x3)) hlt fun hlt => ?_
  refine newest 1 3 (by decide) _ _ _ _ y (S 1 3 (by decide) (by decide) _ (holds1 c arg2 harg2 arg5 harg5 arg16 x0 x3)) hlt fun hlt => ?_
  refine newest 1 2 (by decide) _ _ _ _ y (S 1 2 (by decide) (by decide) _ (holds1 c arg2 harg2 arg5 harg5 arg16 x0 x3)) hlt fun hlt => ?_
  refine newest 1 1 (by decide) _ _ _ _ y (S 1 1 (by decide) (by decide) _ (holds1 c arg2 harg2 arg5 harg5 arg16 x0 x3)) hlt fun hlt => ?_
  refine newest 1 0 (by decide) _ _ _ _ y (S 1 0 (by decide) (by decide) _ (holds1 c arg2 harg2 arg5 harg5 arg16 x0 x3)) hlt fun hlt => ?_
  refine newest 0 7 (by decide) _ _ _ _ y (S 0 7 (by decide) (by decide) _ (holds0 c arg2 harg2 arg5 harg5 arg16 x0 x3)) hlt fun hlt => ?_
  refine newest 0 6 (by decide) _ _ _ _ y (S 0 6 (by decide) (by decide) _ (holds0 c arg2 harg2 arg5 harg5 arg16 x0 x3)) hlt fun hlt => ?_
  refine newest 0 5 (by decide) _ _ _ _ y (S 0 5 (by decide) (by decide) _ (holds0 c arg2 harg2 arg5 harg5 arg16 x0 x3)) hlt fun hlt => ?_
  refine newest 0 4 (by decide) _ _ _ _ y (S 0 4 (by decide) (by decide) _ (holds0 c arg2 harg2 arg5 harg5 arg16 x0 x3)) hlt fun hlt => ?_
  refine newest 0 3 (by decide) _ _ _ _ y (S 0 3 (by decide) (by decide) _ (holds0 c arg2 harg2 arg5 harg5 arg16 x0 x3)) hlt fun hlt => ?_
  refine newest 0 2 (by decide) _ _ _ _ y (S 0 2 (by decide) (by decide) _ (holds0 c arg2 harg2 arg5 harg5 arg16 x0 x3)) hlt fun hlt => ?_
  refine newest 0 1 (by decide) _ _ _ _ y (S 0 1 (by decide) (by decide) _ (holds0 c arg2 harg2 arg5 harg5 arg16 x0 x3)) hlt fun hlt => ?_
  refine newest 0 0 (by decide) _ _ _ _ y (S 0 0 (by decide) (by decide) _ (holds0 c arg2 harg2 arg5 harg5 arg16 x0 x3)) hlt fun hlt => ?_
  exact absurd hlt (Nat.not_lt_zero _)

end Cert.SsdSIdeal.RefValue

end
-- ==== Proof.SsdS.Reference.lean ====
/-
  The reference of the sample's state update read at an index: the head's scan of its eight rows.
-/
module

public import proofs.«01_k».proof.Proof.Gen.SsdSRefIdeal.Read
public import proofs.«01_k».proof.Proof.SsdS.Math
public import Idealize.ShloMosaic.Lib.Pipeline.ValueKit

@[expose] public section

set_option maxRecDepth 16384

noncomputable section

namespace Cert.SsdSRefIdeal.RefValue

open Cert.SsdSRefIdeal Cert.SsdSRefIdeal.Read Idealize.ShloMosaic Scan

variable (x0 : (⟨S17408x7168, .f32⟩ : BufTy).Contents (Elt Ideal)) (x1 : (⟨S1x128x3x1536, .f32⟩ : BufTy).Contents (Elt Ideal))
  (x2 : (⟨S1x128x16x64x128, .f32⟩ : BufTy).Contents (Elt Ideal)) (x3 : (⟨S1x4x1536, .f32⟩ : BufTy).Contents (Elt Ideal))
  (x4 : (⟨S1x1536, .f32⟩ : BufTy).Contents (Elt Ideal)) (x5 x6 : (⟨S1x16, .f32⟩ : BufTy).Contents (Elt Ideal))

/-- A sequence's eleven rows of a channel: three of the past, then its own eight. -/
def rows (b : Fin 128) (d : Fin 1536) (k : Fin 11) : EReal :=
  if h : k.val < 3 then x1 (ix4 0 b ⟨k.val, h⟩ d)
  else x0 (ix2 (⟨16384 + (b.val * 8 + (k.val - 3)), by omega⟩ : Fin 17408) (⟨3072 + d.val, by omega⟩ : Fin 7168))

/-- A head's step sizes before the softplus, row by row. -/
def gate (b : Fin 128) (h : Fin 16) (l : Fin 8) : EReal :=
  x0 (ix2 (⟨16384 + (b.val * 8 + l.val), by omega⟩ : Fin 17408) (⟨4624 + h.val, by omega⟩ : Fin 7168)) + x6 (ix2 0 h)

/-- The rows of the past stand first … -/
theorem rows_low (b : Fin 128) (k : Fin 3) (d : Fin 1536) :
    val_main_v6 x0 x1 (ix3 b (⟨k.val, by omega⟩ : Fin 11) d) = x1 (ix4 0 b k d) := by
  unfold val_main_v6 val_main_v5
  generalize val_main_v2 x0 = y
  pointwise

/-- … and the sequence's own after them. -/
theorem rows_high (b : Fin 128) (k : Fin 8) (d : Fin 1536) :
    val_main_v6 x0 x1 (ix3 b (⟨3 + k.val, by omega⟩ : Fin 11) d)
      = x0 (ix2 (⟨16384 + (b.val * 8 + k.val), by omega⟩ : Fin 17408) (⟨3072 + d.val, by omega⟩ : Fin 7168)) := by
  unfold val_main_v6 val_main_v2 val_main_v1 val_main_v0
  generalize val_main_v5 x1 = y
  pointwise

/-- The convolution's input, read at an index. -/
theorem rows_apply (b : Fin 128) (k : Fin 11) (d : Fin 1536) : val_main_v6 x0 x1 (ix3 b k d) = rows x0 x1 b d k := by
  unfold rows
  by_cases h : k.val < 3
  · rw [dif_pos h]
    exact rows_low x0 x1 b ⟨k.val, h⟩ d
  · rw [dif_neg h]
    refine Eq.trans ?_ (rows_high x0 x1 b ⟨k.val - 3, by omega⟩ d)
    exact congrArg (fun k => val_main_v6 x0 x1 (ix3 b k d)) (Fin.ext (show k.val = 3 + (k.val - 3) by omega))

/-- The convolution with its bias. -/
theorem conv_apply (b : Fin 128) (l : Fin 8) (d : Fin 1536) : val_main_v38 x0 x1 x3 x4 (ix3 b l d)
    = rows x0 x1 b d ⟨l.val, by omega⟩ * x3 (ix3 0 0 d) + rows x0 x1 b d ⟨1 + l.val, by omega⟩ * x3 (ix3 0 1 d)
      + rows x0 x1 b d ⟨2 + l.val, by omega⟩ * x3 (ix3 0 2 d) + rows x0 x1 b d ⟨3 + l.val, by omega⟩ * x3 (ix3 0 3 d) + x4 (ix2 0 d) := by
  simp only [← rows_apply]
  unfold val_main_v38 val_main_v37 val_main_v36 val_main_v35 val_main_v34 val_main_v33 val_main_v32 val_main_v31 val_main_v30
    val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12
    val_main_v11 val_main_v10 val_main_v9 val_main_v8 val_main_v7
  generalize val_main_v6 x0 x1 = y
  pointwise

/-- The activated channel. -/
theorem act_apply (b : Fin 128) (l : Fin 8) (d : Fin 1536) : val_main_v39 x0 x1 x3 x4 (ix3 b l d)
    = act (rows x0 x1 b d) (fun i => x3 (ix3 0 i d)) (x4 (ix2 0 d)) l := by
  unfold act
  refine Eq.trans ?_ (congrArg (fun z => z * Ideal.logistic z) (conv_apply x0 x1 x3 x4 b l d))
  unfold val_main_v39 val_main_call0_v5 val_main_call0_v4 val_main_call0_v3 val_main_call0_v2 val_main_call0_v1 val_main_call0_v0
    val_main_call0_cst_0 val_main_call0_cst
  generalize val_main_v38 x0 x1 x3 x4 = y
  pointwise
  rfl

/-- A head's step sizes before the softplus. -/
theorem gate_apply (b : Fin 128) (l : Fin 8) (h : Fin 16) : val_main_v49 x0 x6 (ix3 b l h) = gate x0 x6 b h l := by
  unfold val_main_v49 val_main_v48 val_main_v47 val_main_v46 val_main_v3 val_main_v1 val_main_v0 gate
  pointwise

/-- The step sizes. -/
theorem step_apply (b : Fin 128) (l : Fin 8) (h : Fin 16) : val_main_v50 x0 x6 (ix3 b l h) = softplus (gate x0 x6 b h l) := by
  rw [← gate_apply]
  unfold val_main_v50 val_main_call1_v11 val_main_call1_v10 val_main_call1_v9 val_main_call1_v8 val_main_call1_v7 val_main_call1_v6
    val_main_call1_v5 val_main_call1_v4 val_main_call1_v3 val_main_call1_v2 val_main_call1_v1 val_main_call1_v0 val_main_call1_cst softplus
  generalize val_main_v49 x0 x6 = y
  pointwise
  exact if_neg fun h => h rfl

/-- The exponents' steps. -/
theorem decay_apply (b : Fin 128) (l : Fin 8) (g : Fin 2) (e : Fin 8) : val_main_v58 x0 x5 x6 (ix4 b l g e)
    = softplus (gate x0 x6 b (⟨g.val * 8 + e.val, by omega⟩ : Fin 16) l) * -Ideal.exp (x5 (ix2 0 (⟨g.val * 8 + e.val, by omega⟩ : Fin 16))) := by
  rw [← step_apply]
  unfold val_main_v58 val_main_v57 val_main_v56 val_main_v55 val_main_v54 val_main_v53 val_main_v52 val_main_v51
  generalize val_main_v50 x0 x6 = y
  pointwise

/-- A fold that adds is a sum. -/
theorem fold_add {N : Nat} (f : Fin N → EReal) : ∀ (L : List (Fin N)) (a : EReal),
    L.foldl (fun r n => r + f n) a = a + (L.map f).sum
  | [], a => by simp
  | n :: L, a => by rw [List.foldl_cons, fold_add f L, List.map_cons, List.sum_cons, add_assoc]

/-- The window's positions are its rows. -/
theorem window_row : ∀ n : Fin (⟨4, ![1, 8, 1, 1]⟩ : Shape).numel, ((⟨4, ![1, 8, 1, 1]⟩ : Shape).rowMajor.symm n 0).val = 0
    ∧ ((⟨4, ![1, 8, 1, 1]⟩ : Shape).rowMajor.symm n 1).val = n.val ∧ ((⟨4, ![1, 8, 1, 1]⟩ : Shape).rowMajor.symm n 2).val = 0
    ∧ ((⟨4, ![1, 8, 1, 1]⟩ : Shape).rowMajor.symm n 3).val = 0 := by
  decide +kernel

/-- The window's sum at a row is the sum of the rows up to it. -/
theorem prefix_sum (f : Fin 8 → EReal) (l : Fin 8) :
    (∑ n ∈ Finset.range 8, if h : 7 ≤ l.val + n ∧ l.val + n - 7 < 8 then f ⟨l.val + n - 7, h.2⟩ else 0) = ∑ i : Fin 8, if i ≤ l then f i else 0 := by
  rw [Fin.sum_univ_eight]
  simp only [Finset.sum_range_succ, Finset.sum_range_zero]
  fin_cases l <;> simp <;> rfl

/-- Running sums down the rows, as a window of eight rows padded by seven before. -/
theorem cumsum_apply (x : Vec Ideal S128x8x2x8 .f32) (init : Vec Ideal S_ .f32) (hi : ∀ i, init i = (0 : EReal))
    (h : S128x8x2x8.ReduceWindows (![1, 8, 1, 1] : Fin 4 → Nat) ![1, 1, 1, 1] ![0, 7, 0, 0] ![0, 0, 0, 0] S128x8x2x8)
    (hu : 0 < S_.numel) (b : Fin 128) (l : Fin 8) (g : Fin 2) (e : Fin 8) :
    (Host.reduceWindowAdd (F := Ideal) (φ := .f32) ![1, 8, 1, 1] ![1, 1, 1, 1] ![0, 7, 0, 0] ![0, 0, 0, 0] x init h hu) (ix4 b l g e)
      = ∑ i : Fin 8, if i ≤ l then (x (ix4 b i g e) : EReal) else 0 := by
  have hl := l.isLt
  have hb := b.isLt
  have hg := g.isLt
  have he := e.isLt
  let K : Nat → EReal := fun n => if h : 7 ≤ l.val + n ∧ l.val + n - 7 < 8 then x (ix4 b ⟨l.val + n - 7, h.2⟩ g e) else 0
  unfold Host.reduceWindowAdd
  rw [hi]
  simp only [Ideal.hostReduceWindowAdd_def]
  unfold Ideal.hostReduceWindowAdd Host.reduceWindow
  dsimp only
  rw [fold_add, zero_add, ← Fin.sum_univ_def]
  refine (Finset.sum_congr rfl (g := fun n => K n.val) fun n _ => ?_).trans ?_
  · obtain ⟨w0, w1, w2, w3⟩ := window_row n
    by_cases hn : 7 ≤ l.val + n.val ∧ l.val + n.val - 7 < 8
    · rw [show K n.val = x (ix4 b ⟨l.val + n.val - 7, hn.2⟩ g e) from dif_pos hn]
      split
      · refine congrArg x (funext fun a => Fin.ext ?_)
        match a with
        | ⟨0, _⟩ => show b.val * 1 + ((⟨4, ![1, 8, 1, 1]⟩ : Shape).rowMajor.symm n 0).val - 0 = b.val; omega
        | ⟨1, _⟩ => show l.val * 1 + ((⟨4, ![1, 8, 1, 1]⟩ : Shape).rowMajor.symm n 1).val - 7 = l.val + n.val - 7; omega
        | ⟨2, _⟩ => show g.val * 1 + ((⟨4, ![1, 8, 1, 1]⟩ : Shape).rowMajor.symm n 2).val - 0 = g.val; omega
        | ⟨3, _⟩ => show e.val * 1 + ((⟨4, ![1, 8, 1, 1]⟩ : Shape).rowMajor.symm n 3).val - 0 = e.val; omega
      · next ha =>
        refine absurd (fun a => ?_) ha
        match a with
        | ⟨0, _⟩ =>
          show 0 ≤ b.val * 1 + ((⟨4, ![1, 8, 1, 1]⟩ : Shape).rowMajor.symm n 0).val ∧ b.val * 1 + ((⟨4, ![1, 8, 1, 1]⟩ : Shape).rowMajor.symm n 0).val - 0 < 128
          omega
        | ⟨1, _⟩ =>
          show 7 ≤ l.val * 1 + ((⟨4, ![1, 8, 1, 1]⟩ : Shape).rowMajor.symm n 1).val ∧ l.val * 1 + ((⟨4, ![1, 8, 1, 1]⟩ : Shape).rowMajor.symm n 1).val - 7 < 8
          omega
        | ⟨2, _⟩ =>
          show 0 ≤ g.val * 1 + ((⟨4, ![1, 8, 1, 1]⟩ : Shape).rowMajor.symm n 2).val ∧ g.val * 1 + ((⟨4, ![1, 8, 1, 1]⟩ : Shape).rowMajor.symm n 2).val - 0 < 2
          omega
        | ⟨3, _⟩ =>
          show 0 ≤ e.val * 1 + ((⟨4, ![1, 8, 1, 1]⟩ : Shape).rowMajor.symm n 3).val ∧ e.val * 1 + ((⟨4, ![1, 8, 1, 1]⟩ : Shape).rowMajor.symm n 3).val - 0 < 8
          omega
    · rw [show K n.val = 0 from dif_neg hn]
      split
      · next ha =>
        have h1 := ha 1
        change 7 ≤ l.val * 1 + ((⟨4, ![1, 8, 1, 1]⟩ : Shape).rowMajor.symm n 1).val ∧ l.val * 1 + ((⟨4, ![1, 8, 1, 1]⟩ : Shape).rowMajor.symm n 1).val - 7 < 8 at h1
        omega
      · rfl
  · rw [Fin.sum_univ_eq_sum_range K, show (⟨4, ![1, 8, 1, 1]⟩ : Shape).numel = 8 by decide]
    exact prefix_sum (fun i => x (ix4 b i g e)) l

/-- The running sums of the exponents. -/
theorem run_apply (b : Fin 128) (l : Fin 8) (g : Fin 2) (e : Fin 8) : val_main_v59 x0 x5 x6 (ix4 b l g e)
    = run (gate x0 x6 b (⟨g.val * 8 + e.val, by omega⟩ : Fin 16)) (x5 (ix2 0 (⟨g.val * 8 + e.val, by omega⟩ : Fin 16))) l := by
  unfold val_main_v59 run
  refine (cumsum_apply _ _ (fun i => ?_) _ _ b l g e).trans (Finset.sum_congr rfl fun i _ => if_congr Iff.rfl (decay_apply x0 x5 x6 b i g e) rfl)
  unfold val_main_call2_call0_v0 val_main_call2_call0_cst
  pointwise

/-- The rows' weights: the step size times the decay from the row to the end. -/
theorem term_apply (b : Fin 128) (l : Fin 8) (g : Fin 2) (e : Fin 8) (d : Fin 64) :
    val_main_v77 x0 x1 x3 x4 x5 x6 (ix5 b l g e d)
      = act (rows x0 x1 b (⟨g.val * 512 + e.val * 64 + d.val, by omega⟩ : Fin 1536)) (fun i => x3 (ix3 0 i (⟨g.val * 512 + e.val * 64 + d.val, by omega⟩ : Fin 1536)))
          (x4 (ix2 0 (⟨g.val * 512 + e.val * 64 + d.val, by omega⟩ : Fin 1536))) l
        * softplus (gate x0 x6 b (⟨g.val * 8 + e.val, by omega⟩ : Fin 16) l)
        * Ideal.exp (run (gate x0 x6 b (⟨g.val * 8 + e.val, by omega⟩ : Fin 16)) (x5 (ix2 0 (⟨g.val * 8 + e.val, by omega⟩ : Fin 16))) 7
          - run (gate x0 x6 b (⟨g.val * 8 + e.val, by omega⟩ : Fin 16)) (x5 (ix2 0 (⟨g.val * 8 + e.val, by omega⟩ : Fin 16))) l) := by
  rw [← act_apply, ← step_apply, ← run_apply, ← run_apply]
  unfold val_main_v77 val_main_v76 val_main_v75 val_main_v66 val_main_v65 val_main_v64 val_main_v63 val_main_v62 val_main_v61 val_main_v60
    val_main_v51 val_main_v41 val_main_v40
  generalize val_main_v39 x0 x1 x3 x4 = y
  generalize val_main_v50 x0 x6 = z
  generalize val_main_v59 x0 x5 x6 = w
  pointwise

/-- The state's columns. -/
theorem column_apply (b : Fin 128) (l : Fin 8) (g : Fin 2) (n : Fin 128) : val_main_v43 x0 x1 x3 x4 (ix4 b l g n)
    = act (rows x0 x1 b (⟨1024 + (g.val * 128 + n.val), by omega⟩ : Fin 1536)) (fun i => x3 (ix3 0 i (⟨1024 + (g.val * 128 + n.val), by omega⟩ : Fin 1536)))
        (x4 (ix2 0 (⟨1024 + (g.val * 128 + n.val), by omega⟩ : Fin 1536))) l := by
  rw [← act_apply]
  unfold val_main_v43 val_main_v42
  generalize val_main_v39 x0 x1 x3 x4 = y
  pointwise

/-- The decayed state. -/
theorem decayed_apply (b : Fin 128) (g : Fin 2) (e : Fin 8) (d : Fin 64) (n : Fin 128) :
    val_main_v74 x0 x2 x5 x6 (ix5 b g e d n) = x2 (ix5 0 b (⟨g.val * 8 + e.val, by omega⟩ : Fin 16) d n)
      * Ideal.exp (run (gate x0 x6 b (⟨g.val * 8 + e.val, by omega⟩ : Fin 16)) (x5 (ix2 0 (⟨g.val * 8 + e.val, by omega⟩ : Fin 16))) 7) := by
  rw [← run_apply]
  unfold val_main_v74 val_main_v73 val_main_v72 val_main_v71 val_main_v70 val_main_v69 val_main_v68 val_main_v67
  generalize val_main_v59 x0 x5 x6 = w
  pointwise

/-- The new state by group, head, lane and column. -/
theorem new_apply (b : Fin 128) (g : Fin 2) (e : Fin 8) (d : Fin 64) (n : Fin 128) :
    val_main_v79 x0 x1 x2 x3 x4 x5 x6 (ix5 b g e d n)
      = update
        (act (rows x0 x1 b (⟨g.val * 512 + e.val * 64 + d.val, by omega⟩ : Fin 1536)) (fun i => x3 (ix3 0 i (⟨g.val * 512 + e.val * 64 + d.val, by omega⟩ : Fin 1536)))
          (x4 (ix2 0 (⟨g.val * 512 + e.val * 64 + d.val, by omega⟩ : Fin 1536))))
        (act (rows x0 x1 b (⟨1024 + (g.val * 128 + n.val), by omega⟩ : Fin 1536)) (fun i => x3 (ix3 0 i (⟨1024 + (g.val * 128 + n.val), by omega⟩ : Fin 1536)))
          (x4 (ix2 0 (⟨1024 + (g.val * 128 + n.val), by omega⟩ : Fin 1536))))
        (gate x0 x6 b (⟨g.val * 8 + e.val, by omega⟩ : Fin 16)) (x5 (ix2 0 (⟨g.val * 8 + e.val, by omega⟩ : Fin 16)))
        (x2 (ix5 0 b (⟨g.val * 8 + e.val, by omega⟩ : Fin 16) d n)) := by
  unfold update
  rw [← decayed_apply, val_main_v79_apply, val_main_v78_apply]
  refine congrArg (val_main_v74 x0 x2 x5 x6 (ix5 b g e d n) + ·) (Finset.sum_congr rfl fun l _ => ?_)
  rw [← term_apply, ← column_apply]
  rw [show lidx_main_v78 (ix5 b g e d n) l = ix5 b l g e d from eq_ix5 _, show ridx_main_v78 (ix5 b g e d n) l = ix4 b l g n from eq_ix4 _]

/-- The new state of a head, at a lane and a column. -/
def fresh (b : Fin 128) (h : Fin 16) (d : Fin 64) (n : Fin 128) : EReal :=
  update
    (act (rows x0 x1 b (⟨64 * h.val + d.val, by omega⟩ : Fin 1536)) (fun i => x3 (ix3 0 i (⟨64 * h.val + d.val, by omega⟩ : Fin 1536)))
      (x4 (ix2 0 (⟨64 * h.val + d.val, by omega⟩ : Fin 1536))))
    (act (rows x0 x1 b (⟨1024 + 128 * (h.val / 8) + n.val, by omega⟩ : Fin 1536)) (fun i => x3 (ix3 0 i (⟨1024 + 128 * (h.val / 8) + n.val, by omega⟩ : Fin 1536)))
      (x4 (ix2 0 (⟨1024 + 128 * (h.val / 8) + n.val, by omega⟩ : Fin 1536))))
    (gate x0 x6 b h) (x5 (ix2 0 h)) (x2 (ix5 0 b h d n))

/-- The new state where two heads of 64 lanes lie side by side: head `2 p + r / 64`, lane `r % 64`. -/
theorem fresh_pair (b : Fin 128) (p : Fin 8) (r n : Fin 128) :
    fresh x0 x1 x2 x3 x4 x5 x6 b (⟨2 * p.val + r.val / 64, by omega⟩ : Fin 16) (⟨r.val % 64, by omega⟩ : Fin 64) n
    = update
        (act (rows x0 x1 b (⟨128 * p.val + r.val, by omega⟩ : Fin 1536)) (fun i => x3 (ix3 0 i (⟨128 * p.val + r.val, by omega⟩ : Fin 1536)))
          (x4 (ix2 0 (⟨128 * p.val + r.val, by omega⟩ : Fin 1536))))
        (act (rows x0 x1 b (⟨1024 + 128 * (p.val / 4) + n.val, by omega⟩ : Fin 1536)) (fun i => x3 (ix3 0 i (⟨1024 + 128 * (p.val / 4) + n.val, by omega⟩ : Fin 1536)))
          (x4 (ix2 0 (⟨1024 + 128 * (p.val / 4) + n.val, by omega⟩ : Fin 1536))))
        (gate x0 x6 b (⟨2 * p.val + r.val / 64, by omega⟩ : Fin 16)) (x5 (ix2 0 (⟨2 * p.val + r.val / 64, by omega⟩ : Fin 16)))
        (x2 (ix5 0 b (⟨2 * p.val + r.val / 64, by omega⟩ : Fin 16) (⟨r.val % 64, by omega⟩ : Fin 64) n)) := by
  unfold fresh
  have h1 : (⟨64 * (2 * p.val + r.val / 64) + r.val % 64, by omega⟩ : Fin 1536) = ⟨128 * p.val + r.val, by omega⟩ :=
    Fin.ext (show 64 * (2 * p.val + r.val / 64) + r.val % 64 = 128 * p.val + r.val by omega)
  have h2 : (⟨1024 + 128 * ((2 * p.val + r.val / 64) / 8) + n.val, by omega⟩ : Fin 1536) = ⟨1024 + 128 * (p.val / 4) + n.val, by omega⟩ :=
    Fin.ext (show 1024 + 128 * ((2 * p.val + r.val / 64) / 8) + n.val = 1024 + 128 * (p.val / 4) + n.val by omega)
  simp only [h1, h2]

/-- THE REFERENCE AT AN INDEX: the head's new state. -/
theorem ref_apply (b : Fin 128) (h : Fin 16) (d : Fin 64) (n : Fin 128) : val_main_v133 x0 x1 x2 x3 x4 x5 x6 (ix5 0 b h d n)
    = fresh x0 x1 x2 x3 x4 x5 x6 b h d n := by
  have e : val_main_v133 x0 x1 x2 x3 x4 x5 x6 (ix5 0 b h d n)
      = val_main_v79 x0 x1 x2 x3 x4 x5 x6 (ix5 b (⟨h.val / 8, by omega⟩ : Fin 2) (⟨h.val % 8, by omega⟩ : Fin 8) d n) := by
    unfold val_main_v133 val_main_v132
    generalize val_main_v79 x0 x1 x2 x3 x4 x5 x6 = y
    pointwise
  rw [e, new_apply]
  unfold fresh
  have h0 : (⟨h.val / 8 * 8 + h.val % 8, by omega⟩ : Fin 16) = h := Fin.ext (show h.val / 8 * 8 + h.val % 8 = h.val by omega)
  have h1 : (⟨h.val / 8 * 512 + h.val % 8 * 64 + d.val, by omega⟩ : Fin 1536) = ⟨64 * h.val + d.val, by omega⟩ :=
    Fin.ext (show h.val / 8 * 512 + h.val % 8 * 64 + d.val = 64 * h.val + d.val by omega)
  have h2 : (⟨1024 + (h.val / 8 * 128 + n.val), by omega⟩ : Fin 1536) = ⟨1024 + 128 * (h.val / 8) + n.val, by omega⟩ :=
    Fin.ext (show 1024 + (h.val / 8 * 128 + n.val) = 1024 + 128 * (h.val / 8) + n.val by omega)
  simp only [h0, h1, h2]

end Cert.SsdSRefIdeal.RefValue

end
-- ==== Proof.SsdS.Array.lean ====
/-
  The sample's state update after the run: the call's array, whole, as every head's scan of its eight rows, and the result the
  host lays out by heads, which is the reference's.
-/
module

public import proofs.«01_k».proof.Proof.SsdS.Entry
public import proofs.«01_k».proof.Proof.SsdS.Stores
public import proofs.«01_k».proof.Proof.SsdS.Reference

@[expose] public section

set_option maxRecDepth 16384

noncomputable section

namespace Cert.SsdSIdeal.RefValue

open Cert.SsdSIdeal Cert.SsdSIdeal.Gen Idealize.ShloMosaic Idealize.ShloMosaic.TcCoe Scan
open Idealize.ShloMosaic.Pipeline (Dat)

variable (m : (ℓ : Loc nD τ sig) → Buf (Elt Ideal) ℓ)

/-- A sequence's number, at a point. -/
def seq (t : Fin cfg0.N) (j : Fin 8) : Fin 128 := ⟨t.val * 8 + j.val, by have := t.isLt; have h : cfg0.N = 16 := N_0; omega⟩

/-- A point's eleven rows of a channel are the reference's. -/
theorem rows_eq (c : Dev nD) (t : Fin cfg0.N) (j : Fin 8) (d : Fin 1536) :
    rows (X0_0 m c t) (iblk m c 3 t) j d
      = Cert.SsdSRefIdeal.RefValue.rows (m ((c : Thread nD τ).loc main_arg0)) (m ((c : Thread nD τ).loc main_arg1)) (seq t j) d := by
  have ht : t.val < 16 := lt_of_lt_of_eq t.isLt N_0
  funext k
  unfold rows Cert.SsdSRefIdeal.RefValue.rows
  by_cases h : k.val < 3
  · rw [dif_pos h, dif_pos h]
    exact (past_apply m c t j _ d).trans (past_entry m c _ ⟨k.val, h⟩ d)
  · rw [dif_neg h, dif_neg h]
    refine (rows_apply m c t j _ d).trans ((proj_entry m c _ _ _).trans ?_)
    refine congrArg (m ((c : Thread nD τ).loc main_arg0)) (congrArg₂ ix2 (Fin.ext ?_) rfl)
    show (2048 + t.val * 8 + j.val) * 8 + (k.val - 3) = 16384 + ((t.val * 8 + j.val) * 8 + (k.val - 3))
    omega

/-- A block's step sizes before the softplus in a lane of the gates, row by row. -/
def gateAt (x1 : Vec Ideal S8x8x128 .f32) (x7 : Vec Ideal S2x128 .f32) (j : Fin 8) (k : Fin 128) (l : Fin 8) : EReal :=
  x1 (ix3 j l k) + x7 (ix2 1 k)

/-- A point's step sizes before the softplus are the reference's. -/
theorem gate_eq (c : Dev nD) (t : Fin cfg0.N) (j l : Fin 8) (h : Fin 16) :
    gateAt (iblk m c 1 t) (iblk m c 7 t) j (⟨16 + h.val, by omega⟩ : Fin 128) l
      = Cert.SsdSRefIdeal.RefValue.gate (m ((c : Thread nD τ).loc main_arg0)) (m ((c : Thread nD τ).loc main_arg6)) (seq t j) h l := by
  have ht : t.val < 16 := lt_of_lt_of_eq t.isLt N_0
  unfold gateAt
  refine congrArg₂ (fun x y : EReal => x + y) ((gates_apply m c t j l _).trans ((proj_entry m c _ _ _).trans ?_))
    ((lane_apply m c t 1 _).trans (shift_entry m c h))
  refine congrArg (m ((c : Thread nD τ).loc main_arg0)) (congrArg₂ ix2 (Fin.ext ?_) (Fin.ext ?_))
  · show (2048 + t.val * 8 + j.val) * 8 + l.val = 16384 + ((t.val * 8 + j.val) * 8 + l.val)
    omega
  · show 4608 + (16 + h.val) = 4624 + h.val
    omega

/-- Where no logarithm of a head's decay rate is minus infinity, none is in its lane of the block. -/
theorem rated (c : Dev nD) (t : Fin cfg0.N)
    (hg : ∀ h : Fin 16, (m ((c : Thread nD τ).loc main_arg5) (ix2 0 h) : EReal) ≠ (⊥ : EReal)) :
    Rated (iblk m c 7 t) := fun k h0 h1 => by
  have e : k = (⟨16 + (k.val - 16), by omega⟩ : Fin 128) := Fin.ext (show k.val = 16 + (k.val - 16) by omega)
  have := (lane_apply m c t 0 _).trans (scale_entry m c ⟨k.val - 16, by omega⟩)
  rw [← e] at this
  exact fun q => hg _ (this.symm.trans q)

set_option maxHeartbeats 2000000 in
/-- What a point's body leaves for the state, at an index. -/
theorem left_apply (c : Dev nD) (t : Fin cfg0.N)
    (hg : ∀ h : Fin 16, (m ((c : Thread nD τ).loc main_arg5) (ix2 0 h) : EReal) ≠ (⊥ : EReal))
    (y : S8x8x128x128.Idx) :
    (outsAt0 m c t).2 y = blockAt (X0_0 m c t) (iblk m c 1 t) (iblk m c 3 t) (iblk m c 4 t) (iblk m c 5 t) (iblk m c 6 t) (iblk m c 7 t)
      (y 0) (y 1) (y 2) (y 3) := by
  have e : (outsAt0 m c t).2 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (hcond0_0 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
    simp only [outsAt0]
  rw [e]
  exact out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (hcond0_0 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (narrow_apply m c t) (wide_apply m c t) (rated m c t hg) y

/-- The state's array as the kernel lays it out: two heads of 64 lanes side by side. -/
def pairs (c : Dev nD) (y : S128x8x128x128.Idx) : Elt Ideal .f32 :=
  Cert.SsdSRefIdeal.RefValue.fresh (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (y 0)
    (⟨2 * (y 1).val + (y 2).val / 64, by have h1 : (y 1).val < 8 := (y 1).isLt; have h2 : (y 2).val < 128 := (y 2).isLt; omega⟩ : Fin 16)
    (⟨(y 2).val % 64, by omega⟩ : Fin 64) (y 3)

set_option maxHeartbeats 1000000 in
/-- The array the call leaves holds every head's new state, where no head's decay rate is nought. -/
theorem array_final (c : Dev nD)
    (hg : ∀ h : Fin 16, (m ((c : Thread nD τ).loc main_arg5) (ix2 0 h) : EReal) ≠ (⊥ : EReal)) :
    (dats m 0 c).arrAt 13 cfg0.N = pairs m c := by
  refine (dats m 0 c).arrAt_eq_of_covers 13 _ (by decide +kernel) fun t hf y => ?_
  have ht : t.val < 16 := lt_of_lt_of_eq t.isLt N_0
  blk_simp
  rw [after0_13, left_apply m c t hg]
  obtain ⟨j, p, r, n, rfl⟩ : ∃ (j p : Fin 8) (r n : Fin 128), y = ix4 j p r n := ⟨y 0, y 1, y 2, y 3, eq_ix4 y⟩
  have e : (win0_13.blk t).view.emb (ix4 j p r n) = ix4 (seq t j) p r n := by
    unfold seq
    blk_ext [idx t]
  refine Eq.trans ?_ (congrArg _ e.symm)
  show _ = Cert.SsdSRefIdeal.RefValue.fresh _ _ _ _ _ _ _ (seq t j) (⟨2 * p.val + r.val / 64, by omega⟩ : Fin 16) (⟨r.val % 64, by omega⟩ : Fin 64) n
  rw [Cert.SsdSRefIdeal.RefValue.fresh_pair]
  show update _ _ _ _ _ = _
  have w : ∀ (i : Fin 4) (d : Fin 1536), (iblk m c 5 t : Vec Ideal S4x1536 .f32) (ix2 i d) = m ((c : Thread nD τ).loc main_arg3) (ix3 0 i d) :=
    fun i d => (taps_apply m c t i d).trans (taps_entry m c i d)
  have w' : ∀ d : Fin 1536, (iblk m c 6 t : Vec Ideal S1x1536 .f32) (ix2 0 d) = m ((c : Thread nD τ).loc main_arg4) (ix2 0 d) :=
    fun d => (bias_apply m c t d).trans (bias_entry m c d)
  have hu : gateAt (iblk m c 1 t) (iblk m c 7 t) j (⟨16 + (2 * p.val + r.val / 64), by omega⟩ : Fin 128)
      = Cert.SsdSRefIdeal.RefValue.gate (m ((c : Thread nD τ).loc main_arg0)) (m ((c : Thread nD τ).loc main_arg6)) (seq t j) (⟨2 * p.val + r.val / 64, by omega⟩ : Fin 16) :=
    funext fun l => gate_eq m c t j l ⟨2 * p.val + r.val / 64, by omega⟩
  have ha : (iblk m c 7 t : Vec Ideal S2x128 .f32) (ix2 0 (⟨16 + (2 * p.val + r.val / 64), by omega⟩ : Fin 128))
      = m ((c : Thread nD τ).loc main_arg5) (ix2 0 (⟨2 * p.val + r.val / 64, by omega⟩ : Fin 16)) :=
    (lane_apply m c t 0 _).trans (scale_entry m c ⟨2 * p.val + r.val / 64, by omega⟩)
  have hs : (iblk m c 4 t : Vec Ideal S8x8x128x128 .f32) (ix4 j p r n)
      = m ((c : Thread nD τ).loc main_arg2) (ix5 0 (seq t j) (⟨2 * p.val + r.val / 64, by omega⟩ : Fin 16) (⟨r.val % 64, by omega⟩ : Fin 64) n) := by
    refine (states_apply m c t j p r n).trans ((state_entry m c _ p r n).trans ?_)
    refine congrArg (fun h : Fin 16 => m ((c : Thread nD τ).loc main_arg2) (ix5 0 (seq t j) h (⟨r.val % 64, by omega⟩ : Fin 64) n)) (Fin.ext ?_)
    show p.val * 2 + r.val / 64 = 2 * p.val + r.val / 64
    omega
  have hx : ∀ d : Fin 1536, Scan.act (rows (X0_0 m c t) (iblk m c 3 t) j d) (fun i => (iblk m c 5 t : Vec Ideal S4x1536 .f32) (ix2 i d))
        ((iblk m c 6 t : Vec Ideal S1x1536 .f32) (ix2 0 d))
      = Scan.act (Cert.SsdSRefIdeal.RefValue.rows (m ((c : Thread nD τ).loc main_arg0)) (m ((c : Thread nD τ).loc main_arg1)) (seq t j) d)
        (fun i => m ((c : Thread nD τ).loc main_arg3) (ix3 0 i d)) (m ((c : Thread nD τ).loc main_arg4) (ix2 0 d)) := fun d => by
    rw [rows_eq, w', funext fun i => w i d]
  exact congr (congr (congr (congrArg₂ update (hx _) (hx _)) hu) ha) hs

/-- What the lines after the region leave in the result's buffer: the array by heads. -/
theorem tail_apply (U : Valuation τ sig (Elt Ideal)) (b : Fin 128) (h : Fin 16) (d : Fin 64) (n : Fin 128) :
    StableHlo.after (hostOps1 (F := Ideal)) U (Proc.devRef .tc main_v51) (ix5 0 b h d n)
      = U (Proc.devRef .tc main_v49_1) (ix4 b (⟨h.val / 2, by omega⟩ : Fin 8) (⟨h.val % 2 * 64 + d.val, by omega⟩ : Fin 128) n) := by
  after_reads_at

/-- The lines after the region find the state's array as the region left it. -/
theorem array_exit (c : Dev nD) :
    Pipeline.withArrays spec0 c (V0 m c) (fun w => (dats m 0 c).arrAt w cfg0.N) (Proc.devRef .tc main_v49_1) = (dats m 0 c).arrAt 13 cfg0.N :=
  (dats m 0 c).withArrays_arrAt sharedIn0 (V0 m c) (fun _ => rfl) 13

/-- The result after the run is the reference's, where no head's decay rate is nought. -/
theorem final (c : Dev nD)
    (hg : ∀ h : Fin 16, (m ((c : Thread nD τ).loc main_arg5) (ix2 0 h) : EReal) ≠ (⊥ : EReal)) :
    Pipeline.afterTail₀ cfgs (dats m) 0 (V0 m) [hostOps1] c main_v51
    = Cert.SsdSRefIdeal.Read.val_main_v133 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  funext i
  obtain ⟨b, h, d, n, rfl⟩ : ∃ (b : Fin 128) (h : Fin 16) (d : Fin 64) (n : Fin 128), i = ix5 0 b h d n :=
    ⟨i 1, i 2, i 3, i 4, (eq_ix5 i).trans (congrArg (ix5 · (i 1) (i 2) (i 3) (i 4)) (Subsingleton.elim (α := Fin 1) (i 0) 0))⟩
  rw [Cert.SsdSRefIdeal.RefValue.ref_apply]
  refine (tail_apply _ b h d n).trans ?_
  rw [array_exit m c, array_final m c hg]
  unfold pairs
  refine congrArg₂ (fun h d => Cert.SsdSRefIdeal.RefValue.fresh _ _ _ _ _ _ _ b h d n) (Fin.ext ?_) (Fin.ext ?_)
  · show 2 * (h.val / 2) + (h.val % 2 * 64 + d.val) / 64 = h.val
    omega
  · show (h.val % 2 * 64 + d.val) % 64 = d.val
    omega

end Cert.SsdSIdeal.RefValue

end
-- ==== Proof.SsdS.RowUnit.lean ====
/-
  The kernel's output rows of the sample's state update: one pair of heads of one sequence, and the norm of the pair's group.
-/
module

public import proofs.«01_k».proof.Proof.SsdS.Unit

@[expose] public section

set_option maxRecDepth 16384

noncomputable section

namespace Cert.SsdSIdeal.RefValue

open Cert.SsdSIdeal Cert.SsdSIdeal.Gen Idealize.ShloMosaic

variable {F : FTy → Type} [FloatOps F]

/-- The rows' columns in the narrow format. -/
def narrowed (o : Nat) (ho : S8x1536.Slices ![0, o] S8x128) (y : FVec F S8x1536 .f32) : FVec F S8x128 .bf16 :=
  truncf .bf16 (extractStridedSlice S8x128 ![0, o] y ho) bitsLt_bf16_f32

/-- The products of two rows' columns. -/
def products (oc ob : Nat) (hc : S8x1536.Slices ![0, oc] S8x128) (hb : S8x1536.Slices ![0, ob] S8x128) (y : FVec F S8x1536 .f32) :
    FVec F S8x8 .f32 :=
  matmul dot_S8x128_S8x128_S8x8_1_1_0_0_n_n none (narrowed oc hc y) (narrowed ob hb y) (constant S8x8 .f32 0x00000000#32)

/-- The rows' weights of one head: its exponents down the rows from wide lane `w` on, and across in row `k` of the transpose. -/
def weights (w k : Nat) (hw : S8x2048.Slices ![0, w] S8x8) (hk : S128x8.Slices ![k, 0] S1x8) (cw : FVec F S8x2048 .f32)
    (c : FVec F S8x128 .f32) : FVec F S8x8 .f32 :=
  have zero : FVec F S8x8 .f32 := broadcast S8x8 (Scalar.ofBits .f32 0x00000000#32)
  select k0_pay4 (exp (select k0_pay4 (subf (extractStridedSlice S8x8 ![0, w] cw hw)
    (broadcastTo S8x8 (extractStridedSlice S1x8 ![k, 0] (transpose S128x8 [1, 0] c transposes_S8x128_p1_0_S128x8) hk)
      broadcasts_S1x8_S8x8)) zero)) zero

/-- The rows before, weighted by one head's weights. -/
def within (o : Nat) (ho : S8x1024.Slices ![0, o] S8x128) (cb lm : FVec F S8x8 .f32) (xd : FVec F S8x1024 .f32) :
    FVec F S8x128 .f32 :=
  matmul dot_S8x8_S8x128_S8x128_1_0_0_1_n_n none (truncf .bf16 (mulf cb lm) bitsLt_bf16_f32)
    (truncf .bf16 (extractStridedSlice S8x128 ![0, o] xd ho) bitsLt_bf16_f32) (constant S8x128 .f32 0x00000000#32)

/-- What the state before gives. -/
def carried (oc : Nat) (hc : S8x1536.Slices ![0, oc] S8x128) (y : FVec F S8x1536 .f32) (p : Vec F S1x1x128x128 .f32) :
    FVec F S8x128 .f32 :=
  matmul dot_S8x128_S128x128_S8x128_1_1_0_0_n_n none (narrowed oc hc y)
    (truncf .bf16 (shapeCast S128x128 p shapeCasts_S1x1x128x128_S128x128) bitsLt_bf16_f32) (constant S8x128 .f32 0x00000000#32)

/-- The eight rows of one pair of heads before the norm. -/
def pair (o oc ob w0 w1 k0 k1 : Nat) (ho : S8x1024.Slices ![0, o] S8x128) (hc : S8x1536.Slices ![0, oc] S8x128)
    (hb : S8x1536.Slices ![0, ob] S8x128) (h0 : S8x2048.Slices ![0, w0] S8x8) (h1 : S8x2048.Slices ![0, w1] S8x8)
    (hk0 : S128x8.Slices ![k0, 0] S1x8) (hk1 : S128x8.Slices ![k1, 0] S1x8)
    (y : FVec F S8x1536 .f32) (d c : FVec F S8x128 .f32) (s : Vec F S128x1024 .bf16) (s' : Vec F S128x2048 .bf16)
    (p : Vec F S1x1x128x128 .f32) (dd : Vec F S1x128 .f32) (z : Vec F S1x8x128 .f32) : FVec F S8x128 .f32 :=
  have z' : FVec F S8x128 .f32 := shapeCast S8x128 z shapeCasts_S1x8x128_S8x128
  mulf (addf (addf (select k0_pay6
      (within o ho (products oc ob hc hb y) (weights w0 k0 h0 hk0 (spreadWide c s') c) (scaled y d s))
      (within o ho (products oc ob hc hb y) (weights w1 k1 h1 hk1 (spreadWide c s') c) (scaled y d s)))
    (mulf (carried oc hc y p) (extractStridedSlice S8x128 ![0, o] (exp (spread c s)) ho)))
    (mulf (broadcastTo S8x128 (shapeCast S1x128 dd shapeCasts_S1x128_S1x128) broadcasts_S1x128_S8x128)
      (extractStridedSlice S8x128 ![0, o] (extractStridedSlice S8x1024 ![0, 0] y slices_S8x1536_o0_0_S8x1024) ho)))
    (mulf z' (logistic z'))

/-- The sum of a pair's squares, row by row. -/
def squares (y : FVec F S8x128 .f32) : FVec F S8x1 .f32 :=
  shapeCast S8x1 (multiReduction .add [1] S8 (mulf y y) 0x00000000#32 reduces_S8x128_S8 (.inl rfl) rfl) shapeCasts_S8_S8x1

/-- THE NORM: a pair's rows over the root of its group's mean square, times the norm's weight. -/
def normedPair (q0 q1 q2 q3 y : FVec F S8x128 .f32) (nw : Vec F S1x128 .f32) : FVec F S1x1x8x128 .f32 :=
  shapeCast S1x1x8x128 (mulf (mulf y (broadcastTo S8x128 (rsqrt (addf (mulf
      (addf (addf (addf (squares q0) (squares q1)) (squares q2)) (squares q3))
      (broadcast S8x1 (Scalar.ofBits .f32 0x3B000000#32))) (broadcast S8x1 (Scalar.ofBits .f32 0x358637BD#32))))
      broadcasts_S8x1_S8x128))
    (broadcastTo S8x128 (shapeCast S1x128 nw shapeCasts_S1x128_S1x128) broadcasts_S1x128_S8x128)) shapeCasts_S8x128_S1x1x8x128

end Cert.SsdSIdeal.RefValue

end
-- ==== Proof.SsdS.Row.lean ====
/-
  The numbers of the state update's output rows: one lane of a row before it is normalised, and the norm over a group's lanes.
-/
module

public import proofs.«01_k».proof.Proof.SsdS.Math

@[expose] public section

noncomputable section

namespace Scan

open Idealize.ShloMosaic

/-- The weight row `m` has in row `l`: the decay from one to the other, and nought for a later row. -/
def weight (u : Fin 8 → EReal) (a : EReal) (l m : Fin 8) : EReal :=
  if m ≤ l then Ideal.exp (run u a l - run u a m) else 0

/-- A row whose step size before the softplus is plus infinity has no weight, the rate not being nought. -/
theorem weight_eq_zero (u : Fin 8 → EReal) (a : EReal) (l m : Fin 8) (h : u m = ⊤) (ha : a ≠ ⊥) : weight u a l m = 0 := by
  unfold weight
  split
  · next hm =>
    rw [run_eq_bot u a m l h ha hm, run_eq_bot u a m m h ha (le_refl m)]
    rfl
  · rfl

/-- One lane of row `l` before the norm: the rows up to it by their weights, the state before, and the row itself, gated.
    `C` and `B` are the rows' columns, `x` the lane's rows, `s` the lane's state, `z` the lane's gate. -/
def lane (C B : Fin 8 → Fin 128 → EReal) (x u : Fin 8 → EReal) (a : EReal) (s : Fin 128 → EReal) (D : EReal) (z : EReal)
    (l : Fin 8) : EReal :=
  (∑ m, (∑ n, C l n * B m n) * weight u a l m * (x m * softplus (u m)) + (∑ n, C l n * s n) * Ideal.exp (run u a l) + D * x l)
    * (z * Ideal.logistic z)

/-- The norm of a group's 512 lanes at one of them. -/
def normed (y : Fin 512 → EReal) (w : EReal) (i : Fin 512) : EReal :=
  y i * Ideal.rsqrt (Ideal.div (∑ k, y k * y k) (Ideal.ofBits .f32 0x44000000#32) + Ideal.ofBits .f32 0x358637BD#32) * w

/-- The number 512. -/
theorem ofBits_512 : Ideal.ofBits .f32 0x44000000#32 = ((512 : ℝ) : EReal) := by
  simp [Ideal.ofBits, Ideal.ieee, -EReal.coe_mul]; norm_num

/-- The number 1/512. -/
theorem ofBits_512th : Ideal.ofBits .f32 0x3B000000#32 = (((1 : ℝ) / 512 : ℝ) : EReal) := by
  simp [Ideal.ofBits, Ideal.ieee, -EReal.coe_mul]; norm_num

/-- To divide by 512 is to multiply by 1/512. -/
theorem div_512 (x : EReal) : Ideal.div x (Ideal.ofBits .f32 0x44000000#32) = x * Ideal.ofBits .f32 0x3B000000#32 := by
  rw [ofBits_512, ofBits_512th]
  exact Ideal.div_coe (by norm_num) x

/-- A sum over 512 lanes is the sum over four times 128. -/
theorem sum_512 (f : Fin 512 → EReal) :
    ∑ k, f k = ∑ r : Fin 128, f ⟨r.val, by omega⟩ + ∑ r : Fin 128, f ⟨128 + r.val, by omega⟩
      + ∑ r : Fin 128, f ⟨256 + r.val, by omega⟩ + ∑ r : Fin 128, f ⟨384 + r.val, by omega⟩ := by
  rw [Fin.sum_univ_add (a := 384) (b := 128) f, Fin.sum_univ_add (a := 256) (b := 128), Fin.sum_univ_add (a := 128) (b := 128)]
  rfl

end Scan

end
-- ==== Proof.SsdS.RowStep.lean ====
/-
  The kernel's output rows read at an index: the lane's number before the norm, and the norm.
-/
module

public import proofs.«01_k».proof.Proof.SsdS.RowUnit
public import proofs.«01_k».proof.Proof.SsdS.Row
public import proofs.«01_k».proof.Proof.SsdS.Step

@[expose] public section

set_option maxRecDepth 16384

noncomputable section

namespace Cert.SsdSIdeal.RefValue

open Cert.SsdSIdeal Cert.SsdSIdeal.Gen Idealize.ShloMosaic Scan

/-- The products of two rows' columns. -/
theorem products_apply (oc ob : Nat) (hc : S8x1536.Slices ![0, oc] S8x128) (hb : S8x1536.Slices ![0, ob] S8x128)
    (hoc : oc + 128 ≤ 1536) (hob : ob + 128 ≤ 1536) (y : FVec Ideal S8x1536 .f32) (l m : Fin 8) :
    products oc ob hc hb y (ix2 l m) = ∑ n : Fin 128, y (ix2 l (⟨oc + n.val, by omega⟩ : Fin 1536)) * y (ix2 m (⟨ob + n.val, by omega⟩ : Fin 1536)) := by
  pointwise [products, narrowed]

/-- The mask of the rows up to a row. -/
theorem mask_apply : ∀ l m : Fin 8, IntOp.cmpi CmpIPredicate.sge (BitVec.ofNat 32 l.val) (BitVec.ofNat 32 m.val)
    = if m ≤ l then 1#1 else 0#1 := by decide +kernel

/-- The mask of the first head's lanes. -/
theorem first_apply : ∀ r : Fin 128, IntOp.cmpi CmpIPredicate.slt (BitVec.ofNat 32 r.val) 64#32
    = if r.val < 64 then 1#1 else 0#1 := by decide +kernel

/-- One head's weights. -/
theorem weights_apply (w k : Nat) (hw : S8x2048.Slices ![0, w] S8x8) (hk : S128x8.Slices ![k, 0] S1x8) (hw' : w + 8 ≤ 2048)
    (hk' : k < 128) (cw : FVec Ideal S8x2048 .f32) (c : FVec Ideal S8x128 .f32) (l m : Fin 8) :
    weights w k hw hk cw c (ix2 l m)
      = if m ≤ l then Ideal.exp (cw (ix2 l (⟨w + m.val, by omega⟩ : Fin 2048)) - c (ix2 m (⟨k, hk'⟩ : Fin 128))) else (0 : EReal) := by
  pointwise [weights, k0_pay4]
  simp only [mask_apply]
  by_cases h : m ≤ l
  · rw [if_pos h, if_pos h]; rfl
  · rw [if_neg h, if_neg h]; rfl

/-- The rows before, weighted. -/
theorem within_apply (o : Nat) (ho : S8x1024.Slices ![0, o] S8x128) (cb lm : FVec Ideal S8x8 .f32) (xd : FVec Ideal S8x1024 .f32)
    (l : Fin 8) (r : Fin 128) (q : Fin 1024) (hq : q.val = o + r.val) :
    within o ho cb lm xd (ix2 l r) = ∑ m : Fin 8, cb (ix2 l m) * lm (ix2 l m) * xd (ix2 m q) := by
  obtain ⟨q, hq'⟩ := q
  simp only at hq
  subst hq
  pointwise [within]

/-- What the state before gives. -/
theorem carried_apply (oc : Nat) (hc : S8x1536.Slices ![0, oc] S8x128) (hoc : oc + 128 ≤ 1536) (y : FVec Ideal S8x1536 .f32)
    (p : Vec Ideal S1x1x128x128 .f32) (l : Fin 8) (r : Fin 128) :
    carried oc hc y p (ix2 l r) = ∑ n : Fin 128, y (ix2 l (⟨oc + n.val, by omega⟩ : Fin 1536)) * (p (ix4 0 0 r n) : EReal) := by
  pointwise [carried, narrowed]

/-- The sum of a row's squares. -/
theorem squares_apply (y : FVec Ideal S8x128 .f32) (l : Fin 8) :
    squares y (ix2 l 0) = ∑ r : Fin 128, y (ix2 l r) * (y (ix2 l r) : EReal) := by
  pointwise [squares]

/-- The norm at a lane, in terms of the four pairs' squares. -/
theorem normedPair_apply (q0 q1 q2 q3 y : FVec Ideal S8x128 .f32) (nw : Vec Ideal S1x128 .f32) (l : Fin 8) (r : Fin 128) :
    normedPair q0 q1 q2 q3 y nw (ix4 0 0 l r)
      = y (ix2 l r) * Ideal.rsqrt ((∑ i : Fin 128, q0 (ix2 l i) * q0 (ix2 l i) + ∑ i : Fin 128, q1 (ix2 l i) * q1 (ix2 l i)
          + ∑ i : Fin 128, q2 (ix2 l i) * q2 (ix2 l i) + ∑ i : Fin 128, q3 (ix2 l i) * q3 (ix2 l i))
          * Ideal.ofBits .f32 0x3B000000#32 + Ideal.ofBits .f32 0x358637BD#32) * nw (ix2 0 r) := by
  rw [← squares_apply, ← squares_apply, ← squares_apply, ← squares_apply]
  unfold normedPair
  generalize squares q0 = s0
  generalize squares q1 = s1
  generalize squares q2 = s2
  generalize squares q3 = s3
  pointwise

/-- A pair's rows before the norm, split into their parts. -/
theorem pair_parts (o oc ob w0 w1 k0 k1 : Nat) (ho : S8x1024.Slices ![0, o] S8x128) (hc : S8x1536.Slices ![0, oc] S8x128)
    (hb : S8x1536.Slices ![0, ob] S8x128) (h0 : S8x2048.Slices ![0, w0] S8x8) (h1 : S8x2048.Slices ![0, w1] S8x8)
    (hk0 : S128x8.Slices ![k0, 0] S1x8) (hk1 : S128x8.Slices ![k1, 0] S1x8)
    (y : FVec Ideal S8x1536 .f32) (d c : FVec Ideal S8x128 .f32) (s : Vec Ideal S128x1024 .bf16) (s' : Vec Ideal S128x2048 .bf16)
    (p : Vec Ideal S1x1x128x128 .f32) (dd : Vec Ideal S1x128 .f32) (z : Vec Ideal S1x8x128 .f32) (l : Fin 8) (r : Fin 128)
    (q : Fin 1024) (hq : q.val = o + r.val) :
    pair o oc ob w0 w1 k0 k1 ho hc hb h0 h1 hk0 hk1 y d c s s' p dd z (ix2 l r)
      = ((if r.val < 64
          then within o ho (products oc ob hc hb y) (weights w0 k0 h0 hk0 (spreadWide c s') c) (scaled y d s) (ix2 l r)
          else within o ho (products oc ob hc hb y) (weights w1 k1 h1 hk1 (spreadWide c s') c) (scaled y d s) (ix2 l r))
        + carried oc hc y p (ix2 l r) * Ideal.exp (spread c s (ix2 l q))
        + dd (ix2 0 r) * y (ix2 l (⟨q.val, by omega⟩ : Fin 1536)))
        * (z (ix3 0 l r) * Ideal.logistic (z (ix3 0 l r))) := by
  obtain ⟨q, hq'⟩ := q
  simp only at hq
  subst hq
  unfold pair
  generalize within o ho (products oc ob hc hb y) (weights w0 k0 h0 hk0 (spreadWide c s') c) (scaled y d s) = a0
  generalize within o ho (products oc ob hc hb y) (weights w1 k1 h1 hk1 (spreadWide c s') c) (scaled y d s) = a1
  generalize carried oc hc y p = a2
  generalize spread c s = a3
  pointwise [k0_pay6]
  simp only [first_apply]
  by_cases h : r.val < 64
  · rw [if_pos h, if_pos h]; rfl
  · rw [if_neg h, if_neg h]; rfl

/-- A PAIR'S ROWS BEFORE THE NORM, at row `l` and lane `r`: the head's lane, where its decay rate is not nought. `q` is the
    lane among the pairs', `k` the head's column among the gates. -/
theorem pair_apply (o oc ob w0 w1 k0 k1 : Nat) (ho : S8x1024.Slices ![0, o] S8x128) (hc : S8x1536.Slices ![0, oc] S8x128)
    (hb : S8x1536.Slices ![0, ob] S8x128) (h0 : S8x2048.Slices ![0, w0] S8x8) (h1 : S8x2048.Slices ![0, w1] S8x8)
    (hk0 : S128x8.Slices ![k0, 0] S1x8) (hk1 : S128x8.Slices ![k1, 0] S1x8)
    (x l1 l2 l3 : Vec Ideal S1x8x1536 .f32) (w : Vec Ideal S4x1536 .f32) (cb : Vec Ideal S1x1536 .f32)
    (g : Vec Ideal S1x8x128 .f32) (a b : Vec Ideal S1x128 .f32) (s : Vec Ideal S128x1024 .bf16) (s' : Vec Ideal S128x2048 .bf16)
    (p : Vec Ideal S1x1x128x128 .f32) (dd : Vec Ideal S1x128 .f32) (z : Vec Ideal S1x8x128 .f32) (l : Fin 8) (r : Fin 128)
    (q : Fin 1024) (k : Fin 128) (xp : Fin 1536 → Fin 11 → EReal)
    (hx0 : ∀ (l : Fin 8) (c : Fin 1536), x (ix3 0 l c) = xp c ⟨3 + l.val, by omega⟩)
    (hx1 : ∀ (l : Fin 8) (c : Fin 1536), l1 (ix3 0 l c) = xp c ⟨2 + l.val, by omega⟩)
    (hx2 : ∀ (l : Fin 8) (c : Fin 1536), l2 (ix3 0 l c) = xp c ⟨1 + l.val, by omega⟩)
    (hx3 : ∀ (l : Fin 8) (c : Fin 1536), l3 (ix3 0 l c) = xp c ⟨l.val, by omega⟩)
    (hq : q.val = o + r.val) (hoc : oc + 128 ≤ 1536) (hob : ob + 128 ≤ 1536) (hw0 : w0 + 8 ≤ 2048) (hw1 : w1 + 8 ≤ 2048)
    (hk : k.val = if r.val < 64 then k0 else k1)
    (hs : ∀ i : Fin 128, s (ix2 i q) = if i = k then (1 : EReal) else 0)
    (hs' : ∀ (i : Fin 128) (q' : Fin 2048) (m : Fin 8), q'.val = (if r.val < 64 then w0 else w1) + m.val →
      s' (ix2 i q') = if i = k then (1 : EReal) else 0)
    (ha : a (ix2 0 k) ≠ (⊥ : EReal)) :
    pair o oc ob w0 w1 k0 k1 ho hc hb h0 h1 hk0 hk1 (act x l1 l2 l3 w cb) (steps g b) (sums (decays (steps g b) a)) s s' p dd z (ix2 l r)
      = lane
          (fun l n => Scan.act (xp ⟨oc + n.val, by omega⟩) (fun i => w (ix2 i (⟨oc + n.val, by omega⟩ : Fin 1536))) (cb (ix2 0 (⟨oc + n.val, by omega⟩ : Fin 1536))) l)
          (fun l n => Scan.act (xp ⟨ob + n.val, by omega⟩) (fun i => w (ix2 i (⟨ob + n.val, by omega⟩ : Fin 1536))) (cb (ix2 0 (⟨ob + n.val, by omega⟩ : Fin 1536))) l)
          (Scan.act (xp ⟨q.val, by omega⟩) (fun i => w (ix2 i (⟨q.val, by omega⟩ : Fin 1536))) (cb (ix2 0 (⟨q.val, by omega⟩ : Fin 1536))))
          (fun l => g (ix3 0 l k) + b (ix2 0 k)) (a (ix2 0 k)) (fun n => p (ix4 0 0 r n)) (dd (ix2 0 r)) (z (ix3 0 l r)) l := by
  have hsum : ∀ l, sums (decays (steps g b) a) (ix2 l k) = run (fun l => g (ix3 0 l k) + b (ix2 0 k)) (a (ix2 0 k)) l := fun l => by
    rw [sums_apply]
    · refine Finset.sum_congr rfl fun i _ => ?_
      rw [decays_apply, steps_apply]
    · intro i
      rw [decays_apply, steps_apply]
      exact term_ne_top _ _
  have hr : ∀ l, sums (decays (steps g b) a) (ix2 l k) ≠ (⊤ : EReal) := fun l => by rw [hsum]; exact run_ne_top _ _ _
  have hact : ∀ (c : Fin 1536) (l : Fin 8), act x l1 l2 l3 w cb (ix2 l c) = Scan.act (xp c) (fun i => w (ix2 i c)) (cb (ix2 0 c)) l :=
    fun c l => act_apply x l1 l2 l3 w cb (xp c) c (fun l => hx0 l c) (fun l => hx1 l c) (fun l => hx2 l c) (fun l => hx3 l c) l
  have key : ∀ (v k' : Nat) (hv : S8x2048.Slices ![0, v] S8x8) (hk' : S128x8.Slices ![k', 0] S1x8) (_ : v + 8 ≤ 2048) (_ : k.val = k')
      (_ : ∀ (i : Fin 128) (q' : Fin 2048) (m : Fin 8), q'.val = v + m.val → s' (ix2 i q') = if i = k then (1 : EReal) else 0),
      within o ho (products oc ob hc hb (act x l1 l2 l3 w cb)) (weights v k' hv hk' (spreadWide (sums (decays (steps g b) a)) s') (sums (decays (steps g b) a)))
          (scaled (act x l1 l2 l3 w cb) (steps g b) s) (ix2 l r)
        = ∑ m, (∑ n : Fin 128, Scan.act (xp ⟨oc + n.val, by omega⟩) (fun i => w (ix2 i (⟨oc + n.val, by omega⟩ : Fin 1536))) (cb (ix2 0 (⟨oc + n.val, by omega⟩ : Fin 1536))) l
            * Scan.act (xp ⟨ob + n.val, by omega⟩) (fun i => w (ix2 i (⟨ob + n.val, by omega⟩ : Fin 1536))) (cb (ix2 0 (⟨ob + n.val, by omega⟩ : Fin 1536))) m)
          * weight (fun l => g (ix3 0 l k) + b (ix2 0 k)) (a (ix2 0 k)) l m
          * (Scan.act (xp ⟨q.val, by omega⟩) (fun i => w (ix2 i (⟨q.val, by omega⟩ : Fin 1536))) (cb (ix2 0 (⟨q.val, by omega⟩ : Fin 1536))) m
            * softplus (g (ix3 0 m k) + b (ix2 0 k))) := by
    intro v k' hv hk' hv8 hkk hsv
    subst hkk
    rw [within_apply o ho _ _ _ l r q hq]
    refine Finset.sum_congr rfl fun m _ => ?_
    have hwt : weights v k.val hv hk' (spreadWide (sums (decays (steps g b) a)) s') (sums (decays (steps g b) a)) (ix2 l m)
        = weight (fun l => g (ix3 0 l k) + b (ix2 0 k)) (a (ix2 0 k)) l m := by
      rw [weights_apply v k.val hv hk' hv8 k.isLt]
      unfold weight
      refine if_congr Iff.rfl ?_ rfl
      rw [spreadWide_apply _ _ _ _ k (hr l) (fun i => hsv i _ m rfl), hsum]
      exact congrArg (fun t => Ideal.exp (_ - t)) (hsum m)
    rw [hwt, products_apply oc ob hc hb hoc hob]
    simp only [hact]
    by_cases hg : (g (ix3 0 m k) + b (ix2 0 k) : EReal) = ⊤
    · rw [weight_eq_zero (fun l => g (ix3 0 l k) + b (ix2 0 k)) (a (ix2 0 k)) l m hg ha, mul_zero, zero_mul, zero_mul]
    · rw [scaled_apply, hact, spread_apply _ _ _ _ k (by rw [steps_apply]; exact softplus_ne_top _ hg) hs, steps_apply]
  rw [pair_parts o oc ob w0 w1 k0 k1 ho hc hb h0 h1 hk0 hk1 _ _ _ s s' p dd z l r q hq, carried_apply oc hc hoc,
    spread_apply _ _ _ _ k (hr l) hs, hsum]
  simp only [hact]
  unfold lane
  refine congrArg (fun t => (t + _ + _) * _) ?_
  by_cases h : r.val < 64
  · rw [if_pos h]
    exact key w0 k0 h0 hk0 hw0 (hk.trans (if_pos h)) fun i q' m e => hs' i q' m (e.trans (by rw [if_pos h]))
  · rw [if_neg h]
    exact key w1 k1 h1 hk1 hw1 (hk.trans (if_neg h)) fun i q' m e => hs' i q' m (e.trans (by rw [if_neg h]))

end Cert.SsdSIdeal.RefValue

end
-- ==== Proof.SsdS.RowBlock.lean ====
/-
  A point of eight sequences: what it stores for the output rows, as one function of its blocks. Each of the 64 stores holds
  the eight rows of one pair of heads of one sequence, normalised over the pair's group.
-/
module

public import proofs.«01_k».proof.Proof.SsdS.Block
public import proofs.«01_k».proof.Proof.SsdS.RowStep

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

/-- Pair `p`'s load of sequence `j`'s gating rows lies in its block. -/
theorem inb_gating (j p : Nat) (hj : j < 8) (hp : p < 8) :
    ∀ x, (![j, 0, 128 * p] : Fin 3 → Nat) x + S1x8x128.size x ≤ S8x8x1024.size x := fun x => by
  fin_cases x
  · show j + 1 ≤ 8; omega
  · show 0 + 8 ≤ 8; omega
  · show 128 * p + 128 ≤ 1024; omega

/-- Pair `p`'s load of a lane's weights lies in its block. -/
theorem inb_lanes (p : Nat) (hp : p < 8) : ∀ x, (![0, 128 * p] : Fin 2 → Nat) x + S1x128.size x ≤ S1x1024.size x := fun x => by
  fin_cases x
  · show 0 + 1 ≤ 1; omega
  · show 128 * p + 128 ≤ 1024; omega

/-- The output columns of pair `p`'s group. -/
theorem slice_columns (p : Nat) (hp : p < 8) : S8x1536.Slices ![0, 1280 + 128 * (p / 4)] S8x128 := by interval_cases p <;> decide
/-- The eight wide lanes of pair `p`'s first head. -/
theorem slice_down0 (p : Nat) (hp : p < 8) : S8x2048.Slices ![0, 256 * p] S8x8 := by interval_cases p <;> decide
/-- The eight wide lanes of pair `p`'s second head. -/
theorem slice_down1 (p : Nat) (hp : p < 8) : S8x2048.Slices ![0, 256 * p + 128] S8x8 := by interval_cases p <;> decide
/-- The row of pair `p`'s first head. -/
theorem slice_across0 (p : Nat) (hp : p < 8) : S128x8.Slices ![16 + 2 * p, 0] S1x8 := by interval_cases p <;> decide
/-- The row of pair `p`'s second head. -/
theorem slice_across1 (p : Nat) (hp : p < 8) : S128x8.Slices ![16 + 2 * p + 1, 0] S1x8 := by interval_cases p <;> decide

/-- The rows of pair `p` of sequence `j` before the norm, the scratch holding `L` when the sequence reads it. -/
def pairOf (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg4 : Memref sig .tc .vmem S8x8x1024 .f32) (harg4 : arg4.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg10 : Memref sig .tc .vmem S1x1024 .f32)
    (harg10 : arg10.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x2 : Vec Ideal S8x8x1024 .f32)
    (x4 : Vec Ideal S8x8x128x128 .f32) (x5 : Vec Ideal S4x1536 .f32) (x6 : Vec Ideal S1x1536 .f32) (x7 : Vec Ideal S2x128 .f32)
    (x8 : Vec Ideal S1x1024 .f32) (x10 : Vec Ideal S128x1024 .bf16) (x11 : Vec Ideal S128x2048 .bf16) :
    FVec Ideal S8x128 .f32 :=
  pair (128 * p) (1280 + 128 * (p / 4)) (1024 + 128 * (p / 4)) (256 * p) (256 * p + 128) (16 + 2 * p) (16 + 2 * p + 1)
    (slice_lanes p hp) (slice_columns p hp) (slice_group p hp) (slice_down0 p hp) (slice_down1 p hp) (slice_across0 p hp)
    (slice_across1 p hp)
    (act (readAt (Elt Ideal) arg2.view (Rect.unit (s := S8x8x1536) ![j, 0, 0] S1x8x1536.size (inb_seq j hj)).toLoadRect (harg2.unread x0))
      (arg16.view.readCov L (Rect.unit (s := S8x16x1536) ![j, 7, 0] S1x8x1536.size (inb_row j 7 hj (by decide))).toLoadRect)
      (arg16.view.readCov L (Rect.unit (s := S8x16x1536) ![j, 6, 0] S1x8x1536.size (inb_row j 6 hj (by decide))).toLoadRect)
      (arg16.view.readCov L (Rect.unit (s := S8x16x1536) ![j, 5, 0] S1x8x1536.size (inb_row j 5 hj (by decide))).toLoadRect)
      (readAt (Elt Ideal) arg7.view (Rect.unit (s := S4x1536) ![0, 0] S4x1536.size (by decide)).toLoadRect (harg7.unread x5))
      (readAt (Elt Ideal) arg8.view (Rect.unit (s := S1x1536) ![0, 0] S1x1536.size (by decide)).toLoadRect (harg8.unread x6)))
    (steps (readAt (Elt Ideal) arg3.view (Rect.unit (s := S8x8x128) ![j, 0, 0] S1x8x128.size (inb_gate j hj)).toLoadRect (harg3.unread x1))
      (readAt (Elt Ideal) arg9.view (Rect.unit (s := S2x128) ![1, 0] S1x128.size (by decide)).toLoadRect (harg9.unread x7)))
    (sums (decays (steps (readAt (Elt Ideal) arg3.view (Rect.unit (s := S8x8x128) ![j, 0, 0] S1x8x128.size (inb_gate j hj)).toLoadRect (harg3.unread x1))
      (readAt (Elt Ideal) arg9.view (Rect.unit (s := S2x128) ![1, 0] S1x128.size (by decide)).toLoadRect (harg9.unread x7)))
      (readAt (Elt Ideal) arg9.view (Rect.unit (s := S2x128) ![0, 0] S1x128.size (by decide)).toLoadRect (harg9.unread x7))))
    (readAt (Elt Ideal) arg12.view (Rect.unit (s := S128x1024) ![0, 0] S128x1024.size (by decide)).toLoadRect (harg12.unread x10))
    (readAt (Elt Ideal) arg13.view (Rect.unit (s := S128x2048) ![0, 0] S128x2048.size (by decide)).toLoadRect (harg13.unread x11))
    (arg15.view.readCov (H13_1 c arg6 harg6 x4)
      (Rect.unit (s := S8x8x128x128) ![j, p, 0, 0] S1x1x128x128.size (inb_pair j p hj hp)).toLoadRect)
    (readAt (Elt Ideal) arg10.view (Rect.unit (s := S1x1024) ![0, 128 * p] S1x128.size (inb_lanes p hp)).toLoadRect (harg10.unread x8))
    (readAt (Elt Ideal) arg4.view (Rect.unit (s := S8x8x1024) ![j, 0, 128 * p] S1x8x128.size (inb_gating j p hj hp)).toLoadRect (harg4.unread x2))

/-- What the body stores for the rows of pair `p` of sequence `j`. -/
def storedRow (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg4 : Memref sig .tc .vmem S8x8x1024 .f32) (harg4 : arg4.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg10 : Memref sig .tc .vmem S1x1024 .f32)
    (harg10 : arg10.IsWhole) (arg11 : Memref sig .tc .vmem S1x1024 .f32) (harg11 : arg11.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x2 : Vec Ideal S8x8x1024 .f32)
    (x4 : Vec Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal S128x2048 .bf16) :
    FVec Ideal S1x1x8x128 .f32 :=
  normedPair
    (pairOf j (4 * (p / 4)) hj (by omega) L c arg2 harg2 arg3 harg3 arg4 harg4 arg6 harg6 arg7 harg7 arg8 harg8 arg9 harg9 arg10 harg10 arg12 harg12 arg13 harg13 arg15 arg16 x0 x1 x2 x4 x5 x6 x7 x8 x10 x11)
    (pairOf j (4 * (p / 4) + 1) hj (by omega) L c arg2 harg2 arg3 harg3 arg4 harg4 arg6 harg6 arg7 harg7 arg8 harg8 arg9 harg9 arg10 harg10 arg12 harg12 arg13 harg13 arg15 arg16 x0 x1 x2 x4 x5 x6 x7 x8 x10 x11)
    (pairOf j (4 * (p / 4) + 2) hj (by omega) L c arg2 harg2 arg3 harg3 arg4 harg4 arg6 harg6 arg7 harg7 arg8 harg8 arg9 harg9 arg10 harg10 arg12 harg12 arg13 harg13 arg15 arg16 x0 x1 x2 x4 x5 x6 x7 x8 x10 x11)
    (pairOf j (4 * (p / 4) + 3) hj (by omega) L c arg2 harg2 arg3 harg3 arg4 harg4 arg6 harg6 arg7 harg7 arg8 harg8 arg9 harg9 arg10 harg10 arg12 harg12 arg13 harg13 arg15 arg16 x0 x1 x2 x4 x5 x6 x7 x8 x10 x11)
    (pairOf j p hj hp L c arg2 harg2 arg3 harg3 arg4 harg4 arg6 harg6 arg7 harg7 arg8 harg8 arg9 harg9 arg10 harg10 arg12 harg12 arg13 harg13 arg15 arg16 x0 x1 x2 x4 x5 x6 x7 x8 x10 x11)
    (readAt (Elt Ideal) arg11.view (Rect.unit (s := S1x1024) ![0, 128 * p] S1x128.size (inb_lanes p hp)).toLoadRect (harg11.unread x9))

/-- One lane of a sequence's row before the norm, from the point's blocks. -/
def laneAt (x0 : Vec Ideal S8x8x1536 .f32) (x1 : Vec Ideal S8x8x128 .f32) (x2 : Vec Ideal S8x8x1024 .f32)
    (x3 : Vec Ideal S8x8x1536 .f32) (x4 : Vec Ideal S8x8x128x128 .f32) (x5 : Vec Ideal S4x1536 .f32) (x6 : Vec Ideal S1x1536 .f32)
    (x7 : Vec Ideal S2x128 .f32) (x8 : Vec Ideal S1x1024 .f32) (j l : Fin 8) (q : Fin 1024) : EReal :=
  have chan (c : Fin 1536) (l : Fin 8) : EReal := Scan.act (rows x0 x3 j c) (fun i => x5 (ix2 i c)) (x6 (ix2 0 c)) l
  have k : Fin 128 := ⟨16 + q.val / 64, by omega⟩
  lane (fun l n => chan ⟨1280 + 128 * (q.val / 512) + n.val, by omega⟩ l) (fun l n => chan ⟨1024 + 128 * (q.val / 512) + n.val, by omega⟩ l)
    (chan ⟨q.val, by omega⟩) (fun l => x1 (ix3 j l k) + x7 (ix2 1 k)) (x7 (ix2 0 k))
    (fun n => x4 (ix4 j (⟨q.val / 128, by omega⟩ : Fin 8) (⟨q.val % 128, by omega⟩ : Fin 128) n)) (x8 (ix2 0 q)) (x2 (ix3 j l q)) l

/-- The output rows the whole block is to hold: each lane normalised over its group's 512. -/
def rowAt (x0 : Vec Ideal S8x8x1536 .f32) (x1 : Vec Ideal S8x8x128 .f32) (x2 : Vec Ideal S8x8x1024 .f32)
    (x3 : Vec Ideal S8x8x1536 .f32) (x4 : Vec Ideal S8x8x128x128 .f32) (x5 : Vec Ideal S4x1536 .f32) (x6 : Vec Ideal S1x1536 .f32)
    (x7 : Vec Ideal S2x128 .f32) (x8 x9 : Vec Ideal S1x1024 .f32) (j l : Fin 8) (q : Fin 1024) : EReal :=
  normed (fun i => laneAt x0 x1 x2 x3 x4 x5 x6 x7 x8 j l ⟨512 * (q.val / 512) + i.val, by omega⟩) (x9 (ix2 0 q))
    ⟨q.val % 512, by omega⟩

/-- A pair's rows are its lanes. -/
theorem pairOf_apply (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg4 : Memref sig .tc .vmem S8x8x1024 .f32) (harg4 : arg4.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg10 : Memref sig .tc .vmem S1x1024 .f32)
    (harg10 : arg10.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x2 : Vec Ideal S8x8x1024 .f32) (x3 : Vec Ideal S8x8x1536 .f32)
    (x4 : Vec Ideal S8x8x128x128 .f32) (x5 : Vec Ideal S4x1536 .f32) (x6 : Vec Ideal S1x1536 .f32) (x7 : Vec Ideal S2x128 .f32)
    (x8 : Vec Ideal S1x1024 .f32) (x10 : Vec Ideal S128x1024 .bf16) (x11 : Vec Ideal S128x2048 .bf16)
    (hL : Holds x0 x3 L j) (hs : Narrow x10) (hs' : Wide x11) (hg : Rated x7) (l : Fin 8) (r : Fin 128) :
    pairOf j p hj hp L c arg2 harg2 arg3 harg3 arg4 harg4 arg6 harg6 arg7 harg7 arg8 harg8 arg9 harg9 arg10 harg10 arg12 harg12 arg13 harg13 arg15 arg16 x0 x1 x2 x4 x5 x6 x7 x8 x10 x11 (ix2 l r)
      = laneAt x0 x1 x2 x3 x4 x5 x6 x7 x8 ⟨j, hj⟩ l ⟨128 * p + r.val, by omega⟩ := by
  have whole : ∀ {s : Shape} {e : EltTy} {m : Memref sig .tc .vmem s e} (h : m.IsWhole) (X : s.Idx → Elt Ideal e) (B : LoadRect s)
      (x : B.shape.Idx) (y : s.Idx), B.idx x = y → readAt (Elt Ideal) m.view B (h.unread X) x = X y :=
    fun h X B x y e => (h.readAt_unread X B x).trans (congrArg X e)
  have seq : ∀ (l : Fin 8) (d : Fin 1536), (readAt (Elt Ideal) arg2.view (Rect.unit (s := S8x8x1536) ![j, 0, 0] S1x8x1536.size (inb_seq j hj)).toLoadRect (harg2.unread x0)) (ix3 (0 : Fin 1) l d)
      = x0 (ix3 ⟨j, hj⟩ l d) := fun l d => whole harg2 x0 _ _ _ (by
    funext x; apply Fin.ext
    fin_cases x
    · show j + 1 * 0 = j; omega
    · show 0 + 1 * l.val = l.val; omega
    · show 0 + 1 * d.val = d.val; omega)
  have gate : ∀ (l : Fin 8) (d : Fin 128), (readAt (Elt Ideal) arg3.view (Rect.unit (s := S8x8x128) ![j, 0, 0] S1x8x128.size (inb_gate j hj)).toLoadRect (harg3.unread x1)) (ix3 (0 : Fin 1) l d)
      = x1 (ix3 ⟨j, hj⟩ l d) := fun l d => whole harg3 x1 _ _ _ (by
    funext x; apply Fin.ext
    fin_cases x
    · show j + 1 * 0 = j; omega
    · show 0 + 1 * l.val = l.val; omega
    · show 0 + 1 * d.val = d.val; omega)
  have taps : ∀ (l : Fin 4) (d : Fin 1536), (readAt (Elt Ideal) arg7.view (Rect.unit (s := S4x1536) ![0, 0] S4x1536.size (by decide)).toLoadRect (harg7.unread x5)) (ix2 l d) = x5 (ix2 l d) :=
    fun l d => whole harg7 x5 _ _ _ (by
      funext x; apply Fin.ext
      fin_cases x
      · show 0 + 1 * l.val = l.val; omega
      · show 0 + 1 * d.val = d.val; omega)
  have bias : ∀ (d : Fin 1536), (readAt (Elt Ideal) arg8.view (Rect.unit (s := S1x1536) ![0, 0] S1x1536.size (by decide)).toLoadRect (harg8.unread x6)) (ix2 0 d) = x6 (ix2 0 d) :=
    fun d => whole harg8 x6 _ _ _ (by
      funext x; apply Fin.ext
      fin_cases x
      · show 0 + 1 * 0 = 0; omega
      · show 0 + 1 * d.val = d.val; omega)
  have rate : ∀ (d : Fin 128), (readAt (Elt Ideal) arg9.view (Rect.unit (s := S2x128) ![0, 0] S1x128.size (by decide)).toLoadRect (harg9.unread x7)) (ix2 0 d) = x7 (ix2 0 d) :=
    fun d => whole harg9 x7 _ _ _ (by
      funext x; apply Fin.ext
      fin_cases x
      · show 0 + 1 * 0 = 0; omega
      · show 0 + 1 * d.val = d.val; omega)
  have shift : ∀ (d : Fin 128), (readAt (Elt Ideal) arg9.view (Rect.unit (s := S2x128) ![1, 0] S1x128.size (by decide)).toLoadRect (harg9.unread x7)) (ix2 0 d) = x7 (ix2 1 d) :=
    fun d => whole harg9 x7 _ _ _ (by
      funext x; apply Fin.ext
      fin_cases x
      · show 1 + 1 * 0 = 1; omega
      · show 0 + 1 * d.val = d.val; omega)
  have narrow : ∀ (l : Fin 128) (d : Fin 1024), (readAt (Elt Ideal) arg12.view (Rect.unit (s := S128x1024) ![0, 0] S128x1024.size (by decide)).toLoadRect (harg12.unread x10)) (ix2 l d) = x10 (ix2 l d) :=
    fun l d => whole harg12 x10 _ _ _ (by
      funext x; apply Fin.ext
      fin_cases x
      · show 0 + 1 * l.val = l.val; omega
      · show 0 + 1 * d.val = d.val; omega)
  have wide : ∀ (l : Fin 128) (d : Fin 2048), (readAt (Elt Ideal) arg13.view (Rect.unit (s := S128x2048) ![0, 0] S128x2048.size (by decide)).toLoadRect (harg13.unread x11)) (ix2 l d) = x11 (ix2 l d) :=
    fun l d => whole harg13 x11 _ _ _ (by
      funext x; apply Fin.ext
      fin_cases x
      · show 0 + 1 * l.val = l.val; omega
      · show 0 + 1 * d.val = d.val; omega)
  have prev : ∀ n : Fin 128, (arg15.view.readCov (H13_1 c arg6 harg6 x4)
      (Rect.unit (s := S8x8x128x128) ![j, p, 0, 0] S1x1x128x128.size (inb_pair j p hj hp)).toLoadRect) (ix4 (0 : Fin 1) (0 : Fin 1) r n)
      = x4 (ix4 ⟨j, hj⟩ ⟨p, hp⟩ r n) := fun n => by
    rw [readCov_eq_canon']
    have e : (Rect.unit (s := S8x8x128x128) ![j, p, 0, 0] S1x1x128x128.size (inb_pair j p hj hp)).toLoadRect.idx
        (ix4 (0 : Fin 1) (0 : Fin 1) r n) = ix4 ⟨j, hj⟩ ⟨p, hp⟩ r n := by
      funext x; apply Fin.ext
      fin_cases x
      · show j + 1 * 0 = j; omega
      · show p + 1 * 0 = p; omega
      · show 0 + 1 * r.val = r.val; omega
      · show 0 + 1 * n.val = n.val; omega
    refine (congrArg (canon (H13_1 c arg6 harg6 x4)) e).trans ?_
    unfold H13_1
    have e' : (Rect.unit (s := S8x8x128x128) ![0, 0, 0, 0] S8x8x128x128.size inb_S8x8x128x128_S8x8x128x128_0_0_0_0).emb
        (ix4 ⟨j, hj⟩ ⟨p, hp⟩ r n) = ix4 ⟨j, hj⟩ ⟨p, hp⟩ r n := by
      funext x; apply Fin.ext
      fin_cases x
      · show 0 + 1 * j = j; omega
      · show 0 + 1 * p = p; omega
      · show 0 + 1 * r.val = r.val; omega
      · show 0 + 1 * n.val = n.val; omega
    rw [← e', canon_cons_emb]
    have e3 : ∀ v : Vec Ideal S8x8x128x128 .f32, k0_pay3 v (ix4 ⟨j, hj⟩ ⟨p, hp⟩ r n) = v (ix4 ⟨j, hj⟩ ⟨p, hp⟩ r n) := fun v => by
      pointwise [k0_pay3]
    refine (e3 _).trans ((whole harg6 x4 _ _ _ e').trans (congrArg x4 e'.symm))
  have skip : ∀ (d : Fin 128), (readAt (Elt Ideal) arg10.view (Rect.unit (s := S1x1024) ![0, 128 * p] S1x128.size (inb_lanes p hp)).toLoadRect (harg10.unread x8)) (ix2 0 d) = x8 (ix2 0 (⟨128 * p + d.val, by omega⟩ : Fin 1024)) :=
    fun d => whole harg10 x8 _ _ _ (by
      funext x; apply Fin.ext
      fin_cases x
      · show 0 + 1 * 0 = 0; omega
      · show 128 * p + 1 * d.val = 128 * p + d.val; omega)
  have gating : ∀ (l : Fin 8) (d : Fin 128), (readAt (Elt Ideal) arg4.view (Rect.unit (s := S8x8x1024) ![j, 0, 128 * p] S1x8x128.size (inb_gating j p hj hp)).toLoadRect (harg4.unread x2)) (ix3 (0 : Fin 1) l d)
      = x2 (ix3 ⟨j, hj⟩ l (⟨128 * p + d.val, by omega⟩ : Fin 1024)) := fun l d => whole harg4 x2 _ _ _ (by
    funext x; apply Fin.ext
    fin_cases x
    · show j + 1 * 0 = j; omega
    · show 0 + 1 * l.val = l.val; omega
    · show 128 * p + 1 * d.val = 128 * p + d.val; omega)
  unfold pairOf laneAt
  rw [pair_apply (128 * p) (1280 + 128 * (p / 4)) (1024 + 128 * (p / 4)) (256 * p) (256 * p + 128) (16 + 2 * p) (16 + 2 * p + 1)
    _ _ _ _ _ _ _ _ _ _ _ _ _ _ _ _ _ _ _ _ _ l r
    ⟨128 * p + r.val, by omega⟩ ⟨16 + (2 * p + r.val / 64), by omega⟩
    (rows x0 x3 ⟨j, hj⟩) ?_ ?_ ?_ ?_ rfl (by omega) (by omega) (by omega) (by omega) ?_ ?_ ?_ ?_]
  · simp only [taps, bias, gate, shift, rate, prev, skip, gating]
    have e1 : (128 * p + r.val) / 512 = p / 4 := by omega
    have e2 : (128 * p + r.val) / 64 = 2 * p + r.val / 64 := by omega
    have e3 : (128 * p + r.val) / 128 = p := by omega
    have e4 : (128 * p + r.val) % 128 = r.val := by omega
    simp only [e1, e2, e3, e4]
  · intro l d
    rw [seq]
    unfold rows
    rw [dif_neg (by show ¬ 3 + l.val < 3; omega)]
    exact congrArg (fun z => x0 (ix3 _ z d)) (Fin.ext (by show l.val = 3 + l.val - 3; omega))
  · exact fun l d => load_apply arg16.view x0 x3 L j hL 7 (by decide) _ ⟨j, hj⟩ rfl l d _ (by show 2 + l.val + 5 = 7 + l.val; omega)
  · exact fun l d => load_apply arg16.view x0 x3 L j hL 6 (by decide) _ ⟨j, hj⟩ rfl l d _ (by show 1 + l.val + 5 = 6 + l.val; omega)
  · exact fun l d => load_apply arg16.view x0 x3 L j hL 5 (by decide) _ ⟨j, hj⟩ rfl l d _ (by show l.val + 5 = 5 + l.val; omega)
  · show 16 + (2 * p + r.val / 64) = _
    split <;> omega
  · intro i
    rw [narrow, hs]
    refine if_congr ⟨fun h => Fin.ext ?_, fun h => ?_⟩ rfl rfl
    · show i.val = 16 + (2 * p + r.val / 64)
      simp only at h; omega
    · rw [h]; show 16 + (2 * p + r.val / 64) = 16 + (128 * p + r.val) / 64; omega
  · intro i q' n hq'
    rw [wide, hs']
    have e : q'.val / 128 = 2 * p + r.val / 64 := by
      rw [hq']; split <;> omega
    refine if_congr ⟨fun h => Fin.ext ?_, fun h => ?_⟩ rfl rfl
    · show i.val = 16 + (2 * p + r.val / 64)
      omega
    · rw [h]; show 16 + (2 * p + r.val / 64) = 16 + q'.val / 128; omega
  · rw [rate]
    exact hg _ (by show 16 ≤ 16 + (2 * p + r.val / 64); omega) (by show 16 + (2 * p + r.val / 64) < 32; omega)

/-- A store is its part of the block. -/
theorem storedRow_apply (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg4 : Memref sig .tc .vmem S8x8x1024 .f32) (harg4 : arg4.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg10 : Memref sig .tc .vmem S1x1024 .f32)
    (harg10 : arg10.IsWhole) (arg11 : Memref sig .tc .vmem S1x1024 .f32) (harg11 : arg11.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x2 : Vec Ideal S8x8x1024 .f32) (x3 : Vec Ideal S8x8x1536 .f32)
    (x4 : Vec Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal S128x2048 .bf16)
    (hL : Holds x0 x3 L j) (hs : Narrow x10) (hs' : Wide x11) (hg : Rated x7) (l : Fin 8) (r : Fin 128) :
    storedRow j p hj hp L c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 (ix4 0 0 l r)
      = rowAt x0 x1 x2 x3 x4 x5 x6 x7 x8 x9 ⟨j, hj⟩ l ⟨128 * p + r.val, by omega⟩ := by
  have P : ∀ (p : Nat) (hp : p < 8) (r : Fin 128), pairOf j p hj hp L c arg2 harg2 arg3 harg3 arg4 harg4 arg6 harg6 arg7 harg7 arg8 harg8 arg9 harg9 arg10 harg10 arg12 harg12 arg13 harg13 arg15 arg16 x0 x1 x2 x4 x5 x6 x7 x8 x10 x11 (ix2 l r) = _ := fun p hp r =>
    pairOf_apply j p hj hp L c arg2 harg2 arg3 harg3 arg4 harg4 arg6 harg6 arg7 harg7 arg8 harg8 arg9 harg9 arg10 harg10 arg12 harg12 arg13 harg13 arg15 arg16 x0 x1 x2 x3 x4 x5 x6 x7 x8 x10 x11 hL hs hs' hg l r
  have weight : (readAt (Elt Ideal) arg11.view (Rect.unit (s := S1x1024) ![0, 128 * p] S1x128.size (inb_lanes p hp)).toLoadRect (harg11.unread x9)) (ix2 0 r) = x9 (ix2 0 (⟨128 * p + r.val, by omega⟩ : Fin 1024)) :=
    (harg11.readAt_unread x9 _ _).trans (congrArg x9 (by
      funext x; apply Fin.ext
      fin_cases x
      · show 0 + 1 * 0 = 0; omega
      · show 128 * p + 1 * r.val = 128 * p + r.val; omega))
  unfold storedRow rowAt normed
  rw [normedPair_apply, weight, sum_512, div_512]
  simp only [P]
  have e : (128 * p + r.val) / 512 = p / 4 := by omega
  have i0 : ∀ i : Fin 128, (⟨128 * (4 * (p / 4)) + i.val, by omega⟩ : Fin 1024) = ⟨512 * ((128 * p + r.val) / 512) + i.val, by omega⟩ :=
    fun i => Fin.ext (show 128 * (4 * (p / 4)) + i.val = 512 * ((128 * p + r.val) / 512) + i.val by omega)
  have i1 : ∀ i : Fin 128, (⟨128 * (4 * (p / 4) + 1) + i.val, by omega⟩ : Fin 1024) = ⟨512 * ((128 * p + r.val) / 512) + (128 + i.val), by omega⟩ :=
    fun i => Fin.ext (show 128 * (4 * (p / 4) + 1) + i.val = 512 * ((128 * p + r.val) / 512) + (128 + i.val) by omega)
  have i2 : ∀ i : Fin 128, (⟨128 * (4 * (p / 4) + 2) + i.val, by omega⟩ : Fin 1024) = ⟨512 * ((128 * p + r.val) / 512) + (256 + i.val), by omega⟩ :=
    fun i => Fin.ext (show 128 * (4 * (p / 4) + 2) + i.val = 512 * ((128 * p + r.val) / 512) + (256 + i.val) by omega)
  have i3 : ∀ i : Fin 128, (⟨128 * (4 * (p / 4) + 3) + i.val, by omega⟩ : Fin 1024) = ⟨512 * ((128 * p + r.val) / 512) + (384 + i.val), by omega⟩ :=
    fun i => Fin.ext (show 128 * (4 * (p / 4) + 3) + i.val = 512 * ((128 * p + r.val) / 512) + (384 + i.val) by omega)
  have i4 : (⟨512 * ((128 * p + r.val) / 512) + (128 * p + r.val) % 512, by omega⟩ : Fin 1024) = ⟨128 * p + r.val, by omega⟩ :=
    Fin.ext (show 512 * ((128 * p + r.val) / 512) + (128 * p + r.val) % 512 = 128 * p + r.val by omega)
  simp only [i0, i1, i2, i3, i4]

end Cert.SsdSIdeal.RefValue

end
-- ==== Proof.SsdS.RowReference.lean ====
/-
  The reference of the sample's output rows read at an index: the lane before the norm, and the norm over the group's lanes.
-/
module

public import proofs.«01_k».proof.Proof.SsdS.Reference
public import proofs.«01_k».proof.Proof.SsdS.Row

@[expose] public section

set_option maxRecDepth 16384

noncomputable section

namespace Cert.SsdSRefIdeal.RefValue

open Cert.SsdSRefIdeal Cert.SsdSRefIdeal.Read Idealize.ShloMosaic Scan

variable (x0 : (⟨S17408x7168, .f32⟩ : BufTy).Contents (Elt Ideal)) (x1 : (⟨S1x128x3x1536, .f32⟩ : BufTy).Contents (Elt Ideal))
  (x2 : (⟨S1x128x16x64x128, .f32⟩ : BufTy).Contents (Elt Ideal)) (x3 : (⟨S1x4x1536, .f32⟩ : BufTy).Contents (Elt Ideal))
  (x4 : (⟨S1x1536, .f32⟩ : BufTy).Contents (Elt Ideal)) (x5 x6 x7 : (⟨S1x16, .f32⟩ : BufTy).Contents (Elt Ideal))
  (x8 : (⟨S1x1024, .f32⟩ : BufTy).Contents (Elt Ideal))

/-- An activated channel of a sequence, row by row. -/
def chan (b : Fin 128) (d : Fin 1536) (l : Fin 8) : EReal := act (rows x0 x1 b d) (fun i => x3 (ix3 0 i d)) (x4 (ix2 0 d)) l

/-- The output columns. -/
theorem output_apply (b : Fin 128) (l : Fin 8) (g : Fin 2) (n : Fin 128) : val_main_v45 x0 x1 x3 x4 (ix4 b l g n)
    = chan x0 x1 x3 x4 b (⟨1280 + (g.val * 128 + n.val), by omega⟩ : Fin 1536) l := by
  unfold chan
  rw [← act_apply]
  unfold val_main_v45 val_main_v44
  generalize val_main_v39 x0 x1 x3 x4 = y
  pointwise

/-- The lanes times the step sizes. -/
theorem scaled_apply (b : Fin 128) (l : Fin 8) (g : Fin 2) (e : Fin 8) (d : Fin 64) :
    val_main_v62 x0 x1 x3 x4 x6 (ix5 b l g e d)
      = chan x0 x1 x3 x4 b (⟨g.val * 512 + e.val * 64 + d.val, by omega⟩ : Fin 1536) l
        * softplus (gate x0 x6 b (⟨g.val * 8 + e.val, by omega⟩ : Fin 16) l) := by
  unfold chan
  rw [← act_apply, ← step_apply]
  unfold val_main_v62 val_main_v61 val_main_v60 val_main_v51 val_main_v41 val_main_v40
  generalize val_main_v39 x0 x1 x3 x4 = y
  generalize val_main_v50 x0 x6 = z
  pointwise

/-- The mask of the rows up to a row. -/
theorem mask_apply : ∀ l m : Fin 8, IntOp.cmpi CmpIPredicate.sge (IntOp.addi (BitVec.ofNat 32 l.val) 0#32) (BitVec.ofNat 32 m.val)
    = if m ≤ l then 1#1 else 0#1 := by decide +kernel

/-- The mask, read at an index. -/
theorem tril_apply (l m : Fin 8) : val_main_v81 (F := Ideal) (ix2 l m) = if m ≤ l then 1#1 else 0#1 := by
  unfold val_main_v81 val_main_v80 val_main_c val_main_call3_v5 val_main_call3_c_0 val_main_call3_v4 val_main_call3_v3
    val_main_call3_v2 val_main_call3_v1 val_main_call3_v0 val_main_call3_c
  pointwise
  rw [mask_apply]
  by_cases h : m ≤ l
  · rw [if_pos h]; rfl
  · rw [if_neg h]; rfl

/-- The rows' weights. -/
theorem weight_apply (b : Fin 128) (l m : Fin 8) (g : Fin 2) (e : Fin 8) : val_main_v90 x0 x5 x6 (ix5 b l m g e)
    = weight (gate x0 x6 b (⟨g.val * 8 + e.val, by omega⟩ : Fin 16)) (x5 (ix2 0 (⟨g.val * 8 + e.val, by omega⟩ : Fin 16))) l m := by
  unfold weight
  rw [← run_apply, ← run_apply]
  unfold val_main_v90 val_main_v89 val_main_v88 val_main_v87 val_main_v86 val_main_v85 val_main_v84 val_main_v83
    val_main_call4_v1 val_main_call5_v1 val_main_v82
    val_main_call4_v2 val_main_call4_v0 val_main_call5_v2 val_main_call5_v0
  have hm := tril_apply l m
  revert hm
  generalize val_main_v59 x0 x5 x6 = w
  generalize val_main_v81 (F := Ideal) = v
  intro hm
  pointwise
  rw [hm]
  by_cases h : m ≤ l
  · rw [if_pos h, if_pos h]; rfl
  · rw [if_neg h, if_neg h]; exact Ideal.ofBits_zero_f32

/-- The rows' products. -/
theorem products_apply (b : Fin 128) (l m : Fin 8) (g : Fin 2) : val_main_v92 x0 x1 x3 x4 (ix4 b l m g)
    = ∑ n : Fin 128, chan x0 x1 x3 x4 b (⟨1280 + (g.val * 128 + n.val), by omega⟩ : Fin 1536) l
        * chan x0 x1 x3 x4 b (⟨1024 + (g.val * 128 + n.val), by omega⟩ : Fin 1536) m := by
  have e : val_main_v92 x0 x1 x3 x4 (ix4 b l m g) = val_main_v91 x0 x1 x3 x4 (ix4 b g m l) := by
    unfold val_main_v92
    generalize val_main_v91 x0 x1 x3 x4 = y
    pointwise
  rw [e, val_main_v91_apply]
  refine Finset.sum_congr rfl fun n _ => ?_
  rw [show lidx_main_v91 (ix4 b g m l) n = ix4 b m g n from eq_ix4 _, show ridx_main_v91 (ix4 b g m l) n = ix4 b l g n from eq_ix4 _,
    output_apply, column_apply, mul_comm]
  rfl

/-- The rows up to a row, weighted. -/
theorem within_apply (b : Fin 128) (l : Fin 8) (g : Fin 2) (e : Fin 8) (d : Fin 64) :
    val_main_v97 x0 x1 x3 x4 x5 x6 (ix5 b l g e d)
      = ∑ m : Fin 8, val_main_v92 x0 x1 x3 x4 (ix4 b l m g) * val_main_v90 x0 x5 x6 (ix5 b l m g e)
          * val_main_v62 x0 x1 x3 x4 x6 (ix5 b m g e d) := by
  have e' : val_main_v97 x0 x1 x3 x4 x5 x6 (ix5 b l g e d) = val_main_v96 x0 x1 x3 x4 x5 x6 (ix5 b g e d l) := by
    unfold val_main_v97
    generalize val_main_v96 x0 x1 x3 x4 x5 x6 = y
    pointwise
  rw [e', val_main_v96_apply]
  refine Finset.sum_congr rfl fun m _ => ?_
  rw [show lidx_main_v96 (ix5 b g e d l) m = ix5 b m g e d from eq_ix5 _, show ridx_main_v96 (ix5 b g e d l) m = ix5 b l m g e from eq_ix5 _,
    mul_comm]
  refine congrArg (· * _) ?_
  unfold val_main_v95 val_main_v94 val_main_v93
  generalize val_main_v92 x0 x1 x3 x4 = y
  generalize val_main_v90 x0 x5 x6 = z
  pointwise

/-- What the state before gives. -/
theorem carried_apply (b : Fin 128) (l : Fin 8) (g : Fin 2) (e : Fin 8) (d : Fin 64) :
    val_main_v99 x0 x1 x2 x3 x4 (ix5 b l g e d)
      = ∑ n : Fin 128, chan x0 x1 x3 x4 b (⟨1280 + (g.val * 128 + n.val), by omega⟩ : Fin 1536) l
          * x2 (ix5 0 b (⟨g.val * 8 + e.val, by omega⟩ : Fin 16) d n) := by
  have e' : val_main_v99 x0 x1 x2 x3 x4 (ix5 b l g e d) = val_main_v98 x0 x1 x2 x3 x4 (ix5 b g e d l) := by
    unfold val_main_v99
    generalize val_main_v98 x0 x1 x2 x3 x4 = y
    pointwise
  rw [e', val_main_v98_apply]
  refine Finset.sum_congr rfl fun n _ => ?_
  rw [show lidx_main_v98 (ix5 b g e d l) n = ix5 b g e d n from eq_ix5 _, show ridx_main_v98 (ix5 b g e d l) n = ix4 b l g n from eq_ix4 _,
    output_apply, mul_comm]
  refine congrArg (_ * ·) ?_
  unfold val_main_v68 val_main_v67
  pointwise

/-- A lane of a row before the norm, by its parts. -/
theorem parts_apply (b : Fin 128) (l : Fin 8) (g : Fin 2) (e : Fin 8) (d : Fin 64) :
    val_main_v114 x0 x1 x2 x3 x4 x5 x6 x7 (ix5 b l g e d)
      = (val_main_v97 x0 x1 x3 x4 x5 x6 (ix5 b l g e d)
          + val_main_v99 x0 x1 x2 x3 x4 (ix5 b l g e d) * Ideal.exp (val_main_v59 x0 x5 x6 (ix4 b l g e))
          + x7 (ix2 0 (⟨g.val * 8 + e.val, by omega⟩ : Fin 16))
            * val_main_v39 x0 x1 x3 x4 (ix3 b l (⟨g.val * 512 + e.val * 64 + d.val, by omega⟩ : Fin 1536)))
        * (x0 (ix2 (⟨16384 + (b.val * 8 + l.val), by omega⟩ : Fin 17408) (⟨6144 + (g.val * 512 + e.val * 64 + d.val), by omega⟩ : Fin 7168))
          * Ideal.logistic (x0 (ix2 (⟨16384 + (b.val * 8 + l.val), by omega⟩ : Fin 17408) (⟨6144 + (g.val * 512 + e.val * 64 + d.val), by omega⟩ : Fin 7168)))) := by
  unfold val_main_v114 val_main_v113 val_main_call6_v5 val_main_call6_v4 val_main_call6_cst_0 val_main_call6_v3 val_main_call6_v2
    val_main_call6_cst val_main_call6_v1 val_main_call6_v0 val_main_v112 val_main_v111 val_main_v110 val_main_v109 val_main_v108
    val_main_v107 val_main_v106 val_main_v105 val_main_v104 val_main_v103 val_main_v102 val_main_v101 val_main_v100 val_main_v41
    val_main_v40 val_main_v4 val_main_v1 val_main_v0
  generalize val_main_v97 x0 x1 x3 x4 x5 x6 = y0
  generalize val_main_v99 x0 x1 x2 x3 x4 = y1
  generalize val_main_v59 x0 x5 x6 = y2
  generalize val_main_v39 x0 x1 x3 x4 = y3
  pointwise
  rfl

/-- A lane of a row before the norm. -/
def pre (b : Fin 128) (l : Fin 8) (q : Fin 1024) : EReal :=
  lane (fun l n => chan x0 x1 x3 x4 b (⟨1280 + 128 * (q.val / 512) + n.val, by omega⟩ : Fin 1536) l)
    (fun l n => chan x0 x1 x3 x4 b (⟨1024 + 128 * (q.val / 512) + n.val, by omega⟩ : Fin 1536) l)
    (chan x0 x1 x3 x4 b (⟨q.val, by omega⟩ : Fin 1536)) (gate x0 x6 b (⟨q.val / 64, by omega⟩ : Fin 16))
    (x5 (ix2 0 (⟨q.val / 64, by omega⟩ : Fin 16)))
    (fun n => x2 (ix5 0 b (⟨q.val / 64, by omega⟩ : Fin 16) (⟨q.val % 64, by omega⟩ : Fin 64) n))
    (x7 (ix2 0 (⟨q.val / 64, by omega⟩ : Fin 16)))
    (x0 (ix2 (⟨16384 + (b.val * 8 + l.val), by omega⟩ : Fin 17408) (⟨6144 + q.val, by omega⟩ : Fin 7168))) l

/-- The reference's lanes before the norm. -/
theorem pre_apply (b : Fin 128) (l : Fin 8) (g : Fin 2) (e : Fin 8) (d : Fin 64) :
    val_main_v114 x0 x1 x2 x3 x4 x5 x6 x7 (ix5 b l g e d)
      = pre x0 x1 x2 x3 x4 x5 x6 x7 b l (⟨g.val * 512 + e.val * 64 + d.val, by omega⟩ : Fin 1024) := by
  rw [parts_apply, within_apply, carried_apply, run_apply, act_apply]
  simp only [products_apply, weight_apply, scaled_apply]
  unfold pre lane
  have h1 : (g.val * 512 + e.val * 64 + d.val) / 64 = g.val * 8 + e.val := by omega
  have h2 : (g.val * 512 + e.val * 64 + d.val) % 64 = d.val := by omega
  have h3 : (g.val * 512 + e.val * 64 + d.val) / 512 = g.val := by omega
  simp only [h1, h2, h3, Nat.mul_comm 128 g.val, ← Nat.add_assoc]
  rfl

/-- The output rows of the reference: each lane normalised over its group's 512. -/
def row (b : Fin 128) (l : Fin 8) (q : Fin 1024) : EReal :=
  normed (fun i => pre x0 x1 x2 x3 x4 x5 x6 x7 b l (⟨512 * (q.val / 512) + i.val, by omega⟩ : Fin 1024)) (x8 (ix2 0 q))
    (⟨q.val % 512, by omega⟩ : Fin 512)

/-- The rows by group. -/
theorem group_apply (b : Fin 128) (l : Fin 8) (g : Fin 2) (i : Fin 512) :
    val_main_v115 x0 x1 x2 x3 x4 x5 x6 x7 (ix4 b l g i)
      = pre x0 x1 x2 x3 x4 x5 x6 x7 b l (⟨512 * g.val + i.val, by omega⟩ : Fin 1024) := by
  have e : val_main_v115 x0 x1 x2 x3 x4 x5 x6 x7 (ix4 b l g i)
      = val_main_v114 x0 x1 x2 x3 x4 x5 x6 x7 (ix5 b l g (⟨i.val / 64, by omega⟩ : Fin 8) (⟨i.val % 64, by omega⟩ : Fin 64)) := by
    unfold val_main_v115
    generalize val_main_v114 x0 x1 x2 x3 x4 x5 x6 x7 = y
    pointwise
  rw [e, pre_apply]
  exact congrArg (pre x0 x1 x2 x3 x4 x5 x6 x7 b l) (Fin.ext (show g.val * 512 + i.val / 64 * 64 + i.val % 64 = 512 * g.val + i.val by omega))

/-- The norm by group. -/
theorem normed_apply (b : Fin 128) (l : Fin 8) (g : Fin 2) (i : Fin 512) :
    val_main_v130 x0 x1 x2 x3 x4 x5 x6 x7 x8 (ix4 b l g i)
      = normed (fun i => val_main_v115 x0 x1 x2 x3 x4 x5 x6 x7 (ix4 b l g i)) (x8 (ix2 0 (⟨g.val * 512 + i.val, by omega⟩ : Fin 1024))) i := by
  have hs : val_main_v119 x0 x1 x2 x3 x4 x5 x6 x7 (ix3 b l g)
      = ∑ k : Fin 512, val_main_v115 x0 x1 x2 x3 x4 x5 x6 x7 (ix4 b l g k) * val_main_v115 x0 x1 x2 x3 x4 x5 x6 x7 (ix4 b l g k) := by
    rw [val_main_v119_apply]
    refine Eq.trans (congrArg₂ (fun x y : EReal => x + y) Ideal.ofBits_zero_f32 ?_) (zero_add _)
    refine Finset.sum_congr rfl fun k _ => ?_
    rw [show idx_main_v119 (ix3 b l g) k = ix4 b l g k from eq_ix4 _]
    rfl
  unfold normed
  rw [← hs]
  unfold val_main_v130 val_main_v129 val_main_v128 val_main_v127 val_main_v126 val_main_v125 val_main_v124 val_main_v123 val_main_v122
    val_main_v121 val_main_v120 val_main_v117 val_main_v116 val_main_cst_2 val_main_cst_3
  generalize val_main_v119 x0 x1 x2 x3 x4 x5 x6 x7 = y0
  generalize val_main_v115 x0 x1 x2 x3 x4 x5 x6 x7 = y1
  pointwise

/-- THE REFERENCE'S OUTPUT ROWS at an index. -/
theorem row_apply (b : Fin 128) (l : Fin 8) (q : Fin 1024) :
    val_main_v131 x0 x1 x2 x3 x4 x5 x6 x7 x8 (ix4 b 0 l q) = row x0 x1 x2 x3 x4 x5 x6 x7 x8 b l q := by
  have e : val_main_v131 x0 x1 x2 x3 x4 x5 x6 x7 x8 (ix4 b 0 l q)
      = val_main_v130 x0 x1 x2 x3 x4 x5 x6 x7 x8 (ix4 b l (⟨q.val / 512, by omega⟩ : Fin 2) (⟨q.val % 512, by omega⟩ : Fin 512)) := by
    unfold val_main_v131
    generalize val_main_v130 x0 x1 x2 x3 x4 x5 x6 x7 x8 = y
    pointwise
  rw [e, normed_apply]
  simp only [group_apply]
  unfold row
  have h : (⟨q.val / 512 * 512 + q.val % 512, by omega⟩ : Fin 1024) = q := Fin.ext (show q.val / 512 * 512 + q.val % 512 = q.val by omega)
  rw [h]

end Cert.SsdSRefIdeal.RefValue

end
-- ==== Proof.SsdS.RowEntry.lean ====
/-
  The output rows' kernel finds the sample's gates for the lanes, the skip's strengths spread over a head's lanes, and the norm's
  weights; so its rows at a point are the reference's.
-/
module

public import proofs.«01_k».proof.Proof.SsdS.Array
public import proofs.«01_k».proof.Proof.SsdS.RowBlock
public import proofs.«01_k».proof.Proof.SsdS.RowReference

@[expose] public section

set_option maxRecDepth 16384

noncomputable section

namespace Cert.SsdSIdeal.RefValue

open Cert.SsdSIdeal Cert.SsdSIdeal.Gen Idealize.ShloMosaic Idealize.ShloMosaic.TcCoe Scan
open Idealize.ShloMosaic.Pipeline (Dat)

variable (m : (ℓ : Loc nD τ sig) → Buf (Elt Ideal) ℓ)

/-- Where the output rows' windows' blocks lie at a point. -/
theorem rowIdx : ∀ t : Fin cfg0.N, win0_2.index t = ![256 + t.val, 0, 6] ∧ win0_8.index t = ![0, 0] ∧ win0_9.index t = ![0, 0]
    ∧ win0_12.index t = ![t.val, 0, 0, 0] :=
  (by decide +kernel : ∀ t : Fin grid0.N, _)

/-- The skip's strengths, a head's over its 64 lanes. -/
theorem skip_entry (c : Dev nD) (q : Fin 1024) :
    V m c main_v19 (ix2 0 q) = m ((c : Thread nD τ).loc main_arg7) (ix2 0 (⟨q.val / 64, by omega⟩ : Fin 16)) := by
  unfold V
  after_reads_at

/-- The norm's weights. -/
theorem norm_entry (c : Dev nD) (q : Fin 1024) : V m c main_v21 (ix2 0 q) = m ((c : Thread nD τ).loc main_arg8) (ix2 0 q) := by
  unfold V
  after_reads_at

/-- A point's gates for the lanes: columns 6144 and on. -/
theorem lanes_gate_apply (c : Dev nD) (t : Fin cfg0.N) (j l : Fin 8) (q : Fin 1024) :
    (iblk m c 2 t : Vec Ideal S8x8x1024 .f32) (ix3 j l q)
      = V m c main_v44 (ix3 (⟨2048 + t.val * 8 + j.val, by have := t.isLt; have h : cfg0.N = 16 := N_0; omega⟩ : Fin 2176) l (⟨6144 + q.val, by omega⟩ : Fin 7168)) := by
  blk_ext [iblk, rowIdx t]

/-- The skip's block. -/
theorem skip_apply (c : Dev nD) (t : Fin cfg0.N) (q : Fin 1024) :
    (iblk m c 8 t : Vec Ideal S1x1024 .f32) (ix2 0 q) = m ((c : Thread nD τ).loc main_arg7) (ix2 0 (⟨q.val / 64, by omega⟩ : Fin 16)) := by
  refine Eq.trans ?_ (skip_entry m c q)
  blk_ext [iblk, rowIdx t]

/-- The norm's block. -/
theorem norm_apply (c : Dev nD) (t : Fin cfg0.N) (q : Fin 1024) :
    (iblk m c 9 t : Vec Ideal S1x1024 .f32) (ix2 0 q) = m ((c : Thread nD τ).loc main_arg8) (ix2 0 q) := by
  refine Eq.trans ?_ (norm_entry m c q)
  blk_ext [iblk, rowIdx t]

/-- A point's activated channel of a sequence is the reference's. -/
theorem chan_eq (c : Dev nD) (t : Fin cfg0.N) (j : Fin 8) (d : Fin 1536) (l : Fin 8) :
    Scan.act (rows (X0_0 m c t) (iblk m c 3 t) j d) (fun i => (iblk m c 5 t : Vec Ideal S4x1536 .f32) (ix2 i d))
        ((iblk m c 6 t : Vec Ideal S1x1536 .f32) (ix2 0 d)) l
      = Cert.SsdSRefIdeal.RefValue.chan (m ((c : Thread nD τ).loc main_arg0)) (m ((c : Thread nD τ).loc main_arg1))
        (m ((c : Thread nD τ).loc main_arg3)) (m ((c : Thread nD τ).loc main_arg4)) (seq t j) d l := by
  unfold Cert.SsdSRefIdeal.RefValue.chan
  rw [rows_eq, (bias_apply m c t d).trans (bias_entry m c d), funext fun i => (taps_apply m c t i d).trans (taps_entry m c i d)]

set_option maxHeartbeats 1000000 in
/-- A point's lane of a row before the norm is the reference's. -/
theorem lane_eq (c : Dev nD) (t : Fin cfg0.N) (j l : Fin 8) (q : Fin 1024) :
    laneAt (X0_0 m c t) (iblk m c 1 t) (iblk m c 2 t) (iblk m c 3 t) (iblk m c 4 t) (iblk m c 5 t) (iblk m c 6 t) (iblk m c 7 t)
        (iblk m c 8 t) j l q
      = Cert.SsdSRefIdeal.RefValue.pre (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (seq t j) l q := by
  have ht : t.val < 16 := lt_of_lt_of_eq t.isLt N_0
  unfold laneAt Cert.SsdSRefIdeal.RefValue.pre
  have hu : gateAt (iblk m c 1 t) (iblk m c 7 t) j (⟨16 + q.val / 64, by omega⟩ : Fin 128)
      = Cert.SsdSRefIdeal.RefValue.gate (m ((c : Thread nD τ).loc main_arg0)) (m ((c : Thread nD τ).loc main_arg6)) (seq t j) (⟨q.val / 64, by omega⟩ : Fin 16) :=
    funext fun l => gate_eq m c t j l ⟨q.val / 64, by omega⟩
  have ha : (iblk m c 7 t : Vec Ideal S2x128 .f32) (ix2 0 (⟨16 + q.val / 64, by omega⟩ : Fin 128))
      = m ((c : Thread nD τ).loc main_arg5) (ix2 0 (⟨q.val / 64, by omega⟩ : Fin 16)) :=
    (lane_apply m c t 0 _).trans (scale_entry m c ⟨q.val / 64, by omega⟩)
  have hs : ∀ n : Fin 128, (iblk m c 4 t : Vec Ideal S8x8x128x128 .f32) (ix4 j (⟨q.val / 128, by omega⟩ : Fin 8) (⟨q.val % 128, by omega⟩ : Fin 128) n)
      = m ((c : Thread nD τ).loc main_arg2) (ix5 0 (seq t j) (⟨q.val / 64, by omega⟩ : Fin 16) (⟨q.val % 64, by omega⟩ : Fin 64) n) := fun n => by
    refine (states_apply m c t j _ _ n).trans ((state_entry m c _ _ _ n).trans ?_)
    refine congrArg₂ (fun (h : Fin 16) (d : Fin 64) => m ((c : Thread nD τ).loc main_arg2) (ix5 0 (seq t j) h d n)) (Fin.ext ?_) (Fin.ext ?_)
    · show q.val / 128 * 2 + q.val % 128 / 64 = q.val / 64
      omega
    · show q.val % 128 % 64 = q.val % 64
      omega
  have hz : (iblk m c 2 t : Vec Ideal S8x8x1024 .f32) (ix3 j l q)
      = m ((c : Thread nD τ).loc main_arg0) (ix2 (⟨16384 + ((seq t j).val * 8 + l.val), by omega⟩ : Fin 17408) (⟨6144 + q.val, by omega⟩ : Fin 7168)) := by
    refine (lanes_gate_apply m c t j l q).trans ((proj_entry m c _ _ _).trans ?_)
    refine congrArg (m ((c : Thread nD τ).loc main_arg0)) (congrArg₂ ix2 (Fin.ext ?_) rfl)
    show (2048 + t.val * 8 + j.val) * 8 + l.val = 16384 + ((t.val * 8 + j.val) * 8 + l.val)
    omega
  refine congrFun (congr (congr (congr (congr (congr (congr (congrArg₂ lane (funext fun l => funext fun n => chan_eq m c t j _ l)
    (funext fun l => funext fun n => chan_eq m c t j _ l)) (funext fun l => chan_eq m c t j _ l)) hu) ha) (funext hs)) (skip_apply m c t q)) hz) l

/-- A point's output rows are the reference's. -/
theorem row_eq (c : Dev nD) (t : Fin cfg0.N) (j l : Fin 8) (q : Fin 1024) :
    rowAt (X0_0 m c t) (iblk m c 1 t) (iblk m c 2 t) (iblk m c 3 t) (iblk m c 4 t) (iblk m c 5 t) (iblk m c 6 t) (iblk m c 7 t)
        (iblk m c 8 t) (iblk m c 9 t) j l q
      = Cert.SsdSRefIdeal.RefValue.row (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (seq t j) l q := by
  unfold rowAt Cert.SsdSRefIdeal.RefValue.row
  exact congrFun (congrArg₂ normed (funext fun i => lane_eq m c t j l _) (norm_apply m c t q)) _

end Cert.SsdSIdeal.RefValue

end
-- ==== Proof.SsdS.RowPiece.lean ====
/-
  The 64 stores of a point's output rows: each is its part of the block, and together they fill it.
-/
module

public import proofs.«01_k».proof.Proof.SsdS.RowBlock
public import proofs.«01_k».proof.Proof.SsdS.Stores

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

/-- The block of output rows, by its own indices. -/
def fillRow (x0 : Vec Ideal S8x8x1536 .f32) (x1 : Vec Ideal S8x8x128 .f32) (x2 : Vec Ideal S8x8x1024 .f32)
    (x3 : Vec Ideal S8x8x1536 .f32) (x4 : Vec Ideal S8x8x128x128 .f32) (x5 : Vec Ideal S4x1536 .f32) (x6 : Vec Ideal S1x1536 .f32)
    (x7 : Vec Ideal S2x128 .f32) (x8 x9 : Vec Ideal S1x1024 .f32) (y : S8x1x8x1024.Idx) : Elt Ideal .f32 :=
  rowAt x0 x1 x2 x3 x4 x5 x6 x7 x8 x9 (y 0) (y 2) (y 3)

/-- A store is its part of the block, at the store's own indices. -/
theorem storedRow_emb (j p : Nat) (hj : j < 8) (hp : p < 8) (L : List (Piece (Elt Ideal) S8x16x1536 .f32))
    (c : Dev nD) (arg2 : Memref sig .tc .vmem S8x8x1536 .f32) (harg2 : arg2.IsWhole) (arg3 : Memref sig .tc .vmem S8x8x128 .f32)
    (harg3 : arg3.IsWhole) (arg4 : Memref sig .tc .vmem S8x8x1024 .f32) (harg4 : arg4.IsWhole)
    (arg6 : Memref sig .tc .vmem S8x8x128x128 .f32) (harg6 : arg6.IsWhole) (arg7 : Memref sig .tc .vmem S4x1536 .f32)
    (harg7 : arg7.IsWhole) (arg8 : Memref sig .tc .vmem S1x1536 .f32) (harg8 : arg8.IsWhole)
    (arg9 : Memref sig .tc .vmem S2x128 .f32) (harg9 : arg9.IsWhole) (arg10 : Memref sig .tc .vmem S1x1024 .f32)
    (harg10 : arg10.IsWhole) (arg11 : Memref sig .tc .vmem S1x1024 .f32) (harg11 : arg11.IsWhole) (arg12 : Memref sig .tc .vmem S128x1024 .bf16)
    (harg12 : arg12.IsWhole) (arg13 : Memref sig .tc .vmem S128x2048 .bf16) (harg13 : arg13.IsWhole)
    (arg15 : Memref sig .tc .vmem S8x8x128x128 .f32) (arg16 : Memref sig .tc .vmem S8x16x1536 .f32)
    (x0 : Vec Ideal S8x8x1536 .f32) (x1 : Vec Ideal S8x8x128 .f32) (x2 : Vec Ideal S8x8x1024 .f32) (x3 : Vec Ideal S8x8x1536 .f32)
    (x4 : Vec Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal S128x2048 .bf16)
    (hL : Holds x0 x3 L j) (hs : Narrow x10) (hs' : Wide x11) (hg : Rated x7)
    (inb : ∀ x, (![j, 0, 0, 128 * p] : Fin 4 → Nat) x + S1x1x8x128.size x ≤ S8x1x8x1024.size x) (x : S1x1x8x128.Idx) :
    storedRow j p hj hp L c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 x
      = (fillRow x0 x1 x2 x3 x4 x5 x6 x7 x8 x9) ((Rect.unit (s := S8x1x8x1024) ![j, 0, 0, 128 * p] S1x1x8x128.size inb).emb x) := by
  obtain ⟨a, b, l, r, rfl⟩ : ∃ (a b : Fin 1) (l : Fin 8) (r : Fin 128), x = ix4 a b l r := ⟨x 0, x 1, x 2, x 3, eq_ix4 x⟩
  obtain rfl : a = 0 := Subsingleton.elim _ _
  obtain rfl : b = 0 := Subsingleton.elim _ _
  have e : (Rect.unit (s := S8x1x8x1024) ![j, 0, 0, 128 * p] S1x1x8x128.size inb).emb (ix4 (0 : Fin 1) (0 : Fin 1) l r)
      = ix4 ⟨j, hj⟩ 0 l ⟨128 * p + r.val, by omega⟩ := by
    funext x; apply Fin.ext
    fin_cases x
    · show j + 1 * 0 = j; omega
    · show 0 + 1 * 0 = 0; omega
    · show 0 + 1 * l.val = l.val; omega
    · show 128 * p + 1 * r.val = 128 * p + r.val; omega
  rw [e]
  exact storedRow_apply j p hj hp L c arg2 harg2 arg3 harg3 arg4 harg4 arg6 harg6 arg7 harg7 arg8 harg8 arg9 harg9 arg10 harg10 arg11 harg11 arg12 harg12 arg13 harg13 arg15 arg16 x0 x1 x2 x3 x4 x5 x6 x7 x8 x9 x10 x11 hL hs hs' hg l r

/-- The stores fill the block in order, a sequence's pairs after each other, the newest first in the list: where the
    newest store holds the index it decides the value, and where it does not the index lies in an older store. -/
theorem newestRow (j p : Nat) (hp : p < 8) (inb : ∀ x, (![j, 0, 0, 128 * p] : Fin 4 → Nat) x + S1x1x8x128.size x ≤ S8x1x8x1024.size x)
    (w : Vec Ideal S1x1x8x128 .f32) (L : List (Piece (Elt Ideal) S8x1x8x1024 .f32)) (G : S8x1x8x1024.Idx → Elt Ideal .f32)
    (y : S8x1x8x1024.Idx)
    (hw : ∀ x, w x = G ((Rect.unit (s := S8x1x8x1024) ![j, 0, 0, 128 * p] S1x1x8x128.size inb).emb x))
    (hlt : 8 * (y 0).val + (y 3).val / 128 < 8 * j + p + 1)
    (hL : 8 * (y 0).val + (y 3).val / 128 < 8 * j + p → canon L y = G y) :
    canon ((⟨Rect.unit (s := S8x1x8x1024) ![j, 0, 0, 128 * p] S1x1x8x128.size inb, w⟩ : Piece (Elt Ideal) S8x1x8x1024 .f32) :: L) y
      = G y := by
  have h3 : (y 3).val < 1024 := (y 3).isLt
  have h1 : (y 1).val < 1 := (y 1).isLt
  by_cases hy : 8 * (y 0).val + (y 3).val / 128 < 8 * j + p
  · refine (canon_cons_of_not_mem (⟨Rect.unit (s := S8x1x8x1024) ![j, 0, 0, 128 * p] S1x1x8x128.size inb, w⟩ : Piece (Elt Ideal) S8x1x8x1024 .f32) L ?_).trans (hL hy)
    intro hm
    obtain ⟨i, hi, he⟩ := (LoadRect.mem_set _).mp hm (0 : Fin 4)
    obtain ⟨i', hi', he'⟩ := (LoadRect.mem_set _).mp hm (3 : Fin 4)
    change (y 0).val = j + 1 * i at he
    change (y 3).val = 128 * p + 1 * i' at he'
    omega
  · have e : y = (Rect.unit (s := S8x1x8x1024) ![j, 0, 0, 128 * p] S1x1x8x128.size inb).emb
        (ix4 (0 : Fin 1) (0 : Fin 1) (y 2) (⟨(y 3).val % 128, by omega⟩ : Fin 128)) := by
      funext x; apply Fin.ext
      fin_cases x
      · show (y 0).val = j + 1 * 0; omega
      · show (y 1).val = 0 + 1 * 0; omega
      · show (y 2).val = 0 + 1 * (y 2).val; omega
      · show (y 3).val = 128 * p + 1 * ((y 3).val % 128); omega
    rw [e]
    exact (canon_cons_emb _ _ _ _).trans (hw _)

/-- A store's index lies in the block. -/
theorem fitsRow (j p : Nat) (hj : j < 8) (hp : p < 8) (x : Fin 4) :
    (![j, 0, 0, 128 * p] : Fin 4 → Nat) x + S1x1x8x128.size x ≤ S8x1x8x1024.size x := by
  fin_cases x
  · show j + 1 ≤ 8; omega
  · show 0 + 1 ≤ 1; omega
  · show 0 + 8 ≤ 8; omega
  · show 128 * p + 128 ≤ 1024; omega

/-- Where the index lies in an older store, the newest decides nothing. -/
theorem olderRow (j p : Nat) (inb : ∀ x, (![j, 0, 0, 128 * p] : Fin 4 → Nat) x + S1x1x8x128.size x ≤ S8x1x8x1024.size x)
    (w : Vec Ideal S1x1x8x128 .f32) (L : List (Piece (Elt Ideal) S8x1x8x1024 .f32)) (v : Elt Ideal .f32)
    (y : S8x1x8x1024.Idx) (hp : p < 8) (hlt : 8 * (y 0).val + (y 3).val / 128 < 8 * j + p) (hL : canon L y = v) :
    canon ((⟨Rect.unit (s := S8x1x8x1024) ![j, 0, 0, 128 * p] S1x1x8x128.size inb, w⟩ : Piece (Elt Ideal) S8x1x8x1024 .f32) :: L) y
      = v := by
  have h3 : (y 3).val < 1024 := (y 3).isLt
  refine (canon_cons_of_not_mem (⟨Rect.unit (s := S8x1x8x1024) ![j, 0, 0, 128 * p] S1x1x8x128.size inb, w⟩ : Piece (Elt Ideal) S8x1x8x1024 .f32) L ?_).trans hL
  intro hm
  obtain ⟨i, hi, he⟩ := (LoadRect.mem_set _).mp hm (0 : Fin 4)
  obtain ⟨i', hi', he'⟩ := (LoadRect.mem_set _).mp hm (3 : Fin 4)
  change (y 0).val = j + 1 * i at he
  change (y 3).val = 128 * p + 1 * i' at he'
  omega

end Cert.SsdSIdeal.RefValue

end
-- ==== Proof.SsdS.RowSums.lean ====
/-
  The halves of a row whose summed squares the run names, and its stores by name, sequences 0 to 2 of the block.
-/
module

public import proofs.«01_k».proof.Proof.SsdS.RowPiece

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

/-- The summed squares of half a row: sequence 0, pairs 0 to 3. -/
theorem halfSum_0_0 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_652 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = addf (addf (addf (squares (pairOf 0 0 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11))
        (squares (pairOf 0 1 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 0 2 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 0 3 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)) := rfl

/-- The summed squares of half a row: sequence 0, pairs 4 to 7. -/
theorem halfSum_0_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_662 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = addf (addf (addf (squares (pairOf 0 4 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11))
        (squares (pairOf 0 5 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 0 6 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 0 7 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)) := rfl

/-- The summed squares of half a row: sequence 1, pairs 0 to 3. -/
theorem halfSum_1_0 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_674 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = addf (addf (addf (squares (pairOf 1 0 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11))
        (squares (pairOf 1 1 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 1 2 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 1 3 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)) := rfl

/-- The summed squares of half a row: sequence 1, pairs 4 to 7. -/
theorem halfSum_1_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_686 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = addf (addf (addf (squares (pairOf 1 4 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11))
        (squares (pairOf 1 5 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 1 6 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 1 7 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)) := rfl

/-- The summed squares of half a row: sequence 2, pairs 0 to 3. -/
theorem halfSum_2_0 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_697 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = addf (addf (addf (squares (pairOf 2 0 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11))
        (squares (pairOf 2 1 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 2 2 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 2 3 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)) := rfl

/-- The summed squares of half a row: sequence 2, pairs 4 to 7. -/
theorem halfSum_2_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_706 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = addf (addf (addf (squares (pairOf 2 4 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11))
        (squares (pairOf 2 5 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 2 6 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)))
        (squares (pairOf 2 7 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11)) := rfl

/-- A pair's row before the norm, by its name in the run: sequence 0, pair 1. -/
theorem pairNamed_0_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_645 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 0 1 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 0, pair 2. -/
theorem pairNamed_0_2 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_650 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 0 2 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 0, pair 4. -/
theorem pairNamed_0_4 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_654 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 0 4 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 0, pair 5. -/
theorem pairNamed_0_5 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_657 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 0 5 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 0, pair 6. -/
theorem pairNamed_0_6 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_659 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 0 6 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 0, pair 7. -/
theorem pairNamed_0_7 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_661 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 0 7 (by decide) (by decide) (HS0_2 c arg2 harg2 arg5 harg5 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 1, pair 1. -/
theorem pairNamed_1_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_669 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 1 1 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 1, pair 2. -/
theorem pairNamed_1_2 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_670 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 1 2 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 1, pair 3. -/
theorem pairNamed_1_3 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_673 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 1 3 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 1, pair 4. -/
theorem pairNamed_1_4 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_676 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 1 4 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 1, pair 6. -/
theorem pairNamed_1_6 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_681 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 1 6 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 1, pair 7. -/
theorem pairNamed_1_7 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_685 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 1 7 (by decide) (by decide) (HS0_4 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 2, pair 1. -/
theorem pairNamed_2_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_690 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 2 1 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 2, pair 2. -/
theorem pairNamed_2_2 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_694 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 2 2 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 2, pair 3. -/
theorem pairNamed_2_3 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_696 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 2 3 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 2, pair 4. -/
theorem pairNamed_2_4 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_698 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 2 4 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 2, pair 6. -/
theorem pairNamed_2_6 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_704 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 2 6 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A pair's row before the norm, by its name in the run: sequence 2, pair 7. -/
theorem pairNamed_2_7 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg12 : Memref sig .tc .vmem S128x1024
    .bf16) (harg12 : arg12.IsWhole) (arg13 : Memref sig .tc .vmem S128x2048 .bf16) (harg13 : arg13.IsWhole) (arg15 :
    Memref sig .tc .vmem S8x8x128x128 .f32) (arg16 : Memref sig .tc .vmem S8x16x1536 .f32) (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128
    .f32) (x8 : Vec Ideal S1x1024 .f32) (x10 : Vec Ideal S128x1024 .bf16) (x11 : Vec Ideal S128x2048 .bf16) :
    r_705 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11
      = (pairOf 2 7 (by decide) (by decide) (HS0_6 c arg2 harg2 arg5 harg5 arg16 x0 x3) c arg2 harg2 arg3 harg3 arg4 harg4 arg6 harg6 arg7 harg7 arg8 harg8 arg9 harg9 arg10 harg10 arg12 harg12 arg13 harg13 arg15 arg16 x0 x1 x2 x4 x5 x6 x7 x8 x10 x11) := rfl

/-- A store of the run is the normalised pair: sequence 0, pair 0. -/
theorem storeNamed_0_0 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1048 (r_813 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11)
      = storedRow 0 0 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := rfl

/-- A store of the run is the normalised pair: sequence 0, pair 1. -/
theorem storeNamed_0_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1049 (r_645 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_652 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 128] S1x128.size inb_S1x1024_S1x128_0_128).toLoadRect (harg11.unread x9))
      = storedRow 0 1 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_0_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_0_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 0, pair 2. -/
theorem storeNamed_0_2 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1050 (r_650 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_652 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 256] S1x128.size inb_S1x1024_S1x128_0_256).toLoadRect (harg11.unread x9))
      = storedRow 0 2 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_0_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_0_2 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 0, pair 3. -/
theorem storeNamed_0_3 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1052 (r_814 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 384] S1x128.size inb_S1x1024_S1x128_0_384).toLoadRect (harg11.unread x9))
      = storedRow 0 3 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  unfold r_814
  rw [halfSum_0_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 0, pair 4. -/
theorem storeNamed_0_4 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1053 (r_654 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_662 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 512] S1x128.size inb_S1x1024_S1x128_0_512).toLoadRect (harg11.unread x9))
      = storedRow 0 4 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_0_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_0_4 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 0, pair 5. -/
theorem storeNamed_0_5 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1054 (r_657 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_662 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 640] S1x128.size inb_S1x1024_S1x128_0_640).toLoadRect (harg11.unread x9))
      = storedRow 0 5 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_0_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_0_5 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 0, pair 6. -/
theorem storeNamed_0_6 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1055 (r_659 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_662 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 768] S1x128.size inb_S1x1024_S1x128_0_768).toLoadRect (harg11.unread x9))
      = storedRow 0 6 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_0_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_0_6 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 0, pair 7. -/
theorem storeNamed_0_7 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1056 (r_661 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_662 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 896] S1x128.size inb_S1x1024_S1x128_0_896).toLoadRect (harg11.unread x9))
      = storedRow 0 7 (by decide) (by decide) (HS0_2 c arg2 harg2 arg5 harg5 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_0_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_0_7 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 1, pair 0. -/
theorem storeNamed_1_0 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1059 (r_815 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_816 c arg11 harg11 x9)
      = storedRow 1 0 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := rfl

/-- A store of the run is the normalised pair: sequence 1, pair 1. -/
theorem storeNamed_1_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1060 (r_669 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_674 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 128] S1x128.size inb_S1x1024_S1x128_0_128).toLoadRect (harg11.unread x9))
      = storedRow 1 1 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_1_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_1_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 1, pair 2. -/
theorem storeNamed_1_2 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1061 (r_670 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_674 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 256] S1x128.size inb_S1x1024_S1x128_0_256).toLoadRect (harg11.unread x9))
      = storedRow 1 2 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_1_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_1_2 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 1, pair 3. -/
theorem storeNamed_1_3 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1064 (r_673 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_817 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) k0_pay1063 (readAt (Elt Idealize.ShloMosaic.Ideal) arg11.view (Rect.unit (s := S1x1024) ![0, 384] S1x128.size inb_S1x1024_S1x128_0_384).toLoadRect (harg11.unread x9))
      = storedRow 1 3 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  unfold r_817
  rw [halfSum_1_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_1_3 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 1, pair 4. -/
theorem storeNamed_1_4 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1065 (r_676 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_686 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 512] S1x128.size inb_S1x1024_S1x128_0_512).toLoadRect (harg11.unread x9))
      = storedRow 1 4 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_1_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_1_4 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 1, pair 5. -/
theorem storeNamed_1_5 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1067 (r_818 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11)
      = storedRow 1 5 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := rfl

/-- A store of the run is the normalised pair: sequence 1, pair 6. -/
theorem storeNamed_1_6 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1068 (r_681 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_686 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 768] S1x128.size inb_S1x1024_S1x128_0_768).toLoadRect (harg11.unread x9))
      = storedRow 1 6 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_1_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_1_6 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 1, pair 7. -/
theorem storeNamed_1_7 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1069 (r_685 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_686 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 896] S1x128.size inb_S1x1024_S1x128_0_896).toLoadRect (harg11.unread x9))
      = storedRow 1 7 (by decide) (by decide) (HS0_4 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_1_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_1_7 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 2, pair 0. -/
theorem storeNamed_2_0 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1071 (r_819 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 0] S1x128.size inb_S1x1024_S1x128_0_0).toLoadRect (harg11.unread x9))
      = storedRow 2 0 (by decide) (by decide) (HS0_6 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  unfold r_819
  rw [halfSum_2_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 2, pair 1. -/
theorem storeNamed_2_1 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1072 (r_690 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_697 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 128] S1x128.size inb_S1x1024_S1x128_0_128).toLoadRect (harg11.unread x9))
      = storedRow 2 1 (by decide) (by decide) (HS0_6 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_2_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_2_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 2, pair 2. -/
theorem storeNamed_2_2 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1073 (r_694 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_697 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 256] S1x128.size inb_S1x1024_S1x128_0_256).toLoadRect (harg11.unread x9))
      = storedRow 2 2 (by decide) (by decide) (HS0_6 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_2_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_2_2 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 2, pair 3. -/
theorem storeNamed_2_3 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1074 (r_696 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_697 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) cst_1984 (readAt (Elt Idealize.ShloMosaic.Ideal) arg11.view (Rect.unit (s := S1x1024) ![0, 384] S1x128.size inb_S1x1024_S1x128_0_384).toLoadRect (harg11.unread x9))
      = storedRow 2 3 (by decide) (by decide) (HS0_6 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_2_0 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_2_3 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 2, pair 4. -/
theorem storeNamed_2_4 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1075 (r_698 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_706 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 512] S1x128.size inb_S1x1024_S1x128_0_512).toLoadRect (harg11.unread x9))
      = storedRow 2 4 (by decide) (by decide) (HS0_6 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_2_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_2_4 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 2, pair 6. -/
theorem storeNamed_2_6 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1078 (r_704 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_706 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 768] S1x128.size inb_S1x1024_S1x128_0_768).toLoadRect (harg11.unread x9))
      = storedRow 2 6 (by decide) (by decide) (HS0_6 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_2_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_2_6 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

/-- A store of the run is the normalised pair: sequence 2, pair 7. -/
theorem storeNamed_2_7 (c : Dev nD) (arg2 : Memref sig .tc .vmem S8x8x1536 .f32) (harg2 : arg2.IsWhole) (arg3 : Memref sig .tc .vmem
    S8x8x128 .f32) (harg3 : arg3.IsWhole) (arg4 : Memref sig .tc .vmem S8x8x1024 .f32) (harg4 : arg4.IsWhole) (arg5
    : Memref sig .tc .vmem S8x8x1536 .f32) (harg5 : arg5.IsWhole) (arg6 : Memref sig .tc .vmem S8x8x128x128 .f32)
    (harg6 : arg6.IsWhole) (arg7 : Memref sig .tc .vmem S4x1536 .f32) (harg7 : arg7.IsWhole) (arg8 : Memref sig .tc
    .vmem S1x1536 .f32) (harg8 : arg8.IsWhole) (arg9 : Memref sig .tc .vmem S2x128 .f32) (harg9 : arg9.IsWhole)
    (arg10 : Memref sig .tc .vmem S1x1024 .f32) (harg10 : arg10.IsWhole) (arg11 : Memref sig .tc .vmem S1x1024 .f32)
    (harg11 : arg11.IsWhole) (arg12 : Memref sig .tc .vmem S128x1024 .bf16) (harg12 : arg12.IsWhole) (arg13 : Memref
    sig .tc .vmem S128x2048 .bf16) (harg13 : arg13.IsWhole) (arg15 : Memref sig .tc .vmem S8x8x128x128 .f32) (arg16
    : Memref sig .tc .vmem S8x16x1536 .f32) (x0 : Vec Ideal S8x8x1536 .f32) (x1 : Vec Ideal S8x8x128 .f32) (x2 : Vec
    Ideal S8x8x1024 .f32) (x3 : Vec Ideal S8x8x1536 .f32) (x4 : Vec Ideal S8x8x128x128 .f32) (x5 : Vec Ideal S4x1536
    .f32) (x6 : Vec Ideal S1x1536 .f32) (x7 : Vec Ideal S2x128 .f32) (x8 : Vec Ideal S1x1024 .f32) (x9 : Vec Ideal
    S1x1024 .f32) (x10 : Vec Ideal S128x1024 .bf16) (x11 : Vec Ideal S128x2048 .bf16) :
    k0_pay1079 (r_705 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (r_706 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11) (readAt (Elt Idealize.ShloMosaic.Ideal) arg11.view (Rect.unit (s := S1x1024) ![0, 896] S1x128.size inb_S1x1024_S1x128_0_896).toLoadRect (harg11.unread x9))
      = storedRow 2 7 (by decide) (by decide) (HS0_6 c arg2 harg2 arg5 harg5 arg16 x0 x3) c arg2 harg2 arg3 harg3 arg4 harg4 arg6 harg6 arg7 harg7 arg8 harg8 arg9 harg9 arg10 harg10 arg11 harg11 arg12 harg12 arg13 harg13 arg15 arg16 x0 x1 x2 x4 x5 x6 x7 x8 x9 x10 x11 := by
  rw [halfSum_2_1 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11,
    pairNamed_2_7 c arg2 harg2 arg3 harg3 arg4 harg4 arg5 harg5 arg6 harg6 arg7 harg7 arg8 harg8 arg9 harg9 arg10 harg10 arg12 harg12 arg13 harg13 arg15 arg16 x0 x1 x2 x3 x4 x5 x6 x7 x8 x10 x11]
  rfl

end Cert.SsdSIdeal.RefValue

end
-- ==== Proof.SsdS.RowPart0.lean ====
/-
  The stores of the output rows, sequences 0 and 1 of the block.
-/
module

public import proofs.«01_k».proof.Proof.SsdS.RowSums

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

set_option maxHeartbeats 40000000 in
/-- What the body leaves for the output rows of sequences 0 and 1 of the block, at an index. -/
theorem row_out_0 (c : Dev nD) (i : grid0.Coords) (arg2 : Memref sig .tc .vmem S8x8x1536 .f32) (harg2 : arg2.IsWhole) (arg3 : Memref sig
    .tc .vmem S8x8x128 .f32) (harg3 : arg3.IsWhole) (arg4 : Memref sig .tc .vmem S8x8x1024 .f32) (harg4 :
    arg4.IsWhole) (arg5 : Memref sig .tc .vmem S8x8x1536 .f32) (harg5 : arg5.IsWhole) (arg6 : Memref sig .tc .vmem
    S8x8x128x128 .f32) (harg6 : arg6.IsWhole) (arg7 : Memref sig .tc .vmem S4x1536 .f32) (harg7 : arg7.IsWhole) (arg8
    : Memref sig .tc .vmem S1x1536 .f32) (harg8 : arg8.IsWhole) (arg9 : Memref sig .tc .vmem S2x128 .f32) (harg9 :
    arg9.IsWhole) (arg10 : Memref sig .tc .vmem S1x1024 .f32) (harg10 : arg10.IsWhole) (arg11 : Memref sig .tc .vmem
    S1x1024 .f32) (harg11 : arg11.IsWhole) (arg12 : Memref sig .tc .vmem S128x1024 .bf16) (harg12 : arg12.IsWhole)
    (arg13 : Memref sig .tc .vmem S128x2048 .bf16) (harg13 : arg13.IsWhole) (arg14 : Memref sig .tc .vmem S8x1x8x1024
    .f32) (harg14 : arg14.IsWhole) (arg15 : Memref sig .tc .vmem S8x8x128x128 .f32) (harg15 : arg15.IsWhole) (arg16 :
    Memref sig .tc .vmem S8x16x1536 .f32) (harg16 : arg16.IsWhole) (hc0 : cond0_0 i)     (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal
    S128x2048 .bf16)
    (hs : Narrow x10) (hs' : Wide x11) (hg : Rated x7) (y : S8x1x8x1024.Idx) (ha : 0 ≤ (y 0).val) (hb : (y 0).val < 2) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
      = rowAt x0 x1 x2 x3 x4 x5 x6 x7 x8 x9 (y 0) (y 2) (y 3) := by
  have S : ∀ (j p : Nat) (hj : j < 8) (hp : p < 8) (L : List (Piece (Elt Ideal) S8x16x1536 .f32)) (hL : Holds x0 x3 L j)
      (x : S1x1x8x128.Idx), _ := fun j p hj hp L hL x =>
    storedRow_emb j p hj hp L c arg2 harg2 arg3 harg3 arg4 harg4 arg6 harg6 arg7 harg7 arg8 harg8 arg9 harg9 arg10 harg10 arg11 harg11 arg12 harg12 arg13 harg13 arg15 arg16 x0 x1 x2 x3 x4 x5 x6 x7 x8 x9 x10 x11 hL hs hs' hg (fitsRow j p hj hp) x
  show _ = (fillRow x0 x1 x2 x3 x4 x5 x6 x7 x8 x9) y
  unfold out0_A_12
  rw [read_writes_junk_eq_canon]
  have hlt : 8 * (y 0).val + (y 3).val / 128 < 16 := by
    have h3 : (y 3).val < 1024 := (y 3).isLt
    omega
  unfold kernelRun0_A
  dsimp only
  refine olderRow 7 7 _ _ _ _ y (by decide) (by omega) ?_
  refine olderRow 7 6 _ _ _ _ y (by decide) (by omega) ?_
  refine olderRow 7 5 _ _ _ _ y (by decide) (by omega) ?_
  refine olderRow 7 4 _ _ _ _ y (by decide) (by omega) ?_
  refine olderRow 7 3 _ _ _ _ y (by decide) (by omega) ?_
  refine olderRow 7 2 _ _ _ _ y (by decide) (by omega) ?_
  refine olderRow 7 1 _ _ _ _ y (by decide) (by omega) ?_
  refine olderRow 7 0 _ _ _ _ y (by decide) (by omega) ?_
  refine olderRow 6 7 _ _ _ _ y (by decide) (by omega) ?_
  refine olderRow 6 6 _ _ _ _ y (by decide) (by omega) ?_
  refine olderRow 6 5 _ _ _ _ y (by decide) (by omega) ?_
  refine olderRow 6 4 _ _ _ _ y (by decide) (by omega) ?_
  refine olderRow 6 3 _ _ _ _ y (by decide) (by omega) ?_
  refine olderRow 6 2 _ _ _ _ y (by decide) (by omega) ?_
  refine olderRow 6 1 _ _ _ _ y (by decide) (by omega) ?_
  refine olderRow 6 0 _ _ _ _ y (by decide) (by omega) ?_
  refine olderRow 5 7 _ _ _ _ y (by decide) (by omega) ?_
  refine olderRow 5 6 _ _ _ _ y (by decide) (by omega) ?_
  refine olderRow 5 5 _ _ _ _ y (by decide) (by omega) ?_
  refine olderRow 5 4 _ _ _ _ y (by decide) (by omega) ?_
  refine olderRow 5 3 _ _ _ _ y (by decide) (by omega) ?_
  refine olderRow 5 2 _ _ _ _ y (by decide) (by omega) ?_
  refine olderRow 5 1 _ _ _ _ y (by decide) (by omega) ?_
  refine olderRow 5 0 _ _ _ _ y (by decide) (by omega) ?_
  refine olderRow 4 7 _ _ _ _ y (by decide) (by omega) ?_
  refine olderRow 4 6 _ _ _ _ y (by decide) (by omega) ?_
  refine olderRow 4 5 _ _ _ _ y (by decide) (by omega) ?_
  refine olderRow 4 4 _ _ _ _ y (by decide) (by omega) ?_
  refine olderRow 4 3 _ _ _ _ y (by decide) (by omega) ?_
  refine olderRow 4 2 _ _ _ _ y (by decide) (by omega) ?_
  refine olderRow 4 1 _ _ _ _ y (by decide) (by omega) ?_
  refine olderRow 4 0 _ _ _ _ y (by decide) (by omega) ?_
  refine olderRow 3 7 _ _ _ _ y (by decide) (by omega) ?_
  refine olderRow 3 6 _ _ _ _ y (by decide) (by omega) ?_
  refine olderRow 3 5 _ _ _ _ y (by decide) (by omega) ?_
  refine olderRow 3 4 _ _ _ _ y (by decide) (by omega) ?_
  refine olderRow 3 3 _ _ _ _ y (by decide) (by omega) ?_
  refine olderRow 3 2 _ _ _ _ y (by decide) (by omega) ?_
  refine olderRow 3 1 _ _ _ _ y (by decide) (by omega) ?_
  refine olderRow 3 0 _ _ _ _ y (by decide) (by omega) ?_
  refine olderRow 2 7 _ _ _ _ y (by decide) (by omega) ?_
  refine olderRow 2 6 _ _ _ _ y (by decide) (by omega) ?_
  refine olderRow 2 5 _ _ _ _ y (by decide) (by omega) ?_
  refine olderRow 2 4 _ _ _ _ y (by decide) (by omega) ?_
  refine olderRow 2 3 _ _ _ _ y (by decide) (by omega) ?_
  refine olderRow 2 2 _ _ _ _ y (by decide) (by omega) ?_
  refine olderRow 2 1 _ _ _ _ y (by decide) (by omega) ?_
  refine olderRow 2 0 _ _ _ _ y (by decide) (by omega) ?_
  refine newestRow 1 7 (by decide) _ _ _ _ y (fun x =>
    (congrFun (storeNamed_1_7 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 7 (by decide) (by decide) _ (holds1 c arg2 harg2 arg5 harg5 arg16 x0 x3) x)) hlt fun hlt => ?_
  refine newestRow 1 6 (by decide) _ _ _ _ y (fun x =>
    (congrFun (storeNamed_1_6 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 6 (by decide) (by decide) _ (holds1 c arg2 harg2 arg5 harg5 arg16 x0 x3) x)) hlt fun hlt => ?_
  refine newestRow 1 5 (by decide) _ _ _ _ y (fun x =>
    (congrFun (storeNamed_1_5 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 5 (by decide) (by decide) _ (holds1 c arg2 harg2 arg5 harg5 arg16 x0 x3) x)) hlt fun hlt => ?_
  refine newestRow 1 4 (by decide) _ _ _ _ y (fun x =>
    (congrFun (storeNamed_1_4 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 4 (by decide) (by decide) _ (holds1 c arg2 harg2 arg5 harg5 arg16 x0 x3) x)) hlt fun hlt => ?_
  refine newestRow 1 3 (by decide) _ _ _ _ y (fun x =>
    (congrFun (storeNamed_1_3 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 3 (by decide) (by decide) _ (holds1 c arg2 harg2 arg5 harg5 arg16 x0 x3) x)) hlt fun hlt => ?_
  refine newestRow 1 2 (by decide) _ _ _ _ y (fun x =>
    (congrFun (storeNamed_1_2 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 2 (by decide) (by decide) _ (holds1 c arg2 harg2 arg5 harg5 arg16 x0 x3) x)) hlt fun hlt => ?_
  refine newestRow 1 1 (by decide) _ _ _ _ y (fun x =>
    (congrFun (storeNamed_1_1 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 1 (by decide) (by decide) _ (holds1 c arg2 harg2 arg5 harg5 arg16 x0 x3) x)) hlt fun hlt => ?_
  refine newestRow 1 0 (by decide) _ _ _ _ y (fun x =>
    (congrFun (storeNamed_1_0 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 1 0 (by decide) (by decide) _ (holds1 c arg2 harg2 arg5 harg5 arg16 x0 x3) x)) hlt fun hlt => ?_
  refine newestRow 0 7 (by decide) _ _ _ _ y (fun x =>
    (congrFun (storeNamed_0_7 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 7 (by decide) (by decide) _ (holds0 c arg2 harg2 arg5 harg5 arg16 x0 x3) x)) hlt fun hlt => ?_
  refine newestRow 0 6 (by decide) _ _ _ _ y (fun x =>
    (congrFun (storeNamed_0_6 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 6 (by decide) (by decide) _ (holds0 c arg2 harg2 arg5 harg5 arg16 x0 x3) x)) hlt fun hlt => ?_
  refine newestRow 0 5 (by decide) _ _ _ _ y (fun x =>
    (congrFun (storeNamed_0_5 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 5 (by decide) (by decide) _ (holds0 c arg2 harg2 arg5 harg5 arg16 x0 x3) x)) hlt fun hlt => ?_
  refine newestRow 0 4 (by decide) _ _ _ _ y (fun x =>
    (congrFun (storeNamed_0_4 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 4 (by decide) (by decide) _ (holds0 c arg2 harg2 arg5 harg5 arg16 x0 x3) x)) hlt fun hlt => ?_
  refine newestRow 0 3 (by decide) _ _ _ _ y (fun x =>
    (congrFun (storeNamed_0_3 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 3 (by decide) (by decide) _ (holds0 c arg2 harg2 arg5 harg5 arg16 x0 x3) x)) hlt fun hlt => ?_
  refine newestRow 0 2 (by decide) _ _ _ _ y (fun x =>
    (congrFun (storeNamed_0_2 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 2 (by decide) (by decide) _ (holds0 c arg2 harg2 arg5 harg5 arg16 x0 x3) x)) hlt fun hlt => ?_
  refine newestRow 0 1 (by decide) _ _ _ _ y (fun x =>
    (congrFun (storeNamed_0_1 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 1 (by decide) (by decide) _ (holds0 c arg2 harg2 arg5 harg5 arg16 x0 x3) x)) hlt fun hlt => ?_
  refine newestRow 0 0 (by decide) _ _ _ _ y (fun x =>
    (congrFun (storeNamed_0_0 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 0 0 (by decide) (by decide) _ (holds0 c arg2 harg2 arg5 harg5 arg16 x0 x3) x)) hlt fun hlt => ?_
  exact absurd hlt (by omega)

end Cert.SsdSIdeal.RefValue

end
-- ==== Proof.SsdS.RowPart1.lean ====
/-
  The stores of the output rows, sequences 2 and 3 of the block.
-/
module

public import proofs.«01_k».proof.Proof.SsdS.RowSums

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

set_option maxHeartbeats 40000000 in
/-- What the body leaves for the output rows of sequences 2 and 3 of the block, at an index. -/
theorem row_out_1 (c : Dev nD) (i : grid0.Coords) (arg2 : Memref sig .tc .vmem S8x8x1536 .f32) (harg2 : arg2.IsWhole) (arg3 : Memref sig
    .tc .vmem S8x8x128 .f32) (harg3 : arg3.IsWhole) (arg4 : Memref sig .tc .vmem S8x8x1024 .f32) (harg4 :
    arg4.IsWhole) (arg5 : Memref sig .tc .vmem S8x8x1536 .f32) (harg5 : arg5.IsWhole) (arg6 : Memref sig .tc .vmem
    S8x8x128x128 .f32) (harg6 : arg6.IsWhole) (arg7 : Memref sig .tc .vmem S4x1536 .f32) (harg7 : arg7.IsWhole) (arg8
    : Memref sig .tc .vmem S1x1536 .f32) (harg8 : arg8.IsWhole) (arg9 : Memref sig .tc .vmem S2x128 .f32) (harg9 :
    arg9.IsWhole) (arg10 : Memref sig .tc .vmem S1x1024 .f32) (harg10 : arg10.IsWhole) (arg11 : Memref sig .tc .vmem
    S1x1024 .f32) (harg11 : arg11.IsWhole) (arg12 : Memref sig .tc .vmem S128x1024 .bf16) (harg12 : arg12.IsWhole)
    (arg13 : Memref sig .tc .vmem S128x2048 .bf16) (harg13 : arg13.IsWhole) (arg14 : Memref sig .tc .vmem S8x1x8x1024
    .f32) (harg14 : arg14.IsWhole) (arg15 : Memref sig .tc .vmem S8x8x128x128 .f32) (harg15 : arg15.IsWhole) (arg16 :
    Memref sig .tc .vmem S8x16x1536 .f32) (harg16 : arg16.IsWhole) (hc0 : cond0_0 i)     (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal
    S128x2048 .bf16)
    (hs : Narrow x10) (hs' : Wide x11) (hg : Rated x7) (y : S8x1x8x1024.Idx) (ha : 2 ≤ (y 0).val) (hb : (y 0).val < 4) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
      = rowAt x0 x1 x2 x3 x4 x5 x6 x7 x8 x9 (y 0) (y 2) (y 3) := by
  have S : ∀ (j p : Nat) (hj : j < 8) (hp : p < 8) (L : List (Piece (Elt Ideal) S8x16x1536 .f32)) (hL : Holds x0 x3 L j)
      (x : S1x1x8x128.Idx), _ := fun j p hj hp L hL x =>
    storedRow_emb j p hj hp L c arg2 harg2 arg3 harg3 arg4 harg4 arg6 harg6 arg7 harg7 arg8 harg8 arg9 harg9 arg10 harg10 arg11 harg11 arg12 harg12 arg13 harg13 arg15 arg16 x0 x1 x2 x3 x4 x5 x6 x7 x8 x9 x10 x11 hL hs hs' hg (fitsRow j p hj hp) x
  show _ = (fillRow x0 x1 x2 x3 x4 x5 x6 x7 x8 x9) y
  unfold out0_A_12
  rw [read_writes_junk_eq_canon]
  have hlt : 8 * (y 0).val + (y 3).val / 128 < 32 := by
    have h3 : (y 3).val < 1024 := (y 3).isLt
    omega
  unfold kernelRun0_A
  dsimp only
  refine olderRow 7 7 _ _ _ _ y (by decide) (by omega) ?_
  refine olderRow 7 6 _ _ _ _ y (by decide) (by omega) ?_
  refine olderRow 7 5 _ _ _ _ y (by decide) (by omega) ?_
  refine olderRow 7 4 _ _ _ _ y (by decide) (by omega) ?_
  refine olderRow 7 3 _ _ _ _ y (by decide) (by omega) ?_
  refine olderRow 7 2 _ _ _ _ y (by decide) (by omega) ?_
  refine olderRow 7 1 _ _ _ _ y (by decide) (by omega) ?_
  refine olderRow 7 0 _ _ _ _ y (by decide) (by omega) ?_
  refine olderRow 6 7 _ _ _ _ y (by decide) (by omega) ?_
  refine olderRow 6 6 _ _ _ _ y (by decide) (by omega) ?_
  refine olderRow 6 5 _ _ _ _ y (by decide) (by omega) ?_
  refine olderRow 6 4 _ _ _ _ y (by decide) (by omega) ?_
  refine olderRow 6 3 _ _ _ _ y (by decide) (by omega) ?_
  refine olderRow 6 2 _ _ _ _ y (by decide) (by omega) ?_
  refine olderRow 6 1 _ _ _ _ y (by decide) (by omega) ?_
  refine olderRow 6 0 _ _ _ _ y (by decide) (by omega) ?_
  refine olderRow 5 7 _ _ _ _ y (by decide) (by omega) ?_
  refine olderRow 5 6 _ _ _ _ y (by decide) (by omega) ?_
  refine olderRow 5 5 _ _ _ _ y (by decide) (by omega) ?_
  refine olderRow 5 4 _ _ _ _ y (by decide) (by omega) ?_
  refine olderRow 5 3 _ _ _ _ y (by decide) (by omega) ?_
  refine olderRow 5 2 _ _ _ _ y (by decide) (by omega) ?_
  refine olderRow 5 1 _ _ _ _ y (by decide) (by omega) ?_
  refine olderRow 5 0 _ _ _ _ y (by decide) (by omega) ?_
  refine olderRow 4 7 _ _ _ _ y (by decide) (by omega) ?_
  refine olderRow 4 6 _ _ _ _ y (by decide) (by omega) ?_
  refine olderRow 4 5 _ _ _ _ y (by decide) (by omega) ?_
  refine olderRow 4 4 _ _ _ _ y (by decide) (by omega) ?_
  refine olderRow 4 3 _ _ _ _ y (by decide) (by omega) ?_
  refine olderRow 4 2 _ _ _ _ y (by decide) (by omega) ?_
  refine olderRow 4 1 _ _ _ _ y (by decide) (by omega) ?_
  refine olderRow 4 0 _ _ _ _ y (by decide) (by omega) ?_
  refine newestRow 3 7 (by decide) _ _ _ _ y (S 3 7 (by decide) (by decide) _ (holds3 c arg2 harg2 arg5 harg5 arg16 x0 x3)) hlt fun hlt => ?_
  refine newestRow 3 6 (by decide) _ _ _ _ y (S 3 6 (by decide) (by decide) _ (holds3 c arg2 harg2 arg5 harg5 arg16 x0 x3)) hlt fun hlt => ?_
  refine newestRow 3 5 (by decide) _ _ _ _ y (S 3 5 (by decide) (by decide) _ (holds3 c arg2 harg2 arg5 harg5 arg16 x0 x3)) hlt fun hlt => ?_
  refine newestRow 3 4 (by decide) _ _ _ _ y (S 3 4 (by decide) (by decide) _ (holds3 c arg2 harg2 arg5 harg5 arg16 x0 x3)) hlt fun hlt => ?_
  refine newestRow 3 3 (by decide) _ _ _ _ y (S 3 3 (by decide) (by decide) _ (holds3 c arg2 harg2 arg5 harg5 arg16 x0 x3)) hlt fun hlt => ?_
  refine newestRow 3 2 (by decide) _ _ _ _ y (S 3 2 (by decide) (by decide) _ (holds3 c arg2 harg2 arg5 harg5 arg16 x0 x3)) hlt fun hlt => ?_
  refine newestRow 3 1 (by decide) _ _ _ _ y (S 3 1 (by decide) (by decide) _ (holds3 c arg2 harg2 arg5 harg5 arg16 x0 x3)) hlt fun hlt => ?_
  refine newestRow 3 0 (by decide) _ _ _ _ y (S 3 0 (by decide) (by decide) _ (holds3 c arg2 harg2 arg5 harg5 arg16 x0 x3)) hlt fun hlt => ?_
  refine newestRow 2 7 (by decide) _ _ _ _ y (fun x =>
    (congrFun (storeNamed_2_7 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 2 7 (by decide) (by decide) _ (holds2 c arg2 harg2 arg5 harg5 arg16 x0 x3) x)) hlt fun hlt => ?_
  refine newestRow 2 6 (by decide) _ _ _ _ y (fun x =>
    (congrFun (storeNamed_2_6 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 2 6 (by decide) (by decide) _ (holds2 c arg2 harg2 arg5 harg5 arg16 x0 x3) x)) hlt fun hlt => ?_
  refine newestRow 2 5 (by decide) _ _ _ _ y (S 2 5 (by decide) (by decide) _ (holds2 c arg2 harg2 arg5 harg5 arg16 x0 x3)) hlt fun hlt => ?_
  refine newestRow 2 4 (by decide) _ _ _ _ y (fun x =>
    (congrFun (storeNamed_2_4 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 2 4 (by decide) (by decide) _ (holds2 c arg2 harg2 arg5 harg5 arg16 x0 x3) x)) hlt fun hlt => ?_
  refine newestRow 2 3 (by decide) _ _ _ _ y (fun x =>
    (congrFun (storeNamed_2_3 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 2 3 (by decide) (by decide) _ (holds2 c arg2 harg2 arg5 harg5 arg16 x0 x3) x)) hlt fun hlt => ?_
  refine newestRow 2 2 (by decide) _ _ _ _ y (fun x =>
    (congrFun (storeNamed_2_2 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 2 2 (by decide) (by decide) _ (holds2 c arg2 harg2 arg5 harg5 arg16 x0 x3) x)) hlt fun hlt => ?_
  refine newestRow 2 1 (by decide) _ _ _ _ y (fun x =>
    (congrFun (storeNamed_2_1 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 2 1 (by decide) (by decide) _ (holds2 c arg2 harg2 arg5 harg5 arg16 x0 x3) x)) hlt fun hlt => ?_
  refine newestRow 2 0 (by decide) _ _ _ _ y (fun x =>
    (congrFun (storeNamed_2_0 c arg2 harg2 arg3 harg3 arg4 harg4 arg5 harg5 arg6 harg6 arg7 harg7 arg8 harg8 arg9 harg9 arg10 harg10 arg11 harg11 arg12 harg12 arg13 harg13 arg15 arg16 x0 x1 x2 x3 x4 x5 x6 x7 x8 x9 x10 x11) x).trans (S 2 0 (by decide) (by decide) _ (holds2 c arg2 harg2 arg5 harg5 arg16 x0 x3) x)) hlt fun hlt => ?_
  exact absurd hlt (by omega)

end Cert.SsdSIdeal.RefValue

end
-- ==== Proof.SsdS.RowPart2.lean ====
/-
  The stores of the output rows, sequences 4 and 5 of the block.
-/
module

public import proofs.«01_k».proof.Proof.SsdS.RowPiece

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

set_option maxHeartbeats 40000000 in
/-- What the body leaves for the output rows of sequences 4 and 5 of the block, at an index. -/
theorem row_out_2 (c : Dev nD) (i : grid0.Coords) (arg2 : Memref sig .tc .vmem S8x8x1536 .f32) (harg2 : arg2.IsWhole) (arg3 : Memref sig
    .tc .vmem S8x8x128 .f32) (harg3 : arg3.IsWhole) (arg4 : Memref sig .tc .vmem S8x8x1024 .f32) (harg4 :
    arg4.IsWhole) (arg5 : Memref sig .tc .vmem S8x8x1536 .f32) (harg5 : arg5.IsWhole) (arg6 : Memref sig .tc .vmem
    S8x8x128x128 .f32) (harg6 : arg6.IsWhole) (arg7 : Memref sig .tc .vmem S4x1536 .f32) (harg7 : arg7.IsWhole) (arg8
    : Memref sig .tc .vmem S1x1536 .f32) (harg8 : arg8.IsWhole) (arg9 : Memref sig .tc .vmem S2x128 .f32) (harg9 :
    arg9.IsWhole) (arg10 : Memref sig .tc .vmem S1x1024 .f32) (harg10 : arg10.IsWhole) (arg11 : Memref sig .tc .vmem
    S1x1024 .f32) (harg11 : arg11.IsWhole) (arg12 : Memref sig .tc .vmem S128x1024 .bf16) (harg12 : arg12.IsWhole)
    (arg13 : Memref sig .tc .vmem S128x2048 .bf16) (harg13 : arg13.IsWhole) (arg14 : Memref sig .tc .vmem S8x1x8x1024
    .f32) (harg14 : arg14.IsWhole) (arg15 : Memref sig .tc .vmem S8x8x128x128 .f32) (harg15 : arg15.IsWhole) (arg16 :
    Memref sig .tc .vmem S8x16x1536 .f32) (harg16 : arg16.IsWhole) (hc0 : cond0_0 i)     (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal
    S128x2048 .bf16)
    (hs : Narrow x10) (hs' : Wide x11) (hg : Rated x7) (y : S8x1x8x1024.Idx) (ha : 4 ≤ (y 0).val) (hb : (y 0).val < 6) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
      = rowAt x0 x1 x2 x3 x4 x5 x6 x7 x8 x9 (y 0) (y 2) (y 3) := by
  have S : ∀ (j p : Nat) (hj : j < 8) (hp : p < 8) (L : List (Piece (Elt Ideal) S8x16x1536 .f32)) (hL : Holds x0 x3 L j)
      (x : S1x1x8x128.Idx), _ := fun j p hj hp L hL x =>
    storedRow_emb j p hj hp L c arg2 harg2 arg3 harg3 arg4 harg4 arg6 harg6 arg7 harg7 arg8 harg8 arg9 harg9 arg10 harg10 arg11 harg11 arg12 harg12 arg13 harg13 arg15 arg16 x0 x1 x2 x3 x4 x5 x6 x7 x8 x9 x10 x11 hL hs hs' hg (fitsRow j p hj hp) x
  show _ = (fillRow x0 x1 x2 x3 x4 x5 x6 x7 x8 x9) y
  unfold out0_A_12
  rw [read_writes_junk_eq_canon]
  have hlt : 8 * (y 0).val + (y 3).val / 128 < 48 := by
    have h3 : (y 3).val < 1024 := (y 3).isLt
    omega
  unfold kernelRun0_A
  dsimp only
  refine olderRow 7 7 _ _ _ _ y (by decide) (by omega) ?_
  refine olderRow 7 6 _ _ _ _ y (by decide) (by omega) ?_
  refine olderRow 7 5 _ _ _ _ y (by decide) (by omega) ?_
  refine olderRow 7 4 _ _ _ _ y (by decide) (by omega) ?_
  refine olderRow 7 3 _ _ _ _ y (by decide) (by omega) ?_
  refine olderRow 7 2 _ _ _ _ y (by decide) (by omega) ?_
  refine olderRow 7 1 _ _ _ _ y (by decide) (by omega) ?_
  refine olderRow 7 0 _ _ _ _ y (by decide) (by omega) ?_
  refine olderRow 6 7 _ _ _ _ y (by decide) (by omega) ?_
  refine olderRow 6 6 _ _ _ _ y (by decide) (by omega) ?_
  refine olderRow 6 5 _ _ _ _ y (by decide) (by omega) ?_
  refine olderRow 6 4 _ _ _ _ y (by decide) (by omega) ?_
  refine olderRow 6 3 _ _ _ _ y (by decide) (by omega) ?_
  refine olderRow 6 2 _ _ _ _ y (by decide) (by omega) ?_
  refine olderRow 6 1 _ _ _ _ y (by decide) (by omega) ?_
  refine olderRow 6 0 _ _ _ _ y (by decide) (by omega) ?_
  refine newestRow 5 7 (by decide) _ _ _ _ y (S 5 7 (by decide) (by decide) _ (holds5 c arg2 harg2 arg5 harg5 arg16 x0 x3)) hlt fun hlt => ?_
  refine newestRow 5 6 (by decide) _ _ _ _ y (S 5 6 (by decide) (by decide) _ (holds5 c arg2 harg2 arg5 harg5 arg16 x0 x3)) hlt fun hlt => ?_
  refine newestRow 5 5 (by decide) _ _ _ _ y (S 5 5 (by decide) (by decide) _ (holds5 c arg2 harg2 arg5 harg5 arg16 x0 x3)) hlt fun hlt => ?_
  refine newestRow 5 4 (by decide) _ _ _ _ y (S 5 4 (by decide) (by decide) _ (holds5 c arg2 harg2 arg5 harg5 arg16 x0 x3)) hlt fun hlt => ?_
  refine newestRow 5 3 (by decide) _ _ _ _ y (S 5 3 (by decide) (by decide) _ (holds5 c arg2 harg2 arg5 harg5 arg16 x0 x3)) hlt fun hlt => ?_
  refine newestRow 5 2 (by decide) _ _ _ _ y (S 5 2 (by decide) (by decide) _ (holds5 c arg2 harg2 arg5 harg5 arg16 x0 x3)) hlt fun hlt => ?_
  refine newestRow 5 1 (by decide) _ _ _ _ y (S 5 1 (by decide) (by decide) _ (holds5 c arg2 harg2 arg5 harg5 arg16 x0 x3)) hlt fun hlt => ?_
  refine newestRow 5 0 (by decide) _ _ _ _ y (S 5 0 (by decide) (by decide) _ (holds5 c arg2 harg2 arg5 harg5 arg16 x0 x3)) hlt fun hlt => ?_
  refine newestRow 4 7 (by decide) _ _ _ _ y (S 4 7 (by decide) (by decide) _ (holds4 c arg2 harg2 arg5 harg5 arg16 x0 x3)) hlt fun hlt => ?_
  refine newestRow 4 6 (by decide) _ _ _ _ y (S 4 6 (by decide) (by decide) _ (holds4 c arg2 harg2 arg5 harg5 arg16 x0 x3)) hlt fun hlt => ?_
  refine newestRow 4 5 (by decide) _ _ _ _ y (S 4 5 (by decide) (by decide) _ (holds4 c arg2 harg2 arg5 harg5 arg16 x0 x3)) hlt fun hlt => ?_
  refine newestRow 4 4 (by decide) _ _ _ _ y (S 4 4 (by decide) (by decide) _ (holds4 c arg2 harg2 arg5 harg5 arg16 x0 x3)) hlt fun hlt => ?_
  refine newestRow 4 3 (by decide) _ _ _ _ y (S 4 3 (by decide) (by decide) _ (holds4 c arg2 harg2 arg5 harg5 arg16 x0 x3)) hlt fun hlt => ?_
  refine newestRow 4 2 (by decide) _ _ _ _ y (S 4 2 (by decide) (by decide) _ (holds4 c arg2 harg2 arg5 harg5 arg16 x0 x3)) hlt fun hlt => ?_
  refine newestRow 4 1 (by decide) _ _ _ _ y (S 4 1 (by decide) (by decide) _ (holds4 c arg2 harg2 arg5 harg5 arg16 x0 x3)) hlt fun hlt => ?_
  refine newestRow 4 0 (by decide) _ _ _ _ y (S 4 0 (by decide) (by decide) _ (holds4 c arg2 harg2 arg5 harg5 arg16 x0 x3)) hlt fun hlt => ?_
  exact absurd hlt (by omega)

end Cert.SsdSIdeal.RefValue

end
-- ==== Proof.SsdS.RowPart3.lean ====
/-
  The stores of the output rows, sequences 6 and 7 of the block.
-/
module

public import proofs.«01_k».proof.Proof.SsdS.RowPiece

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

set_option maxHeartbeats 40000000 in
/-- What the body leaves for the output rows of sequences 6 and 7 of the block, at an index. -/
theorem row_out_3 (c : Dev nD) (i : grid0.Coords) (arg2 : Memref sig .tc .vmem S8x8x1536 .f32) (harg2 : arg2.IsWhole) (arg3 : Memref sig
    .tc .vmem S8x8x128 .f32) (harg3 : arg3.IsWhole) (arg4 : Memref sig .tc .vmem S8x8x1024 .f32) (harg4 :
    arg4.IsWhole) (arg5 : Memref sig .tc .vmem S8x8x1536 .f32) (harg5 : arg5.IsWhole) (arg6 : Memref sig .tc .vmem
    S8x8x128x128 .f32) (harg6 : arg6.IsWhole) (arg7 : Memref sig .tc .vmem S4x1536 .f32) (harg7 : arg7.IsWhole) (arg8
    : Memref sig .tc .vmem S1x1536 .f32) (harg8 : arg8.IsWhole) (arg9 : Memref sig .tc .vmem S2x128 .f32) (harg9 :
    arg9.IsWhole) (arg10 : Memref sig .tc .vmem S1x1024 .f32) (harg10 : arg10.IsWhole) (arg11 : Memref sig .tc .vmem
    S1x1024 .f32) (harg11 : arg11.IsWhole) (arg12 : Memref sig .tc .vmem S128x1024 .bf16) (harg12 : arg12.IsWhole)
    (arg13 : Memref sig .tc .vmem S128x2048 .bf16) (harg13 : arg13.IsWhole) (arg14 : Memref sig .tc .vmem S8x1x8x1024
    .f32) (harg14 : arg14.IsWhole) (arg15 : Memref sig .tc .vmem S8x8x128x128 .f32) (harg15 : arg15.IsWhole) (arg16 :
    Memref sig .tc .vmem S8x16x1536 .f32) (harg16 : arg16.IsWhole) (hc0 : cond0_0 i)     (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal
    S128x2048 .bf16)
    (hs : Narrow x10) (hs' : Wide x11) (hg : Rated x7) (y : S8x1x8x1024.Idx) (ha : 6 ≤ (y 0).val) (hb : (y 0).val < 8) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
      = rowAt x0 x1 x2 x3 x4 x5 x6 x7 x8 x9 (y 0) (y 2) (y 3) := by
  have S : ∀ (j p : Nat) (hj : j < 8) (hp : p < 8) (L : List (Piece (Elt Ideal) S8x16x1536 .f32)) (hL : Holds x0 x3 L j)
      (x : S1x1x8x128.Idx), _ := fun j p hj hp L hL x =>
    storedRow_emb j p hj hp L c arg2 harg2 arg3 harg3 arg4 harg4 arg6 harg6 arg7 harg7 arg8 harg8 arg9 harg9 arg10 harg10 arg11 harg11 arg12 harg12 arg13 harg13 arg15 arg16 x0 x1 x2 x3 x4 x5 x6 x7 x8 x9 x10 x11 hL hs hs' hg (fitsRow j p hj hp) x
  show _ = (fillRow x0 x1 x2 x3 x4 x5 x6 x7 x8 x9) y
  unfold out0_A_12
  rw [read_writes_junk_eq_canon]
  have hlt : 8 * (y 0).val + (y 3).val / 128 < 64 := by
    have h3 : (y 3).val < 1024 := (y 3).isLt
    omega
  unfold kernelRun0_A
  dsimp only
  refine newestRow 7 7 (by decide) _ _ _ _ y (S 7 7 (by decide) (by decide) _ (holds7 c arg2 harg2 arg5 harg5 arg16 x0 x3)) hlt fun hlt => ?_
  refine newestRow 7 6 (by decide) _ _ _ _ y (S 7 6 (by decide) (by decide) _ (holds7 c arg2 harg2 arg5 harg5 arg16 x0 x3)) hlt fun hlt => ?_
  refine newestRow 7 5 (by decide) _ _ _ _ y (S 7 5 (by decide) (by decide) _ (holds7 c arg2 harg2 arg5 harg5 arg16 x0 x3)) hlt fun hlt => ?_
  refine newestRow 7 4 (by decide) _ _ _ _ y (S 7 4 (by decide) (by decide) _ (holds7 c arg2 harg2 arg5 harg5 arg16 x0 x3)) hlt fun hlt => ?_
  refine newestRow 7 3 (by decide) _ _ _ _ y (S 7 3 (by decide) (by decide) _ (holds7 c arg2 harg2 arg5 harg5 arg16 x0 x3)) hlt fun hlt => ?_
  refine newestRow 7 2 (by decide) _ _ _ _ y (S 7 2 (by decide) (by decide) _ (holds7 c arg2 harg2 arg5 harg5 arg16 x0 x3)) hlt fun hlt => ?_
  refine newestRow 7 1 (by decide) _ _ _ _ y (S 7 1 (by decide) (by decide) _ (holds7 c arg2 harg2 arg5 harg5 arg16 x0 x3)) hlt fun hlt => ?_
  refine newestRow 7 0 (by decide) _ _ _ _ y (S 7 0 (by decide) (by decide) _ (holds7 c arg2 harg2 arg5 harg5 arg16 x0 x3)) hlt fun hlt => ?_
  refine newestRow 6 7 (by decide) _ _ _ _ y (S 6 7 (by decide) (by decide) _ (holds6 c arg2 harg2 arg5 harg5 arg16 x0 x3)) hlt fun hlt => ?_
  refine newestRow 6 6 (by decide) _ _ _ _ y (S 6 6 (by decide) (by decide) _ (holds6 c arg2 harg2 arg5 harg5 arg16 x0 x3)) hlt fun hlt => ?_
  refine newestRow 6 5 (by decide) _ _ _ _ y (S 6 5 (by decide) (by decide) _ (holds6 c arg2 harg2 arg5 harg5 arg16 x0 x3)) hlt fun hlt => ?_
  refine newestRow 6 4 (by decide) _ _ _ _ y (S 6 4 (by decide) (by decide) _ (holds6 c arg2 harg2 arg5 harg5 arg16 x0 x3)) hlt fun hlt => ?_
  refine newestRow 6 3 (by decide) _ _ _ _ y (S 6 3 (by decide) (by decide) _ (holds6 c arg2 harg2 arg5 harg5 arg16 x0 x3)) hlt fun hlt => ?_
  refine newestRow 6 2 (by decide) _ _ _ _ y (S 6 2 (by decide) (by decide) _ (holds6 c arg2 harg2 arg5 harg5 arg16 x0 x3)) hlt fun hlt => ?_
  refine newestRow 6 1 (by decide) _ _ _ _ y (S 6 1 (by decide) (by decide) _ (holds6 c arg2 harg2 arg5 harg5 arg16 x0 x3)) hlt fun hlt => ?_
  refine newestRow 6 0 (by decide) _ _ _ _ y (S 6 0 (by decide) (by decide) _ (holds6 c arg2 harg2 arg5 harg5 arg16 x0 x3)) hlt fun hlt => ?_
  exact absurd hlt (by omega)

end Cert.SsdSIdeal.RefValue

end
-- ==== Proof.SsdS.RowStores.lean ====
/-
  The stores of the output rows read back: the whole block.
-/
module

public import proofs.«01_k».proof.Proof.SsdS.RowPart0
public import proofs.«01_k».proof.Proof.SsdS.RowPart1
public import proofs.«01_k».proof.Proof.SsdS.RowPart2
public import proofs.«01_k».proof.Proof.SsdS.RowPart3

@[expose] public section

set_option maxRecDepth 16384

noncomputable section

namespace Cert.SsdSIdeal.RefValue

open Cert.SsdSIdeal Cert.SsdSIdeal.Gen Cert.SsdSIdeal.Gen.kernelRun0_A.sl Idealize.ShloMosaic Idealize.ShloMosaic.View Scan

/-- WHAT THE BODY LEAVES for the output rows, at an index: the block's row. -/
theorem row_out_apply (c : Dev nD) (i : grid0.Coords) (arg2 : Memref sig .tc .vmem S8x8x1536 .f32) (harg2 : arg2.IsWhole) (arg3 : Memref sig
    .tc .vmem S8x8x128 .f32) (harg3 : arg3.IsWhole) (arg4 : Memref sig .tc .vmem S8x8x1024 .f32) (harg4 :
    arg4.IsWhole) (arg5 : Memref sig .tc .vmem S8x8x1536 .f32) (harg5 : arg5.IsWhole) (arg6 : Memref sig .tc .vmem
    S8x8x128x128 .f32) (harg6 : arg6.IsWhole) (arg7 : Memref sig .tc .vmem S4x1536 .f32) (harg7 : arg7.IsWhole) (arg8
    : Memref sig .tc .vmem S1x1536 .f32) (harg8 : arg8.IsWhole) (arg9 : Memref sig .tc .vmem S2x128 .f32) (harg9 :
    arg9.IsWhole) (arg10 : Memref sig .tc .vmem S1x1024 .f32) (harg10 : arg10.IsWhole) (arg11 : Memref sig .tc .vmem
    S1x1024 .f32) (harg11 : arg11.IsWhole) (arg12 : Memref sig .tc .vmem S128x1024 .bf16) (harg12 : arg12.IsWhole)
    (arg13 : Memref sig .tc .vmem S128x2048 .bf16) (harg13 : arg13.IsWhole) (arg14 : Memref sig .tc .vmem S8x1x8x1024
    .f32) (harg14 : arg14.IsWhole) (arg15 : Memref sig .tc .vmem S8x8x128x128 .f32) (harg15 : arg15.IsWhole) (arg16 :
    Memref sig .tc .vmem S8x16x1536 .f32) (harg16 : arg16.IsWhole) (hc0 : cond0_0 i)     (x0 : Vec Ideal S8x8x1536
    .f32) (x1 : Vec Ideal S8x8x128 .f32) (x2 : Vec Ideal S8x8x1024 .f32) (x3 : Vec Ideal S8x8x1536 .f32) (x4 : Vec
    Ideal S8x8x128x128 .f32) (x5 : Vec Ideal S4x1536 .f32) (x6 : Vec Ideal S1x1536 .f32) (x7 : Vec Ideal S2x128 .f32)
    (x8 : Vec Ideal S1x1024 .f32) (x9 : Vec Ideal S1x1024 .f32) (x10 : Vec Ideal S128x1024 .bf16) (x11 : Vec Ideal
    S128x2048 .bf16)
    (hs : Narrow x10) (hs' : Wide x11) (hg : Rated x7) (y : S8x1x8x1024.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y
      = rowAt x0 x1 x2 x3 x4 x5 x6 x7 x8 x9 (y 0) (y 2) (y 3) := by
  have h0 : (y 0).val < 8 := (y 0).isLt
  by_cases h2 : (y 0).val < 2
  · exact row_out_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 hs hs' hg y (Nat.zero_le _) h2
  by_cases h4 : (y 0).val < 4
  · exact row_out_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 hs hs' hg y (Nat.le_of_not_lt h2) h4
  by_cases h6 : (y 0).val < 6
  · exact row_out_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 hs hs' hg y (Nat.le_of_not_lt h4) h6
  exact row_out_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 hs hs' hg y (Nat.le_of_not_lt h6) h0

end Cert.SsdSIdeal.RefValue

end
-- ==== Proof.SsdS.RowArray.lean ====
/-
  The sample's output rows after the run: the call's array, whole, as the reference's rows.
-/
module

public import proofs.«01_k».proof.Proof.SsdS.RowEntry
public import proofs.«01_k».proof.Proof.SsdS.RowStores

@[expose] public section

set_option maxRecDepth 16384

noncomputable section

namespace Cert.SsdSIdeal.RefValue

open Cert.SsdSIdeal Cert.SsdSIdeal.Gen Idealize.ShloMosaic Idealize.ShloMosaic.TcCoe Scan
open Idealize.ShloMosaic.Pipeline (Dat)

variable (m : (ℓ : Loc nD τ sig) → Buf (Elt Ideal) ℓ)

set_option maxHeartbeats 2000000 in
/-- What a point's body leaves for the output rows, at an index. -/
theorem left_row_apply (c : Dev nD) (t : Fin cfg0.N)
    (hg : ∀ h : Fin 16, (m ((c : Thread nD τ).loc main_arg5) (ix2 0 h) : EReal) ≠ (⊥ : EReal))
    (y : S8x1x8x1024.Idx) :
    (outsAt0 m c t).1 y = rowAt (X0_0 m c t) (iblk m c 1 t) (iblk m c 2 t) (iblk m c 3 t) (iblk m c 4 t) (iblk m c 5 t) (iblk m c 6 t)
      (iblk m c 7 t) (iblk m c 8 t) (iblk m c 9 t) (y 0) (y 2) (y 3) := by
  have e : (outsAt0 m c t).1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (hcond0_0 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
    simp only [outsAt0]
  rw [e]
  exact row_out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (hcond0_0 t) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (narrow_apply m c t) (wide_apply m c t) (rated m c t hg) y

set_option maxHeartbeats 1000000 in
/-- The array of output rows after the run is the reference's, where no head's decay rate is nought. -/
theorem row_final (c : Dev nD)
    (hg : ∀ h : Fin 16, (m ((c : Thread nD τ).loc main_arg5) (ix2 0 h) : EReal) ≠ (⊥ : EReal)) :
    (dats m 0 c).arrAt 12 cfg0.N
    = Cert.SsdSRefIdeal.Read.val_main_v131 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 12 _ (by decide +kernel) fun t hf y => ?_
  have ht : t.val < 16 := lt_of_lt_of_eq t.isLt N_0
  blk_simp
  rw [after0_12, left_row_apply m c t hg]
  obtain ⟨j, l, q, rfl⟩ : ∃ (j l : Fin 8) (q : Fin 1024), y = ix4 j 0 l q :=
    ⟨y 0, y 2, y 3, (eq_ix4 y).trans (congrArg (ix4 (y 0) · (y 2) (y 3)) (Subsingleton.elim (α := Fin 1) (y 1) 0))⟩
  have e : (win0_12.blk t).view.emb (ix4 j 0 l q) = ix4 (seq t j) 0 l q := by
    unfold seq
    blk_ext [rowIdx t]
  refine Eq.trans ?_ (congrArg _ e.symm)
  rw [Cert.SsdSRefIdeal.RefValue.row_apply]
  exact row_eq m c t j l q

end Cert.SsdSIdeal.RefValue

end
-- ==== Proof.SsdS.Claims.lean ====
/-
  The value claim of the sample's state-space mixer: at the ideal instance the output rows and the state the kernel returns are
  the reference's, where no head's decay rate is nought.
-/
module

public import proofs.«01_k».proof.Defs
public import proofs.«01_k».proof.Proof.SsdS.RowArray
public import proofs.«01_k».proof.Proof.Gen.SsdSRefIdeal.Run

@[expose] public section

noncomputable section

namespace Cert.Proof

open Idealize.ShloMosaic Idealize.SL.Sem

/-- The side conditions of the precondition's operations. -/
theorem rates_not_nought_facts : Cert.Pre_rates_not_nought.Facts where
  bcast_S_S1x16 := by decide

/-- A number above minus infinity is not minus infinity. -/
theorem ne_bot_of_gt (x : Ideal .f32)
    (h : BitVec.ofBool (decide ((Ideal.ofBits .f32 0xFF800000#32 : EReal) < (x : EReal))) = 1#1) : x ≠ (⊥ : EReal) := by
  have e : (Ideal.ofBits .f32 0xFF800000#32 : EReal) = ⊥ := by simp [Ideal.ofBits, Ideal.ieee]
  have hd : ∀ b : Bool, BitVec.ofBool b = 1#1 → b = true := by decide
  have h' := of_decide_eq_true (hd _ h)
  rw [e] at h'
  exact ne_of_gt h'

/-- Kernel and reference end with the same output rows and the same state, from the same arguments, no head's decay rate being nought. -/
theorem ssds_algebraic : Cert.algebraic_SsdSIdeal_SsdSRefIdeal_pre_rates_not_nought
    (hSsdSIdeal := Cert.SsdSIdeal.Gen.facts) (hSsdSRefIdeal := Cert.SsdSRefIdeal.Gen.facts)
    (hPre_rates_not_nought := rates_not_nought_facts) :=
  fun m ρ m' ρ' hpre hag =>
    have hg : ∀ (c : Dev Cert.SsdSIdeal.nD) (h : Fin 16),
        (m ((c.tc : Thread _ _).loc Cert.SsdSIdeal.main_arg5) (ix2 0 h) : EReal) ≠ (⊥ : EReal) := fun c h => by
        have q := congrFun (hpre c) (ix2 (0 : Fin 1) h)
        revert q
        unfold Cert.Pre_rates_not_nought.fn
        pointwise
        exact ne_bot_of_gt _
    ⟨fun c => Cert.SsdSRefIdeal.Read.val_main_v131 (m ((c.tc : Thread _ _).loc Cert.SsdSIdeal.main_arg0))
        (m ((c.tc : Thread _ _).loc Cert.SsdSIdeal.main_arg1)) (m ((c.tc : Thread _ _).loc Cert.SsdSIdeal.main_arg2))
        (m ((c.tc : Thread _ _).loc Cert.SsdSIdeal.main_arg3)) (m ((c.tc : Thread _ _).loc Cert.SsdSIdeal.main_arg4))
        (m ((c.tc : Thread _ _).loc Cert.SsdSIdeal.main_arg5)) (m ((c.tc : Thread _ _).loc Cert.SsdSIdeal.main_arg6))
        (m ((c.tc : Thread _ _).loc Cert.SsdSIdeal.main_arg7)) (m ((c.tc : Thread _ _).loc Cert.SsdSIdeal.main_arg8)),
      fun c => Cert.SsdSRefIdeal.Read.val_main_v133 (m ((c.tc : Thread _ _).loc Cert.SsdSIdeal.main_arg0))
        (m ((c.tc : Thread _ _).loc Cert.SsdSIdeal.main_arg1)) (m ((c.tc : Thread _ _).loc Cert.SsdSIdeal.main_arg2))
        (m ((c.tc : Thread _ _).loc Cert.SsdSIdeal.main_arg3)) (m ((c.tc : Thread _ _).loc Cert.SsdSIdeal.main_arg4))
        (m ((c.tc : Thread _ _).loc Cert.SsdSIdeal.main_arg5)) (m ((c.tc : Thread _ _).loc Cert.SsdSIdeal.main_arg6)),
      (θ_run _ _ _).mono (fun _ h c =>
          ⟨((h.1 c).1 12).trans (Cert.SsdSIdeal.RefValue.row_final m c (hg c)),
            ((h.1 c).2 _ (Pipeline.mem_restRefs_of _ (by decide) (by decide))).trans (Cert.SsdSIdeal.RefValue.final m c (hg c)), h.2 c⟩)
        (θ_run_and (Cert.SsdSIdeal.Gen.run_main m ρ) (Cert.SsdSIdeal.Gen.unchanged m ρ)),
      (θ_run _ _ _).mono (fun _ h c =>
          ⟨((h c).1.trans (Cert.SsdSRefIdeal.Read.val_main_v131_eq _)).trans (by
              show Cert.SsdSRefIdeal.Read.val_main_v131 (m' ((c.tc : Thread _ _).loc Cert.SsdSRefIdeal.main_arg0)) (m' ((c.tc : Thread _ _).loc Cert.SsdSRefIdeal.main_arg1))
                (m' ((c.tc : Thread _ _).loc Cert.SsdSRefIdeal.main_arg2)) (m' ((c.tc : Thread _ _).loc Cert.SsdSRefIdeal.main_arg3))
                (m' ((c.tc : Thread _ _).loc Cert.SsdSRefIdeal.main_arg4)) (m' ((c.tc : Thread _ _).loc Cert.SsdSRefIdeal.main_arg5))
                (m' ((c.tc : Thread _ _).loc Cert.SsdSRefIdeal.main_arg6)) (m' ((c.tc : Thread _ _).loc Cert.SsdSRefIdeal.main_arg7))
                (m' ((c.tc : Thread _ _).loc Cert.SsdSRefIdeal.main_arg8)) = _
              rw [(hag c).1, (hag c).2.1, (hag c).2.2.1, (hag c).2.2.2.1, (hag c).2.2.2.2.1,
                (hag c).2.2.2.2.2.1, (hag c).2.2.2.2.2.2.1, (hag c).2.2.2.2.2.2.2.1, (hag c).2.2.2.2.2.2.2.2]),
            ((h c).2.1.trans (Cert.SsdSRefIdeal.Read.val_main_v133_eq _)).trans (by
              show Cert.SsdSRefIdeal.Read.val_main_v133 (m' ((c.tc : Thread _ _).loc Cert.SsdSRefIdeal.main_arg0)) (m' ((c.tc : Thread _ _).loc Cert.SsdSRefIdeal.main_arg1))
                (m' ((c.tc : Thread _ _).loc Cert.SsdSRefIdeal.main_arg2)) (m' ((c.tc : Thread _ _).loc Cert.SsdSRefIdeal.main_arg3))
                (m' ((c.tc : Thread _ _).loc Cert.SsdSRefIdeal.main_arg4)) (m' ((c.tc : Thread _ _).loc Cert.SsdSRefIdeal.main_arg5))
                (m' ((c.tc : Thread _ _).loc Cert.SsdSRefIdeal.main_arg6)) = _
              rw [(hag c).1, (hag c).2.1, (hag c).2.2.1, (hag c).2.2.2.1, (hag c).2.2.2.2.1,
                (hag c).2.2.2.2.2.1, (hag c).2.2.2.2.2.2.1]), (h c).2.2⟩)
        (Cert.SsdSRefIdeal.Value.run m' ρ')⟩

end Cert.Proof

end
-- ==== Proof.lean ====
/-
  The certificate: each program's frame and each kernel's value claim against its reference.
-/
module

public import proofs.«01_k».proof.Defs
public import proofs.«01_k».proof.Proof.Frames
public import proofs.«01_k».proof.Proof.XCore.Claims
public import proofs.«01_k».proof.Proof.XCache.Claims
public import proofs.«01_k».proof.Proof.InProj.Claims
public import proofs.«01_k».proof.Proof.MemKV.Claims
public import proofs.«01_k».proof.Proof.XQ.Claims
public import proofs.«01_k».proof.Proof.MixOut.Claims
public import proofs.«01_k».proof.Proof.XOut.Claims
public import proofs.«01_k».proof.Proof.SsdS.Claims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.XCore.Gen.facts, Cert.XCoreIdeal.Gen.facts, Cert.XCoreRefIdeal.Gen.facts,
    Cert.XCache.Gen.facts, Cert.XCacheIdeal.Gen.facts, Cert.XCacheRefIdeal.Gen.facts,
    Cert.InProj.Gen.facts, Cert.InProjIdeal.Gen.facts, Cert.InProjRefIdeal.Gen.facts,
    Cert.MemKV.Gen.facts, Cert.MemKVIdeal.Gen.facts, Cert.MemKVRefIdeal.Gen.facts,
    Cert.XQ.Gen.facts, Cert.XQIdeal.Gen.facts, Cert.XQRefIdeal.Gen.facts,
    Cert.MixOut.Gen.facts, Cert.MixOutIdeal.Gen.facts, Cert.MixOutRefIdeal.Gen.facts,
    Cert.XOut.Gen.facts, Cert.XOutIdeal.Gen.facts, Cert.XOutRefIdeal.Gen.facts,
    Cert.SsdS.Gen.facts, Cert.SsdSIdeal.Gen.facts, Cert.SsdSRefIdeal.Gen.facts,
    finite_scores_facts, rates_not_nought_facts,
    fun m ρ _ => Cert.XCore.Gen.frame m ρ, fun m ρ _ => Cert.XCoreIdeal.Gen.frame m ρ,
    ref_frame_XCore,
    fun m ρ _ => Cert.XCache.Gen.frame m ρ, fun m ρ _ => Cert.XCacheIdeal.Gen.frame m ρ,
    fun m ρ _ => Cert.XCacheIdeal.Gen.frame m ρ, ref_frame_XCache, fun m ρ _ => ref_frame_XCache m ρ trivial,
    fun m ρ _ => Cert.InProj.Gen.frame m ρ, fun m ρ _ => Cert.InProjIdeal.Gen.frame m ρ,
    ref_frame_InProj,
    fun m ρ _ => Cert.MemKV.Gen.frame m ρ, fun m ρ _ => Cert.MemKVIdeal.Gen.frame m ρ,
    ref_frame_MemKV,
    fun m ρ _ => Cert.XQ.Gen.frame m ρ, fun m ρ _ => Cert.XQIdeal.Gen.frame m ρ,
    ref_frame_XQ,
    fun m ρ _ => Cert.MixOut.Gen.frame m ρ, fun m ρ _ => Cert.MixOutIdeal.Gen.frame m ρ,
    ref_frame_MixOut,
    fun m ρ _ => Cert.XOut.Gen.frame m ρ, fun m ρ _ => Cert.XOutIdeal.Gen.frame m ρ,
    ref_frame_XOut,
    fun m ρ _ => Cert.SsdS.Gen.frame m ρ, fun m ρ _ => Cert.SsdSIdeal.Gen.frame m ρ,
    fun m ρ _ => Cert.SsdSIdeal.Gen.frame m ρ, ref_frame_SsdS, fun m ρ _ => ref_frame_SsdS m ρ trivial,
    trivial, xcore_algebraic,
    trivial, xcache_algebraic,
    trivial, inproj_algebraic,
    trivial, memkv_algebraic,
    trivial, xq_algebraic,
    trivial, mixout_algebraic,
    trivial, xout_algebraic,
    trivial, ssds_algebraic⟩

end Cert.Proof

end
